-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelResid (m : (ℓ : Loc Cert.KernelResid.nD Cert.KernelResid.τ Cert.KernelResid.sig) → Buf (Elt Bits) ℓ) : Prop :=
  True

def Pre_KernelResidIdeal (m : (ℓ : Loc Cert.KernelResidIdeal.nD Cert.KernelResidIdeal.τ Cert.KernelResidIdeal.sig) → Buf (Elt Ideal) ℓ) : Prop :=
  True

def Pre_ReferenceResidIdeal (m : (ℓ : Loc Cert.ReferenceResidIdeal.nD Cert.ReferenceResidIdeal.τ Cert.ReferenceResidIdeal.sig) → Buf (Elt Ideal) ℓ) : Prop :=
  True

def Pre_KernelJoin (m : (ℓ : Loc Cert.KernelJoin.nD Cert.KernelJoin.τ Cert.KernelJoin.sig) → Buf (Elt Bits) ℓ) : Prop :=
  True

def Pre_KernelJoinIdeal (m : (ℓ : Loc Cert.KernelJoinIdeal.nD Cert.KernelJoinIdeal.τ Cert.KernelJoinIdeal.sig) → Buf (Elt Ideal) ℓ) : Prop :=
  True

def Pre_ReferenceJoinIdeal (m : (ℓ : Loc Cert.ReferenceJoinIdeal.nD Cert.ReferenceJoinIdeal.τ Cert.ReferenceJoinIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4))
      ∧ r.2.sem = fun _ => 0)

def quiescent_KernelResid [hKernelResid : Cert.KernelResid.Facts] : Prop :=
  ∀ (m : (ℓ : Loc Cert.KernelResid.nD Cert.KernelResid.τ Cert.KernelResid.sig) → Buf (Elt Bits) ℓ) (g : Dev Cert.KernelResid.nD → PrngReg), Pre_KernelResid m →
    θ_run (Cert.KernelResid.defs (F := Bits)) (onTc (τ := Cert.KernelResid.τ) (Cert.KernelResid.main (F := Bits))) ⟨m, fun _ => 0, g⟩ (fun r => (∀ c : Dev Cert.KernelResid.nD,
      r.2.mem ((c.tc : Thread Cert.KernelResid.nD Cert.KernelResid.τ).loc Cert.KernelResid.main_arg0) = m ((c.tc : Thread Cert.KernelResid.nD Cert.KernelResid.τ).loc Cert.KernelResid.main_arg0)
      ∧ r.2.mem ((c.tc : Thread Cert.KernelResid.nD Cert.KernelResid.τ).loc Cert.KernelResid.main_arg1) = m ((c.tc : Thread Cert.KernelResid.nD Cert.KernelResid.τ).loc Cert.KernelResid.main_arg1)
      ∧ r.2.mem ((c.tc : Thread Cert.KernelResid.nD Cert.KernelResid.τ).loc Cert.KernelResid.main_arg2) = m ((c.tc : Thread Cert.KernelResid.nD Cert.KernelResid.τ).loc Cert.KernelResid.main_arg2)
      ∧ r.2.mem ((c.tc : Thread Cert.KernelResid.nD Cert.KernelResid.τ).loc Cert.KernelResid.main_arg3) = m ((c.tc : Thread Cert.KernelResid.nD Cert.KernelResid.τ).loc Cert.KernelResid.main_arg3)
      ∧ r.2.mem ((c.tc : Thread Cert.KernelResid.nD Cert.KernelResid.τ).loc Cert.KernelResid.main_arg4) = m ((c.tc : Thread Cert.KernelResid.nD Cert.KernelResid.τ).loc Cert.KernelResid.main_arg4))
      ∧ r.2.sem = fun _ => 0)

def quiescent_KernelResidIdeal [hKernelResidIdeal : Cert.KernelResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg), Pre_KernelResidIdeal m →
    θ_run (Cert.KernelResidIdeal.defs (F := Ideal)) (onTc (τ := Cert.KernelResidIdeal.τ) (Cert.KernelResidIdeal.main (F := Ideal))) ⟨m, fun _ => 0, g⟩ (fun r => (∀ c : Dev Cert.KernelResidIdeal.nD,
      r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
      ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
      ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
      ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
      ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4))
      ∧ r.2.sem = fun _ => 0)

def quiescent_ReferenceResidIdeal [hReferenceResidIdeal : Cert.ReferenceResidIdeal.Facts] : Prop :=
  ∀ (m : (ℓ : Loc Cert.ReferenceResidIdeal.nD Cert.ReferenceResidIdeal.τ Cert.ReferenceResidIdeal.sig) → Buf (Elt Ideal) ℓ) (g : Dev Cert.ReferenceResidIdeal.nD → PrngReg), Pre_ReferenceResidIdeal m →
    θ_run (Cert.ReferenceResidIdeal.defs (F := Ideal)) (onTc (τ := Cert.ReferenceResidIdeal.τ) (Cert.ReferenceResidIdeal.main (F := Ideal))) ⟨m, fun _ => 0, g⟩ (fun r => (∀ c : Dev Cert.ReferenceResidIdeal.nD,
      r.2.mem ((c.tc : Thread Cert.ReferenceResidIdeal.nD Cert.ReferenceResidIdeal.τ).loc Cert.ReferenceResidIdeal.main_arg0) = m ((c.tc : Thread Cert.ReferenceResidIdeal.nD Cert.ReferenceResidIdeal.τ).loc Cert.ReferenceResidIdeal.main_arg0)
      ∧ r.2.mem ((c.tc : Thread Cert.ReferenceResidIdeal.nD Cert.ReferenceResidIdeal.τ).loc Cert.ReferenceResidIdeal.main_arg1) = m ((c.tc : Thread Cert.ReferenceResidIdeal.nD Cert.ReferenceResidIdeal.τ).loc Cert.ReferenceResidIdeal.main_arg1)
      ∧ r.2.mem ((c.tc : Thread Cert.ReferenceResidIdeal.nD Cert.ReferenceResidIdeal.τ).loc Cert.ReferenceResidIdeal.main_arg2) = m ((c.tc : Thread Cert.ReferenceResidIdeal.nD Cert.ReferenceResidIdeal.τ).loc Cert.ReferenceResidIdeal.main_arg2)
      ∧ r.2.mem ((c.tc : Thread Cert.ReferenceResidIdeal.nD Cert.ReferenceResidIdeal.τ).loc Cert.ReferenceResidIdeal.main_arg3) = m ((c.tc : Thread Cert.ReferenceResidIdeal.nD Cert.ReferenceResidIdeal.τ).loc Cert.ReferenceResidIdeal.main_arg3)
      ∧ r.2.mem ((c.tc : Thread Cert.ReferenceResidIdeal.nD Cert.ReferenceResidIdeal.τ).loc Cert.ReferenceResidIdeal.main_arg4) = m ((c.tc : Thread Cert.ReferenceResidIdeal.nD Cert.ReferenceResidIdeal.τ).loc Cert.ReferenceResidIdeal.main_arg4))
      ∧ r.2.sem = fun _ => 0)

def quiescent_KernelJoin [hKernelJoin : Cert.KernelJoin.Facts] : Prop :=
  ∀ (m : (ℓ : Loc Cert.KernelJoin.nD Cert.KernelJoin.τ Cert.KernelJoin.sig) → Buf (Elt Bits) ℓ) (g : Dev Cert.KernelJoin.nD → PrngReg), Pre_KernelJoin m →
    θ_run (Cert.KernelJoin.defs (F := Bits)) (onTc (τ := Cert.KernelJoin.τ) (Cert.KernelJoin.main (F := Bits))) ⟨m, fun _ => 0, g⟩ (fun r => (∀ c : Dev Cert.KernelJoin.nD,
      r.2.mem ((c.tc : Thread Cert.KernelJoin.nD Cert.KernelJoin.τ).loc Cert.KernelJoin.main_arg0) = m ((c.tc : Thread Cert.KernelJoin.nD Cert.KernelJoin.τ).loc Cert.KernelJoin.main_arg0)
      ∧ r.2.mem ((c.tc : Thread Cert.KernelJoin.nD Cert.KernelJoin.τ).loc Cert.KernelJoin.main_arg1) = m ((c.tc : Thread Cert.KernelJoin.nD Cert.KernelJoin.τ).loc Cert.KernelJoin.main_arg1)
      ∧ r.2.mem ((c.tc : Thread Cert.KernelJoin.nD Cert.KernelJoin.τ).loc Cert.KernelJoin.main_arg2) = m ((c.tc : Thread Cert.KernelJoin.nD Cert.KernelJoin.τ).loc Cert.KernelJoin.main_arg2)
      ∧ r.2.mem ((c.tc : Thread Cert.KernelJoin.nD Cert.KernelJoin.τ).loc Cert.KernelJoin.main_arg3) = m ((c.tc : Thread Cert.KernelJoin.nD Cert.KernelJoin.τ).loc Cert.KernelJoin.main_arg3)
      ∧ r.2.mem ((c.tc : Thread Cert.KernelJoin.nD Cert.KernelJoin.τ).loc Cert.KernelJoin.main_arg4) = m ((c.tc : Thread Cert.KernelJoin.nD Cert.KernelJoin.τ).loc Cert.KernelJoin.main_arg4))
      ∧ r.2.sem = fun _ => 0)

def quiescent_KernelJoinIdeal [hKernelJoinIdeal : Cert.KernelJoinIdeal.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg), Pre_KernelJoinIdeal m →
    θ_run (Cert.KernelJoinIdeal.defs (F := Ideal)) (onTc (τ := Cert.KernelJoinIdeal.τ) (Cert.KernelJoinIdeal.main (F := Ideal))) ⟨m, fun _ => 0, g⟩ (fun r => (∀ c : Dev Cert.KernelJoinIdeal.nD,
      r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
      ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
      ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
      ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
      ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4))
      ∧ r.2.sem = fun _ => 0)

def quiescent_ReferenceJoinIdeal [hReferenceJoinIdeal : Cert.ReferenceJoinIdeal.Facts] : Prop :=
  ∀ (m : (ℓ : Loc Cert.ReferenceJoinIdeal.nD Cert.ReferenceJoinIdeal.τ Cert.ReferenceJoinIdeal.sig) → Buf (Elt Ideal) ℓ) (g : Dev Cert.ReferenceJoinIdeal.nD → PrngReg), Pre_ReferenceJoinIdeal m →
    θ_run (Cert.ReferenceJoinIdeal.defs (F := Ideal)) (onTc (τ := Cert.ReferenceJoinIdeal.τ) (Cert.ReferenceJoinIdeal.main (F := Ideal))) ⟨m, fun _ => 0, g⟩ (fun r => (∀ c : Dev Cert.ReferenceJoinIdeal.nD,
      r.2.mem ((c.tc : Thread Cert.ReferenceJoinIdeal.nD Cert.ReferenceJoinIdeal.τ).loc Cert.ReferenceJoinIdeal.main_arg0) = m ((c.tc : Thread Cert.ReferenceJoinIdeal.nD Cert.ReferenceJoinIdeal.τ).loc Cert.ReferenceJoinIdeal.main_arg0)
      ∧ r.2.mem ((c.tc : Thread Cert.ReferenceJoinIdeal.nD Cert.ReferenceJoinIdeal.τ).loc Cert.ReferenceJoinIdeal.main_arg1) = m ((c.tc : Thread Cert.ReferenceJoinIdeal.nD Cert.ReferenceJoinIdeal.τ).loc Cert.ReferenceJoinIdeal.main_arg1)
      ∧ r.2.mem ((c.tc : Thread Cert.ReferenceJoinIdeal.nD Cert.ReferenceJoinIdeal.τ).loc Cert.ReferenceJoinIdeal.main_arg2) = m ((c.tc : Thread Cert.ReferenceJoinIdeal.nD Cert.ReferenceJoinIdeal.τ).loc Cert.ReferenceJoinIdeal.main_arg2)
      ∧ r.2.mem ((c.tc : Thread Cert.ReferenceJoinIdeal.nD Cert.ReferenceJoinIdeal.τ).loc Cert.ReferenceJoinIdeal.main_arg3) = m ((c.tc : Thread Cert.ReferenceJoinIdeal.nD Cert.ReferenceJoinIdeal.τ).loc Cert.ReferenceJoinIdeal.main_arg3)
      ∧ r.2.mem ((c.tc : Thread Cert.ReferenceJoinIdeal.nD Cert.ReferenceJoinIdeal.τ).loc Cert.ReferenceJoinIdeal.main_arg4) = m ((c.tc : Thread Cert.ReferenceJoinIdeal.nD Cert.ReferenceJoinIdeal.τ).loc Cert.ReferenceJoinIdeal.main_arg4))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7)
      ∧ r.2.mem ((c.tc : Thread Cert.KernelPrep.nD Cert.KernelPrep.τ).loc Cert.KernelPrep.main_arg8) = m ((c.tc : Thread Cert.KernelPrep.nD Cert.KernelPrep.τ).loc Cert.KernelPrep.main_arg8)
      ∧ r.2.mem ((c.tc : Thread Cert.KernelPrep.nD Cert.KernelPrep.τ).loc Cert.KernelPrep.main_arg9) = m ((c.tc : Thread Cert.KernelPrep.nD Cert.KernelPrep.τ).loc Cert.KernelPrep.main_arg9))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
      ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m ((c.tc : Thread Cert.ReferencePrepIdeal.nD Cert.ReferencePrepIdeal.τ).loc Cert.ReferencePrepIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v9)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v9) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v40) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)) →
    ∃ (v0 : (c : Dev Cert.KernelLastIdeal.nD) → Buf (Elt Ideal) ((c.tc : Thread Cert.KernelLastIdeal.nD Cert.KernelLastIdeal.τ).loc Cert.KernelLastIdeal.main_v33)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v33) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v31) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4))

def preserves_KernelResid_KernelResidIdeal : Prop :=
  True

def algebraic_KernelResidIdeal_ReferenceResidIdeal [hKernelResidIdeal : Cert.KernelResidIdeal.Facts] [hReferenceResidIdeal : Cert.ReferenceResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg)
    (m' : (ℓ : Loc Cert.ReferenceResidIdeal.nD Cert.ReferenceResidIdeal.τ Cert.ReferenceResidIdeal.sig) → Buf (Elt Ideal) ℓ) (g' : Dev Cert.ReferenceResidIdeal.nD → PrngReg), Pre_KernelResidIdeal m →
    (∀ c : Dev Cert.KernelResidIdeal.nD,
      m' ((c.tc : Thread Cert.ReferenceResidIdeal.nD Cert.ReferenceResidIdeal.τ).loc Cert.ReferenceResidIdeal.main_arg0) = m ((c.tc : Thread Cert.KernelResidIdeal.nD Cert.KernelResidIdeal.τ).loc Cert.KernelResidIdeal.main_arg0)
      ∧ m' ((c.tc : Thread Cert.ReferenceResidIdeal.nD Cert.ReferenceResidIdeal.τ).loc Cert.ReferenceResidIdeal.main_arg1) = m ((c.tc : Thread Cert.KernelResidIdeal.nD Cert.KernelResidIdeal.τ).loc Cert.KernelResidIdeal.main_arg1)
      ∧ m' ((c.tc : Thread Cert.ReferenceResidIdeal.nD Cert.ReferenceResidIdeal.τ).loc Cert.ReferenceResidIdeal.main_arg2) = m ((c.tc : Thread Cert.KernelResidIdeal.nD Cert.KernelResidIdeal.τ).loc Cert.KernelResidIdeal.main_arg2)
      ∧ m' ((c.tc : Thread Cert.ReferenceResidIdeal.nD Cert.ReferenceResidIdeal.τ).loc Cert.ReferenceResidIdeal.main_arg3) = m ((c.tc : Thread Cert.KernelResidIdeal.nD Cert.KernelResidIdeal.τ).loc Cert.KernelResidIdeal.main_arg3)
      ∧ m' ((c.tc : Thread Cert.ReferenceResidIdeal.nD Cert.ReferenceResidIdeal.τ).loc Cert.ReferenceResidIdeal.main_arg4) = m ((c.tc : Thread Cert.KernelResidIdeal.nD Cert.KernelResidIdeal.τ).loc Cert.KernelResidIdeal.main_arg4)) →
    ∃ (v0 : (c : Dev Cert.KernelResidIdeal.nD) → Buf (Elt Ideal) ((c.tc : Thread Cert.KernelResidIdeal.nD Cert.KernelResidIdeal.τ).loc Cert.KernelResidIdeal.main_v28_0)) (v1 : (c : Dev Cert.KernelResidIdeal.nD) → Buf (Elt Ideal) ((c.tc : Thread Cert.KernelResidIdeal.nD Cert.KernelResidIdeal.τ).loc Cert.KernelResidIdeal.main_v28_1)),
      θ_run (Cert.KernelResidIdeal.defs (F := Ideal)) (onTc (τ := Cert.KernelResidIdeal.τ) (Cert.KernelResidIdeal.main (F := Ideal))) ⟨m, fun _ => 0, g⟩ (fun r => ∀ c : Dev Cert.KernelResidIdeal.nD,
          r.2.mem ((c.tc : Thread Cert.KernelResidIdeal.nD Cert.KernelResidIdeal.τ).loc Cert.KernelResidIdeal.main_v28_0) = v0 c
          ∧ r.2.mem ((c.tc : Thread Cert.KernelResidIdeal.nD Cert.KernelResidIdeal.τ).loc Cert.KernelResidIdeal.main_v28_1) = v1 c
          ∧ r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
          ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
          ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
          ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
          ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4))
      ∧ θ_run (Cert.ReferenceResidIdeal.defs (F := Ideal)) (onTc (τ := Cert.ReferenceResidIdeal.τ) (Cert.ReferenceResidIdeal.main (F := Ideal))) ⟨m', fun _ => 0, g'⟩ (fun r => ∀ c : Dev Cert.ReferenceResidIdeal.nD,
          r.2.mem ((c.tc : Thread Cert.ReferenceResidIdeal.nD Cert.ReferenceResidIdeal.τ).loc Cert.ReferenceResidIdeal.main_v96) = v0 c
          ∧ r.2.mem ((c.tc : Thread Cert.ReferenceResidIdeal.nD Cert.ReferenceResidIdeal.τ).loc Cert.ReferenceResidIdeal.main_v98) = v1 c
          ∧ r.2.mem ((c.tc : Thread Cert.ReferenceResidIdeal.nD Cert.ReferenceResidIdeal.τ).loc Cert.ReferenceResidIdeal.main_arg0) = m' ((c.tc : Thread Cert.ReferenceResidIdeal.nD Cert.ReferenceResidIdeal.τ).loc Cert.ReferenceResidIdeal.main_arg0)
          ∧ r.2.mem ((c.tc : Thread Cert.ReferenceResidIdeal.nD Cert.ReferenceResidIdeal.τ).loc Cert.ReferenceResidIdeal.main_arg1) = m' ((c.tc : Thread Cert.ReferenceResidIdeal.nD Cert.ReferenceResidIdeal.τ).loc Cert.ReferenceResidIdeal.main_arg1)
          ∧ r.2.mem ((c.tc : Thread Cert.ReferenceResidIdeal.nD Cert.ReferenceResidIdeal.τ).loc Cert.ReferenceResidIdeal.main_arg2) = m' ((c.tc : Thread Cert.ReferenceResidIdeal.nD Cert.ReferenceResidIdeal.τ).loc Cert.ReferenceResidIdeal.main_arg2)
          ∧ r.2.mem ((c.tc : Thread Cert.ReferenceResidIdeal.nD Cert.ReferenceResidIdeal.τ).loc Cert.ReferenceResidIdeal.main_arg3) = m' ((c.tc : Thread Cert.ReferenceResidIdeal.nD Cert.ReferenceResidIdeal.τ).loc Cert.ReferenceResidIdeal.main_arg3)
          ∧ r.2.mem ((c.tc : Thread Cert.ReferenceResidIdeal.nD Cert.ReferenceResidIdeal.τ).loc Cert.ReferenceResidIdeal.main_arg4) = m' ((c.tc : Thread Cert.ReferenceResidIdeal.nD Cert.ReferenceResidIdeal.τ).loc Cert.ReferenceResidIdeal.main_arg4))

def preserves_KernelJoin_KernelJoinIdeal : Prop :=
  True

def algebraic_KernelJoinIdeal_ReferenceJoinIdeal [hKernelJoinIdeal : Cert.KernelJoinIdeal.Facts] [hReferenceJoinIdeal : Cert.ReferenceJoinIdeal.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg)
    (m' : (ℓ : Loc Cert.ReferenceJoinIdeal.nD Cert.ReferenceJoinIdeal.τ Cert.ReferenceJoinIdeal.sig) → Buf (Elt Ideal) ℓ) (g' : Dev Cert.ReferenceJoinIdeal.nD → PrngReg), Pre_KernelJoinIdeal m →
    (∀ c : Dev Cert.KernelJoinIdeal.nD,
      m' ((c.tc : Thread Cert.ReferenceJoinIdeal.nD Cert.ReferenceJoinIdeal.τ).loc Cert.ReferenceJoinIdeal.main_arg0) = m ((c.tc : Thread Cert.KernelJoinIdeal.nD Cert.KernelJoinIdeal.τ).loc Cert.KernelJoinIdeal.main_arg0)
      ∧ m' ((c.tc : Thread Cert.ReferenceJoinIdeal.nD Cert.ReferenceJoinIdeal.τ).loc Cert.ReferenceJoinIdeal.main_arg1) = m ((c.tc : Thread Cert.KernelJoinIdeal.nD Cert.KernelJoinIdeal.τ).loc Cert.KernelJoinIdeal.main_arg1)
      ∧ m' ((c.tc : Thread Cert.ReferenceJoinIdeal.nD Cert.ReferenceJoinIdeal.τ).loc Cert.ReferenceJoinIdeal.main_arg2) = m ((c.tc : Thread Cert.KernelJoinIdeal.nD Cert.KernelJoinIdeal.τ).loc Cert.KernelJoinIdeal.main_arg2)
      ∧ m' ((c.tc : Thread Cert.ReferenceJoinIdeal.nD Cert.ReferenceJoinIdeal.τ).loc Cert.ReferenceJoinIdeal.main_arg3) = m ((c.tc : Thread Cert.KernelJoinIdeal.nD Cert.KernelJoinIdeal.τ).loc Cert.KernelJoinIdeal.main_arg3)
      ∧ m' ((c.tc : Thread Cert.ReferenceJoinIdeal.nD Cert.ReferenceJoinIdeal.τ).loc Cert.ReferenceJoinIdeal.main_arg4) = m ((c.tc : Thread Cert.KernelJoinIdeal.nD Cert.KernelJoinIdeal.τ).loc Cert.KernelJoinIdeal.main_arg4)) →
    ∃ (v0 : (c : Dev Cert.KernelJoinIdeal.nD) → Buf (Elt Ideal) ((c.tc : Thread Cert.KernelJoinIdeal.nD Cert.KernelJoinIdeal.τ).loc Cert.KernelJoinIdeal.main_v31_0)) (v1 : (c : Dev Cert.KernelJoinIdeal.nD) → Buf (Elt Ideal) ((c.tc : Thread Cert.KernelJoinIdeal.nD Cert.KernelJoinIdeal.τ).loc Cert.KernelJoinIdeal.main_v31_1)),
      θ_run (Cert.KernelJoinIdeal.defs (F := Ideal)) (onTc (τ := Cert.KernelJoinIdeal.τ) (Cert.KernelJoinIdeal.main (F := Ideal))) ⟨m, fun _ => 0, g⟩ (fun r => ∀ c : Dev Cert.KernelJoinIdeal.nD,
          r.2.mem ((c.tc : Thread Cert.KernelJoinIdeal.nD Cert.KernelJoinIdeal.τ).loc Cert.KernelJoinIdeal.main_v31_0) = v0 c
          ∧ r.2.mem ((c.tc : Thread Cert.KernelJoinIdeal.nD Cert.KernelJoinIdeal.τ).loc Cert.KernelJoinIdeal.main_v31_1) = v1 c
          ∧ r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
          ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
          ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
          ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
          ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4))
      ∧ θ_run (Cert.ReferenceJoinIdeal.defs (F := Ideal)) (onTc (τ := Cert.ReferenceJoinIdeal.τ) (Cert.ReferenceJoinIdeal.main (F := Ideal))) ⟨m', fun _ => 0, g'⟩ (fun r => ∀ c : Dev Cert.ReferenceJoinIdeal.nD,
          r.2.mem ((c.tc : Thread Cert.ReferenceJoinIdeal.nD Cert.ReferenceJoinIdeal.τ).loc Cert.ReferenceJoinIdeal.main_v60) = v0 c
          ∧ r.2.mem ((c.tc : Thread Cert.ReferenceJoinIdeal.nD Cert.ReferenceJoinIdeal.τ).loc Cert.ReferenceJoinIdeal.main_v62) = v1 c
          ∧ r.2.mem ((c.tc : Thread Cert.ReferenceJoinIdeal.nD Cert.ReferenceJoinIdeal.τ).loc Cert.ReferenceJoinIdeal.main_arg0) = m' ((c.tc : Thread Cert.ReferenceJoinIdeal.nD Cert.ReferenceJoinIdeal.τ).loc Cert.ReferenceJoinIdeal.main_arg0)
          ∧ r.2.mem ((c.tc : Thread Cert.ReferenceJoinIdeal.nD Cert.ReferenceJoinIdeal.τ).loc Cert.ReferenceJoinIdeal.main_arg1) = m' ((c.tc : Thread Cert.ReferenceJoinIdeal.nD Cert.ReferenceJoinIdeal.τ).loc Cert.ReferenceJoinIdeal.main_arg1)
          ∧ r.2.mem ((c.tc : Thread Cert.ReferenceJoinIdeal.nD Cert.ReferenceJoinIdeal.τ).loc Cert.ReferenceJoinIdeal.main_arg2) = m' ((c.tc : Thread Cert.ReferenceJoinIdeal.nD Cert.ReferenceJoinIdeal.τ).loc Cert.ReferenceJoinIdeal.main_arg2)
          ∧ r.2.mem ((c.tc : Thread Cert.ReferenceJoinIdeal.nD Cert.ReferenceJoinIdeal.τ).loc Cert.ReferenceJoinIdeal.main_arg3) = m' ((c.tc : Thread Cert.ReferenceJoinIdeal.nD Cert.ReferenceJoinIdeal.τ).loc Cert.ReferenceJoinIdeal.main_arg3)
          ∧ r.2.mem ((c.tc : Thread Cert.ReferenceJoinIdeal.nD Cert.ReferenceJoinIdeal.τ).loc Cert.ReferenceJoinIdeal.main_arg4) = m' ((c.tc : Thread Cert.ReferenceJoinIdeal.nD Cert.ReferenceJoinIdeal.τ).loc Cert.ReferenceJoinIdeal.main_arg4))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v49) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)
      ∧ m' ((c.tc : Thread Cert.ReferencePrepIdeal.nD Cert.ReferencePrepIdeal.τ).loc Cert.ReferencePrepIdeal.main_arg6) = m ((c.tc : Thread Cert.KernelPrepIdeal.nD Cert.KernelPrepIdeal.τ).loc Cert.KernelPrepIdeal.main_arg6)
      ∧ m' ((c.tc : Thread Cert.ReferencePrepIdeal.nD Cert.ReferencePrepIdeal.τ).loc Cert.ReferencePrepIdeal.main_arg7) = m ((c.tc : Thread Cert.KernelPrepIdeal.nD Cert.KernelPrepIdeal.τ).loc Cert.KernelPrepIdeal.main_arg7)
      ∧ m' ((c.tc : Thread Cert.ReferencePrepIdeal.nD Cert.ReferencePrepIdeal.τ).loc Cert.ReferencePrepIdeal.main_arg8) = m ((c.tc : Thread Cert.KernelPrepIdeal.nD Cert.KernelPrepIdeal.τ).loc Cert.KernelPrepIdeal.main_arg8)
      ∧ m' ((c.tc : Thread Cert.ReferencePrepIdeal.nD Cert.ReferencePrepIdeal.τ).loc Cert.ReferencePrepIdeal.main_arg9) = m ((c.tc : Thread Cert.KernelPrepIdeal.nD Cert.KernelPrepIdeal.τ).loc Cert.KernelPrepIdeal.main_arg9)) →
    ∃ (v0 : (c : Dev Cert.KernelPrepIdeal.nD) → Buf (Elt Ideal) ((c.tc : Thread Cert.KernelPrepIdeal.nD Cert.KernelPrepIdeal.τ).loc Cert.KernelPrepIdeal.main_v55_0)) (v1 : (c : Dev Cert.KernelPrepIdeal.nD) → Buf (Elt Ideal) ((c.tc : Thread Cert.KernelPrepIdeal.nD Cert.KernelPrepIdeal.τ).loc Cert.KernelPrepIdeal.main_v55_1)) (v2 : (c : Dev Cert.KernelPrepIdeal.nD) → Buf (Elt Ideal) ((c.tc : Thread Cert.KernelPrepIdeal.nD Cert.KernelPrepIdeal.τ).loc Cert.KernelPrepIdeal.main_v55_5)) (v3 : (c : Dev Cert.KernelPrepIdeal.nD) → Buf (Elt Ideal) ((c.tc : Thread Cert.KernelPrepIdeal.nD Cert.KernelPrepIdeal.τ).loc Cert.KernelPrepIdeal.main_v55_6)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v55_0) = v0 c
          ∧ r.2.mem ((c.tc : Thread Cert.KernelPrepIdeal.nD Cert.KernelPrepIdeal.τ).loc Cert.KernelPrepIdeal.main_v55_1) = v1 c
          ∧ r.2.mem ((c.tc : Thread Cert.KernelPrepIdeal.nD Cert.KernelPrepIdeal.τ).loc Cert.KernelPrepIdeal.main_v55_5) = v2 c
          ∧ r.2.mem ((c.tc : Thread Cert.KernelPrepIdeal.nD Cert.KernelPrepIdeal.τ).loc Cert.KernelPrepIdeal.main_v55_6) = v3 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
          ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
          ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
          ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
          ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v113) = v0 c
          ∧ r.2.mem ((c.tc : Thread Cert.ReferencePrepIdeal.nD Cert.ReferencePrepIdeal.τ).loc Cert.ReferencePrepIdeal.main_v115) = v1 c
          ∧ r.2.mem ((c.tc : Thread Cert.ReferencePrepIdeal.nD Cert.ReferencePrepIdeal.τ).loc Cert.ReferencePrepIdeal.main_v117) = v2 c
          ∧ r.2.mem ((c.tc : Thread Cert.ReferencePrepIdeal.nD Cert.ReferencePrepIdeal.τ).loc Cert.ReferencePrepIdeal.main_v119) = v3 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
          ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
          ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
          ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8)
          ∧ r.2.mem ((c.tc : Thread Cert.ReferencePrepIdeal.nD Cert.ReferencePrepIdeal.τ).loc Cert.ReferencePrepIdeal.main_arg9) = m' ((c.tc : Thread Cert.ReferencePrepIdeal.nD Cert.ReferencePrepIdeal.τ).loc Cert.ReferencePrepIdeal.main_arg9))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelMerge : Cert.KernelMerge.Facts) (hKernelMergeIdeal : Cert.KernelMergeIdeal.Facts) (hReferenceMergeIdeal : Cert.ReferenceMergeIdeal.Facts) (hKernelIn : Cert.KernelIn.Facts) (hKernelInIdeal : Cert.KernelInIdeal.Facts) (hReferenceInIdeal : Cert.ReferenceInIdeal.Facts) (hKernelLast : Cert.KernelLast.Facts) (hKernelLastIdeal : Cert.KernelLastIdeal.Facts) (hReferenceLastIdeal : Cert.ReferenceLastIdeal.Facts) (hKernelResid : Cert.KernelResid.Facts) (hKernelResidIdeal : Cert.KernelResidIdeal.Facts) (hReferenceResidIdeal : Cert.ReferenceResidIdeal.Facts) (hKernelJoin : Cert.KernelJoin.Facts) (hKernelJoinIdeal : Cert.KernelJoinIdeal.Facts) (hReferenceJoinIdeal : Cert.ReferenceJoinIdeal.Facts) (hKernelMod : Cert.KernelMod.Facts) (hKernelModIdeal : Cert.KernelModIdeal.Facts) (hReferenceModIdeal : Cert.ReferenceModIdeal.Facts) (hKernelPrep : Cert.KernelPrep.Facts) (hKernelPrepIdeal : Cert.KernelPrepIdeal.Facts) (hReferencePrepIdeal : Cert.ReferencePrepIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelResid (hKernelResid := hKernelResid)
    ∧ quiescent_KernelResidIdeal (hKernelResidIdeal := hKernelResidIdeal)
    ∧ quiescent_ReferenceResidIdeal (hReferenceResidIdeal := hReferenceResidIdeal)
    ∧ quiescent_KernelJoin (hKernelJoin := hKernelJoin)
    ∧ quiescent_KernelJoinIdeal (hKernelJoinIdeal := hKernelJoinIdeal)
    ∧ quiescent_ReferenceJoinIdeal (hReferenceJoinIdeal := hReferenceJoinIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelIn_KernelInIdeal
    ∧ algebraic_KernelInIdeal_ReferenceInIdeal (hKernelInIdeal := hKernelInIdeal) (hReferenceInIdeal := hReferenceInIdeal)
    ∧ preserves_KernelLast_KernelLastIdeal
    ∧ algebraic_KernelLastIdeal_ReferenceLastIdeal (hKernelLastIdeal := hKernelLastIdeal) (hReferenceLastIdeal := hReferenceLastIdeal)
    ∧ preserves_KernelResid_KernelResidIdeal
    ∧ algebraic_KernelResidIdeal_ReferenceResidIdeal (hKernelResidIdeal := hKernelResidIdeal) (hReferenceResidIdeal := hReferenceResidIdeal)
    ∧ preserves_KernelJoin_KernelJoinIdeal
    ∧ algebraic_KernelJoinIdeal_ReferenceJoinIdeal (hKernelJoinIdeal := hKernelJoinIdeal) (hReferenceJoinIdeal := hReferenceJoinIdeal)
    ∧ preserves_KernelMod_KernelModIdeal
    ∧ algebraic_KernelModIdeal_ReferenceModIdeal (hKernelModIdeal := hKernelModIdeal) (hReferenceModIdeal := hReferenceModIdeal)
    ∧ preserves_KernelPrep_KernelPrepIdeal
    ∧ algebraic_KernelPrepIdeal_ReferencePrepIdeal (hKernelPrepIdeal := hKernelPrepIdeal) (hReferencePrepIdeal := hReferencePrepIdeal)
-- ==== Pre_finite.lean ====
abbrev S16640x9952 : Shape := ⟨2, ![16640, 9952]⟩
abbrev S16 : Shape := ⟨1, ![16]⟩
abbrev S16640x2560 : Shape := ⟨2, ![16640, 2560]⟩
abbrev S_ : Shape := ⟨0, ![]⟩

class Facts : Prop where
  slices_S16640x9952_S16640x2560_0_6624 : S16640x9952.Slices ![0, 6624] S16640x2560
  bcast_S_S16640x2560 : S_.BroadcastsInDim S16640x2560 (![] : Fin 0 → Fin S16640x2560.rank)
  reducesTo_S16640x2560_S_d0_1 : S16640x2560.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16640x9952 .f32) (main_arg1 : FVec F S16 .f32) : IVec S_ 1 :=
  let main_v0 : FVec F S16640x2560 .f32 := (extractStridedSlice S16640x2560 ![0, 6624] · slices_S16640x9952_S16640x2560_0_6624) main_arg0
  let main_v1 : FVec F S16640x2560 .f32 := Host.absf main_v0
  let main_cst : FVec F S_ .f32 := constant S_ .f32 0x7F800000#32
  let main_v2 : FVec F S16640x2560 .f32 := broadcastInDim S16640x2560 ![] bcast_S_S16640x2560 main_cst
  let main_v3 : IVec S16640x2560 1 := cmpf .olt main_v1 main_v2
  let main_c : IVec S_ 1 := constantI S_ 1 1#1
  let main_v4 : IVec S_ 1 := (fun x v => Host.reduce IntOp.andi x v reducesTo_S16640x2560_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S16640x9952 : Shape := ⟨2, ![16640, 9952]⟩
abbrev S16 : Shape := ⟨1, ![16]⟩
abbrev S_ : Shape := ⟨0, ![]⟩
abbrev S16640x5120 : Shape := ⟨2, ![16640, 5120]⟩
abbrev S16640x512 : Shape := ⟨2, ![16640, 512]⟩
abbrev S16640x4x2x2x32 : Shape := ⟨5, ![16640, 4, 2, 2, 32]⟩
abbrev S16640x1536 : Shape := ⟨2, ![16640, 1536]⟩
abbrev S16640x2048 : Shape := ⟨2, ![16640, 2048]⟩
abbrev S16640x16x2x2x32 : Shape := ⟨5, ![16640, 16, 2, 2, 32]⟩
abbrev S16640x256 : Shape := ⟨2, ![16640, 256]⟩
abbrev S16640x9984 : Shape := ⟨2, ![16640, 9984]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S256x128 : Shape := ⟨2, ![256, 128]⟩
abbrev S16640x128 : Shape := ⟨2, ![16640, 128]⟩
abbrev S16x1 : Shape := ⟨2, ![16, 1]⟩
abbrev S16x128 : Shape := ⟨2, ![16, 128]⟩
abbrev S256x512 : Shape := ⟨2, ![256, 512]⟩
abbrev S128x512 : Shape := ⟨2, ![128, 512]⟩
abbrev S128x128 : Shape := ⟨2, ![128, 128]⟩
abbrev S256x2048 : Shape := ⟨2, ![256, 2048]⟩
abbrev S512x128 : Shape := ⟨2, ![512, 128]⟩
abbrev S256x256 : Shape := ⟨2, ![256, 256]⟩
abbrev S1x1 : Shape := ⟨2, ![1, 1]⟩
abbrev S256 : Shape := ⟨1, ![256]⟩
abbrev S256x1 : Shape := ⟨2, ![256, 1]⟩

abbrev nBuf : Space → Nat
  | .hbm => 104
  | .vmem => 37
  | .smem => 0
  | _ => 0

abbrev bufTy : (tb : Table) → Fin (tcTables nBuf tb) → BufTy
  | .hbm, ⟨0, _⟩ => ⟨S16640x9952, .f32⟩
  | .hbm, ⟨1, _⟩ => ⟨S16, .f32⟩
  | .hbm, ⟨2, _⟩ => ⟨S_, .f32⟩
  | .hbm, ⟨3, _⟩ => ⟨S16640x5120, .f32⟩
  | .hbm, ⟨4, _⟩ => ⟨S16640x512, .f32⟩
  | .hbm, ⟨5, _⟩ => ⟨S16640x4x2x2x32, .f32⟩
  | .hbm, ⟨6, _⟩ => ⟨S16640x4x2x2x32, .f32⟩
  | .hbm, ⟨7, _⟩ => ⟨S16640x512, .f32⟩
  | .hbm, ⟨8, _⟩ => ⟨S16640x512, .f32⟩
  | .hbm, ⟨9, _⟩ => ⟨S16640x1536, .f32⟩
  | .hbm, ⟨10, _⟩ => ⟨S16640x2048, .f32⟩
  | .hbm, ⟨11, _⟩ => ⟨S16640x16x2x2x32, .f32⟩
  | .hbm, ⟨12, _⟩ => ⟨S16640x16x2x2x32, .f32⟩
  | .hbm, ⟨13, _⟩ => ⟨S16640x2048, .f32⟩
  | .hbm, ⟨14, _⟩ => ⟨S16640x256, .f32⟩
  | .hbm, ⟨15, _⟩ => ⟨S16640x9984, .f32⟩
  | .hbm, ⟨16, _⟩ => ⟨S16384, .i32⟩
  | .hbm, ⟨17, _⟩ => ⟨S_, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S_, .i1⟩
  | .hbm, ⟨52, _⟩ => ⟨S16384, .i1⟩
  | .hbm, ⟨53, _⟩ => ⟨S16384, .i1⟩
  | .hbm, ⟨54, _⟩ => ⟨S16384, .i1⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S16384x1, .f32⟩
  | .hbm, ⟨74, _⟩ => ⟨S1x32, .f32⟩
  | .hbm, ⟨75, _⟩ => ⟨S16384x32, .f32⟩
  | .hbm, ⟨76, _⟩ => ⟨S16384x32, .f32⟩
  | .hbm, ⟨77, _⟩ => ⟨S16384x32, .f32⟩
  | .hbm, ⟨78, _⟩ => ⟨S16384x1, .f32⟩
  | .hbm, ⟨79, _⟩ => ⟨S1x32, .f32⟩
  | .hbm, ⟨80, _⟩ => ⟨S16384x32, .f32⟩
  | .hbm, ⟨81, _⟩ => ⟨S16384x32, .f32⟩
  | .hbm, ⟨82, _⟩ => ⟨S16384x32, .f32⟩
  | .hbm, ⟨83, _⟩ => ⟨S16384x32, .f32⟩
  | .hbm, ⟨84, _⟩ => ⟨S16384x32, .f32⟩
  | .hbm, ⟨85, _⟩ => ⟨S16384x32, .f32⟩
  | .hbm, ⟨86, _⟩ => ⟨S16384x32, .f32⟩
  | .hbm, ⟨87, _⟩ => ⟨S16384x128, .f32⟩
  | .hbm, ⟨88, _⟩ => ⟨S16384x32, .f32⟩
  | .hbm, ⟨89, _⟩ => ⟨S16384x32, .f32⟩
  | .hbm, ⟨90, _⟩ => ⟨S16384x32, .f32⟩
  | .hbm, ⟨91, _⟩ => ⟨S16384x32, .f32⟩
  | .hbm, ⟨92, _⟩ => ⟨S16384x32, .f32⟩
  | .hbm, ⟨93, _⟩ => ⟨S16384x32, .f32⟩
  | .hbm, ⟨94, _⟩ => ⟨S16384x128, .f32⟩
  | .hbm, ⟨95, _⟩ => ⟨S_, .f32⟩
  | .hbm, ⟨96, _⟩ => ⟨S256x128, .f32⟩
  | .hbm, ⟨97, _⟩ => ⟨S16640x128, .f32⟩
  | .hbm, ⟨98, _⟩ => ⟨S_, .f32⟩
  | .hbm, ⟨99, _⟩ => ⟨S256x128, .f32⟩
  | .hbm, ⟨100, _⟩ => ⟨S16640x128, .f32⟩
  | .hbm, ⟨101, _⟩ => ⟨S16x1, .f32⟩
  | .hbm, ⟨102, _⟩ => ⟨S16x128, .f32⟩
  | .hbm, ⟨103, _⟩ => ⟨S16640x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S128x512, .f32⟩
  | .local _ .vmem, ⟨9, _⟩ => ⟨S128x512, .f32⟩
  | .local _ .vmem, ⟨10, _⟩ => ⟨S256x512, .f32⟩
  | .local _ .vmem, ⟨11, _⟩ => ⟨S256x512, .f32⟩
  | .local _ .vmem, ⟨12, _⟩ => ⟨S128x512, .f32⟩
  | .local _ .vmem, ⟨13, _⟩ => ⟨S128x512, .f32⟩
  | .local _ .vmem, ⟨14, _⟩ => ⟨S256x512, .f32⟩
  | .local _ .vmem, ⟨15, _⟩ => ⟨S128x512, .f32⟩
  | .local _ .vmem, ⟨16, _⟩ => ⟨S128x512, .f32⟩
  | .local _ .vmem, ⟨17, _⟩ => ⟨S256x512, .f32⟩
  | .local _ .vmem, ⟨18, _⟩ => ⟨S256x512, .f32⟩
  | .local _ .vmem, ⟨19, _⟩ => ⟨S128x512, .f32⟩
  | .local _ .vmem, ⟨20, _⟩ => ⟨S128x512, .f32⟩
  | .local _ .vmem, ⟨21, _⟩ => ⟨S256x512, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S16x128, .f32⟩
  | .local _ .vmem, ⟨35, _⟩ => ⟨S256x2048, .bf16⟩
  | .local _ .vmem, ⟨36, _⟩ => ⟨S256x2048, .bf16⟩
  | _, _ => ⟨S16640x9952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v14 : Ref sig .tc := ⟨.hbm, 34, rfl⟩
abbrev main_v15 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_1 : Ref sig .tc := ⟨.hbm, 60, rfl⟩
abbrev main_v19 : Ref sig .tc := ⟨.hbm, 61, rfl⟩
abbrev main_v20 : Ref sig .tc := ⟨.hbm, 62, rfl⟩
abbrev main_cst_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_5 : Ref sig .tc := ⟨.hbm, 95, rfl⟩
abbrev main_v50 : Ref sig .tc := ⟨.hbm, 96, rfl⟩
abbrev main_v51 : Ref sig .tc := ⟨.hbm, 97, rfl⟩
abbrev main_cst_6 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c2_i32_0 : BitVec 32 := 2#32
  let c129_i32 : BitVec 32 := 129#32
  let v2 : BitVec 32 := Scalar.maxsi c2_i32_0 v1
  let v3 : BitVec 32 := Scalar.minsi c129_i32 v2
  let c10_i32 : BitVec 32 := 10#32
  let c0_i32 : BitVec 32 := 0#32
  ![v3.toNat, c10_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c2_i32_0 : BitVec 32 := 2#32
  let c129_i32 : BitVec 32 := 129#32
  let v2 : BitVec 32 := Scalar.maxsi c2_i32_0 v1
  let v3 : BitVec 32 := Scalar.minsi c129_i32 v2
  let c10_i32 : BitVec 32 := 10#32
  let c0_i32 : BitVec 32 := 0#32
  ![v3.toNat, c10_i32.toNat]

def cc0_transform_7 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_8 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c2_i32_0 : BitVec 32 := 2#32
  let c129_i32 : BitVec 32 := 129#32
  let v2 : BitVec 32 := Scalar.maxsi c2_i32_0 v1
  let v3 : BitVec 32 := Scalar.minsi c129_i32 v2
  let c11_i32 : BitVec 32 := 11#32
  let c0_i32 : BitVec 32 := 0#32
  ![v3.toNat, c11_i32.toNat]

def cc0_transform_9 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c2_i32_0 : BitVec 32 := 2#32
  let c129_i32 : BitVec 32 := 129#32
  let v2 : BitVec 32 := Scalar.maxsi c2_i32_0 v1
  let v3 : BitVec 32 := Scalar.minsi c129_i32 v2
  let c11_i32 : BitVec 32 := 11#32
  let c0_i32 : BitVec 32 := 0#32
  ![v3.toNat, c11_i32.toNat]

def cc0_transform_11 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_12 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c2_i32_0 : BitVec 32 := 2#32
  let c129_i32 : BitVec 32 := 129#32
  let v2 : BitVec 32 := Scalar.maxsi c2_i32_0 v1
  let v3 : BitVec 32 := Scalar.minsi c129_i32 v2
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c2_i32_0 : BitVec 32 := 2#32
  let c129_i32 : BitVec 32 := 129#32
  let v2 : BitVec 32 := Scalar.maxsi c2_i32_0 v1
  let v3 : BitVec 32 := Scalar.minsi c129_i32 v2
  let c0_i32 : BitVec 32 := 0#32
  let c0_i32_1 : BitVec 32 := 0#32
  ![v3.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c2_i32_0 : BitVec 32 := 2#32
  let c129_i32 : BitVec 32 := 129#32
  let v2 : BitVec 32 := Scalar.maxsi c2_i32_0 v1
  let v3 : BitVec 32 := Scalar.minsi c129_i32 v2
  let c0_i32 : BitVec 32 := 0#32
  let c0_i32_1 : BitVec 32 := 0#32
  ![v3.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c2_i32_0 : BitVec 32 := 2#32
  let c129_i32 : BitVec 32 := 129#32
  let v2 : BitVec 32 := Scalar.maxsi c2_i32_0 v1
  let v3 : BitVec 32 := Scalar.minsi c129_i32 v2
  let c0_i32 : BitVec 32 := 0#32
  let c0_i32_1 : BitVec 32 := 0#32
  ![v3.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16640x9952 : Shape := ⟨2, ![16640, 9952]⟩
abbrev S16 : Shape := ⟨1, ![16]⟩
abbrev S256x9952 : Shape := ⟨2, ![256, 9952]⟩
abbrev S1x256x9952 : Shape := ⟨3, ![1, 256, 9952]⟩
abbrev S16384x9952 : Shape := ⟨2, ![16384, 9952]⟩
abbrev S1x16384x9952 : Shape := ⟨3, ![1, 16384, 9952]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x2048 : Shape := ⟨3, ![1, 16384, 2048]⟩
abbrev S1x16384x16x128 : Shape := ⟨4, ![1, 16384, 16, 128]⟩
abbrev S1x16384x1x32 : Shape := ⟨4, ![1, 16384, 1, 32]⟩
abbrev S1x16384x16x64 : Shape := ⟨4, ![1, 16384, 16, 64]⟩
abbrev S1x16384x16x32 : Shape := ⟨4, ![1, 16384, 16, 32]⟩
abbrev S1x16384x512 : Shape := ⟨3, ![1, 16384, 512]⟩
abbrev S1x16384x4x128 : Shape := ⟨4, ![1, 16384, 4, 128]⟩
abbrev S1x16384x4x64 : Shape := ⟨4, ![1, 16384, 4, 64]⟩
abbrev S1x16384x4x32 : Shape := ⟨4, ![1, 16384, 4, 32]⟩
abbrev S1x256x2048 : Shape := ⟨3, ![1, 256, 2048]⟩
abbrev S1x256x16x128 : Shape := ⟨4, ![1, 256, 16, 128]⟩
abbrev S1x256x512 : Shape := ⟨3, ![1, 256, 512]⟩
abbrev S1x256x4x128 : Shape := ⟨4, ![1, 256, 4, 128]⟩
abbrev S1x128x128x4x4x128 : Shape := ⟨6, ![1, 128, 128, 4, 4, 128]⟩
abbrev S1x16640x4x128 : Shape := ⟨4, ![1, 16640, 4, 128]⟩
abbrev S1x130x128x4x128 : Shape := ⟨5, ![1, 130, 128, 4, 128]⟩
abbrev S1x128x128x4x128 : Shape := ⟨5, ![1, 128, 128, 4, 128]⟩
abbrev S1x128x384x4x128 : Shape := ⟨5, ![1, 128, 384, 4, 128]⟩
abbrev S1x128x4x384x128x4 : Shape := ⟨6, ![1, 128, 4, 384, 128, 4]⟩
abbrev S1x128x4x4x128x384 : Shape := ⟨6, ![1, 128, 4, 4, 128, 384]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S1x4x256x128x128x4 : Shape := ⟨6, ![1, 4, 256, 128, 128, 4]⟩
abbrev S1x128x4x4x128x256 : Shape := ⟨6, ![1, 128, 4, 4, 128, 256]⟩
abbrev S1x1x4x4x1x1 : Shape := ⟨6, ![1, 1, 4, 4, 1, 1]⟩
abbrev S1x128x4x4x128x1 : Shape := ⟨6, ![1, 128, 4, 4, 128, 1]⟩
abbrev S1x128x4x4x128x641 : Shape := ⟨6, ![1, 128, 4, 4, 128, 641]⟩
abbrev S1x128x4x4x128 : Shape := ⟨5, ![1, 128, 4, 4, 128]⟩
abbrev S1x128x4x128x4x128 : Shape := ⟨6, ![1, 128, 4, 128, 4, 128]⟩
abbrev S1x4x128x128x4x128 : Shape := ⟨6, ![1, 4, 128, 128, 4, 128]⟩
abbrev S1x256x4x4x128 : Shape := ⟨5, ![1, 256, 4, 4, 128]⟩
abbrev S1x4x256x256x4 : Shape := ⟨5, ![1, 4, 256, 256, 4]⟩
abbrev S1x4x4x256x256 : Shape := ⟨5, ![1, 4, 4, 256, 256]⟩
abbrev S1x4x4x1x1 : Shape := ⟨5, ![1, 4, 4, 1, 1]⟩
abbrev S1x4x4x256x1 : Shape := ⟨5, ![1, 4, 4, 256, 1]⟩
abbrev S1x4x4x256x257 : Shape := ⟨5, ![1, 4, 4, 256, 257]⟩
abbrev S1x4x4x256 : Shape := ⟨4, ![1, 4, 4, 256]⟩
abbrev S1x4x128x4x256 : Shape := ⟨5, ![1, 4, 128, 4, 256]⟩
abbrev S256x2048 : Shape := ⟨2, ![256, 2048]⟩
abbrev S16384x2048 : Shape := ⟨2, ![16384, 2048]⟩
abbrev S16640x2048 : Shape := ⟨2, ![16640, 2048]⟩

abbrev nBuf : Space → Nat
  | .hbm => 252
  | .vmem => 0
  | .smem => 0
  | _ => 0

abbrev hbmTy0_0 (i : Nat) : BufTy := match i % 128 with
  | 0 => ⟨S16640x9952, .f32⟩
  | 1 => ⟨S16, .f32⟩
  | 2 => ⟨S256x9952, .f32⟩
  | 3 => ⟨S1x256x9952, .f32⟩
  | 4 => ⟨S16384x9952, .f32⟩
  | 5 => ⟨S1x16384x9952, .f32⟩
  | 6 => ⟨S256, .i32⟩
  | 7 => ⟨S256x64, .i32⟩
  | 8 => ⟨S16384, .i32⟩
  | 9 => ⟨S16384, .f32⟩
  | 10 => ⟨S64, .i32⟩
  | 11 => ⟨S1x64, .i32⟩
  | 12 => ⟨S256x64, .i32⟩
  | 13 => ⟨S16384, .i32⟩
  | 14 => ⟨S16384, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S16384x1, .f32⟩
  | 30 => ⟨S1x32, .f32⟩
  | 31 => ⟨S16384x32, .f32⟩
  | 32 => ⟨S16384x32, .f32⟩
  | 33 => ⟨S16384x32, .f32⟩
  | 34 => ⟨S16384x1, .f32⟩
  | 35 => ⟨S1x32, .f32⟩
  | 36 => ⟨S16384x32, .f32⟩
  | 37 => ⟨S16384x32, .f32⟩
  | 38 => ⟨S16384x32, .f32⟩
  | 39 => ⟨S16384x32, .f32⟩
  | 40 => ⟨S16384x32, .f32⟩
  | 41 => ⟨S16384x32, .f32⟩
  | 42 => ⟨S16384x32, .f32⟩
  | 43 => ⟨S1x16384x2048, .f32⟩
  | 44 => ⟨S1x16384x16x128, .f32⟩
  | 45 => ⟨S1x16384x1x32, .f32⟩
  | 46 => ⟨S1x16384x1x32, .f32⟩
  | 47 => ⟨S1x16384x1x32, .f32⟩
  | 48 => ⟨S1x16384x1x32, .f32⟩
  | 49 => ⟨S1x16384x16x64, .f32⟩
  | 50 => ⟨S1x16384x16x32, .f32⟩
  | 51 => ⟨S1x16384x16x32, .f32⟩
  | 52 => ⟨S1x16384x16x32, .f32⟩
  | 53 => ⟨S1x16384x16x32, .f32⟩
  | 54 => ⟨S1x16384x16x32, .f32⟩
  | 55 => ⟨S1x16384x16x32, .f32⟩
  | 56 => ⟨S1x16384x16x32, .f32⟩
  | 57 => ⟨S1x16384x16x32, .f32⟩
  | 58 => ⟨S1x16384x16x32, .f32⟩
  | 59 => ⟨S1x16384x16x32, .f32⟩
  | 60 => ⟨S1x16384x16x32, .f32⟩
  | 61 => ⟨S1x16384x16x32, .f32⟩
  | 62 => ⟨S1x16384x16x64, .f32⟩
  | 63 => ⟨S1x16384x16x64, .f32⟩
  | 64 => ⟨S1x16384x16x32, .f32⟩
  | 65 => ⟨S1x16384x16x32, .f32⟩
  | 66 => ⟨S1x16384x16x32, .f32⟩
  | 67 => ⟨S1x16384x16x32, .f32⟩
  | 68 => ⟨S1x16384x16x32, .f32⟩
  | 69 => ⟨S1x16384x16x32, .f32⟩
  | 70 => ⟨S1x16384x16x32, .f32⟩
  | 71 => ⟨S1x16384x16x32, .f32⟩
  | 72 => ⟨S1x16384x16x32, .f32⟩
  | 73 => ⟨S1x16384x16x32, .f32⟩
  | 74 => ⟨S1x16384x16x32, .f32⟩
  | 75 => ⟨S1x16384x16x32, .f32⟩
  | 76 => ⟨S1x16384x16x64, .f32⟩
  | 77 => ⟨S1x16384x16x128, .f32⟩
  | 78 => ⟨S1x16384x512, .f32⟩
  | 79 => ⟨S1x16384x4x128, .f32⟩
  | 80 => ⟨S1x16384x1x32, .f32⟩
  | 81 => ⟨S1x16384x1x32, .f32⟩
  | 82 => ⟨S1x16384x1x32, .f32⟩
  | 83 => ⟨S1x16384x1x32, .f32⟩
  | 84 => ⟨S1x16384x4x64, .f32⟩
  | 85 => ⟨S1x16384x4x32, .f32⟩
  | 86 => ⟨S1x16384x4x32, .f32⟩
  | 87 => ⟨S1x16384x4x32, .f32⟩
  | 88 => ⟨S1x16384x4x32, .f32⟩
  | 89 => ⟨S1x16384x4x32, .f32⟩
  | 90 => ⟨S1x16384x4x32, .f32⟩
  | 91 => ⟨S1x16384x4x32, .f32⟩
  | 92 => ⟨S1x16384x4x32, .f32⟩
  | 93 => ⟨S1x16384x4x32, .f32⟩
  | 94 => ⟨S1x16384x4x32, .f32⟩
  | 95 => ⟨S1x16384x4x32, .f32⟩
  | 96 => ⟨S1x16384x4x32, .f32⟩
  | 97 => ⟨S1x16384x4x64, .f32⟩
  | 98 => ⟨S1x16384x4x64, .f32⟩
  | 99 => ⟨S1x16384x4x32, .f32⟩
  | 100 => ⟨S1x16384x4x32, .f32⟩
  | 101 => ⟨S1x16384x4x32, .f32⟩
  | 102 => ⟨S1x16384x4x32, .f32⟩
  | 103 => ⟨S1x16384x4x32, .f32⟩
  | 104 => ⟨S1x16384x4x32, .f32⟩
  | 105 => ⟨S1x16384x4x32, .f32⟩
  | 106 => ⟨S1x16384x4x32, .f32⟩
  | 107 => ⟨S1x16384x4x32, .f32⟩
  | 108 => ⟨S1x16384x4x32, .f32⟩
  | 109 => ⟨S1x16384x4x32, .f32⟩
  | 110 => ⟨S1x16384x4x32, .f32⟩
  | 111 => ⟨S1x16384x4x64, .f32⟩
  | 112 => ⟨S1x16384x4x128, .f32⟩
  | 113 => ⟨S1x16384x512, .f32⟩
  | 114 => ⟨S1x16384x4x128, .f32⟩
  | 115 => ⟨S1x256x2048, .f32⟩
  | 116 => ⟨S1x256x16x128, .f32⟩
  | 117 => ⟨S1x256x512, .f32⟩
  | 118 => ⟨S1x256x4x128, .f32⟩
  | 119 => ⟨S1x256x512, .f32⟩
  | 120 => ⟨S1x256x4x128, .f32⟩
  | 121 => ⟨S1x128x128x4x4x128, .f32⟩
  | 122 => ⟨S_, .i32⟩
  | 123 => ⟨S_, .f32⟩
  | 124 => ⟨S1x16640x4x128, .f32⟩
  | 125 => ⟨S1x130x128x4x128, .f32⟩
  | 126 => ⟨S1x128x128x4x128, .f32⟩
  | 127 => ⟨S1x128x128x4x128, .f32⟩
  | _ => ⟨S16640x9952, .f32⟩

abbrev hbmTy0_1 (i : Nat) : BufTy := match i % 128 with
  | 0 => ⟨S1x128x128x4x128, .f32⟩
  | 1 => ⟨S1x128x384x4x128, .f32⟩
  | 2 => ⟨S_, .i32⟩
  | 3 => ⟨S_, .f32⟩
  | 4 => ⟨S1x16640x4x128, .f32⟩
  | 5 => ⟨S1x130x128x4x128, .f32⟩
  | 6 => ⟨S1x128x128x4x128, .f32⟩
  | 7 => ⟨S1x128x128x4x128, .f32⟩
  | 8 => ⟨S1x128x128x4x128, .f32⟩
  | 9 => ⟨S1x128x384x4x128, .f32⟩
  | 10 => ⟨S1x128x4x384x128x4, .f32⟩
  | 11 => ⟨S1x128x4x4x128x384, .f32⟩
  | 12 => ⟨S_, .f32⟩
  | 13 => ⟨S1x128x4x4x128x384, .f32⟩
  | 14 => ⟨S1x128x4x4x128x384, .f32⟩
  | 15 => ⟨S128, .i32⟩
  | 16 => ⟨S128x1, .i32⟩
  | 17 => ⟨S_, .i32⟩
  | 18 => ⟨S128x1, .i32⟩
  | 19 => ⟨S128x1, .i32⟩
  | 20 => ⟨S128, .i32⟩
  | 21 => ⟨S1x128, .i32⟩
  | 22 => ⟨S128x128, .i32⟩
  | 23 => ⟨S128x128, .i32⟩
  | 24 => ⟨S128x128, .i32⟩
  | 25 => ⟨S_, .i32⟩
  | 26 => ⟨S128x1, .i32⟩
  | 27 => ⟨S128x1, .i32⟩
  | 28 => ⟨S_, .i32⟩
  | 29 => ⟨S128x1, .i32⟩
  | 30 => ⟨S128x1, .i32⟩
  | 31 => ⟨S384, .i32⟩
  | 32 => ⟨S1x384, .i32⟩
  | 33 => ⟨S128x384, .i32⟩
  | 34 => ⟨S128x384, .i32⟩
  | 35 => ⟨S128x384, .i32⟩
  | 36 => ⟨S128x128x1, .i32⟩
  | 37 => ⟨S128x1x384, .i32⟩
  | 38 => ⟨S128x128x384, .i32⟩
  | 39 => ⟨S128x128x384, .i32⟩
  | 40 => ⟨S128x128x384, .i32⟩
  | 41 => ⟨S128x128x384, .i32⟩
  | 42 => ⟨S_, .i32⟩
  | 43 => ⟨S128x128x384, .i32⟩
  | 44 => ⟨S128x128x384, .i1⟩
  | 45 => ⟨S128x1x384, .i32⟩
  | 46 => ⟨S_, .i32⟩
  | 47 => ⟨S128x1x384, .i32⟩
  | 48 => ⟨S128x1x384, .i1⟩
  | 49 => ⟨S128x128x384, .i1⟩
  | 50 => ⟨S128x128x384, .i1⟩
  | 51 => ⟨S128x1x384, .i32⟩
  | 52 => ⟨S_, .i32⟩
  | 53 => ⟨S128x1x384, .i32⟩
  | 54 => ⟨S128x1x384, .i1⟩
  | 55 => ⟨S128x128x384, .i1⟩
  | 56 => ⟨S128x128x384, .i1⟩
  | 57 => ⟨S1x128x1x1x128x384, .i1⟩
  | 58 => ⟨S_, .f32⟩
  | 59 => ⟨S_, .f32⟩
  | 60 => ⟨S1x128x4x4x128x384, .i1⟩
  | 61 => ⟨S1x128x4x4x128x384, .f32⟩
  | 62 => ⟨S1x128x4x4x128x384, .f32⟩
  | 63 => ⟨S1x4x256x128x128x4, .f32⟩
  | 64 => ⟨S1x128x4x4x128x256, .f32⟩
  | 65 => ⟨S_, .f32⟩
  | 66 => ⟨S1x128x4x4x128x256, .f32⟩
  | 67 => ⟨S1x128x4x4x128x256, .f32⟩
  | 68 => ⟨S1x1x4x4x1x1, .f32⟩
  | 69 => ⟨S1x128x4x4x128x1, .f32⟩
  | 70 => ⟨S1x128x4x4x128x641, .f32⟩
  | 71 => ⟨S_, .f32⟩
  | 72 => ⟨S1x128x4x4x128, .f32⟩
  | 73 => ⟨S_, .f32⟩
  | 74 => ⟨S1x128x4x4x128, .f32⟩
  | 75 => ⟨S1x128x4x4x128, .f32⟩
  | 76 => ⟨S1x128x4x4x128x1, .f32⟩
  | 77 => ⟨S1x128x4x4x128x641, .f32⟩
  | 78 => ⟨S1x128x4x4x128x641, .f32⟩
  | 79 => ⟨S1x128x4x4x128x641, .f32⟩
  | 80 => ⟨S_, .f32⟩
  | 81 => ⟨S1x128x4x4x128, .f32⟩
  | 82 => ⟨S1x128x4x4x128x1, .f32⟩
  | 83 => ⟨S1x128x4x4x128x641, .f32⟩
  | 84 => ⟨S1x128x4x4x128x641, .f32⟩
  | 85 => ⟨S1x128x4x4x128x384, .f32⟩
  | 86 => ⟨S1x128x4x4x128x256, .f32⟩
  | 87 => ⟨S1x128x4x128x4x128, .f32⟩
  | 88 => ⟨S1x128x128x4x4x128, .f32⟩
  | 89 => ⟨S1x4x128x128x4x128, .f32⟩
  | 90 => ⟨S1x128x128x4x4x128, .f32⟩
  | 91 => ⟨S1x128x128x4x4x128, .f32⟩
  | 92 => ⟨S1x16384x2048, .f32⟩
  | 93 => ⟨S1x256x4x4x128, .f32⟩
  | 94 => ⟨S1x4x256x256x4, .f32⟩
  | 95 => ⟨S1x4x4x256x256, .f32⟩
  | 96 => ⟨S_, .f32⟩
  | 97 => ⟨S1x4x4x256x256, .f32⟩
  | 98 => ⟨S1x4x4x256x256, .f32⟩
  | 99 => ⟨S1x4x4x1x1, .f32⟩
  | 100 => ⟨S1x4x4x256x1, .f32⟩
  | 101 => ⟨S1x4x4x256x257, .f32⟩
  | 102 => ⟨S_, .f32⟩
  | 103 => ⟨S1x4x4x256, .f32⟩
  | 104 => ⟨S_, .f32⟩
  | 105 => ⟨S1x4x4x256, .f32⟩
  | 106 => ⟨S1x4x4x256, .f32⟩
  | 107 => ⟨S1x4x4x256x1, .f32⟩
  | 108 => ⟨S1x4x4x256x257, .f32⟩
  | 109 => ⟨S1x4x4x256x257, .f32⟩
  | 110 => ⟨S1x4x4x256x257, .f32⟩
  | 111 => ⟨S_, .f32⟩
  | 112 => ⟨S1x4x4x256, .f32⟩
  | 113 => ⟨S1x4x4x256x1, .f32⟩
  | 114 => ⟨S1x4x4x256x257, .f32⟩
  | 115 => ⟨S1x4x4x256x257, .f32⟩
  | 116 => ⟨S1x4x4x256x256, .f32⟩
  | 117 => ⟨S1x4x128x4x256, .f32⟩
  | 118 => ⟨S1x256x4x4x128, .f32⟩
  | 119 => ⟨S1x256x2048, .f32⟩
  | 120 => ⟨S256x2048, .f32⟩
  | 121 => ⟨S16384x2048, .f32⟩
  | 122 => ⟨S16640x2048, .f32⟩
  | 123 => ⟨S16640x2048, .bf16⟩
  | _ => ⟨S16640x9952, .f32⟩

abbrev hbmTy (i : Nat) : BufTy := match i / 128 with
  | 0 => hbmTy0_0 i
  | 1 => hbmTy0_1 i
  | _ => ⟨S16640x9952, .f32⟩

abbrev bufTy : (tb : Table) → Fin (tcTables nBuf tb) → BufTy
  | .hbm, ⟨i, _⟩ => hbmTy i
  | _, _ => ⟨S16640x9952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_c : Ref sig .tc := ⟨.hbm, 122, rfl⟩
abbrev main_call0_v0 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_c_3 : Ref sig .tc := ⟨.hbm, 130, rfl⟩
abbrev main_call1_v0 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_cst_4 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_c_5 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_c_6 : Ref sig .tc := ⟨.hbm, 153, rfl⟩
abbrev main_v141 : Ref sig .tc := ⟨.hbm, 154, rfl⟩
abbrev main_v142 : Ref sig .tc := ⟨.hbm, 155, rfl⟩
abbrev main_c_7 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_c_8 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_c_9 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_c_10 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_cst_11 : Ref sig .tc := ⟨.hbm, 186, rfl⟩
abbrev main_call2_v0 : Ref sig .tc := ⟨.hbm, 187, rfl⟩
abbrev main_call2_v1 : Ref sig .tc := ⟨.hbm, 188, rfl⟩
abbrev main_call2_v2 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_cst_12 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_cst_13 : Ref sig .tc := ⟨.hbm, 199, rfl⟩
abbrev main_v177 : Ref sig .tc := ⟨.hbm, 200, rfl⟩
abbrev main_cst_14 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_cst_15 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_cst_16 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_cst_17 : Ref sig .tc := ⟨.hbm, 230, rfl⟩
abbrev main_v204 : Ref sig .tc := ⟨.hbm, 231, rfl⟩
abbrev main_cst_18 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_cst_19 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩

abbrev nD : Nat := 1
abbrev τ : Topo := Topo.v7x

variable {F : FTy → Type} [FloatOps F]
-- ==== KernelUp.lean ====
abbrev S16640x4096 : Shape := ⟨2, ![16640, 4096]⟩
abbrev S4x4096x11008 : Shape := ⟨3, ![4, 4096, 11008]⟩
abbrev S16640x11008 : Shape := ⟨2, ![16640, 11008]⟩
abbrev S1664x4096 : Shape := ⟨2, ![1664, 4096]⟩
abbrev S1x4096x256 : Shape := ⟨3, ![1, 4096, 256]⟩
abbrev S1664x256 : Shape := ⟨2, ![1664, 256]⟩
abbrev S4096x256 : Shape := ⟨2, ![4096, 256]⟩

abbrev nBuf : Space → Nat
  | .hbm => 5
  | .vmem => 8
  | .smem => 0
  | _ => 0

abbrev bufTy : (tb : Table) → Fin (tcTables nBuf tb) → BufTy
  | .hbm, ⟨0, _⟩ => ⟨S16640x4096, .f32⟩
  | .hbm, ⟨1, _⟩ => ⟨S4x4096x11008, .f32⟩
  | .hbm, ⟨2, _⟩ => ⟨S4x4096x11008, .f32⟩
  | .hbm, ⟨3, _⟩ => ⟨S16640x4096, .bf16⟩
  | .hbm, ⟨4, _⟩ => ⟨S16640x11008, .bf16⟩
  | .local _ .vmem, ⟨0, _⟩ => ⟨S1664x4096, .bf16⟩
  | .local _ .vmem, ⟨1, _⟩ => ⟨S1664x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1664x256, .bf16⟩
  | .local _ .vmem, ⟨7, _⟩ => ⟨S1664x256, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16640x4096 : Shape := ⟨2, ![16640, 4096]⟩
abbrev S4x4096x11008 : Shape := ⟨3, ![4, 4096, 11008]⟩
abbrev S1x4096x11008 : Shape := ⟨3, ![1, 4096, 11008]⟩
abbrev S4096x11008 : Shape := ⟨2, ![4096, 11008]⟩
abbrev S16640x11008 : Shape := ⟨2, ![16640, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4x4096x11008, .f32⟩
  | .hbm, ⟨2, _⟩ => ⟨S4x4096x11008, .f32⟩
  | .hbm, ⟨3, _⟩ => ⟨S1x4096x11008, .f32⟩
  | .hbm, ⟨4, _⟩ => ⟨S4096x11008, .f32⟩
  | .hbm, ⟨5, _⟩ => ⟨S16640x11008, .f32⟩
  | .hbm, ⟨6, _⟩ => ⟨S16640x11008, .f32⟩
  | .hbm, ⟨7, _⟩ => ⟨S16640x11008, .f32⟩
  | .hbm, ⟨8, _⟩ => ⟨S_, .f32⟩
  | .hbm, ⟨9, _⟩ => ⟨S16640x11008, .f32⟩
  | .hbm, ⟨10, _⟩ => ⟨S16640x11008, .f32⟩
  | .hbm, ⟨11, _⟩ => ⟨S_, .f32⟩
  | .hbm, ⟨12, _⟩ => ⟨S16640x11008, .f32⟩
  | .hbm, ⟨13, _⟩ => ⟨S16640x11008, .f32⟩
  | .hbm, ⟨14, _⟩ => ⟨S16640x11008, .f32⟩
  | .hbm, ⟨15, _⟩ => ⟨S1x4096x11008, .f32⟩
  | .hbm, ⟨16, _⟩ => ⟨S4096x11008, .f32⟩
  | .hbm, ⟨17, _⟩ => ⟨S16640x11008, .f32⟩
  | .hbm, ⟨18, _⟩ => ⟨S16640x11008, .f32⟩
  | .hbm, ⟨19, _⟩ => ⟨S16640x11008, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== KernelDown.lean ====
abbrev S16640x11008 : Shape := ⟨2, ![16640, 11008]⟩
abbrev S4x11008x4096 : Shape := ⟨3, ![4, 11008, 4096]⟩
abbrev S16640x4096 : Shape := ⟨2, ![16640, 4096]⟩
abbrev S640x11008 : Shape := ⟨2, ![640, 11008]⟩
abbrev S1x11008x512 : Shape := ⟨3, ![1, 11008, 512]⟩
abbrev S640x512 : Shape := ⟨2, ![640, 512]⟩
abbrev S11008x512 : Shape := ⟨2, ![11008, 512]⟩

abbrev nBuf : Space → Nat
  | .hbm => 5
  | .vmem => 6
  | .smem => 0
  | _ => 0

abbrev bufTy : (tb : Table) → Fin (tcTables nBuf tb) → BufTy
  | .hbm, ⟨0, _⟩ => ⟨S16640x11008, .f32⟩
  | .hbm, ⟨1, _⟩ => ⟨S4x11008x4096, .f32⟩
  | .hbm, ⟨2, _⟩ => ⟨S16640x11008, .bf16⟩
  | .hbm, ⟨3, _⟩ => ⟨S4x11008x4096, .bf16⟩
  | .hbm, ⟨4, _⟩ => ⟨S16640x4096, .bf16⟩
  | .local _ .vmem, ⟨0, _⟩ => ⟨S640x11008, .bf16⟩
  | .local _ .vmem, ⟨1, _⟩ => ⟨S640x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S640x512, .bf16⟩
  | .local _ .vmem, ⟨5, _⟩ => ⟨S640x512, .bf16⟩
  | _, _ => ⟨S16640x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![26, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16640x11008 : Shape := ⟨2, ![16640, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S16640x4096 : Shape := ⟨2, ![16640, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16640x11008, .f32⟩
  | .hbm, ⟨1, _⟩ => ⟨S4x11008x4096, .f32⟩
  | .hbm, ⟨2, _⟩ => ⟨S1x11008x4096, .f32⟩
  | .hbm, ⟨3, _⟩ => ⟨S11008x4096, .f32⟩
  | .hbm, ⟨4, _⟩ => ⟨S16640x4096, .f32⟩
  | .hbm, ⟨5, _⟩ => ⟨S16640x4096, .bf16⟩
  | _, _ => ⟨S16640x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S16640x4096 : Shape := ⟨2, ![16640, 4096]⟩
abbrev S4x4096x4096 : Shape := ⟨3, ![4, 4096, 4096]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4x4096x4096, .f32⟩
  | .hbm, ⟨2, _⟩ => ⟨S16640x4096, .bf16⟩
  | .hbm, ⟨3, _⟩ => ⟨S16640x4096, .bf16⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .bf16⟩
  | .local _ .vmem, ⟨5, _⟩ => ⟨S1664x512, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S16640x4096 : Shape := ⟨2, ![16640, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4x4096x4096, .f32⟩
  | .hbm, ⟨2, _⟩ => ⟨S1x4096x4096, .f32⟩
  | .hbm, ⟨3, _⟩ => ⟨S4096x4096, .f32⟩
  | .hbm, ⟨4, _⟩ => ⟨S16640x4096, .f32⟩
  | .hbm, ⟨5, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMerge.lean ====
abbrev S16640x256 : Shape := ⟨2, ![16640, 256]⟩
abbrev S16640x1536 : Shape := ⟨2, ![16640, 1536]⟩
abbrev S16640x2048 : Shape := ⟨2, ![16640, 2048]⟩
abbrev S4x256x12288 : Shape := ⟨3, ![4, 256, 12288]⟩
abbrev S4x1536x4096 : Shape := ⟨3, ![4, 1536, 4096]⟩
abbrev S4x2048x4096 : Shape := ⟨3, ![4, 2048, 4096]⟩
abbrev S_ : Shape := ⟨0, ![]⟩
abbrev S16640x9728 : Shape := ⟨2, ![16640, 9728]⟩
abbrev S16640x9984 : Shape := ⟨2, ![16640, 9984]⟩
abbrev S16640x4096 : Shape := ⟨2, ![16640, 4096]⟩
abbrev S1280x256 : Shape := ⟨2, ![1280, 256]⟩
abbrev S1280x1536 : Shape := ⟨2, ![1280, 1536]⟩
abbrev S1280x2048 : Shape := ⟨2, ![1280, 2048]⟩
abbrev S1x256x512 : Shape := ⟨3, ![1, 256, 512]⟩
abbrev S1x1536x512 : Shape := ⟨3, ![1, 1536, 512]⟩
abbrev S1x2048x512 : Shape := ⟨3, ![1, 2048, 512]⟩
abbrev S1280x512 : Shape := ⟨2, ![1280, 512]⟩
abbrev S256x512 : Shape := ⟨2, ![256, 512]⟩
abbrev S1536x512 : Shape := ⟨2, ![1536, 512]⟩
abbrev S2048x512 : Shape := ⟨2, ![2048, 512]⟩

abbrev nBuf : Space → Nat
  | .hbm => 19
  | .vmem => 22
  | .smem => 0
  | _ => 0

abbrev bufTy : (tb : Table) → Fin (tcTables nBuf tb) → BufTy
  | .hbm, ⟨0, _⟩ => ⟨S16640x256, .f32⟩
  | .hbm, ⟨1, _⟩ => ⟨S16640x1536, .f32⟩
  | .hbm, ⟨2, _⟩ => ⟨S16640x1536, .f32⟩
  | .hbm, ⟨3, _⟩ => ⟨S16640x2048, .f32⟩
  | .hbm, ⟨4, _⟩ => ⟨S4x256x12288, .f32⟩
  | .hbm, ⟨5, _⟩ => ⟨S4x1536x4096, .f32⟩
  | .hbm, ⟨6, _⟩ => ⟨S4x1536x4096, .f32⟩
  | .hbm, ⟨7, _⟩ => ⟨S4x2048x4096, .f32⟩
  | .hbm, ⟨8, _⟩ => ⟨S_, .f32⟩
  | .hbm, ⟨9, _⟩ => ⟨S16640x9728, .f32⟩
  | .hbm, ⟨10, _⟩ => ⟨S16640x9984, .f32⟩
  | .hbm, ⟨11, _⟩ => ⟨S16640x1536, .bf16⟩
  | .hbm, ⟨12, _⟩ => ⟨S16640x1536, .bf16⟩
  | .hbm, ⟨13, _⟩ => ⟨S16640x2048, .bf16⟩
  | .hbm, ⟨14, _⟩ => ⟨S4x256x12288, .bf16⟩
  | .hbm, ⟨15, _⟩ => ⟨S4x1536x4096, .bf16⟩
  | .hbm, ⟨16, _⟩ => ⟨S4x1536x4096, .bf16⟩
  | .hbm, ⟨17, _⟩ => ⟨S4x2048x4096, .bf16⟩
  | .hbm, ⟨18, _⟩ => ⟨S16640x4096, .bf16⟩
  | .local _ .vmem, ⟨0, _⟩ => ⟨S1280x256, .f32⟩
  | .local _ .vmem, ⟨1, _⟩ => ⟨S1280x256, .f32⟩
  | .local _ .vmem, ⟨2, _⟩ => ⟨S1280x1536, .bf16⟩
  | .local _ .vmem, ⟨3, _⟩ => ⟨S1280x1536, .bf16⟩
  | .local _ .vmem, ⟨4, _⟩ => ⟨S1280x1536, .bf16⟩
  | .local _ .vmem, ⟨5, _⟩ => ⟨S1280x1536, .bf16⟩
  | .local _ .vmem, ⟨6, _⟩ => ⟨S1280x2048, .bf16⟩
  | .local _ .vmem, ⟨7, _⟩ => ⟨S1280x2048, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x1536x512, .bf16⟩
  | .local _ .vmem, ⟨15, _⟩ => ⟨S1x1536x512, .bf16⟩
  | .local _ .vmem, ⟨16, _⟩ => ⟨S1x1536x512, .bf16⟩
  | .local _ .vmem, ⟨17, _⟩ => ⟨S1x1536x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1280x512, .bf16⟩
  | .local _ .vmem, ⟨21, _⟩ => ⟨S1280x512, .bf16⟩
  | _, _ => ⟨S16640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c38_i32 : BitVec 32 := 38#32
  let c0_i32 : BitVec 32 := 0#32
  ![arg0.toNat, c38_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1280x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMergeIdeal.lean ====
abbrev S16640x256 : Shape := ⟨2, ![16640, 256]⟩
abbrev S16640x1536 : Shape := ⟨2, ![16640, 1536]⟩
abbrev S16640x2048 : Shape := ⟨2, ![16640, 2048]⟩
abbrev S4x256x12288 : Shape := ⟨3, ![4, 256, 12288]⟩
abbrev S4x1536x4096 : Shape := ⟨3, ![4, 1536, 4096]⟩
abbrev S4x2048x4096 : Shape := ⟨3, ![4, 2048, 4096]⟩
abbrev S1x256x12288 : Shape := ⟨3, ![1, 256, 12288]⟩
abbrev S256x12288 : Shape := ⟨2, ![256, 12288]⟩
abbrev S1x1536x4096 : Shape := ⟨3, ![1, 1536, 4096]⟩
abbrev S1536x4096 : Shape := ⟨2, ![1536, 4096]⟩
abbrev S1x2048x4096 : Shape := ⟨3, ![1, 2048, 4096]⟩
abbrev S2048x4096 : Shape := ⟨2, ![2048, 4096]⟩
abbrev S256x4096 : Shape := ⟨2, ![256, 4096]⟩
abbrev S16640x4096 : Shape := ⟨2, ![16640, 4096]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S16640x256, .f32⟩
  | .hbm, ⟨1, _⟩ => ⟨S16640x1536, .f32⟩
  | .hbm, ⟨2, _⟩ => ⟨S16640x1536, .f32⟩
  | .hbm, ⟨3, _⟩ => ⟨S16640x2048, .f32⟩
  | .hbm, ⟨4, _⟩ => ⟨S4x256x12288, .f32⟩
  | .hbm, ⟨5, _⟩ => ⟨S4x1536x4096, .f32⟩
  | .hbm, ⟨6, _⟩ => ⟨S4x1536x4096, .f32⟩
  | .hbm, ⟨7, _⟩ => ⟨S4x2048x4096, .f32⟩
  | .hbm, ⟨8, _⟩ => ⟨S1x256x12288, .f32⟩
  | .hbm, ⟨9, _⟩ => ⟨S256x12288, .f32⟩
  | .hbm, ⟨10, _⟩ => ⟨S1x1536x4096, .f32⟩
  | .hbm, ⟨11, _⟩ => ⟨S1536x4096, .f32⟩
  | .hbm, ⟨12, _⟩ => ⟨S1x1536x4096, .f32⟩
  | .hbm, ⟨13, _⟩ => ⟨S1536x4096, .f32⟩
  | .hbm, ⟨14, _⟩ => ⟨S1x2048x4096, .f32⟩
  | .hbm, ⟨15, _⟩ => ⟨S2048x4096, .f32⟩
  | .hbm, ⟨16, _⟩ => ⟨S256x4096, .f32⟩
  | .hbm, ⟨17, _⟩ => ⟨S16640x4096, .f32⟩
  | .hbm, ⟨18, _⟩ => ⟨S16640x4096, .f32⟩
  | .hbm, ⟨19, _⟩ => ⟨S16640x4096, .f32⟩
  | .hbm, ⟨20, _⟩ => ⟨S_, .f32⟩
  | .hbm, ⟨21, _⟩ => ⟨S16640x4096, .f32⟩
  | .hbm, ⟨22, _⟩ => ⟨S16640x4096, .f32⟩
  | .hbm, ⟨23, _⟩ => ⟨S_, .f32⟩
  | .hbm, ⟨24, _⟩ => ⟨S16640x4096, .f32⟩
  | .hbm, ⟨25, _⟩ => ⟨S16640x4096, .f32⟩
  | .hbm, ⟨26, _⟩ => ⟨S16640x4096, .f32⟩
  | .hbm, ⟨27, _⟩ => ⟨S16640x4096, .f32⟩
  | .hbm, ⟨28, _⟩ => ⟨S256x4096, .f32⟩
  | .hbm, ⟨29, _⟩ => ⟨S16640x4096, .f32⟩
  | .hbm, ⟨30, _⟩ => ⟨S16640x4096, .f32⟩
  | .hbm, ⟨31, _⟩ => ⟨S16640x4096, .f32⟩
  | .hbm, ⟨32, _⟩ => ⟨S_, .f32⟩
  | .hbm, ⟨33, _⟩ => ⟨S16640x4096, .f32⟩
  | .hbm, ⟨34, _⟩ => ⟨S16640x4096, .f32⟩
  | .hbm, ⟨35, _⟩ => ⟨S_, .f32⟩
  | .hbm, ⟨36, _⟩ => ⟨S16640x4096, .f32⟩
  | .hbm, ⟨37, _⟩ => ⟨S16640x4096, .f32⟩
  | .hbm, ⟨38, _⟩ => ⟨S16640x4096, .f32⟩
  | .hbm, ⟨39, _⟩ => ⟨S16640x4096, .f32⟩
  | .hbm, ⟨40, _⟩ => ⟨S16640x4096, .f32⟩
  | .hbm, ⟨41, _⟩ => ⟨S256x4096, .f32⟩
  | .hbm, ⟨42, _⟩ => ⟨S16640x4096, .f32⟩
  | .hbm, ⟨43, _⟩ => ⟨S16640x4096, .f32⟩
  | .hbm, ⟨44, _⟩ => ⟨S16640x4096, .f32⟩
  | .hbm, ⟨45, _⟩ => ⟨S_, .f32⟩
  | .hbm, ⟨46, _⟩ => ⟨S16640x4096, .f32⟩
  | .hbm, ⟨47, _⟩ => ⟨S16640x4096, .f32⟩
  | .hbm, ⟨48, _⟩ => ⟨S_, .f32⟩
  | .hbm, ⟨49, _⟩ => ⟨S16640x4096, .f32⟩
  | .hbm, ⟨50, _⟩ => ⟨S16640x4096, .f32⟩
  | .hbm, ⟨51, _⟩ => ⟨S16640x4096, .f32⟩
  | .hbm, ⟨52, _⟩ => ⟨S16640x4096, .f32⟩
  | .hbm, ⟨53, _⟩ => ⟨S16640x4096, .f32⟩
  | .hbm, ⟨54, _⟩ => ⟨S16640x4096, .bf16⟩
  | _, _ => ⟨S16640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelIn.lean ====
abbrev S16640x4096 : Shape := ⟨2, ![16640, 4096]⟩
abbrev S4x9984x4096 : Shape := ⟨3, ![4, 9984, 4096]⟩
abbrev S16640x9984 : Shape := ⟨2, ![16640, 9984]⟩
abbrev S1280x4096 : Shape := ⟨2, ![1280, 4096]⟩
abbrev S1x768x4096 : Shape := ⟨3, ![1, 768, 4096]⟩
abbrev S1280x768 : Shape := ⟨2, ![1280, 768]⟩
abbrev S768x4096 : Shape := ⟨2, ![768, 4096]⟩

abbrev nBuf : Space → Nat
  | .hbm => 5
  | .vmem => 6
  | .smem => 0
  | _ => 0

abbrev bufTy : (tb : Table) → Fin (tcTables nBuf tb) → BufTy
  | .hbm, ⟨0, _⟩ => ⟨S16640x4096, .f32⟩
  | .hbm, ⟨1, _⟩ => ⟨S4x9984x4096, .f32⟩
  | .hbm, ⟨2, _⟩ => ⟨S16640x4096, .bf16⟩
  | .hbm, ⟨3, _⟩ => ⟨S4x9984x4096, .bf16⟩
  | .hbm, ⟨4, _⟩ => ⟨S16640x9984, .f32⟩
  | .local _ .vmem, ⟨0, _⟩ => ⟨S1280x4096, .bf16⟩
  | .local _ .vmem, ⟨1, _⟩ => ⟨S1280x4096, .bf16⟩
  | .local _ .vmem, ⟨2, _⟩ => ⟨S1x768x4096, .bf16⟩
  | .local _ .vmem, ⟨3, _⟩ => ⟨S1x768x4096, .bf16⟩
  | .local _ .vmem, ⟨4, _⟩ => ⟨S1280x768, .f32⟩
  | .local _ .vmem, ⟨5, _⟩ => ⟨S1280x768, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S16640x4096 : Shape := ⟨2, ![16640, 4096]⟩
abbrev S4x9984x4096 : Shape := ⟨3, ![4, 9984, 4096]⟩
abbrev S1x9984x4096 : Shape := ⟨3, ![1, 9984, 4096]⟩
abbrev S9984x4096 : Shape := ⟨2, ![9984, 4096]⟩
abbrev S4096x9984 : Shape := ⟨2, ![4096, 9984]⟩
abbrev S16640x9984 : Shape := ⟨2, ![16640, 9984]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4x9984x4096, .f32⟩
  | .hbm, ⟨2, _⟩ => ⟨S1x9984x4096, .f32⟩
  | .hbm, ⟨3, _⟩ => ⟨S9984x4096, .f32⟩
  | .hbm, ⟨4, _⟩ => ⟨S4096x9984, .f32⟩
  | .hbm, ⟨5, _⟩ => ⟨S16640x9984, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelLast.lean ====
abbrev S16640x4096 : Shape := ⟨2, ![16640, 4096]⟩
abbrev S4x4x4096 : Shape := ⟨3, ![4, 4, 4096]⟩
abbrev S1x24576 : Shape := ⟨2, ![1, 24576]⟩
abbrev S1x1x4096 : Shape := ⟨3, ![1, 1, 4096]⟩
abbrev S4096 : Shape := ⟨1, ![4096]⟩
abbrev S1x4096 : Shape := ⟨2, ![1, 4096]⟩
abbrev S2x4096 : Shape := ⟨2, ![2, 4096]⟩
abbrev S24576 : Shape := ⟨1, ![24576]⟩
abbrev S2x24576 : Shape := ⟨2, ![2, 24576]⟩
abbrev S2x6x4096 : Shape := ⟨3, ![2, 6, 4096]⟩
abbrev S6x4096 : Shape := ⟨2, ![6, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 39
  | .vmem => 8
  | .smem => 0
  | _ => 0

abbrev bufTy : (tb : Table) → Fin (tcTables nBuf tb) → BufTy
  | .hbm, ⟨0, _⟩ => ⟨S16640x4096, .f32⟩
  | .hbm, ⟨1, _⟩ => ⟨S16640x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S16640x4096, .bf16⟩
  | .hbm, ⟨6, _⟩ => ⟨S1x1x4096, .f32⟩
  | .hbm, ⟨7, _⟩ => ⟨S4096, .f32⟩
  | .hbm, ⟨8, _⟩ => ⟨S1x1x4096, .f32⟩
  | .hbm, ⟨9, _⟩ => ⟨S4096, .f32⟩
  | .hbm, ⟨10, _⟩ => ⟨S1x4096, .f32⟩
  | .hbm, ⟨11, _⟩ => ⟨S1x4096, .f32⟩
  | .hbm, ⟨12, _⟩ => ⟨S2x4096, .f32⟩
  | .hbm, ⟨13, _⟩ => ⟨S24576, .f32⟩
  | .hbm, ⟨14, _⟩ => ⟨S24576, .f32⟩
  | .hbm, ⟨15, _⟩ => ⟨S1x24576, .f32⟩
  | .hbm, ⟨16, _⟩ => ⟨S1x24576, .f32⟩
  | .hbm, ⟨17, _⟩ => ⟨S2x24576, .f32⟩
  | .hbm, ⟨18, _⟩ => ⟨S2x6x4096, .f32⟩
  | .hbm, ⟨19, _⟩ => ⟨S1x1x4096, .f32⟩
  | .hbm, ⟨20, _⟩ => ⟨S4096, .f32⟩
  | .hbm, ⟨21, _⟩ => ⟨S1x1x4096, .f32⟩
  | .hbm, ⟨22, _⟩ => ⟨S4096, .f32⟩
  | .hbm, ⟨23, _⟩ => ⟨S1x1x4096, .f32⟩
  | .hbm, ⟨24, _⟩ => ⟨S4096, .f32⟩
  | .hbm, ⟨25, _⟩ => ⟨S1x1x4096, .f32⟩
  | .hbm, ⟨26, _⟩ => ⟨S4096, .f32⟩
  | .hbm, ⟨27, _⟩ => ⟨S1x1x4096, .f32⟩
  | .hbm, ⟨28, _⟩ => ⟨S4096, .f32⟩
  | .hbm, ⟨29, _⟩ => ⟨S1x1x4096, .f32⟩
  | .hbm, ⟨30, _⟩ => ⟨S4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S6x4096, .f32⟩
  | .hbm, ⟨38, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S2x4096, .f32⟩
  | .local _ .vmem, ⟨5, _⟩ => ⟨S6x4096, .f32⟩
  | .local _ .vmem, ⟨6, _⟩ => ⟨S256x4096, .f32⟩
  | .local _ .vmem, ⟨7, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLastIdeal.lean ====
abbrev S16640x4096 : Shape := ⟨2, ![16640, 4096]⟩
abbrev S4x4x4096 : Shape := ⟨3, ![4, 4, 4096]⟩
abbrev S1x24576 : Shape := ⟨2, ![1, 24576]⟩
abbrev S16384x4096 : Shape := ⟨2, ![16384, 4096]⟩
abbrev S1x16384x4096 : Shape := ⟨3, ![1, 16384, 4096]⟩
abbrev S1x4x4096 : Shape := ⟨3, ![1, 4, 4096]⟩
abbrev S4x4096 : Shape := ⟨2, ![4, 4096]⟩
abbrev S1x1x24576 : Shape := ⟨3, ![1, 1, 24576]⟩
abbrev S1x1x4096 : Shape := ⟨3, ![1, 1, 4096]⟩
abbrev S1x4096 : Shape := ⟨2, ![1, 4096]⟩
abbrev S4096 : Shape := ⟨1, ![4096]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S16640x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S16384x4096, .f32⟩
  | .hbm, ⟨6, _⟩ => ⟨S1x16384x4096, .f32⟩
  | .hbm, ⟨7, _⟩ => ⟨S1x4x4096, .f32⟩
  | .hbm, ⟨8, _⟩ => ⟨S4x4096, .f32⟩
  | .hbm, ⟨9, _⟩ => ⟨S1x1x24576, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S1x1x4096, .f32⟩
  | .hbm, ⟨14, _⟩ => ⟨S1x1x4096, .f32⟩
  | .hbm, ⟨15, _⟩ => ⟨S1x1x4096, .f32⟩
  | .hbm, ⟨16, _⟩ => ⟨S16384x4096, .f32⟩
  | .hbm, ⟨17, _⟩ => ⟨S1x16384x4096, .f32⟩
  | .hbm, ⟨18, _⟩ => ⟨S1x4096, .f32⟩
  | .hbm, ⟨19, _⟩ => ⟨S4096, .f32⟩
  | .hbm, ⟨20, _⟩ => ⟨S1x16384x4096, .f32⟩
  | .hbm, ⟨21, _⟩ => ⟨S_, .f32⟩
  | .hbm, ⟨22, _⟩ => ⟨S1x16384, .f32⟩
  | .hbm, ⟨23, _⟩ => ⟨S1x16384x1, .f32⟩
  | .hbm, ⟨24, _⟩ => ⟨S_, .f32⟩
  | .hbm, ⟨25, _⟩ => ⟨S1x16384x1, .f32⟩
  | .hbm, ⟨26, _⟩ => ⟨S1x16384x1, .f32⟩
  | .hbm, ⟨27, _⟩ => ⟨S_, .f32⟩
  | .hbm, ⟨28, _⟩ => ⟨S1x16384x1, .f32⟩
  | .hbm, ⟨29, _⟩ => ⟨S1x16384x1, .f32⟩
  | .hbm, ⟨30, _⟩ => ⟨S1x16384x1, .f32⟩
  | .hbm, ⟨31, _⟩ => ⟨S1x16384x4096, .f32⟩
  | .hbm, ⟨32, _⟩ => ⟨S1x16384x4096, .f32⟩
  | .hbm, ⟨33, _⟩ => ⟨S1x1x4096, .f32⟩
  | .hbm, ⟨34, _⟩ => ⟨S1x16384x4096, .f32⟩
  | .hbm, ⟨35, _⟩ => ⟨S1x16384x4096, .f32⟩
  | .hbm, ⟨36, _⟩ => ⟨S1x16384x4096, .f32⟩
  | .hbm, ⟨37, _⟩ => ⟨S1x16384x4096, .f32⟩
  | .hbm, ⟨38, _⟩ => ⟨S1x16384x4096, .f32⟩
  | .hbm, ⟨39, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== KernelResid.lean ====
abbrev S16640x4096 : Shape := ⟨2, ![16640, 4096]⟩
abbrev S4x4x4096 : Shape := ⟨3, ![4, 4, 4096]⟩
abbrev S1x24576 : Shape := ⟨2, ![1, 24576]⟩
abbrev S1x2x4096 : Shape := ⟨3, ![1, 2, 4096]⟩
abbrev S2x4096 : Shape := ⟨2, ![2, 4096]⟩
abbrev S24576 : Shape := ⟨1, ![24576]⟩
abbrev S2x24576 : Shape := ⟨2, ![2, 24576]⟩
abbrev S2x6x4096 : Shape := ⟨3, ![2, 6, 4096]⟩
abbrev S1x1x4096 : Shape := ⟨3, ![1, 1, 4096]⟩
abbrev S4096 : Shape := ⟨1, ![4096]⟩
abbrev S1x4096 : Shape := ⟨2, ![1, 4096]⟩
abbrev S6x4096 : Shape := ⟨2, ![6, 4096]⟩
abbrev S256x4096 : Shape := ⟨2, ![256, 4096]⟩
abbrev S256 : Shape := ⟨1, ![256]⟩
abbrev S256x1 : Shape := ⟨2, ![256, 1]⟩

abbrev nBuf : Space → Nat
  | .hbm => 35
  | .vmem => 10
  | .smem => 0
  | _ => 0

abbrev bufTy : (tb : Table) → Fin (tcTables nBuf tb) → BufTy
  | .hbm, ⟨0, _⟩ => ⟨S16640x4096, .f32⟩
  | .hbm, ⟨1, _⟩ => ⟨S16640x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S16640x4096, .bf16⟩
  | .hbm, ⟨6, _⟩ => ⟨S1x2x4096, .f32⟩
  | .hbm, ⟨7, _⟩ => ⟨S2x4096, .f32⟩
  | .hbm, ⟨8, _⟩ => ⟨S24576, .f32⟩
  | .hbm, ⟨9, _⟩ => ⟨S24576, .f32⟩
  | .hbm, ⟨10, _⟩ => ⟨S1x24576, .f32⟩
  | .hbm, ⟨11, _⟩ => ⟨S1x24576, .f32⟩
  | .hbm, ⟨12, _⟩ => ⟨S2x24576, .f32⟩
  | .hbm, ⟨13, _⟩ => ⟨S2x6x4096, .f32⟩
  | .hbm, ⟨14, _⟩ => ⟨S1x1x4096, .f32⟩
  | .hbm, ⟨15, _⟩ => ⟨S4096, .f32⟩
  | .hbm, ⟨16, _⟩ => ⟨S1x1x4096, .f32⟩
  | .hbm, ⟨17, _⟩ => ⟨S4096, .f32⟩
  | .hbm, ⟨18, _⟩ => ⟨S1x1x4096, .f32⟩
  | .hbm, ⟨19, _⟩ => ⟨S4096, .f32⟩
  | .hbm, ⟨20, _⟩ => ⟨S1x1x4096, .f32⟩
  | .hbm, ⟨21, _⟩ => ⟨S4096, .f32⟩
  | .hbm, ⟨22, _⟩ => ⟨S1x1x4096, .f32⟩
  | .hbm, ⟨23, _⟩ => ⟨S4096, .f32⟩
  | .hbm, ⟨24, _⟩ => ⟨S1x1x4096, .f32⟩
  | .hbm, ⟨25, _⟩ => ⟨S4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S6x4096, .f32⟩
  | .hbm, ⟨33, _⟩ => ⟨S16640x4096, .f32⟩
  | .hbm, ⟨34, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S2x4096, .f32⟩
  | .local _ .vmem, ⟨5, _⟩ => ⟨S6x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResidIdeal.lean ====
abbrev S16640x4096 : Shape := ⟨2, ![16640, 4096]⟩
abbrev S4x4x4096 : Shape := ⟨3, ![4, 4, 4096]⟩
abbrev S1x24576 : Shape := ⟨2, ![1, 24576]⟩
abbrev S1x4x4096 : Shape := ⟨3, ![1, 4, 4096]⟩
abbrev S4x4096 : Shape := ⟨2, ![4, 4096]⟩
abbrev S256x4096 : Shape := ⟨2, ![256, 4096]⟩
abbrev S1x4096 : Shape := ⟨2, ![1, 4096]⟩
abbrev S4096 : Shape := ⟨1, ![4096]⟩
abbrev S_ : Shape := ⟨0, ![]⟩
abbrev S256 : Shape := ⟨1, ![256]⟩
abbrev S256x1 : Shape := ⟨2, ![256, 1]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 118
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S16640x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S1x4x4096, .f32⟩
  | .hbm, ⟨6, _⟩ => ⟨S4x4096, .f32⟩
  | .hbm, ⟨7, _⟩ => ⟨S256x4096, .f32⟩
  | .hbm, ⟨8, _⟩ => ⟨S256x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S4096, .f32⟩
  | .hbm, ⟨17, _⟩ => ⟨S256x4096, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x4096, .f32⟩
  | .hbm, ⟨29, _⟩ => ⟨S256x4096, .f32⟩
  | .hbm, ⟨30, _⟩ => ⟨S1x4096, .f32⟩
  | .hbm, ⟨31, _⟩ => ⟨S256x4096, .f32⟩
  | .hbm, ⟨32, _⟩ => ⟨S256x4096, .f32⟩
  | .hbm, ⟨33, _⟩ => ⟨S256x4096, .f32⟩
  | .hbm, ⟨34, _⟩ => ⟨S256x4096, .f32⟩
  | .hbm, ⟨35, _⟩ => ⟨S256x4096, .f32⟩
  | .hbm, ⟨36, _⟩ => ⟨S1x4096, .f32⟩
  | .hbm, ⟨37, _⟩ => ⟨S4096, .f32⟩
  | .hbm, ⟨38, _⟩ => ⟨S256x4096, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x4096, .f32⟩
  | .hbm, ⟨50, _⟩ => ⟨S256x4096, .f32⟩
  | .hbm, ⟨51, _⟩ => ⟨S1x4096, .f32⟩
  | .hbm, ⟨52, _⟩ => ⟨S256x4096, .f32⟩
  | .hbm, ⟨53, _⟩ => ⟨S256x4096, .f32⟩
  | .hbm, ⟨54, _⟩ => ⟨S_, .f32⟩
  | .hbm, ⟨55, _⟩ => ⟨S1x4096, .f32⟩
  | .hbm, ⟨56, _⟩ => ⟨S1x4096, .f32⟩
  | .hbm, ⟨57, _⟩ => ⟨S256x4096, .f32⟩
  | .hbm, ⟨58, _⟩ => ⟨S256x4096, .f32⟩
  | .hbm, ⟨59, _⟩ => ⟨S256x4096, .f32⟩
  | .hbm, ⟨60, _⟩ => ⟨S256x4096, .f32⟩
  | .hbm, ⟨61, _⟩ => ⟨S16384x4096, .f32⟩
  | .hbm, ⟨62, _⟩ => ⟨S16384x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S4096, .f32⟩
  | .hbm, ⟨71, _⟩ => ⟨S16384x4096, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x4096, .f32⟩
  | .hbm, ⟨83, _⟩ => ⟨S16384x4096, .f32⟩
  | .hbm, ⟨84, _⟩ => ⟨S1x4096, .f32⟩
  | .hbm, ⟨85, _⟩ => ⟨S16384x4096, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S16384x4096, .f32⟩
  | .hbm, ⟨90, _⟩ => ⟨S1x4096, .f32⟩
  | .hbm, ⟨91, _⟩ => ⟨S4096, .f32⟩
  | .hbm, ⟨92, _⟩ => ⟨S16384x4096, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x1, .f32⟩
  | .hbm, ⟨103, _⟩ => ⟨S16384x4096, .f32⟩
  | .hbm, ⟨104, _⟩ => ⟨S16384x4096, .f32⟩
  | .hbm, ⟨105, _⟩ => ⟨S1x4096, .f32⟩
  | .hbm, ⟨106, _⟩ => ⟨S16384x4096, .f32⟩
  | .hbm, ⟨107, _⟩ => ⟨S16384x4096, .f32⟩
  | .hbm, ⟨108, _⟩ => ⟨S_, .f32⟩
  | .hbm, ⟨109, _⟩ => ⟨S1x4096, .f32⟩
  | .hbm, ⟨110, _⟩ => ⟨S1x4096, .f32⟩
  | .hbm, ⟨111, _⟩ => ⟨S16384x4096, .f32⟩
  | .hbm, ⟨112, _⟩ => ⟨S16384x4096, .f32⟩
  | .hbm, ⟨113, _⟩ => ⟨S16384x4096, .f32⟩
  | .hbm, ⟨114, _⟩ => ⟨S16384x4096, .f32⟩
  | .hbm, ⟨115, _⟩ => ⟨S16640x4096, .f32⟩
  | .hbm, ⟨116, _⟩ => ⟨S16640x4096, .f32⟩
  | .hbm, ⟨117, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== KernelJoin.lean ====
abbrev S1x256x4096 : Shape := ⟨3, ![1, 256, 4096]⟩
abbrev S1x16384x4096 : Shape := ⟨3, ![1, 16384, 4096]⟩
abbrev S4x4x4096 : Shape := ⟨3, ![4, 4, 4096]⟩
abbrev S1x24576 : Shape := ⟨2, ![1, 24576]⟩
abbrev S256x4096 : Shape := ⟨2, ![256, 4096]⟩
abbrev S16384x4096 : Shape := ⟨2, ![16384, 4096]⟩
abbrev S1x1x4096 : Shape := ⟨3, ![1, 1, 4096]⟩
abbrev S4096 : Shape := ⟨1, ![4096]⟩
abbrev S1x4096 : Shape := ⟨2, ![1, 4096]⟩
abbrev S24576 : Shape := ⟨1, ![24576]⟩
abbrev S2x24576 : Shape := ⟨2, ![2, 24576]⟩
abbrev S2x6x4096 : Shape := ⟨3, ![2, 6, 4096]⟩
abbrev S6x4096 : Shape := ⟨2, ![6, 4096]⟩
abbrev S4x4096 : Shape := ⟨2, ![4, 4096]⟩
abbrev S16640x4096 : Shape := ⟨2, ![16640, 4096]⟩
abbrev S256 : Shape := ⟨1, ![256]⟩
abbrev S256x1 : Shape := ⟨2, ![256, 1]⟩

abbrev nBuf : Space → Nat
  | .hbm => 38
  | .vmem => 10
  | .smem => 0
  | _ => 0

abbrev bufTy : (tb : Table) → Fin (tcTables nBuf tb) → BufTy
  | .hbm, ⟨0, _⟩ => ⟨S1x256x4096, .f32⟩
  | .hbm, ⟨1, _⟩ => ⟨S1x16384x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S256x4096, .f32⟩
  | .hbm, ⟨6, _⟩ => ⟨S16384x4096, .f32⟩
  | .hbm, ⟨7, _⟩ => ⟨S1x1x4096, .f32⟩
  | .hbm, ⟨8, _⟩ => ⟨S4096, .f32⟩
  | .hbm, ⟨9, _⟩ => ⟨S1x4096, .f32⟩
  | .hbm, ⟨10, _⟩ => ⟨S24576, .f32⟩
  | .hbm, ⟨11, _⟩ => ⟨S24576, .f32⟩
  | .hbm, ⟨12, _⟩ => ⟨S1x24576, .f32⟩
  | .hbm, ⟨13, _⟩ => ⟨S1x24576, .f32⟩
  | .hbm, ⟨14, _⟩ => ⟨S2x24576, .f32⟩
  | .hbm, ⟨15, _⟩ => ⟨S2x6x4096, .f32⟩
  | .hbm, ⟨16, _⟩ => ⟨S1x1x4096, .f32⟩
  | .hbm, ⟨17, _⟩ => ⟨S4096, .f32⟩
  | .hbm, ⟨18, _⟩ => ⟨S1x1x4096, .f32⟩
  | .hbm, ⟨19, _⟩ => ⟨S4096, .f32⟩
  | .hbm, ⟨20, _⟩ => ⟨S1x1x4096, .f32⟩
  | .hbm, ⟨21, _⟩ => ⟨S4096, .f32⟩
  | .hbm, ⟨22, _⟩ => ⟨S1x1x4096, .f32⟩
  | .hbm, ⟨23, _⟩ => ⟨S4096, .f32⟩
  | .hbm, ⟨24, _⟩ => ⟨S1x1x4096, .f32⟩
  | .hbm, ⟨25, _⟩ => ⟨S4096, .f32⟩
  | .hbm, ⟨26, _⟩ => ⟨S1x1x4096, .f32⟩
  | .hbm, ⟨27, _⟩ => ⟨S4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S6x4096, .f32⟩
  | .hbm, ⟨35, _⟩ => ⟨S4x4096, .f32⟩
  | .hbm, ⟨36, _⟩ => ⟨S16640x4096, .f32⟩
  | .hbm, ⟨37, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S4x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S1x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceJoinIdeal.lean ====
abbrev S1x256x4096 : Shape := ⟨3, ![1, 256, 4096]⟩
abbrev S1x16384x4096 : Shape := ⟨3, ![1, 16384, 4096]⟩
abbrev S4x4x4096 : Shape := ⟨3, ![4, 4, 4096]⟩
abbrev S1x24576 : Shape := ⟨2, ![1, 24576]⟩
abbrev S1x4x4096 : Shape := ⟨3, ![1, 4, 4096]⟩
abbrev S4x4096 : Shape := ⟨2, ![4, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S256x4096 : Shape := ⟨2, ![256, 4096]⟩
abbrev S256 : Shape := ⟨1, ![256]⟩
abbrev S256x1 : Shape := ⟨2, ![256, 1]⟩
abbrev S16640x4096 : Shape := ⟨2, ![16640, 4096]⟩

abbrev nBuf : Space → Nat
  | .hbm => 76
  | .vmem => 0
  | .smem => 0
  | _ => 0

abbrev bufTy : (tb : Table) → Fin (tcTables nBuf tb) → BufTy
  | .hbm, ⟨0, _⟩ => ⟨S1x256x4096, .f32⟩
  | .hbm, ⟨1, _⟩ => ⟨S1x16384x4096, .f32⟩
  | .hbm, ⟨2, _⟩ => ⟨S4x4x4096, .f32⟩
  | .hbm, ⟨3, _⟩ => ⟨S1x24576, .f32⟩
  | .hbm, ⟨4, _⟩ => ⟨S1x24576, .f32⟩
  | .hbm, ⟨5, _⟩ => ⟨S1x4x4096, .f32⟩
  | .hbm, ⟨6, _⟩ => ⟨S4x4096, .f32⟩
  | .hbm, ⟨7, _⟩ => ⟨S16384x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4096, .f32⟩
  | .hbm, ⟨16, _⟩ => ⟨S16384x4096, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S256x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S4096, .f32⟩
  | .hbm, ⟨48, _⟩ => ⟨S256x4096, .f32⟩
  | .hbm, ⟨49, _⟩ => ⟨S_, .f32⟩
  | .hbm, ⟨50, _⟩ => ⟨S256, .f32⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x1, .f32⟩
  | .hbm, ⟨59, _⟩ => ⟨S256x4096, .f32⟩
  | .hbm, ⟨60, _⟩ => ⟨S256x4096, .f32⟩
  | .hbm, ⟨61, _⟩ => ⟨S1x4096, .f32⟩
  | .hbm, ⟨62, _⟩ => ⟨S256x4096, .f32⟩
  | .hbm, ⟨63, _⟩ => ⟨S256x4096, .f32⟩
  | .hbm, ⟨64, _⟩ => ⟨S_, .f32⟩
  | .hbm, ⟨65, _⟩ => ⟨S1x4096, .f32⟩
  | .hbm, ⟨66, _⟩ => ⟨S1x4096, .f32⟩
  | .hbm, ⟨67, _⟩ => ⟨S256x4096, .f32⟩
  | .hbm, ⟨68, _⟩ => ⟨S256x4096, .f32⟩
  | .hbm, ⟨69, _⟩ => ⟨S256x4096, .f32⟩
  | .hbm, ⟨70, _⟩ => ⟨S256x4096, .f32⟩
  | .hbm, ⟨71, _⟩ => ⟨S256x4096, .f32⟩
  | .hbm, ⟨72, _⟩ => ⟨S16384x4096, .f32⟩
  | .hbm, ⟨73, _⟩ => ⟨S16640x4096, .f32⟩
  | .hbm, ⟨74, _⟩ => ⟨S16640x4096, .f32⟩
  | .hbm, ⟨75, _⟩ => ⟨S16640x4096, .bf16⟩
  | _, _ => ⟨S1x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== KernelMod.lean ====
abbrev S8x4096 : Shape := ⟨2, ![8, 4096]⟩
abbrev S4x4096x256 : Shape := ⟨3, ![4, 4096, 256]⟩
abbrev S4x256x24576 : Shape := ⟨3, ![4, 256, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x256 : Shape := ⟨3, ![1, 4096, 256]⟩
abbrev S1x256x4096 : Shape := ⟨3, ![1, 256, 4096]⟩
abbrev S1x1x4096 : Shape := ⟨3, ![1, 1, 4096]⟩
abbrev S1x8x4096 : Shape := ⟨3, ![1, 8, 4096]⟩
abbrev S4096x256 : Shape := ⟨2, ![4096, 256]⟩
abbrev S8x256 : Shape := ⟨2, ![8, 256]⟩
abbrev S256x4096 : Shape := ⟨2, ![256, 4096]⟩
abbrev S1x4096 : Shape := ⟨2, ![1, 4096]⟩

abbrev nBuf : Space → Nat
  | .hbm => 6
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S4x1x24576, .f32⟩
  | .hbm, ⟨5, _⟩ => ⟨S4x8x24576, .f32⟩
  | .local _ .vmem, ⟨0, _⟩ => ⟨S8x4096, .f32⟩
  | .local _ .vmem, ⟨1, _⟩ => ⟨S1x4096x256, .f32⟩
  | .local _ .vmem, ⟨2, _⟩ => ⟨S1x4096x256, .f32⟩
  | .local _ .vmem, ⟨3, _⟩ => ⟨S1x256x4096, .f32⟩
  | .local _ .vmem, ⟨4, _⟩ => ⟨S1x256x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x8x4096, .f32⟩
  | .local _ .vmem, ⟨8, _⟩ => ⟨S1x8x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceModIdeal.lean ====
abbrev S8x4096 : Shape := ⟨2, ![8, 4096]⟩
abbrev S4x4096x256 : Shape := ⟨3, ![4, 4096, 256]⟩
abbrev S4x256x24576 : Shape := ⟨3, ![4, 256, 24576]⟩
abbrev S4x24576 : Shape := ⟨2, ![4, 24576]⟩
abbrev S_ : Shape := ⟨0, ![]⟩
abbrev S1x4096x256 : Shape := ⟨3, ![1, 4096, 256]⟩
abbrev S4096x256 : Shape := ⟨2, ![4096, 256]⟩
abbrev S8x256 : Shape := ⟨2, ![8, 256]⟩
abbrev S1x256x24576 : Shape := ⟨3, ![1, 256, 24576]⟩
abbrev S256x24576 : Shape := ⟨2, ![256, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S4x8x24576 : Shape := ⟨3, ![4, 8, 24576]⟩

abbrev nBuf : Space → Nat
  | .hbm => 62
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S1x4096x256, .f32⟩
  | .hbm, ⟨14, _⟩ => ⟨S4096x256, .f32⟩
  | .hbm, ⟨15, _⟩ => ⟨S8x256, .f32⟩
  | .hbm, ⟨16, _⟩ => ⟨S1x256x24576, .f32⟩
  | .hbm, ⟨17, _⟩ => ⟨S256x24576, .f32⟩
  | .hbm, ⟨18, _⟩ => ⟨S8x24576, .f32⟩
  | .hbm, ⟨19, _⟩ => ⟨S1x24576, .f32⟩
  | .hbm, ⟨20, _⟩ => ⟨S24576, .f32⟩
  | .hbm, ⟨21, _⟩ => ⟨S1x24576, .f32⟩
  | .hbm, ⟨22, _⟩ => ⟨S8x24576, .f32⟩
  | .hbm, ⟨23, _⟩ => ⟨S8x24576, .f32⟩
  | .hbm, ⟨24, _⟩ => ⟨S1x4096x256, .f32⟩
  | .hbm, ⟨25, _⟩ => ⟨S4096x256, .f32⟩
  | .hbm, ⟨26, _⟩ => ⟨S8x256, .f32⟩
  | .hbm, ⟨27, _⟩ => ⟨S1x256x24576, .f32⟩
  | .hbm, ⟨28, _⟩ => ⟨S256x24576, .f32⟩
  | .hbm, ⟨29, _⟩ => ⟨S8x24576, .f32⟩
  | .hbm, ⟨30, _⟩ => ⟨S1x24576, .f32⟩
  | .hbm, ⟨31, _⟩ => ⟨S24576, .f32⟩
  | .hbm, ⟨32, _⟩ => ⟨S1x24576, .f32⟩
  | .hbm, ⟨33, _⟩ => ⟨S8x24576, .f32⟩
  | .hbm, ⟨34, _⟩ => ⟨S8x24576, .f32⟩
  | .hbm, ⟨35, _⟩ => ⟨S1x4096x256, .f32⟩
  | .hbm, ⟨36, _⟩ => ⟨S4096x256, .f32⟩
  | .hbm, ⟨37, _⟩ => ⟨S8x256, .f32⟩
  | .hbm, ⟨38, _⟩ => ⟨S1x256x24576, .f32⟩
  | .hbm, ⟨39, _⟩ => ⟨S256x24576, .f32⟩
  | .hbm, ⟨40, _⟩ => ⟨S8x24576, .f32⟩
  | .hbm, ⟨41, _⟩ => ⟨S1x24576, .f32⟩
  | .hbm, ⟨42, _⟩ => ⟨S24576, .f32⟩
  | .hbm, ⟨43, _⟩ => ⟨S1x24576, .f32⟩
  | .hbm, ⟨44, _⟩ => ⟨S8x24576, .f32⟩
  | .hbm, ⟨45, _⟩ => ⟨S8x24576, .f32⟩
  | .hbm, ⟨46, _⟩ => ⟨S1x4096x256, .f32⟩
  | .hbm, ⟨47, _⟩ => ⟨S4096x256, .f32⟩
  | .hbm, ⟨48, _⟩ => ⟨S8x256, .f32⟩
  | .hbm, ⟨49, _⟩ => ⟨S1x256x24576, .f32⟩
  | .hbm, ⟨50, _⟩ => ⟨S256x24576, .f32⟩
  | .hbm, ⟨51, _⟩ => ⟨S8x24576, .f32⟩
  | .hbm, ⟨52, _⟩ => ⟨S1x24576, .f32⟩
  | .hbm, ⟨53, _⟩ => ⟨S24576, .f32⟩
  | .hbm, ⟨54, _⟩ => ⟨S1x24576, .f32⟩
  | .hbm, ⟨55, _⟩ => ⟨S8x24576, .f32⟩
  | .hbm, ⟨56, _⟩ => ⟨S8x24576, .f32⟩
  | .hbm, ⟨57, _⟩ => ⟨S1x8x24576, .f32⟩
  | .hbm, ⟨58, _⟩ => ⟨S1x8x24576, .f32⟩
  | .hbm, ⟨59, _⟩ => ⟨S1x8x24576, .f32⟩
  | .hbm, ⟨60, _⟩ => ⟨S1x8x24576, .f32⟩
  | .hbm, ⟨61, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== KernelPrep.lean ====
abbrev S16640x9952 : Shape := ⟨2, ![16640, 9952]⟩
abbrev S4x5088 : Shape := ⟨2, ![4, 5088]⟩
abbrev S4x2x1536 : Shape := ⟨3, ![4, 2, 1536]⟩
abbrev S4x2x64x1536 : Shape := ⟨4, ![4, 2, 64, 1536]⟩
abbrev S4x1536 : Shape := ⟨2, ![4, 1536]⟩
abbrev S4x4x384x384 : Shape := ⟨4, ![4, 4, 384, 384]⟩
abbrev S16640x5088 : Shape := ⟨2, ![16640, 5088]⟩
abbrev S_ : Shape := ⟨0, ![]⟩
abbrev S16640x1056 : Shape := ⟨2, ![16640, 1056]⟩
abbrev S16640x1536 : Shape := ⟨2, ![16640, 1536]⟩
abbrev S16640x2304 : Shape := ⟨2, ![16640, 2304]⟩
abbrev S16640x9984 : Shape := ⟨2, ![16640, 9984]⟩
abbrev S4x5120 : Shape := ⟨2, ![4, 5120]⟩
abbrev S4x1x5120 : Shape := ⟨3, ![4, 1, 5120]⟩
abbrev S1x1x5120 : Shape := ⟨3, ![1, 1, 5120]⟩
abbrev S1x5120 : Shape := ⟨2, ![1, 5120]⟩
abbrev S1x2x1536 : Shape := ⟨3, ![1, 2, 1536]⟩
abbrev S2x1536 : Shape := ⟨2, ![2, 1536]⟩
abbrev S4x1x64x1536 : Shape := ⟨4, ![4, 1, 64, 1536]⟩
abbrev S4x64x1536 : Shape := ⟨3, ![4, 64, 1536]⟩
abbrev S4x128x1536 : Shape := ⟨3, ![4, 128, 1536]⟩
abbrev S4x1x128x1536 : Shape := ⟨4, ![4, 1, 128, 1536]⟩
abbrev S4x2x128x1536 : Shape := ⟨4, ![4, 2, 128, 1536]⟩
abbrev S1x2x128x1536 : Shape := ⟨4, ![1, 2, 128, 1536]⟩
abbrev S2x128x1536 : Shape := ⟨3, ![2, 128, 1536]⟩
abbrev S1x1536 : Shape := ⟨2, ![1, 1536]⟩
abbrev S1536 : Shape := ⟨1, ![1536]⟩
abbrev S1x4x384x384 : Shape := ⟨4, ![1, 4, 384, 384]⟩
abbrev S4x384x384 : Shape := ⟨3, ![4, 384, 384]⟩
abbrev S16640x256 : Shape := ⟨2, ![16640, 256]⟩
abbrev S256x5120 : Shape := ⟨2, ![256, 5120]⟩
abbrev S8x5120 : Shape := ⟨2, ![8, 5120]⟩
abbrev S256x1536 : Shape := ⟨2, ![256, 1536]⟩
abbrev S8x1536 : Shape := ⟨2, ![8, 1536]⟩
abbrev S256x256 : Shape := ⟨2, ![256, 256]⟩
abbrev S272x1536 : Shape := ⟨2, ![272, 1536]⟩
abbrev S256x1 : Shape := ⟨2, ![256, 1]⟩
abbrev S256x384 : Shape := ⟨2, ![256, 384]⟩
abbrev S1x384x384 : Shape := ⟨3, ![1, 384, 384]⟩
abbrev S384x384 : Shape := ⟨2, ![384, 384]⟩
abbrev S1x384 : Shape := ⟨2, ![1, 384]⟩
abbrev S256x128 : Shape := ⟨2, ![256, 128]⟩
abbrev S384x128 : Shape := ⟨2, ![384, 128]⟩
abbrev S1x128x1536 : Shape := ⟨3, ![1, 128, 1536]⟩
abbrev S128x1536 : Shape := ⟨2, ![128, 1536]⟩

abbrev nBuf : Space → Nat
  | .hbm => 82
  | .vmem => 44
  | .smem => 0
  | _ => 0

abbrev bufTy : (tb : Table) → Fin (tcTables nBuf tb) → BufTy
  | .hbm, ⟨0, _⟩ => ⟨S16640x9952, .f32⟩
  | .hbm, ⟨1, _⟩ => ⟨S4x5088, .f32⟩
  | .hbm, ⟨2, _⟩ => ⟨S4x2x1536, .f32⟩
  | .hbm, ⟨3, _⟩ => ⟨S4x2x64x1536, .f32⟩
  | .hbm, ⟨4, _⟩ => ⟨S4x2x1536, .f32⟩
  | .hbm, ⟨5, _⟩ => ⟨S4x2x64x1536, .f32⟩
  | .hbm, ⟨6, _⟩ => ⟨S4x1536, .f32⟩
  | .hbm, ⟨7, _⟩ => ⟨S4x1536, .f32⟩
  | .hbm, ⟨8, _⟩ => ⟨S4x4x384x384, .f32⟩
  | .hbm, ⟨9, _⟩ => ⟨S4x1536, .f32⟩
  | .hbm, ⟨10, _⟩ => ⟨S16640x5088, .f32⟩
  | .hbm, ⟨11, _⟩ => ⟨S_, .f32⟩
  | .hbm, ⟨12, _⟩ => ⟨S16640x1056, .f32⟩
  | .hbm, ⟨13, _⟩ => ⟨S16640x1536, .f32⟩
  | .hbm, ⟨14, _⟩ => ⟨S_, .f32⟩
  | .hbm, ⟨15, _⟩ => ⟨S16640x2304, .f32⟩
  | .hbm, ⟨16, _⟩ => ⟨S16640x9984, .f32⟩
  | .hbm, ⟨17, _⟩ => ⟨S_, .i32⟩
  | .hbm, ⟨18, _⟩ => ⟨S_, .f32⟩
  | .hbm, ⟨19, _⟩ => ⟨S4x5120, .f32⟩
  | .hbm, ⟨20, _⟩ => ⟨S4x1x5120, .f32⟩
  | .hbm, ⟨21, _⟩ => ⟨S1x1x5120, .f32⟩
  | .hbm, ⟨22, _⟩ => ⟨S1x5120, .f32⟩
  | .hbm, ⟨23, _⟩ => ⟨S1x2x1536, .f32⟩
  | .hbm, ⟨24, _⟩ => ⟨S2x1536, .f32⟩
  | .hbm, ⟨25, _⟩ => ⟨S4x1x64x1536, .f32⟩
  | .hbm, ⟨26, _⟩ => ⟨S4x64x1536, .f32⟩
  | .hbm, ⟨27, _⟩ => ⟨S_, .f32⟩
  | .hbm, ⟨28, _⟩ => ⟨S4x64x1536, .f32⟩
  | .hbm, ⟨29, _⟩ => ⟨S4x1x64x1536, .f32⟩
  | .hbm, ⟨30, _⟩ => ⟨S4x64x1536, .f32⟩
  | .hbm, ⟨31, _⟩ => ⟨S4x128x1536, .f32⟩
  | .hbm, ⟨32, _⟩ => ⟨S4x1x64x1536, .f32⟩
  | .hbm, ⟨33, _⟩ => ⟨S4x64x1536, .f32⟩
  | .hbm, ⟨34, _⟩ => ⟨S4x128x1536, .f32⟩
  | .hbm, ⟨35, _⟩ => ⟨S4x1x128x1536, .f32⟩
  | .hbm, ⟨36, _⟩ => ⟨S4x1x128x1536, .f32⟩
  | .hbm, ⟨37, _⟩ => ⟨S4x2x128x1536, .f32⟩
  | .hbm, ⟨38, _⟩ => ⟨S4x2x128x1536, .bf16⟩
  | .hbm, ⟨39, _⟩ => ⟨S1x2x128x1536, .bf16⟩
  | .hbm, ⟨40, _⟩ => ⟨S2x128x1536, .bf16⟩
  | .hbm, ⟨41, _⟩ => ⟨S1x2x1536, .f32⟩
  | .hbm, ⟨42, _⟩ => ⟨S2x1536, .f32⟩
  | .hbm, ⟨43, _⟩ => ⟨S4x1x64x1536, .f32⟩
  | .hbm, ⟨44, _⟩ => ⟨S4x64x1536, .f32⟩
  | .hbm, ⟨45, _⟩ => ⟨S_, .f32⟩
  | .hbm, ⟨46, _⟩ => ⟨S4x64x1536, .f32⟩
  | .hbm, ⟨47, _⟩ => ⟨S4x1x64x1536, .f32⟩
  | .hbm, ⟨48, _⟩ => ⟨S4x64x1536, .f32⟩
  | .hbm, ⟨49, _⟩ => ⟨S4x128x1536, .f32⟩
  | .hbm, ⟨50, _⟩ => ⟨S4x1x64x1536, .f32⟩
  | .hbm, ⟨51, _⟩ => ⟨S4x64x1536, .f32⟩
  | .hbm, ⟨52, _⟩ => ⟨S4x128x1536, .f32⟩
  | .hbm, ⟨53, _⟩ => ⟨S4x1x128x1536, .f32⟩
  | .hbm, ⟨54, _⟩ => ⟨S4x1x128x1536, .f32⟩
  | .hbm, ⟨55, _⟩ => ⟨S4x2x128x1536, .f32⟩
  | .hbm, ⟨56, _⟩ => ⟨S4x2x128x1536, .bf16⟩
  | .hbm, ⟨57, _⟩ => ⟨S1x2x128x1536, .bf16⟩
  | .hbm, ⟨58, _⟩ => ⟨S2x128x1536, .bf16⟩
  | .hbm, ⟨59, _⟩ => ⟨S1x1536, .f32⟩
  | .hbm, ⟨60, _⟩ => ⟨S1536, .f32⟩
  | .hbm, ⟨61, _⟩ => ⟨S1x1536, .f32⟩
  | .hbm, ⟨62, _⟩ => ⟨S1x1536, .f32⟩
  | .hbm, ⟨63, _⟩ => ⟨S1536, .f32⟩
  | .hbm, ⟨64, _⟩ => ⟨S1x1536, .f32⟩
  | .hbm, ⟨65, _⟩ => ⟨S4x4x384x384, .bf16⟩
  | .hbm, ⟨66, _⟩ => ⟨S1x4x384x384, .bf16⟩
  | .hbm, ⟨67, _⟩ => ⟨S4x384x384, .bf16⟩
  | .hbm, ⟨68, _⟩ => ⟨S1x1536, .f32⟩
  | .hbm, ⟨69, _⟩ => ⟨S1536, .f32⟩
  | .hbm, ⟨70, _⟩ => ⟨S1x1536, .f32⟩
  | .hbm, ⟨71, _⟩ => ⟨S16640x1536, .bf16⟩
  | .hbm, ⟨72, _⟩ => ⟨S16640x1536, .bf16⟩
  | .hbm, ⟨73, _⟩ => ⟨S16640x1536, .bf16⟩
  | .hbm, ⟨74, _⟩ => ⟨S16640x1536, .f32⟩
  | .hbm, ⟨75, _⟩ => ⟨S16640x1536, .f32⟩
  | .hbm, ⟨76, _⟩ => ⟨S16640x1536, .bf16⟩
  | .hbm, ⟨77, _⟩ => ⟨S16640x1536, .bf16⟩
  | .hbm, ⟨78, _⟩ => ⟨S16640x1536, .bf16⟩
  | .hbm, ⟨79, _⟩ => ⟨S16640x1536, .bf16⟩
  | .hbm, ⟨80, _⟩ => ⟨S16640x256, .bf16⟩
  | .hbm, ⟨81, _⟩ => ⟨S16640x1536, .bf16⟩
  | .local _ .vmem, ⟨0, _⟩ => ⟨S256x5120, .f32⟩
  | .local _ .vmem, ⟨1, _⟩ => ⟨S256x5120, .f32⟩
  | .local _ .vmem, ⟨2, _⟩ => ⟨S8x5120, .f32⟩
  | .local _ .vmem, ⟨3, _⟩ => ⟨S8x5120, .f32⟩
  | .local _ .vmem, ⟨4, _⟩ => ⟨S8x5120, .f32⟩
  | .local _ .vmem, ⟨5, _⟩ => ⟨S8x5120, .f32⟩
  | .local _ .vmem, ⟨6, _⟩ => ⟨S1x5120, .f32⟩
  | .local _ .vmem, ⟨7, _⟩ => ⟨S2x1536, .f32⟩
  | .local _ .vmem, ⟨8, _⟩ => ⟨S2x128x1536, .bf16⟩
  | .local _ .vmem, ⟨9, _⟩ => ⟨S2x1536, .f32⟩
  | .local _ .vmem, ⟨10, _⟩ => ⟨S2x128x1536, .bf16⟩
  | .local _ .vmem, ⟨11, _⟩ => ⟨S1x1536, .f32⟩
  | .local _ .vmem, ⟨12, _⟩ => ⟨S1x1536, .f32⟩
  | .local _ .vmem, ⟨13, _⟩ => ⟨S256x1536, .f32⟩
  | .local _ .vmem, ⟨14, _⟩ => ⟨S256x1536, .f32⟩
  | .local _ .vmem, ⟨15, _⟩ => ⟨S8x1536, .f32⟩
  | .local _ .vmem, ⟨16, _⟩ => ⟨S8x1536, .f32⟩
  | .local _ .vmem, ⟨17, _⟩ => ⟨S8x1536, .f32⟩
  | .local _ .vmem, ⟨18, _⟩ => ⟨S8x1536, .f32⟩
  | .local _ .vmem, ⟨19, _⟩ => ⟨S4x384x384, .bf16⟩
  | .local _ .vmem, ⟨20, _⟩ => ⟨S1x1536, .f32⟩
  | .local _ .vmem, ⟨21, _⟩ => ⟨S256x1536, .bf16⟩
  | .local _ .vmem, ⟨22, _⟩ => ⟨S256x1536, .bf16⟩
  | .local _ .vmem, ⟨23, _⟩ => ⟨S256x1536, .bf16⟩
  | .local _ .vmem, ⟨24, _⟩ => ⟨S256x1536, .bf16⟩
  | .local _ .vmem, ⟨25, _⟩ => ⟨S256x1536, .bf16⟩
  | .local _ .vmem, ⟨26, _⟩ => ⟨S256x1536, .bf16⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1536, .f32⟩
  | .local _ .vmem, ⟨31, _⟩ => ⟨S256x1536, .bf16⟩
  | .local _ .vmem, ⟨32, _⟩ => ⟨S256x1536, .bf16⟩
  | .local _ .vmem, ⟨33, _⟩ => ⟨S256x1536, .bf16⟩
  | .local _ .vmem, ⟨34, _⟩ => ⟨S256x1536, .bf16⟩
  | .local _ .vmem, ⟨35, _⟩ => ⟨S256x1536, .bf16⟩
  | .local _ .vmem, ⟨36, _⟩ => ⟨S256x1536, .bf16⟩
  | .local _ .vmem, ⟨37, _⟩ => ⟨S256x1536, .bf16⟩
  | .local _ .vmem, ⟨38, _⟩ => ⟨S256x1536, .bf16⟩
  | .local _ .vmem, ⟨39, _⟩ => ⟨S256x256, .bf16⟩
  | .local _ .vmem, ⟨40, _⟩ => ⟨S256x256, .bf16⟩
  | .local _ .vmem, ⟨41, _⟩ => ⟨S256x1536, .bf16⟩
  | .local _ .vmem, ⟨42, _⟩ => ⟨S256x1536, .bf16⟩
  | .local _ .vmem, ⟨43, _⟩ => ⟨S272x1536, .f32⟩
  | _, _ => ⟨S16640x9952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55_0 : Ref sig .tc := ⟨.hbm, 71, rfl⟩
abbrev main_v55_1 : Ref sig .tc := ⟨.hbm, 72, rfl⟩
abbrev main_v55_2 : Ref sig .tc := ⟨.hbm, 73, rfl⟩
abbrev main_v55_3 : Ref sig .tc := ⟨.hbm, 74, rfl⟩
abbrev main_v55_4 : Ref sig .tc := ⟨.hbm, 75, rfl⟩
abbrev main_v55_5 : Ref sig .tc := ⟨.hbm, 76, rfl⟩
abbrev main_v55_6 : Ref sig .tc := ⟨.hbm, 77, rfl⟩
abbrev main_v55_7 : Ref sig .tc := ⟨.hbm, 78, rfl⟩
abbrev main_v55_8 : Ref sig .tc := ⟨.hbm, 79, rfl⟩
abbrev main_v55_9 : Ref sig .tc := ⟨.hbm, 80, rfl⟩
abbrev main_v55_10 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_11 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c4_i32 : BitVec 32 := 4#32
  let c0_i32 : BitVec 32 := 0#32
  ![v2.toNat, c4_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x384x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1536 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1536 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1536 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1536 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1536 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1536 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferencePrepIdeal.lean ====
abbrev S16640x9952 : Shape := ⟨2, ![16640, 9952]⟩
abbrev S4x5088 : Shape := ⟨2, ![4, 5088]⟩
abbrev S4x2x1536 : Shape := ⟨3, ![4, 2, 1536]⟩
abbrev S4x2x64x1536 : Shape := ⟨4, ![4, 2, 64, 1536]⟩
abbrev S4x1536 : Shape := ⟨2, ![4, 1536]⟩
abbrev S4x4x384x384 : Shape := ⟨4, ![4, 4, 384, 384]⟩
abbrev S256x5088 : Shape := ⟨2, ![256, 5088]⟩
abbrev S1x256x5088 : Shape := ⟨3, ![1, 256, 5088]⟩
abbrev S1x5088 : Shape := ⟨2, ![1, 5088]⟩
abbrev S5088 : Shape := ⟨1, ![5088]⟩
abbrev S1x2x1536 : Shape := ⟨3, ![1, 2, 1536]⟩
abbrev S2x1536 : Shape := ⟨2, ![2, 1536]⟩
abbrev S1x2x64x1536 : Shape := ⟨4, ![1, 2, 64, 1536]⟩
abbrev S2x64x1536 : Shape := ⟨3, ![2, 64, 1536]⟩
abbrev S1x1536 : Shape := ⟨2, ![1, 1536]⟩
abbrev S1536 : Shape := ⟨1, ![1536]⟩
abbrev S1x1x5088 : Shape := ⟨3, ![1, 1, 5088]⟩
abbrev S_ : Shape := ⟨0, ![]⟩
abbrev S1x255x5088 : Shape := ⟨3, ![1, 255, 5088]⟩
abbrev S1x256x1536 : Shape := ⟨3, ![1, 256, 1536]⟩
abbrev S1x256x128 : Shape := ⟨3, ![1, 256, 128]⟩
abbrev S1x256x2x64 : Shape := ⟨4, ![1, 256, 2, 64]⟩
abbrev S2x1536x1x256 : Shape := ⟨4, ![2, 1536, 1, 256]⟩
abbrev S1x256x2x1536 : Shape := ⟨4, ![1, 256, 2, 1536]⟩
abbrev S1x1x2x1536 : Shape := ⟨4, ![1, 1, 2, 1536]⟩
abbrev S1x256x1x1536 : Shape := ⟨4, ![1, 256, 1, 1536]⟩
abbrev S1x1x1x1536 : Shape := ⟨4, ![1, 1, 1, 1536]⟩
abbrev S256x1536 : Shape := ⟨2, ![256, 1536]⟩
abbrev S16384x5088 : Shape := ⟨2, ![16384, 5088]⟩
abbrev S1x16384x5088 : Shape := ⟨3, ![1, 16384, 5088]⟩
abbrev S1x16383x5088 : Shape := ⟨3, ![1, 16383, 5088]⟩
abbrev S1x16384x1536 : Shape := ⟨3, ![1, 16384, 1536]⟩
abbrev S1x16384x128 : Shape := ⟨3, ![1, 16384, 128]⟩
abbrev S1x16384x2x64 : Shape := ⟨4, ![1, 16384, 2, 64]⟩
abbrev S2x1536x1x16384 : Shape := ⟨4, ![2, 1536, 1, 16384]⟩
abbrev S1x16384x2x1536 : Shape := ⟨4, ![1, 16384, 2, 1536]⟩
abbrev S1x16384x1x1536 : Shape := ⟨4, ![1, 16384, 1, 1536]⟩
abbrev S16384x1536 : Shape := ⟨2, ![16384, 1536]⟩
abbrev S16640x1536 : Shape := ⟨2, ![16640, 1536]⟩

abbrev nBuf : Space → Nat
  | .hbm => 142
  | .vmem => 0
  | .smem => 0
  | _ => 0

abbrev hbmTy0_0 (i : Nat) : BufTy := match i % 128 with
  | 0 => ⟨S16640x9952, .f32⟩
  | 1 => ⟨S4x5088, .f32⟩
  | 2 => ⟨S4x2x1536, .f32⟩
  | 3 => ⟨S4x2x64x1536, .f32⟩
  | 4 => ⟨S4x2x1536, .f32⟩
  | 5 => ⟨S4x2x64x1536, .f32⟩
  | 6 => ⟨S4x1536, .f32⟩
  | 7 => ⟨S4x1536, .f32⟩
  | 8 => ⟨S4x4x384x384, .f32⟩
  | 9 => ⟨S4x1536, .f32⟩
  | 10 => ⟨S256x5088, .f32⟩
  | 11 => ⟨S1x256x5088, .f32⟩
  | 12 => ⟨S1x5088, .f32⟩
  | 13 => ⟨S5088, .f32⟩
  | 14 => ⟨S1x2x1536, .f32⟩
  | 15 => ⟨S2x1536, .f32⟩
  | 16 => ⟨S1x2x64x1536, .f32⟩
  | 17 => ⟨S2x64x1536, .f32⟩
  | 18 => ⟨S1x1536, .f32⟩
  | 19 => ⟨S1536, .f32⟩
  | 20 => ⟨S1x1x5088, .f32⟩
  | 21 => ⟨S_, .f32⟩
  | 22 => ⟨S1x1x5088, .f32⟩
  | 23 => ⟨S1x255x5088, .f32⟩
  | 24 => ⟨S1x256x5088, .f32⟩
  | 25 => ⟨S1x255x5088, .f32⟩
  | 26 => ⟨S1x256x5088, .f32⟩
  | 27 => ⟨S1x256x5088, .f32⟩
  | 28 => ⟨S_, .f32⟩
  | 29 => ⟨S1x256x5088, .f32⟩
  | 30 => ⟨S1x256x5088, .f32⟩
  | 31 => ⟨S1x256x5088, .f32⟩
  | 32 => ⟨S1x1x5088, .f32⟩
  | 33 => ⟨S1x256x5088, .f32⟩
  | 34 => ⟨S1x256x5088, .f32⟩
  | 35 => ⟨S1x256x5088, .f32⟩
  | 36 => ⟨S1x256x1536, .f32⟩
  | 37 => ⟨S1x256x1536, .f32⟩
  | 38 => ⟨S1x256x1536, .f32⟩
  | 39 => ⟨S1x256x128, .f32⟩
  | 40 => ⟨S1x256x2x64, .f32⟩
  | 41 => ⟨S2x1536x1x256, .f32⟩
  | 42 => ⟨S1x256x2x1536, .f32⟩
  | 43 => ⟨S1x1x2x1536, .f32⟩
  | 44 => ⟨S1x256x2x1536, .f32⟩
  | 45 => ⟨S1x256x2x1536, .f32⟩
  | 46 => ⟨S1x256x2x1536, .f32⟩
  | 47 => ⟨S1x256x2x1536, .f32⟩
  | 48 => ⟨S_, .f32⟩
  | 49 => ⟨S1x256x2x1536, .f32⟩
  | 50 => ⟨S1x256x2x1536, .f32⟩
  | 51 => ⟨S_, .f32⟩
  | 52 => ⟨S1x256x2x1536, .f32⟩
  | 53 => ⟨S1x256x2x1536, .f32⟩
  | 54 => ⟨S1x256x1x1536, .f32⟩
  | 55 => ⟨S_, .f32⟩
  | 56 => ⟨S1x256x2x1536, .f32⟩
  | 57 => ⟨S1x256x2x1536, .f32⟩
  | 58 => ⟨S1x1x1x1536, .f32⟩
  | 59 => ⟨S1x256x2x1536, .f32⟩
  | 60 => ⟨S1x256x2x1536, .f32⟩
  | 61 => ⟨S_, .f32⟩
  | 62 => ⟨S1x256x2x1536, .f32⟩
  | 63 => ⟨S1x256x2x1536, .f32⟩
  | 64 => ⟨S1x256x2x1536, .f32⟩
  | 65 => ⟨S1x256x2x1536, .f32⟩
  | 66 => ⟨S256x1536, .f32⟩
  | 67 => ⟨S256x1536, .f32⟩
  | 68 => ⟨S1x256x1x1536, .f32⟩
  | 69 => ⟨S256x1536, .f32⟩
  | 70 => ⟨S1x256x1x1536, .f32⟩
  | 71 => ⟨S256x1536, .f32⟩
  | 72 => ⟨S16384x5088, .f32⟩
  | 73 => ⟨S1x16384x5088, .f32⟩
  | 74 => ⟨S1x5088, .f32⟩
  | 75 => ⟨S5088, .f32⟩
  | 76 => ⟨S1x2x1536, .f32⟩
  | 77 => ⟨S2x1536, .f32⟩
  | 78 => ⟨S1x2x64x1536, .f32⟩
  | 79 => ⟨S2x64x1536, .f32⟩
  | 80 => ⟨S1x1536, .f32⟩
  | 81 => ⟨S1536, .f32⟩
  | 82 => ⟨S1x1x5088, .f32⟩
  | 83 => ⟨S_, .f32⟩
  | 84 => ⟨S1x1x5088, .f32⟩
  | 85 => ⟨S1x16383x5088, .f32⟩
  | 86 => ⟨S1x16384x5088, .f32⟩
  | 87 => ⟨S1x16383x5088, .f32⟩
  | 88 => ⟨S1x16384x5088, .f32⟩
  | 89 => ⟨S1x16384x5088, .f32⟩
  | 90 => ⟨S_, .f32⟩
  | 91 => ⟨S1x16384x5088, .f32⟩
  | 92 => ⟨S1x16384x5088, .f32⟩
  | 93 => ⟨S1x16384x5088, .f32⟩
  | 94 => ⟨S1x1x5088, .f32⟩
  | 95 => ⟨S1x16384x5088, .f32⟩
  | 96 => ⟨S1x16384x5088, .f32⟩
  | 97 => ⟨S1x16384x5088, .f32⟩
  | 98 => ⟨S1x16384x1536, .f32⟩
  | 99 => ⟨S1x16384x1536, .f32⟩
  | 100 => ⟨S1x16384x1536, .f32⟩
  | 101 => ⟨S1x16384x128, .f32⟩
  | 102 => ⟨S1x16384x2x64, .f32⟩
  | 103 => ⟨S2x1536x1x16384, .f32⟩
  | 104 => ⟨S1x16384x2x1536, .f32⟩
  | 105 => ⟨S1x1x2x1536, .f32⟩
  | 106 => ⟨S1x16384x2x1536, .f32⟩
  | 107 => ⟨S1x16384x2x1536, .f32⟩
  | 108 => ⟨S1x16384x2x1536, .f32⟩
  | 109 => ⟨S1x16384x2x1536, .f32⟩
  | 110 => ⟨S_, .f32⟩
  | 111 => ⟨S1x16384x2x1536, .f32⟩
  | 112 => ⟨S1x16384x2x1536, .f32⟩
  | 113 => ⟨S_, .f32⟩
  | 114 => ⟨S1x16384x2x1536, .f32⟩
  | 115 => ⟨S1x16384x2x1536, .f32⟩
  | 116 => ⟨S1x16384x1x1536, .f32⟩
  | 117 => ⟨S_, .f32⟩
  | 118 => ⟨S1x16384x2x1536, .f32⟩
  | 119 => ⟨S1x16384x2x1536, .f32⟩
  | 120 => ⟨S1x1x1x1536, .f32⟩
  | 121 => ⟨S1x16384x2x1536, .f32⟩
  | 122 => ⟨S1x16384x2x1536, .f32⟩
  | 123 => ⟨S_, .f32⟩
  | 124 => ⟨S1x16384x2x1536, .f32⟩
  | 125 => ⟨S1x16384x2x1536, .f32⟩
  | 126 => ⟨S1x16384x2x1536, .f32⟩
  | 127 => ⟨S1x16384x2x1536, .f32⟩
  | _ => ⟨S16640x9952, .f32⟩

abbrev hbmTy0_1 (i : Nat) : BufTy := match i % 128 with
  | 0 => ⟨S16384x1536, .f32⟩
  | 1 => ⟨S16384x1536, .f32⟩
  | 2 => ⟨S1x16384x1x1536, .f32⟩
  | 3 => ⟨S16384x1536, .f32⟩
  | 4 => ⟨S1x16384x1x1536, .f32⟩
  | 5 => ⟨S16384x1536, .f32⟩
  | 6 => ⟨S16640x1536, .f32⟩
  | 7 => ⟨S16640x1536, .bf16⟩
  | 8 => ⟨S16640x1536, .f32⟩
  | 9 => ⟨S16640x1536, .bf16⟩
  | 10 => ⟨S16640x1536, .f32⟩
  | 11 => ⟨S16640x1536, .bf16⟩
  | 12 => ⟨S16640x1536, .f32⟩
  | 13 => ⟨S16640x1536, .bf16⟩
  | _ => ⟨S16640x9952, .f32⟩

abbrev hbmTy (i : Nat) : BufTy := match i / 128 with
  | 0 => hbmTy0_0 i
  | 1 => hbmTy0_1 i
  | _ => ⟨S16640x9952, .f32⟩

abbrev bufTy : (tb : Table) → Fin (tcTables nBuf tb) → BufTy
  | .hbm, ⟨i, _⟩ => hbmTy i
  | _, _ => ⟨S16640x9952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_7 : Ref sig .tc := ⟨.hbm, 110, rfl⟩
abbrev main_v92 : Ref sig .tc := ⟨.hbm, 111, rfl⟩
abbrev main_v93 : Ref sig .tc := ⟨.hbm, 112, rfl⟩
abbrev main_cst_8 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_9 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_10 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩

abbrev nD : Nat := 1
abbrev τ : Topo := Topo.v7x

variable {F : FTy → Type} [FloatOps F]
-- ==== Proof.KernelIdealRun.lean ====
/- The run of KernelIdeal's attention body on one grid point, by symbolic execution over the printed functions'
   skeletons, with the heartbeat limit that this body (sixteen query heads, written out) needs. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Launch

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S128x512 .f32) (harg7 : arg7.IsWhole) (arg8 : Memref sig .tc .vmem S256x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S128x512 .f32) (harg11 : arg11.IsWhole) (arg12 : Memref sig .tc .vmem S256x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S16x128 .f32) (harg19 : arg19.IsWhole) (arg20 : Memref sig .tc .vmem S256x2048 .bf16) (harg20 : arg20.IsWhole)
    (x0 : Vec F S256x512 .f32) (x1 : Vec F S256x512 .f32) (x2 : Vec F S256x512 .f32) (x3 : Vec F S256x512 .f32) (x4 : Vec F S128x512 .f32) (x5 : Vec F S256x512 .f32) (x6 : Vec F S128x512 .f32) (x7 : Vec F S256x512 .f32) (x8 : Vec F S128x512 .f32) (x9 : Vec F S256x512 .f32) (x10 : Vec F S128x512 .f32) (x11 : Vec F S256x512 .f32) (x12 : Vec F S128x128 .f32) (x13 : Vec F S128x128 .f32) (x14 : Vec F S256x128 .f32) (x15 : Vec F S256x128 .f32) (x16 : Vec F S128x128 .f32) (x17 : Vec F S128x128 .f32) (x18 : Vec F S16x128 .f32) :
    { L19 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19)) -∗ K ⟨⟩))
          ⊢ wp frame (wpE (defs₀ (F := F)) Variants.none c none) E (cc0_window_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_window_attention_eq_skeleton]; unfold cc0_window_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    iexists _; iexact H19

end Cert.KernelIdeal.Launch

end
-- ==== Proof.KernelIdealFrame.lean ====
/- The launch of KernelIdeal: what a grid point leaves in the output's buffer, the pipeline's proof data, the
   obligation of the body, the run of the program and its frame. -/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Launch

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 19 tile its block (16 stores of `S256x128`, checked by the kernel's evaluation: Lib/Ring.lean `Piece.tiledL`, linear in the pieces, through a loop's `@[irreducible]` trip theorem too), so they cover it. -/
theorem cover0_A_19 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S128x512 .f32) (harg7 : arg7.IsWhole) (arg8 : Memref sig .tc .vmem S256x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S128x512 .f32) (harg11 : arg11.IsWhole) (arg12 : Memref sig .tc .vmem S256x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S16x128 .f32) (harg19 : arg19.IsWhole) (arg20 : Memref sig .tc .vmem S256x2048 .bf16) (harg20 : arg20.IsWhole)
    (x0 : Vec F S256x512 .f32) (x1 : Vec F S256x512 .f32) (x2 : Vec F S256x512 .f32) (x3 : Vec F S256x512 .f32) (x4 : Vec F S128x512 .f32) (x5 : Vec F S256x512 .f32) (x6 : Vec F S128x512 .f32) (x7 : Vec F S256x512 .f32) (x8 : Vec F S128x512 .f32) (x9 : Vec F S256x512 .f32) (x10 : Vec F S128x512 .f32) (x11 : Vec F S256x512 .f32) (x12 : Vec F S128x128 .f32) (x13 : Vec F S128x128 .f32) (x14 : Vec F S256x128 .f32) (x15 : Vec F S256x128 .f32) (x16 : Vec F S128x128 .f32) (x17 : Vec F S128x128 .f32) (x18 : Vec F S16x128 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18).1 S256x128.size (by sl_kernel_rfl) y

/-- What the run leaves in output 19's staging buffer: its pieces read back over junk. -/
def out0_A_19 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S128x512 .f32) (harg7 : arg7.IsWhole) (arg8 : Memref sig .tc .vmem S256x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S128x512 .f32) (harg11 : arg11.IsWhole) (arg12 : Memref sig .tc .vmem S256x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S16x128 .f32) (harg19 : arg19.IsWhole) (arg20 : Memref sig .tc .vmem S256x2048 .bf16) (harg20 : arg20.IsWhole)
    (x0 : Vec F S256x512 .f32) (x1 : Vec F S256x512 .f32) (x2 : Vec F S256x512 .f32) (x3 : Vec F S256x512 .f32) (x4 : Vec F S128x512 .f32) (x5 : Vec F S256x512 .f32) (x6 : Vec F S128x512 .f32) (x7 : Vec F S256x512 .f32) (x8 : Vec F S128x512 .f32) (x9 : Vec F S256x512 .f32) (x10 : Vec F S128x512 .f32) (x11 : Vec F S256x512 .f32) (x12 : Vec F S128x128 .f32) (x13 : Vec F S128x128 .f32) (x14 : Vec F S256x128 .f32) (x15 : Vec F S256x128 .f32) (x16 : Vec F S128x128 .f32) (x17 : Vec F S128x128 .f32) (x18 : Vec F S16x128 .f32) : Vec F S256x2048 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18).1)

/-! ## What the outputs hold after each point -/

/-- What the outputs' staging buffers hold after the body at point `t`: the run's contents at
    the point's memrefs and input blocks. -/
def outsAt0 (c : Dev nD) (t : Fin cfg0.N) : Vec F S256x2048 .bf16 :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (iblk m c 13 t) (iblk m c 14 t) (iblk m c 15 t) (iblk m c 16 t) (iblk m c 17 t) (iblk m c 18 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t)
    | ⟨_ + 20, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  unfold outsAt0
  unfold out0_A_19
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (iblk m c 13 t) (iblk m c 14 t) (iblk m c 15 t) (iblk m c 16 t) (iblk m c 17 t) (iblk m c 18 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Launch

end
-- ==== Proof.KernelIdealBlocks.lean ====
/- The run of KernelIdeal with its output array named block by block. -/
module

public import proofs.«01_k».proof.Proof.KernelIdealFrame
public import Idealize.ShloMosaic.Lib.Pipeline.Value

@[expose] public section

noncomputable section

namespace Cert.KernelIdeal.Launch

open Cert.KernelIdeal Cert.KernelIdeal.Gen

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`), read through the window's block. -/
theorem flushed19 (c : Dev nD) (t : Fin cfg0.N) :
    (dats m 0 c).flushed 19 t = (cfg0.win 19).cut (grid0.coords t) (outsAt0 m c t) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (iblk m c 13 t) (iblk m c 14 t) (iblk m c 15 t) (iblk m c 16 t) (iblk m c 17 t) (iblk m c 18 t)) := by
  simp only [flushed19, outsAt0]

/-- The index map sends distinct grid points to distinct block indices (decided over the 65 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S16640x2048.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v56) = (dats m 0 c).arrAt 19 cfg0.N :=
  (h c).1 19

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v56) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post19 m r h c,
      kept_main_arg0 m r h c,
      kept_main_arg1 m r h c⟩)
    (run_main m ρ)

end Cert.KernelIdeal.Launch

end
-- ==== Proof.AttnHead.lean ====
/- One query head of the attention body on one tile of rows, as a function of the blocks it reads: the sixteen heads that
   the body writes out are this function at their slices. -/
module

public import proofs.«01_k».proof.Proof.Gen.KernelIdeal.Skeleton
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe

variable {F : FTy → Type} [FloatOps F] [Named F]

/-- Rotary embedding of a block of 128 rows. -/
def rope128 (x c s : Vec F S128x128 .f32) : FVec F S128x128 .bf16 :=
  truncf .bf16 (addf (mulf (shapeCast S128x128 x shapeCasts_S128x128_S128x128) (shapeCast S128x128 c shapeCasts_S128x128_S128x128))
    (mulf (dynamicRotate 1 64#32 none (shapeCast S128x128 x shapeCasts_S128x128_S128x128) rotates_S128x128_d1)
      (shapeCast S128x128 s shapeCasts_S128x128_S128x128))) bitsLt_bf16_f32

/-- Rotary embedding of a block of 256 rows. -/
def rope256 (x c s : Vec F S256x128 .f32) : FVec F S256x128 .bf16 :=
  truncf .bf16 (addf (mulf (shapeCast S256x128 x shapeCasts_S256x128_S256x128) (shapeCast S256x128 c shapeCasts_S256x128_S256x128))
    (mulf (dynamicRotate 1 64#32 none (shapeCast S256x128 x shapeCasts_S256x128_S256x128) rotates_S256x128_d1)
      (shapeCast S256x128 s shapeCasts_S256x128_S256x128))) bitsLt_bf16_f32

/-- The 512 keys around the tile: the block before, the tile's own rows, the block after. -/
def keys (kp cp sp : Vec F S128x128 .f32) (kc cc sc : Vec F S256x128 .f32) (kn cn sn : Vec F S128x128 .f32) : FVec F S512x128 .bf16 :=
  concatenate S512x128 0 [⟨S128x128, rope128 kp cp sp⟩, ⟨S256x128, rope256 kc cc sc⟩, ⟨S128x128, rope128 kn cn sn⟩]
    concatenates_S128x128_S256x128_S128x128_S512x128_d0

/-- The values of the same 512 rows. -/
def vals (vp : Vec F S128x128 .f32) (vc : Vec F S256x128 .f32) (vn : Vec F S128x128 .f32) : FVec F S512x128 .bf16 :=
  concatenate S512x128 0 [⟨S128x128, truncf .bf16 (shapeCast S128x128 vp shapeCasts_S128x128_S128x128) bitsLt_bf16_f32⟩,
      ⟨S256x128, truncf .bf16 (shapeCast S256x128 vc shapeCasts_S256x128_S256x128) bitsLt_bf16_f32⟩,
      ⟨S128x128, truncf .bf16 (shapeCast S128x128 vn shapeCasts_S128x128_S128x128) bitsLt_bf16_f32⟩]
    concatenates_S128x128_S256x128_S128x128_S512x128_d0

/-- The rows of the context, kept as they are. -/
def ctx (x : Vec F S256x128 .f32) : FVec F S256x128 .bf16 :=
  truncf .bf16 (shapeCast S256x128 x shapeCasts_S256x128_S256x128) bitsLt_bf16_f32

/-- The scores against the window, the bias added. -/
def sLoc (bias : FVec F S256x512 .f32) (q : FVec F S256x128 .bf16) (k : FVec F S512x128 .bf16) : FVec F S256x512 .f32 :=
  addf (mulf (matmul dot_S256x128_S512x128_S256x512_1_1_0_0_n_n none q k (constant S256x512 .f32 0x00000000#32))
    (broadcast S256x512 (Scalar.ofBits .f32 0x3DB504F3#32))) bias

/-- The scores against the context. -/
def sCtx (q : FVec F S256x128 .bf16) (k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- The largest score of a row, the sink among them. -/
def rowTop (sl : FVec F S256x512 .f32) (sc : FVec F S256x256 .f32) (sk : FVec F S1x1 .f32) : FVec F S256x1 .f32 :=
  maximumf (maximumf
    (shapeCast S256x1 (multiReduction .maximumf [1] S256 sl 0xFF800000#32 reduces_S256x512_S256 (.inl rfl) rfl) shapeCasts_S256_S256x1)
    (shapeCast S256x1 (multiReduction .maximumf [1] S256 sc 0xFF800000#32 reduces_S256x256_S256 (.inl rfl) rfl) shapeCasts_S256_S256x1))
    (broadcastTo S256x1 sk broadcasts_S1x1_S256x1)

/-- The exponentials of the window's scores. -/
def eLoc (sl : FVec F S256x512 .f32) (m : FVec F S256x1 .f32) : FVec F S256x512 .f32 :=
  exp (subf sl (broadcastTo S256x512 m broadcasts_S256x1_S256x512))

/-- The exponentials of the context's scores. -/
def eCtx (sc : FVec F S256x256 .f32) (m : FVec F S256x1 .f32) : FVec F S256x256 .f32 :=
  exp (subf sc (broadcastTo S256x256 m broadcasts_S256x1_S256x256))

/-- The sum of a row's exponentials. -/
def rowDen (el : FVec F S256x512 .f32) (ec : FVec F S256x256 .f32) (sk : FVec F S1x1 .f32) (m : FVec F S256x1 .f32) : FVec F S256x1 .f32 :=
  addf (addf
    (shapeCast S256x1 (multiReduction .add [1] S256 el 0x00000000#32 reduces_S256x512_S256 (.inl rfl) rfl) shapeCasts_S256_S256x1)
    (shapeCast S256x1 (multiReduction .add [1] S256 ec 0x00000000#32 reduces_S256x256_S256 (.inl rfl) rfl) shapeCasts_S256_S256x1))
    (exp (subf (broadcastTo S256x1 sk broadcasts_S1x1_S256x1) m))

/-- The weighted values, over the row's sum. -/
def rowOut (el : FVec F S256x512 .f32) (ec : FVec F S256x256 .f32) (den : FVec F S256x1 .f32) (v : FVec F S512x128 .bf16)
    (vx : FVec F S256x128 .bf16) : FVec F S256x128 .bf16 :=
  truncf .bf16 (divf (addf
    (matmul dot_S256x512_S512x128_S256x128_1_0_0_1_n_n none (truncf .bf16 el bitsLt_bf16_f32) v (constant S256x128 .f32 0x00000000#32))
    (matmul dot_S256x256_S256x128_S256x128_1_0_0_1_n_n none (truncf .bf16 ec bitsLt_bf16_f32) vx (constant S256x128 .f32 0x00000000#32)))
    (broadcastTo S256x128 den broadcasts_S256x1_S256x128)) bitsLt_bf16_f32

/-- One head from its scores. -/
def fromScores (sl : FVec F S256x512 .f32) (sc : FVec F S256x256 .f32) (sk : FVec F S1x1 .f32) (v : FVec F S512x128 .bf16)
    (vx : FVec F S256x128 .bf16) : FVec F S256x128 .bf16 :=
  rowOut (eLoc sl (rowTop sl sc sk)) (eCtx sc (rowTop sl sc sk))
    (rowDen (eLoc sl (rowTop sl sc sk)) (eCtx sc (rowTop sl sc sk)) sk (rowTop sl sc sk)) v vx

/-- One head from the blocks it reads. -/
def head (i : grid0.Coords) (q : Vec F S256x128 .f32) (kp vp : Vec F S128x128 .f32) (kc vc : Vec F S256x128 .f32)
    (kn vn : Vec F S128x128 .f32) (kx vx : Vec F S256x128 .f32) (cp sp : Vec F S128x128 .f32) (co so : Vec F S256x128 .f32)
    (cn sn : Vec F S128x128 .f32) (sk : Vec F S1x1 .f32) : FVec F S256x128 .bf16 :=
  fromScores (sLoc (k0_pay3 i) (rope256 q co so) (keys kp cp sp kc co so kn cn sn)) (sCtx (rope256 q co so) (ctx kx))
    (shapeCast S1x1 sk shapeCasts_S1x1_S1x1) (vals vp vc vn) (ctx vx)

end Cert.KernelIdeal.Head

end
-- ==== Proof.AttnSpec.lean ====
/- The softmax of one attention row, stated over the extended reals, and the identities both programs' readings need. -/
module

public import Idealize.ShloMosaic.PureOps.Ideal.Laws
public import Idealize.ShloMosaic.Lib.Pointwise

@[expose] public section

noncomputable section

namespace Cert.Attn

open Idealize.ShloMosaic

/-- A sum over `Fin N` of a function that vanishes outside the 257 places from `r` on. -/
theorem band_sum {N : ℕ} (r : ℕ) (h : r + 257 ≤ N) (g : Fin N → EReal)
    (hz : ∀ k : Fin N, ¬ (r ≤ k.val ∧ k.val ≤ r + 256) → g k = 0) :
    ∑ k, g k = ∑ o : Fin 257, g ⟨r + o.val, by omega⟩ := by
  let e : Fin 257 → Fin N := fun o => ⟨r + o.val, by omega⟩
  have he : Function.Injective e := fun a b hab => by
    have := congrArg Fin.val hab; simp only [e] at this; exact Fin.ext (by omega)
  rw [← Finset.sum_image (s := Finset.univ) (g := e) (f := g) (fun a _ b _ hab => he hab)]
  refine (Finset.sum_subset (Finset.subset_univ _) fun k _ hk => hz k fun hb => hk ?_).symm
  exact Finset.mem_image.2 ⟨⟨k.val - r, by omega⟩, Finset.mem_univ _, Fin.ext (by simp only [e]; omega)⟩

/-- The greatest value over `Fin N` of a function that is `⊥` outside the 257 places from `r` on. -/
theorem band_sup {N : ℕ} (r : ℕ) (h : r + 257 ≤ N) (g : Fin N → EReal)
    (hz : ∀ k : Fin N, ¬ (r ≤ k.val ∧ k.val ≤ r + 256) → g k = ⊥) :
    Finset.univ.sup g = Finset.univ.sup fun o : Fin 257 => g ⟨r + o.val, by omega⟩ := by
  apply le_antisymm
  · refine Finset.sup_le fun k _ => ?_
    by_cases hb : r ≤ k.val ∧ k.val ≤ r + 256
    · have := Finset.le_sup (f := fun o : Fin 257 => g ⟨r + o.val, by omega⟩)
        (Finset.mem_univ (⟨k.val - r, by omega⟩ : Fin 257))
      refine le_trans (le_of_eq (congrArg g (Fin.ext ?_))) this
      show k.val = r + (k.val - r); omega
    · rw [hz k hb]; exact bot_le
  · exact Finset.sup_le fun o _ => Finset.le_sup (f := g) (Finset.mem_univ _)

/-- The greatest score of a row: over the local keys, the context keys and the sink. -/
def top (sl : Fin 257 → EReal) (sc : Fin 256 → EReal) (sk : EReal) : EReal :=
  max (max (Finset.univ.sup sl) (Finset.univ.sup sc)) sk

/-- The softmax's denominator. -/
def den (sl : Fin 257 → EReal) (sc : Fin 256 → EReal) (sk : EReal) : EReal :=
  ((∑ o, Ideal.exp (sl o - top sl sc sk)) + ∑ c, Ideal.exp (sc c - top sl sc sk)) + Ideal.exp (sk - top sl sc sk)

/-- One element of the attention's output. -/
def attn (sl : Fin 257 → EReal) (sc : Fin 256 → EReal) (sk : EReal) (vl : Fin 257 → EReal) (vc : Fin 256 → EReal) : EReal :=
  Ideal.div ((∑ o, Ideal.exp (sl o - top sl sc sk) * vl o) + ∑ c, Ideal.exp (sc c - top sl sc sk) * vc c) (den sl sc sk)

theorem exp_nonneg (x : EReal) : 0 ≤ Ideal.exp x := by
  induction x with
  | bot => exact le_refl (0 : EReal)
  | coe r => exact (EReal.coe_nonneg.2 (Real.exp_pos r).le : (0 : EReal) ≤ ((Real.exp r : ℝ) : EReal))
  | top => exact (le_top : (0 : EReal) ≤ ⊤)

/-- The denominator is not zero where the sink's share is not. -/
theorem den_ne_zero (sl : Fin 257 → EReal) (sc : Fin 256 → EReal) (sk : EReal)
    (hsk : sk ≠ ⊥) (hm : top sl sc sk ≠ ⊤) : den sl sc sk ≠ 0 := by
  have hpos : 0 < Ideal.exp (sk - top sl sc sk) := by
    have hle : sk ≤ top sl sc sk := le_max_right _ _
    have hsk' : sk ≠ ⊤ := fun h => hm (top_le_iff.1 (h ▸ hle))
    have hm' : top sl sc sk ≠ ⊥ := fun h => hsk (le_bot_iff.1 (h ▸ hle))
    generalize top sl sc sk = M at *
    lift sk to ℝ using ⟨hsk', hsk⟩
    lift M to ℝ using ⟨hm, hm'⟩
    rw [← EReal.coe_sub]
    exact (EReal.coe_pos.2 (Real.exp_pos _) : (0 : EReal) < ((Real.exp (sk - M) : ℝ) : EReal))
  have h1 : 0 ≤ ∑ o, Ideal.exp (sl o - top sl sc sk) := Finset.sum_nonneg fun _ _ => exp_nonneg _
  have h2 : 0 ≤ ∑ c, Ideal.exp (sc c - top sl sc sk) := Finset.sum_nonneg fun _ _ => exp_nonneg _
  exact (lt_of_lt_of_le hpos (le_add_of_nonneg_left (add_nonneg h1 h2))).ne'

theorem den_nonneg (sl : Fin 257 → EReal) (sc : Fin 256 → EReal) (sk : EReal) : 0 ≤ den sl sc sk :=
  add_nonneg (add_nonneg (Finset.sum_nonneg fun _ _ => exp_nonneg _) (Finset.sum_nonneg fun _ _ => exp_nonneg _)) (exp_nonneg _)

/-- Dividing a sum of products by a nonnegative number that is not zero is dividing each weight. -/
theorem sum_div_mul {n : ℕ} (D : EReal) (h0 : D ≠ 0) (hD : 0 ≤ D) (e v : Fin n → EReal) :
    ∑ k, Ideal.div (e k) D * v k = (∑ k, e k * v k) * D⁻¹ := by
  have hi : 0 ≤ D⁻¹ := EReal.inv_nonneg_of_nonneg hD
  have ht : D⁻¹ ≠ ⊤ := by
    induction D with
    | bot => simp
    | top => simp
    | coe r => rw [← EReal.coe_inv]; exact EReal.coe_ne_top _
  have hs : ∀ s : Finset (Fin n), ∑ k ∈ s, Ideal.div (e k) D * v k = (∑ k ∈ s, e k * v k) * D⁻¹ := by
    intro s
    induction s using Finset.induction with
    | empty => simp
    | insert a s ha ih =>
      rw [Finset.sum_insert ha, Finset.sum_insert ha, ih, EReal.right_distrib_of_nonneg_of_ne_top hi ht]
      congr 1
      rw [Ideal.div, if_neg h0, mul_assoc, mul_comm D⁻¹, ← mul_assoc]
  exact hs _

/-- The softmax weights applied to the values are the weighted sum divided once. -/
theorem attn_eq (sl : Fin 257 → EReal) (sc : Fin 256 → EReal) (sk : EReal) (vl : Fin 257 → EReal) (vc : Fin 256 → EReal)
    (hsk : sk ≠ ⊥) (hm : top sl sc sk ≠ ⊤) :
    (∑ o, Ideal.div (Ideal.exp (sl o - top sl sc sk)) (den sl sc sk) * vl o)
      + ∑ c, Ideal.div (Ideal.exp (sc c - top sl sc sk)) (den sl sc sk) * vc c = attn sl sc sk vl vc := by
  have h0 := den_ne_zero sl sc sk hsk hm
  have hD := den_nonneg sl sc sk
  have hi : 0 ≤ (den sl sc sk)⁻¹ := EReal.inv_nonneg_of_nonneg hD
  have ht : (den sl sc sk)⁻¹ ≠ ⊤ := by
    generalize den sl sc sk = D at *
    induction D with
    | bot => simp
    | top => simp
    | coe r => rw [← EReal.coe_inv]; exact EReal.coe_ne_top _
  rw [sum_div_mul _ h0 hD, sum_div_mul _ h0 hD, ← EReal.right_distrib_of_nonneg_of_ne_top hi ht, attn, Ideal.div, if_neg h0]

/-- A number that is neither infinity. -/
def Fin' (x : EReal) : Prop := x ≠ ⊥ ∧ x ≠ ⊤

theorem Fin'.mul {x y : EReal} (hx : Fin' x) (hy : Fin' y) : Fin' (x * y) := by
  obtain ⟨hx1, hx2⟩ := hx; obtain ⟨hy1, hy2⟩ := hy
  lift x to ℝ using ⟨hx2, hx1⟩; lift y to ℝ using ⟨hy2, hy1⟩
  rw [← EReal.coe_mul]; exact ⟨EReal.coe_ne_bot _, EReal.coe_ne_top _⟩

theorem Fin'.add {x y : EReal} (hx : Fin' x) (hy : Fin' y) : Fin' (x + y) := by
  obtain ⟨hx1, hx2⟩ := hx; obtain ⟨hy1, hy2⟩ := hy
  lift x to ℝ using ⟨hx2, hx1⟩; lift y to ℝ using ⟨hy2, hy1⟩
  rw [← EReal.coe_add]; exact ⟨EReal.coe_ne_bot _, EReal.coe_ne_top _⟩

theorem Fin'.sub {x y : EReal} (hx : Fin' x) (hy : Fin' y) : Fin' (x - y) := by
  obtain ⟨hx1, hx2⟩ := hx; obtain ⟨hy1, hy2⟩ := hy
  lift x to ℝ using ⟨hx2, hx1⟩; lift y to ℝ using ⟨hy2, hy1⟩
  rw [← EReal.coe_sub]; exact ⟨EReal.coe_ne_bot _, EReal.coe_ne_top _⟩

theorem Fin'.coe (r : ℝ) : Fin' (r : EReal) := ⟨EReal.coe_ne_bot _, EReal.coe_ne_top _⟩

theorem Fin'.sum {n : ℕ} {f : Fin n → EReal} (h : ∀ k, Fin' (f k)) : Fin' (∑ k, f k) := by
  have : ∀ s : Finset (Fin n), Fin' (∑ k ∈ s, f k) := by
    intro s
    induction s using Finset.induction with
    | empty => simpa using Fin'.coe 0
    | insert a s ha ih => rw [Finset.sum_insert ha]; exact (h a).add ih
  exact this _

theorem top_ne_top {sl : Fin 257 → EReal} {sc : Fin 256 → EReal} {sk : EReal}
    (hl : ∀ o, sl o ≠ ⊤) (hc : ∀ c, sc c ≠ ⊤) (hk : sk ≠ ⊤) : top sl sc sk ≠ ⊤ := by
  refine (max_lt (max_lt ?_ ?_) (lt_top_iff_ne_top.2 hk)).ne
  · exact (Finset.sup_lt_iff (by simp)).2 fun o _ => lt_top_iff_ne_top.2 (hl o)
  · exact (Finset.sup_lt_iff (by simp)).2 fun o _ => lt_top_iff_ne_top.2 (hc o)

end Cert.Attn

end
-- ==== Proof.AttnRead.lean ====
/- One head of the attention body read at a row and a column: the attention of `AttnSpec` over the row's window. -/
module

public import proofs.«01_k».proof.Proof.AttnHead
public import proofs.«01_k».proof.Proof.AttnSpec
public import Idealize.ShloMosaic.Lib.Tactic.WordOmega
public import Idealize.ShloMosaic.Lib.IdealHost

@[expose] public section

set_option maxRecDepth 16384

noncomputable section

namespace Cert.Attn

open Idealize.ShloMosaic

/-- A value under a score `⊥` has weight zero, whatever it is. -/
theorem attn_congr {sl sl' : Fin 257 → EReal} {sc sc' : Fin 256 → EReal} {sk sk' : EReal} {vl vl' : Fin 257 → EReal}
    {vc vc' : Fin 256 → EReal} (hl : ∀ o, sl o = sl' o) (hc : ∀ c, sc c = sc' c) (hk : sk = sk')
    (hvl : ∀ o, sl o ≠ ⊥ → vl o = vl' o) (hvc : ∀ c, vc c = vc' c) : attn sl sc sk vl vc = attn sl' sc' sk' vl' vc' := by
  obtain rfl : sl = sl' := funext hl
  obtain rfl : sc = sc' := funext hc
  obtain rfl : vc = vc' := funext hvc
  subst hk
  unfold attn
  congr 2
  refine Finset.sum_congr rfl fun o _ => ?_
  by_cases h : sl o = ⊥
  · rw [h, EReal.bot_sub]
    show (0 : EReal) * _ = (0 : EReal) * _
    rw [zero_mul, zero_mul]
  · rw [hvl o h]

theorem negInf_bot : Ideal.ofBits FTy.f32 0xFF800000#32 = ⊥ := by
  simp [Ideal.ofBits, Ideal.ieee]

theorem exp_bot_sub (x : EReal) : Ideal.exp (⊥ - x) = 0 := by
  rw [EReal.bot_sub]; rfl

end Cert.Attn

namespace Cert.KernelIdeal.Head

open Cert.KernelIdeal Cert.KernelIdeal.Gen Idealize.ShloMosaic Idealize.ShloMosaic.TcCoe Idealize.ShloMosaic.Tactic Cert.Attn

/-- The mask's constant is `⊥`. -/
theorem mask_bot : (Named.named κ "mask" 0xF149F2CA#32 : Ideal .f32) = (⊥ : EReal) := rfl

theorem cond_rel (r k : ℕ) (hr : r < 256) (hk : k < 512) :
    (IntOp.cmpi CmpIPredicate.sle (IntOp.absi (IntOp.subi (IntOp.subi (BitVec.ofNat 32 k) 128#32) (BitVec.ofNat 32 r))) 128#32 = 1#1)
      ↔ (r ≤ k ∧ k ≤ r + 256) := by
  have hs : (IntOp.subi (IntOp.subi (BitVec.ofNat 32 k) 128#32) (BitVec.ofNat 32 r)).toNat = (k + 2 ^ 33 - 128 - r) % 2 ^ 32 := by
    simp only [IntOp.subi, BitVec.toNat_sub, BitVec.toNat_ofNat]; omega
  generalize IntOp.subi (IntOp.subi (BitVec.ofNat 32 k) 128#32) (BitVec.ofNat 32 r) = w at hs
  simp only [IntOp.absi, BitVec.msb_eq_decide]
  split <;> rename_i h <;> simp only [decide_eq_true_eq, not_le] at h <;> word_omega

theorem select_of {p : Prop} [Decidable p] {c : BitVec 1} (h : c = 1#1 ↔ p) (x y : EReal) :
    Scalar.select c x y = if p then x else y := by
  unfold Scalar.select
  by_cases hp : p
  · rw [if_pos hp]; exact if_pos (h.2 hp)
  · rw [if_neg hp]; exact if_neg fun e => hp (h.1 e)

theorem cond_lo (i k : ℕ) (hi : i < 65) (hk : k < 512) :
    (IntOp.cmpi CmpIPredicate.sge (BitVec.ofNat 32 k)
            (Scalar.select (Scalar.cmpi CmpIPredicate.eq (BitVec.ofNat 32 i) 1#32) 128#32 0#32) = 1#1)
      ↔ (i = 1 → 128 ≤ k) := by
  word_omega

theorem cond_hi (i k : ℕ) (hi : i < 65) (hk : k < 512) :
    (IntOp.cmpi CmpIPredicate.slt (BitVec.ofNat 32 k)
          (Scalar.select (Scalar.cmpi CmpIPredicate.slt (BitVec.ofNat 32 i) 1#32) (0#32)
            (Scalar.select (Scalar.cmpi CmpIPredicate.eq (BitVec.ofNat 32 i) 64#32) 384#32 512#32)) = 1#1)
      ↔ (i ≠ 0 ∧ (i = 64 → k < 384)) := by
  word_omega

/-- The scaling of the scores. -/
def scale : EReal := Ideal.ofBits FTy.f32 0x3DB504F3#32

/-- The keys of the window that tile `i` may use: none for the context's tile, none outside the latent rows. -/
def inside (i k : ℕ) : Prop := i ≠ 0 ∧ (i = 1 → 128 ≤ k) ∧ (i = 64 → k < 384)

instance (i k : ℕ) : Decidable (inside i k) := by unfold inside; infer_instance

theorem add_ite {p : Prop} [Decidable p] (x : EReal) : x + (if p then (0 : EReal) else ⊥) = if p then x else ⊥ := by
  split <;> simp

theorem sLoc_apply (i : grid0.Coords) (q : FVec Ideal S256x128 .bf16) (k : FVec Ideal S512x128 .bf16) (r : Fin 256) (t : Fin 512) :
    sLoc (F := Ideal) (k0_pay3 i) q k (ix2 r t)
      = if (r.val ≤ t.val ∧ t.val ≤ r.val + 256) ∧ inside (i 0).val t.val then (∑ x : Fin 128, q (ix2 r x) * k (ix2 t x)) * scale else (⊥ : EReal) := by
  have hi : (i 0).val < 65 := (i 0).isLt
  pointwise [sLoc, k0_pay3]
  rw [mask_bot]
  rw [select_of (cond_hi _ _ hi t.isLt), select_of (cond_lo _ _ hi t.isLt), select_of (cond_rel _ _ r.isLt t.isLt)]
  have hk : (if (i 0).val ≠ 0 ∧ ((i 0).val = 64 → t.val < 384) then
      if (i 0).val = 1 → 128 ≤ t.val then if r.val ≤ t.val ∧ t.val ≤ r.val + 256 then (0 : EReal) else ⊥ else ⊥ else ⊥)
      = if (r.val ≤ t.val ∧ t.val ≤ r.val + 256) ∧ inside (i 0).val t.val then 0 else ⊥ := by
    unfold inside
    split_ifs <;> first | rfl | (exfalso; tauto)
  rw [hk, add_ite]
  rfl

theorem sCtx_apply (q k : FVec Ideal S256x128 .bf16) (r c : Fin 256) :
    sCtx (F := Ideal) q k (ix2 r c) = (∑ x : Fin 128, q (ix2 r x) * k (ix2 c x)) * scale := by
  pointwise [sCtx]
  rfl

theorem rowTop_apply (sl : FVec Ideal S256x512 .f32) (sc : FVec Ideal S256x256 .f32) (sk : FVec Ideal S1x1 .f32) (r : Fin 256)
    (hb : ∀ t : Fin 512, ¬ (r.val ≤ t.val ∧ t.val ≤ r.val + 256) → sl (ix2 r t) = (⊥ : EReal)) :
    rowTop (F := Ideal) sl sc sk (ix2 r 0)
      = top (fun o => sl (ix2 r ⟨r.val + o.val, by omega⟩)) (fun c => sc (ix2 r c)) (sk (ix2 0 0)) := by
  pointwise [rowTop]
  rw [negInf_bot]
  unfold top
  rw [← band_sup (N := 512) r.val (by omega) (fun t => sl (ix2 r t)) hb]
  rfl

theorem fromScores_apply (sl : FVec Ideal S256x512 .f32) (sc : FVec Ideal S256x256 .f32) (sk : FVec Ideal S1x1 .f32)
    (v : FVec Ideal S512x128 .bf16) (vx : FVec Ideal S256x128 .bf16) (r : Fin 256) (d : Fin 128)
    (hb : ∀ t : Fin 512, ¬ (r.val ≤ t.val ∧ t.val ≤ r.val + 256) → sl (ix2 r t) = (⊥ : EReal)) :
    fromScores (F := Ideal) sl sc sk v vx (ix2 r d)
      = attn (fun o => sl (ix2 r ⟨r.val + o.val, by omega⟩)) (fun c => sc (ix2 r c)) (sk (ix2 0 0))
          (fun o => v (ix2 ⟨r.val + o.val, by omega⟩ d)) (fun c => vx (ix2 c d)) := by
  have hm := rowTop_apply sl sc sk r hb
  generalize hM : rowTop sl sc sk = M at hm
  unfold fromScores
  rw [hM]
  pointwise [rowOut, rowDen, eLoc, eCtx]
  rw [hm]
  generalize hT : top (fun o => sl (ix2 r ⟨r.val + o.val, by omega⟩)) (fun c => sc (ix2 r c)) (sk (ix2 0 0)) = T
  have h1 := band_sum (N := 512) r.val (by omega) (fun t => Ideal.exp (sl (ix2 r t) - T) * v (ix2 t d))
    (fun t ht => by simp only [hb t ht, exp_bot_sub, zero_mul])
  have h2 := band_sum (N := 512) r.val (by omega) (fun t => Ideal.exp (sl (ix2 r t) - T))
    (fun t ht => by simp only [hb t ht, exp_bot_sub])
  rw [h1, h2]
  unfold attn den
  rw [hT]

/-- One head at a row and a column. -/
theorem head_apply (i : grid0.Coords) (q : Vec Ideal S256x128 .f32) (kp vp : Vec Ideal S128x128 .f32) (kc vc : Vec Ideal S256x128 .f32)
    (kn vn : Vec Ideal S128x128 .f32) (kx vx : Vec Ideal S256x128 .f32) (cp sp : Vec Ideal S128x128 .f32) (co so : Vec Ideal S256x128 .f32)
    (cn sn : Vec Ideal S128x128 .f32) (sk : Vec Ideal S1x1 .f32) (r : Fin 256) (d : Fin 128) :
    head (F := Ideal) i q kp vp kc vc kn vn kx vx cp sp co so cn sn sk (ix2 r d)
      = attn (fun o => if inside (i 0).val (r.val + o.val) then
            (∑ x : Fin 128, rope256 q co so (ix2 r x) * keys kp cp sp kc co so kn cn sn (ix2 ⟨r.val + o.val, by omega⟩ x)) * scale else ⊥)
          (fun c => (∑ x : Fin 128, rope256 q co so (ix2 r x) * kx (ix2 c x)) * scale) (sk (ix2 0 0))
          (fun o => vals vp vc vn (ix2 ⟨r.val + o.val, by omega⟩ d)) (fun c => vx (ix2 c d)) := by
  unfold head
  rw [fromScores_apply _ _ _ _ _ r d (fun t ht => by rw [sLoc_apply, if_neg fun h => ht h.1])]
  refine attn_congr (fun o => ?_) (fun c => ?_) ?_ (fun o _ => rfl) (fun c => ?_)
  · rw [sLoc_apply]
    congr 1
    simp only [eq_iff_iff, and_iff_right_iff_imp]
    intro _
    have := o.isLt
    constructor <;> simp <;> omega
  · rw [sCtx_apply]
    congr 1
    refine Finset.sum_congr rfl fun x _ => ?_
    congr 1
    pointwise [ctx]
  · pointwise []
  · pointwise [ctx]

theorem rope256_apply (x c s : Vec Ideal S256x128 .f32) (r : Fin 256) (e : Fin 128) :
    rope256 (F := Ideal) x c s (ix2 r e)
      = x (ix2 r e) * c (ix2 r e) + x (ix2 r ⟨(e.val + 64) % 128, Nat.mod_lt _ (by decide)⟩) * s (ix2 r e) := by
  pointwise [rope256]
  congr 4

theorem rope128_apply (x c s : Vec Ideal S128x128 .f32) (r : Fin 128) (e : Fin 128) :
    rope128 (F := Ideal) x c s (ix2 r e)
      = x (ix2 r e) * c (ix2 r e) + x (ix2 r ⟨(e.val + 64) % 128, Nat.mod_lt _ (by decide)⟩) * s (ix2 r e) := by
  pointwise [rope128]
  congr 4

theorem keys_apply (kp cp sp : Vec Ideal S128x128 .f32) (kc cc sc : Vec Ideal S256x128 .f32) (kn cn sn : Vec Ideal S128x128 .f32)
    (t : Fin 512) (e : Fin 128) :
    keys (F := Ideal) kp cp sp kc cc sc kn cn sn (ix2 t e)
      = if h : t.val < 128 then rope128 kp cp sp (ix2 ⟨t.val, h⟩ e)
        else if h' : t.val - 128 < 256 then rope256 kc cc sc (ix2 ⟨t.val - 128, h'⟩ e)
        else rope128 kn cn sn (ix2 ⟨t.val - 128 - 256, by omega⟩ e) := by
  pointwise [keys]

theorem vals_apply (vp : Vec Ideal S128x128 .f32) (vc : Vec Ideal S256x128 .f32) (vn : Vec Ideal S128x128 .f32)
    (t : Fin 512) (e : Fin 128) :
    vals (F := Ideal) vp vc vn (ix2 t e)
      = if h : t.val < 128 then vp (ix2 ⟨t.val, h⟩ e)
        else if h' : t.val - 128 < 256 then vc (ix2 ⟨t.val - 128, h'⟩ e)
        else vn (ix2 ⟨t.val - 128 - 256, by omega⟩ e) := by
  pointwise [vals]

end Cert.KernelIdeal.Head

end
-- ==== Proof.AttnTile.lean ====
/- The value of one element of the attention, from the projections `P` (row, column of the model's own layout), and the
   proof that a head of a tile computes it from the blocks that the tile reads. -/
module

public import proofs.«01_k».proof.Proof.AttnRead

@[expose] public section

set_option maxRecDepth 16384

noncomputable section

namespace Cert.Attn

open Idealize.ShloMosaic

/-- The inverse frequency of pair `j`. -/
def freq (j : ℕ) : EReal :=
  Ideal.pow (Ideal.ofBits FTy.f32 1176256512#32)
    (Ideal.div (-(Ideal.ofBits FTy.f32 1073741824#32 * FloatOps.sitofp (F := Ideal) FTy.f32 (BitVec.ofNat 32 j))) (Ideal.ofBits FTy.f32 1115684864#32))

/-- The angle by which latent token `t` turns its coordinate `d`: the first half by its row, the second by its column. -/
def ang (t d : ℕ) : EReal :=
  FloatOps.sitofp (F := Ideal) FTy.f32 (BitVec.ofNat 32 (if d < 64 then t / 64 else t % 64)) * freq (d % 32)

/-- Coordinate `d` of the head at column `c` of row `R`, turned; a context row is left as it is. -/
def turned (P : ℕ → ℕ → EReal) (R c d : ℕ) : EReal :=
  if R < 256 then P R (c + d)
  else if d % 64 < 32 then P R (c + d) * Ideal.cos (ang (R - 256) d) - P R (c + (d + 32)) * Ideal.sin (ang (R - 256) d)
  else P R (c + d) * Ideal.cos (ang (R - 256) d) + P R (c + (d - 32)) * Ideal.sin (ang (R - 256) d)

/-- Element `d` of the attention of row `R`, its query, keys and values at columns `qc`, `kc` and `vc`. -/
def rowAt (P : ℕ → ℕ → EReal) (s : EReal) (qc kc vc R d : ℕ) : EReal :=
  attn (fun o => if 256 ≤ R ∧ 384 ≤ R + o.val ∧ R + o.val < 16768 then
      (∑ x : Fin 128, turned P R qc x.val * turned P (R + o.val - 128) kc x.val) * Cert.KernelIdeal.Head.scale else ⊥)
    (fun k => (∑ x : Fin 128, turned P R qc x.val * P k.val (kc + x.val)) * Cert.KernelIdeal.Head.scale) s
    (fun o => P (R + o.val - 128) (vc + d)) (fun k => P k.val (vc + d))

/-- The model's place of the coordinate that the kernel keeps at `e`: the two middle bits change places. -/
def place (e : ℕ) : ℕ := e / 32 % 2 * 64 + e / 64 % 2 * 32 + e % 32

theorem place_lt {e : ℕ} : place e < 128 := by unfold place; omega

theorem place_place {e : ℕ} (h : e < 128) : place (place e) = e :=
  (by decide +kernel : ∀ e : Fin 128, place (place e.val) = e.val) ⟨e, h⟩

theorem sum_place (f : ℕ → EReal) : ∑ x : Fin 128, f (place x.val) = ∑ x : Fin 128, f x.val := by
  let g : Fin 128 → Fin 128 := fun x => ⟨place x.val, place_lt⟩
  have hg : Function.Involutive g := fun x => Fin.ext (place_place x.isLt)
  exact Equiv.sum_comp hg.toPerm fun x : Fin 128 => f x.val

theorem sum_turned {f g : Fin 128 → EReal} (a b : ℕ → EReal) (hf : ∀ x, f x = a (place x.val)) (hg : ∀ x, g x = b (place x.val)) :
    ∑ x : Fin 128, f x * g x = ∑ x : Fin 128, a x.val * b x.val := by
  rw [Finset.sum_congr rfl fun x _ => by rw [hf x, hg x]]
  exact sum_place fun x => a x * b x

/-- The kernel's table of cosines. -/
def cosT (R e : ℕ) : EReal := if R < 256 then 1 else Ideal.cos (ang (R - 256) (place e))

/-- The kernel's table of sines, the sign of the turn folded in. -/
def sinT (R e : ℕ) : EReal :=
  if R < 256 then 0 else if e < 64 then -Ideal.sin (ang (R - 256) (place e)) else Ideal.sin (ang (R - 256) (place e))

theorem turned_eq (P : ℕ → ℕ → EReal) (R c e : ℕ) (he : e < 128) :
    P R (c + place e) * cosT R e + P R (c + place ((e + 64) % 128)) * sinT R e = turned P R c (place e) := by
  unfold cosT sinT turned
  by_cases hR : R < 256
  · simp only [if_pos hR, mul_one, mul_zero, add_zero]
  · simp only [if_neg hR]
    by_cases h : e < 64
    · have h1 : place e % 64 < 32 := by unfold place; omega
      have h2 : place ((e + 64) % 128) = place e + 32 := by unfold place; omega
      rw [if_pos h, if_pos h1, h2, mul_neg, sub_eq_add_neg]
    · have h1 : ¬ place e % 64 < 32 := by unfold place; omega
      have h2 : place ((e + 64) % 128) = place e - 32 := by unfold place; omega
      rw [if_neg h, if_neg h1, h2]

/-- The block of 128 rows before tile `i`, kept among the latent rows. -/
def before (i : ℕ) : ℕ := min (max (2 * i - 1) 2) 129

/-- The block of 128 rows after tile `i`, kept among the latent rows. -/
def next (i : ℕ) : ℕ := min (max (2 * i + 2) 2) 129

end Cert.Attn

namespace Cert.KernelIdeal.Head

open Cert.KernelIdeal Cert.KernelIdeal.Gen Idealize.ShloMosaic Idealize.ShloMosaic.TcCoe Idealize.ShloMosaic.Tactic Cert.Attn

set_option maxHeartbeats 1000000 in
theorem head_row (P : ℕ → ℕ → EReal) (s : EReal) (qc kc vc : ℕ) (i : grid0.Coords)
    (q : Vec Ideal S256x128 .f32) (kp vp : Vec Ideal S128x128 .f32) (ko vo : Vec Ideal S256x128 .f32)
    (kn vn : Vec Ideal S128x128 .f32) (kx vx : Vec Ideal S256x128 .f32) (cp sp : Vec Ideal S128x128 .f32) (co so : Vec Ideal S256x128 .f32)
    (cn sn : Vec Ideal S128x128 .f32) (sk : Vec Ideal S1x1 .f32)
    (hq : ∀ (r : Fin 256) (e : Fin 128), q (ix2 r e) = P (256 * (i 0).val + r.val) (qc + place e.val))
    (hkp : ∀ (r : Fin 128) (e : Fin 128), kp (ix2 r e) = P (128 * before (i 0).val + r.val) (kc + place e.val))
    (hko : ∀ (r : Fin 256) (e : Fin 128), ko (ix2 r e) = P (256 * (i 0).val + r.val) (kc + place e.val))
    (hkn : ∀ (r : Fin 128) (e : Fin 128), kn (ix2 r e) = P (128 * next (i 0).val + r.val) (kc + place e.val))
    (hkx : ∀ (r : Fin 256) (e : Fin 128), kx (ix2 r e) = P r.val (kc + place e.val))
    (hvp : ∀ (r : Fin 128) (e : Fin 128), vp (ix2 r e) = P (128 * before (i 0).val + r.val) (vc + e.val))
    (hvo : ∀ (r : Fin 256) (e : Fin 128), vo (ix2 r e) = P (256 * (i 0).val + r.val) (vc + e.val))
    (hvn : ∀ (r : Fin 128) (e : Fin 128), vn (ix2 r e) = P (128 * next (i 0).val + r.val) (vc + e.val))
    (hvx : ∀ (r : Fin 256) (e : Fin 128), vx (ix2 r e) = P r.val (vc + e.val))
    (hcp : ∀ (r : Fin 128) (e : Fin 128), cp (ix2 r e) = cosT (128 * before (i 0).val + r.val) e.val)
    (hsp : ∀ (r : Fin 128) (e : Fin 128), sp (ix2 r e) = sinT (128 * before (i 0).val + r.val) e.val)
    (hco : ∀ (r : Fin 256) (e : Fin 128), co (ix2 r e) = cosT (256 * (i 0).val + r.val) e.val)
    (hso : ∀ (r : Fin 256) (e : Fin 128), so (ix2 r e) = sinT (256 * (i 0).val + r.val) e.val)
    (hcn : ∀ (r : Fin 128) (e : Fin 128), cn (ix2 r e) = cosT (128 * next (i 0).val + r.val) e.val)
    (hsn : ∀ (r : Fin 128) (e : Fin 128), sn (ix2 r e) = sinT (128 * next (i 0).val + r.val) e.val)
    (hsk : sk (ix2 0 0) = s) (r : Fin 256) (d : Fin 128) :
    head (F := Ideal) i q kp vp ko vo kn vn kx vx cp sp co so cn sn sk (ix2 r d)
      = rowAt P s qc kc vc (256 * (i 0).val + r.val) d.val := by
  have hi : (i 0).val < 65 := (i 0).isLt
  rw [head_apply]
  unfold rowAt
  have hQ : ∀ x : Fin 128, rope256 (F := Ideal) q co so (ix2 r x) = turned P (256 * (i 0).val + r.val) qc (place x.val) := fun x => by
    rw [rope256_apply, hq, hq, hco, hso]; exact turned_eq P _ _ _ x.isLt
  have hK : ∀ (k : Fin 512) (x : Fin 128), inside (i 0).val k.val →
      keys (F := Ideal) kp cp sp ko co so kn cn sn (ix2 k x) = turned P (256 * (i 0).val + k.val - 128) kc (place x.val) := by
    intro k x hk
    obtain ⟨h0, h1, h2⟩ := hk
    rw [keys_apply]
    split
    · rename_i h
      have hb : 128 * before (i 0).val + k.val = 256 * (i 0).val + k.val - 128 := by unfold before; omega
      rw [rope128_apply, hkp, hkp, hcp, hsp]; dsimp only; rw [hb]; exact turned_eq P _ _ _ x.isLt
    · split
      · rename_i h h'
        have hb : 256 * (i 0).val + (k.val - 128) = 256 * (i 0).val + k.val - 128 := by omega
        rw [rope256_apply, hko, hko, hco, hso]; dsimp only; rw [hb]; exact turned_eq P _ _ _ x.isLt
      · rename_i h h'
        have hb : 128 * next (i 0).val + (k.val - 128 - 256) = 256 * (i 0).val + k.val - 128 := by unfold next; omega
        rw [rope128_apply, hkn, hkn, hcn, hsn]; dsimp only; rw [hb]; exact turned_eq P _ _ _ x.isLt
  have hV : ∀ (k : Fin 512), inside (i 0).val k.val →
      vals (F := Ideal) vp vo vn (ix2 k d) = P (256 * (i 0).val + k.val - 128) (vc + d.val) := by
    intro k hk
    obtain ⟨h0, h1, h2⟩ := hk
    rw [vals_apply]
    split
    · rename_i h
      have hb : 128 * before (i 0).val + k.val = 256 * (i 0).val + k.val - 128 := by unfold before; omega
      rw [hvp]; dsimp only; rw [hb]
    · split
      · rename_i h h'
        have hb : 256 * (i 0).val + (k.val - 128) = 256 * (i 0).val + k.val - 128 := by omega
        rw [hvo]; dsimp only; rw [hb]
      · rename_i h h'
        have hb : 128 * next (i 0).val + (k.val - 128 - 256) = 256 * (i 0).val + k.val - 128 := by unfold next; omega
        rw [hvn]; dsimp only; rw [hb]
  have hin : ∀ o : Fin 257, inside (i 0).val (r.val + o.val) ↔ (256 ≤ 256 * (i 0).val + r.val
      ∧ 384 ≤ 256 * (i 0).val + r.val + o.val ∧ 256 * (i 0).val + r.val + o.val < 16768) := fun o => by
    have := o.isLt; have := r.isLt; unfold inside; constructor
    · rintro ⟨h0, h1, h2⟩; refine ⟨?_, ?_, ?_⟩ <;> omega
    · rintro ⟨h0, h1, h2⟩; refine ⟨?_, fun h => ?_, fun h => ?_⟩ <;> omega
  refine attn_congr (fun o => ?_) (fun c => ?_) hsk (fun o ho => ?_) (fun c => hvx c d)
  · by_cases h : inside (i 0).val (r.val + o.val)
    · rw [if_pos h, if_pos ((hin o).1 h)]
      exact congrArg (· * scale) (sum_turned _ _ hQ fun x => by rw [hK _ x h, Nat.add_assoc])
    · rw [if_neg h, if_neg fun h' => h ((hin o).2 h')]
  · exact congrArg (· * scale) (sum_turned _ (fun x => P c.val (kc + x)) hQ fun x => hkx c x)
  · have h : inside (i 0).val (r.val + o.val) := by
      by_contra h; exact ho (if_neg h)
    rw [hV _ h, Nat.add_assoc]

end Cert.KernelIdeal.Head

end
-- ==== Proof.AttnTables.lean ====
/- The tables of the turn that the attention call reads: cosines and signed sines. -/
module

public import proofs.«01_k».proof.Proof.KernelIdealFrame
public import proofs.«01_k».proof.Proof.AttnTile
public import Idealize.ShloMosaic.Lib.Pipeline.ValueKit
public import Idealize.ShloMosaic.Lib.StableHlo.ReadAt
public import Idealize.ShloMosaic.Lib.Tactic.WordOmega

@[expose] public section

set_option maxRecDepth 100000

noncomputable section

namespace Cert.KernelIdeal.Launch

open Cert.KernelIdeal Cert.KernelIdeal.Gen Cert.KernelIdeal.Head Idealize.ShloMosaic Idealize.ShloMosaic.TcCoe Idealize.ShloMosaic.Tactic Cert.Attn

variable (m : (ℓ : Loc nD τ sig) → Buf (Elt Ideal) ℓ)

/-- The row of a latent token, as the program divides. -/
theorem rowWord (r : ℕ) (hr : r < 16384) : Scalar.select (IntOp.andi
        (IntOp.cmpi CmpIPredicate.ne (if BitVec.ofNat 32 r = 0 then 0 else if (BitVec.ofNat 32 r).msb = true then -1 else 1)
          (if id (constantI S_ 32 64#32) ix0 = 0 then (0 : BitVec 32) else if BitVec.msb (id (constantI S_ 32 64#32) ix0) = true then -1 else 1))
        (IntOp.cmpi CmpIPredicate.ne (IntOp.remsi ArithUnit.host (BitVec.ofNat 32 r) (id (constantI S_ 32 64#32) ix0)) 0#32))
      (IntOp.subi (IntOp.divsi ArithUnit.host (BitVec.ofNat 32 r) (id (constantI S_ 32 64#32) ix0)) 1#32) (IntOp.divsi ArithUnit.host (BitVec.ofNat 32 r) (id (constantI S_ 32 64#32) ix0)) = BitVec.ofNat 32 (r / 64) := by
  have h : ∀ r : ℕ, r < 16384 → Scalar.select (IntOp.andi
        (IntOp.cmpi CmpIPredicate.ne (if BitVec.ofNat 32 r = 0 then 0 else if (BitVec.ofNat 32 r).msb = true then -1 else 1)
          (if 64#32 = 0 then (0 : BitVec 32) else if BitVec.msb (64#32) = true then -1 else 1))
        (IntOp.cmpi CmpIPredicate.ne (IntOp.remsi ArithUnit.host (BitVec.ofNat 32 r) (64#32)) 0#32))
      (IntOp.subi (IntOp.divsi ArithUnit.host (BitVec.ofNat 32 r) (64#32)) 1#32) (IntOp.divsi ArithUnit.host (BitVec.ofNat 32 r) (64#32)) = BitVec.ofNat 32 (r / 64) := by
    have h' : ∀ t : Fin 16384, (fun r : ℕ => Scalar.select (IntOp.andi
        (IntOp.cmpi CmpIPredicate.ne (if BitVec.ofNat 32 r = 0 then 0 else if (BitVec.ofNat 32 r).msb = true then -1 else 1)
          (if 64#32 = 0 then (0 : BitVec 32) else if BitVec.msb (64#32) = true then -1 else 1))
        (IntOp.cmpi CmpIPredicate.ne (IntOp.remsi ArithUnit.host (BitVec.ofNat 32 r) (64#32)) 0#32))
      (IntOp.subi (IntOp.divsi ArithUnit.host (BitVec.ofNat 32 r) (64#32)) 1#32) (IntOp.divsi ArithUnit.host (BitVec.ofNat 32 r) (64#32))) t.val = (fun r : ℕ => BitVec.ofNat 32 (r / 64)) t.val := by decide +kernel
    exact fun r hr => h' ⟨r, hr⟩
  exact h r hr

/-- The column of a latent token, as the program divides. -/
theorem colWord (r : ℕ) (hr : r < 16384) : Scalar.select (IntOp.andi
        (IntOp.cmpi CmpIPredicate.ne (IntOp.cmpi CmpIPredicate.slt (IntOp.remsi ArithUnit.host (BitVec.ofNat 32 r) (Scalar.select (IntOp.cmpi CmpIPredicate.eq (id (constantI S_ 32 64#32) ix0) 0#32) (1#32) (id (constantI S_ 32 64#32) ix0))) 0#32) (IntOp.cmpi CmpIPredicate.slt (Scalar.select (IntOp.cmpi CmpIPredicate.eq (id (constantI S_ 32 64#32) ix0) 0#32) (1#32) (id (constantI S_ 32 64#32) ix0)) 0#32))
        (IntOp.cmpi CmpIPredicate.ne (IntOp.remsi ArithUnit.host (BitVec.ofNat 32 r) (Scalar.select (IntOp.cmpi CmpIPredicate.eq (id (constantI S_ 32 64#32) ix0) 0#32) (1#32) (id (constantI S_ 32 64#32) ix0))) 0#32))
      (IntOp.addi (IntOp.remsi ArithUnit.host (BitVec.ofNat 32 r) (Scalar.select (IntOp.cmpi CmpIPredicate.eq (id (constantI S_ 32 64#32) ix0) 0#32) (1#32) (id (constantI S_ 32 64#32) ix0))) (Scalar.select (IntOp.cmpi CmpIPredicate.eq (id (constantI S_ 32 64#32) ix0) 0#32) (1#32) (id (constantI S_ 32 64#32) ix0))) (IntOp.remsi ArithUnit.host (BitVec.ofNat 32 r) (Scalar.select (IntOp.cmpi CmpIPredicate.eq (id (constantI S_ 32 64#32) ix0) 0#32) (1#32) (id (constantI S_ 32 64#32) ix0))) = BitVec.ofNat 32 (r % 64) := by
  have h : ∀ r : ℕ, r < 16384 → Scalar.select (IntOp.andi
        (IntOp.cmpi CmpIPredicate.ne (IntOp.cmpi CmpIPredicate.slt (IntOp.remsi ArithUnit.host (BitVec.ofNat 32 r) (Scalar.select (IntOp.cmpi CmpIPredicate.eq (64#32) 0#32) (1#32) (64#32))) 0#32) (IntOp.cmpi CmpIPredicate.slt (Scalar.select (IntOp.cmpi CmpIPredicate.eq (64#32) 0#32) (1#32) (64#32)) 0#32))
        (IntOp.cmpi CmpIPredicate.ne (IntOp.remsi ArithUnit.host (BitVec.ofNat 32 r) (Scalar.select (IntOp.cmpi CmpIPredicate.eq (64#32) 0#32) (1#32) (64#32))) 0#32))
      (IntOp.addi (IntOp.remsi ArithUnit.host (BitVec.ofNat 32 r) (Scalar.select (IntOp.cmpi CmpIPredicate.eq (64#32) 0#32) (1#32) (64#32))) (Scalar.select (IntOp.cmpi CmpIPredicate.eq (64#32) 0#32) (1#32) (64#32))) (IntOp.remsi ArithUnit.host (BitVec.ofNat 32 r) (Scalar.select (IntOp.cmpi CmpIPredicate.eq (64#32) 0#32) (1#32) (64#32))) = BitVec.ofNat 32 (r % 64) := by
    have h' : ∀ t : Fin 16384, (fun r : ℕ => Scalar.select (IntOp.andi
        (IntOp.cmpi CmpIPredicate.ne (IntOp.cmpi CmpIPredicate.slt (IntOp.remsi ArithUnit.host (BitVec.ofNat 32 r) (Scalar.select (IntOp.cmpi CmpIPredicate.eq (64#32) 0#32) (1#32) (64#32))) 0#32) (IntOp.cmpi CmpIPredicate.slt (Scalar.select (IntOp.cmpi CmpIPredicate.eq (64#32) 0#32) (1#32) (64#32)) 0#32))
        (IntOp.cmpi CmpIPredicate.ne (IntOp.remsi ArithUnit.host (BitVec.ofNat 32 r) (Scalar.select (IntOp.cmpi CmpIPredicate.eq (64#32) 0#32) (1#32) (64#32))) 0#32))
      (IntOp.addi (IntOp.remsi ArithUnit.host (BitVec.ofNat 32 r) (Scalar.select (IntOp.cmpi CmpIPredicate.eq (64#32) 0#32) (1#32) (64#32))) (Scalar.select (IntOp.cmpi CmpIPredicate.eq (64#32) 0#32) (1#32) (64#32))) (IntOp.remsi ArithUnit.host (BitVec.ofNat 32 r) (Scalar.select (IntOp.cmpi CmpIPredicate.eq (64#32) 0#32) (1#32) (64#32)))) t.val = (fun r : ℕ => BitVec.ofNat 32 (r % 64)) t.val := by decide +kernel
    exact fun r hr => h' ⟨r, hr⟩
  exact h r hr

set_option maxHeartbeats 4000000 in
theorem cosTab (c : Dev nD) (r : Fin 16640) (e : Fin 128) : V m c main_v51 (ix2 r e) = cosT r.val e.val := by
  have hr := r.isLt
  have he := e.isLt
  unfold V
  after_reads_at
  after_reads_at
  unfold cosT ang freq
  by_cases h0 : r.val < 256
  · rw [dif_pos h0, if_pos h0]
  rw [dif_neg h0, if_neg h0]
  simp only [colWord (r.val - 256) (by omega)]
  by_cases h1 : e.val < 32
  · have hp : place e.val = e.val := by unfold place; omega
    have hm : e.val % 32 = e.val := by omega
    rw [dif_pos h1, hp, if_pos (show e.val < 64 by omega), hm]
    exact congrArg Ideal.cos (congrArg (· * _) (congrArg (FloatOps.sitofp (F := Ideal) FTy.f32) (rowWord (r.val - 256) (by omega))))
  rw [dif_neg h1]
  by_cases h2 : e.val - 32 < 32
  · have hp : place e.val = e.val + 32 := by unfold place; omega
    have hm : (e.val + 32) % 32 = e.val - 32 := by omega
    rw [dif_pos h2, hp, if_neg (show ¬ e.val + 32 < 64 by omega), hm]
  rw [dif_neg h2]
  by_cases h3 : e.val - 32 - 32 < 32
  · have hp : place e.val = e.val - 32 := by unfold place; omega
    have hm : (e.val - 32) % 32 = e.val - 32 - 32 := by omega
    rw [dif_pos h3, hp, if_pos (show e.val - 32 < 64 by omega), hm]
    exact congrArg Ideal.cos (congrArg (· * _) (congrArg (FloatOps.sitofp (F := Ideal) FTy.f32) (rowWord (r.val - 256) (by omega))))
  · have hp : place e.val = e.val := by unfold place; omega
    have hm : e.val % 32 = e.val - 32 - 32 - 32 := by omega
    rw [dif_neg h3, hp, if_neg (show ¬ e.val < 64 by omega), hm]

set_option maxHeartbeats 4000000 in
theorem sinTab (c : Dev nD) (r : Fin 16640) (e : Fin 128) : V m c main_v53 (ix2 r e) = sinT r.val e.val := by
  have hr := r.isLt
  have he := e.isLt
  unfold V
  after_reads_at
  after_reads_at
  unfold sinT ang freq
  by_cases h0 : r.val < 256
  · rw [dif_pos h0, if_pos h0]
  rw [dif_neg h0, if_neg h0]
  simp only [colWord (r.val - 256) (by omega)]
  by_cases h1 : e.val < 32
  · have hp : place e.val = e.val := by unfold place; omega
    have hm : e.val % 32 = e.val := by omega
    rw [dif_pos h1, hp, if_pos (show e.val < 64 by omega), if_pos (show e.val < 64 by omega), hm]
    exact congrArg (fun y => -Ideal.sin y) (congrArg (· * _) (congrArg (FloatOps.sitofp (F := Ideal) FTy.f32) (rowWord (r.val - 256) (by omega))))
  rw [dif_neg h1]
  by_cases h2 : e.val - 32 < 32
  · have hp : place e.val = e.val + 32 := by unfold place; omega
    have hm : (e.val + 32) % 32 = e.val - 32 := by omega
    rw [dif_pos h2, hp, if_pos (show e.val < 64 by omega), if_neg (show ¬ e.val + 32 < 64 by omega), hm]
  rw [dif_neg h2]
  by_cases h3 : e.val - 32 - 32 < 32
  · have hp : place e.val = e.val - 32 := by unfold place; omega
    have hm : (e.val - 32) % 32 = e.val - 32 - 32 := by omega
    rw [dif_pos h3, hp, if_neg (show ¬ e.val < 64 by omega), if_pos (show e.val - 32 < 64 by omega), hm]
    exact congrArg Ideal.sin (congrArg (· * _) (congrArg (FloatOps.sitofp (F := Ideal) FTy.f32) (rowWord (r.val - 256) (by omega))))
  · have hp : place e.val = e.val := by unfold place; omega
    have hm : e.val % 32 = e.val - 32 - 32 - 32 := by omega
    rw [dif_neg h3, hp, if_neg (show ¬ e.val < 64 by omega), if_neg (show ¬ e.val < 64 by omega), hm]

end Cert.KernelIdeal.Launch

end
-- ==== Proof.AttnBlocks.lean ====
/- What the blocks of the attention call hold: the projections at the kernel's places, the tables of the turn, the sinks. -/
module

public import proofs.«01_k».proof.Proof.KernelIdealFrame
public import proofs.«01_k».proof.Proof.AttnTables
public import Idealize.ShloMosaic.Lib.Pipeline.ValueKit
public import Idealize.ShloMosaic.Lib.StableHlo.ReadAt
public import Idealize.ShloMosaic.Lib.Tactic.WordOmega

@[expose] public section

set_option maxRecDepth 100000

noncomputable section

namespace Cert.Attn

open Idealize.ShloMosaic Idealize.ShloMosaic.TcCoe Idealize.ShloMosaic.Tactic

/-- The projections by row and column. -/
def mat (x : Cert.KernelIdeal.S16640x9952.Idx → EReal) (r k : ℕ) : EReal :=
  if h : r < 16640 ∧ k < 9952 then x (ix2 ⟨r, h.1⟩ ⟨k, h.2⟩) else 0

theorem mat_eq (x : Cert.KernelIdeal.S16640x9952.Idx → EReal) {r k : ℕ} (hr : r < 16640) (hk : k < 9952) :
    x (ix2 ⟨r, hr⟩ ⟨k, hk⟩) = mat x r k := by unfold mat; rw [dif_pos ⟨hr, hk⟩]

end Cert.Attn

namespace Cert.KernelIdeal.Launch

open Cert.KernelIdeal Cert.KernelIdeal.Gen Cert.KernelIdeal.Head Idealize.ShloMosaic Idealize.ShloMosaic.TcCoe Idealize.ShloMosaic.Tactic Cert.Attn

variable (m : (ℓ : Loc nD τ sig) → Buf (Elt Ideal) ℓ)

/-- The projections that core `c` holds. -/
abbrev proj (c : Dev nD) : ℕ → ℕ → EReal := mat (m (c, Proc.tc.devRef main_arg0))

theorem keyCol (c : Dev nD) (r : Fin 16640) (e : Fin 512) :
    V m c main_v12 (ix2 r ⟨5120 + e.val, by omega⟩) = proj m c r.val (8672 + e.val / 128 * 128 + place (e.val % 128)) := by
  unfold V
  after_reads_at
  simp only [StableHlo.reshape_result']
  after_reads_at
  refine (mat_eq _ _ _).trans ?_
  congr 1; unfold place; omega

theorem valCol (c : Dev nD) (r : Fin 16640) (e : Fin 512) :
    V m c main_v12 (ix2 r ⟨5632 + e.val, by omega⟩) = proj m c r.val (9184 + e.val) := by
  unfold V
  after_reads_at
  rw [dif_neg (by omega), dif_neg (by omega), dif_pos (by omega)]
  simp only [StableHlo.unary_result']
  after_reads_at
  refine (mat_eq _ _ _).trans ?_
  congr 1; omega

theorem queryCol (c : Dev nD) (r : Fin 16640) (e : Fin 2048) :
    V m c main_v12 (ix2 r ⟨7680 + e.val, by omega⟩) = proj m c r.val (6624 + e.val / 128 * 128 + place (e.val % 128)) := by
  unfold V
  after_reads_at
  rw [dif_neg (by omega), dif_neg (by omega), dif_neg (by omega), dif_neg (by omega), dif_pos (by omega)]
  simp only [StableHlo.reshape_result']
  after_reads_at
  refine (mat_eq _ _ _).trans ?_
  congr 1; unfold place; omega

theorem sinkCol (c : Dev nD) (r : Fin 16) (e : Fin 128) : V m c main_v55 (ix2 r e) = m (c, Proc.tc.devRef main_arg1) (ix1 r) := by
  unfold V
  after_reads_at

/-! The blocks of tile `t`. -/

theorem block0 (c : Dev nD) (t : Fin cfg0.N) (r : Fin 256) (e : Fin 512) : X0_0 m c t (ix2 r e) = proj m c (256 * t.val + r.val) (6624 + 0 + e.val / 128 * 128 + place (e.val % 128)) := by
  have ht : t.val < 65 := t.isLt
  have hi : ∀ t : Fin cfg0.N, (cfg0.win 0).index t 0 = t.val ∧ (cfg0.win 0).index t 1 = 15 := by decide +kernel
  refine Eq.trans ?_ ((queryCol m c ⟨256 * t.val + r.val, by omega⟩ ⟨0 + e.val, by omega⟩).trans (by congr 1; unfold place; dsimp only; omega))
  unfold X0_0 Pipeline.Window.fill
  rw [dif_pos (moved0_0 t _)]
  blk_ext [iblk, (hi t).1, (hi t).2, before, next]

theorem block1 (c : Dev nD) (t : Fin cfg0.N) (r : Fin 256) (e : Fin 512) : X0_1 m c t (ix2 r e) = proj m c (256 * t.val + r.val) (6624 + 512 + e.val / 128 * 128 + place (e.val % 128)) := by
  have ht : t.val < 65 := t.isLt
  have hi : ∀ t : Fin cfg0.N, (cfg0.win 1).index t 0 = t.val ∧ (cfg0.win 1).index t 1 = 16 := by decide +kernel
  refine Eq.trans ?_ ((queryCol m c ⟨256 * t.val + r.val, by omega⟩ ⟨512 + e.val, by omega⟩).trans (by congr 1; unfold place; dsimp only; omega))
  unfold X0_1 Pipeline.Window.fill
  rw [dif_pos (moved0_1 t _)]
  blk_ext [iblk, (hi t).1, (hi t).2, before, next]

theorem block2 (c : Dev nD) (t : Fin cfg0.N) (r : Fin 256) (e : Fin 512) : X0_2 m c t (ix2 r e) = proj m c (256 * t.val + r.val) (6624 + 1024 + e.val / 128 * 128 + place (e.val % 128)) := by
  have ht : t.val < 65 := t.isLt
  have hi : ∀ t : Fin cfg0.N, (cfg0.win 2).index t 0 = t.val ∧ (cfg0.win 2).index t 1 = 17 := by decide +kernel
  refine Eq.trans ?_ ((queryCol m c ⟨256 * t.val + r.val, by omega⟩ ⟨1024 + e.val, by omega⟩).trans (by congr 1; unfold place; dsimp only; omega))
  unfold X0_2 Pipeline.Window.fill
  rw [dif_pos (moved0_2 t _)]
  blk_ext [iblk, (hi t).1, (hi t).2, before, next]

theorem block3 (c : Dev nD) (t : Fin cfg0.N) (r : Fin 256) (e : Fin 512) : X0_3 m c t (ix2 r e) = proj m c (256 * t.val + r.val) (6624 + 1536 + e.val / 128 * 128 + place (e.val % 128)) := by
  have ht : t.val < 65 := t.isLt
  have hi : ∀ t : Fin cfg0.N, (cfg0.win 3).index t 0 = t.val ∧ (cfg0.win 3).index t 1 = 18 := by decide +kernel
  refine Eq.trans ?_ ((queryCol m c ⟨256 * t.val + r.val, by omega⟩ ⟨1536 + e.val, by omega⟩).trans (by congr 1; unfold place; dsimp only; omega))
  unfold X0_3 Pipeline.Window.fill
  rw [dif_pos (moved0_3 t _)]
  blk_ext [iblk, (hi t).1, (hi t).2, before, next]

theorem block4 (c : Dev nD) (t : Fin cfg0.N) (r : Fin 128) (e : Fin 512) : X0_4 m c t (ix2 r e) = proj m c (128 * before t.val + r.val) (8672 + e.val / 128 * 128 + place (e.val % 128)) := by
  have ht : t.val < 65 := t.isLt
  have hi : ∀ t : Fin cfg0.N, (cfg0.win 4).index t 0 = min (max (2 * t.val - 1) 2) 129 ∧ (cfg0.win 4).index t 1 = 10 := by decide +kernel
  refine Eq.trans ?_ (keyCol m c ⟨128 * before t.val + r.val, by unfold before; omega⟩ e)
  unfold X0_4 Pipeline.Window.fill
  rw [dif_pos (moved0_4 t _)]
  blk_ext [iblk, (hi t).1, (hi t).2, before, next]

theorem block5 (c : Dev nD) (t : Fin cfg0.N) (r : Fin 256) (e : Fin 512) : X0_5 m c t (ix2 r e) = proj m c (256 * t.val + r.val) (8672 + e.val / 128 * 128 + place (e.val % 128)) := by
  have ht : t.val < 65 := t.isLt
  have hi : ∀ t : Fin cfg0.N, (cfg0.win 5).index t 0 = t.val ∧ (cfg0.win 5).index t 1 = 10 := by decide +kernel
  refine Eq.trans ?_ (keyCol m c ⟨256 * t.val + r.val, by omega⟩ e)
  unfold X0_5 Pipeline.Window.fill
  rw [dif_pos (moved0_5 t _)]
  blk_ext [iblk, (hi t).1, (hi t).2, before, next]

theorem block6 (c : Dev nD) (t : Fin cfg0.N) (r : Fin 128) (e : Fin 512) : X0_6 m c t (ix2 r e) = proj m c (128 * next t.val + r.val) (8672 + e.val / 128 * 128 + place (e.val % 128)) := by
  have ht : t.val < 65 := t.isLt
  have hi : ∀ t : Fin cfg0.N, (cfg0.win 6).index t 0 = min (max (2 * t.val + 2) 2) 129 ∧ (cfg0.win 6).index t 1 = 10 := by decide +kernel
  refine Eq.trans ?_ (keyCol m c ⟨128 * next t.val + r.val, by unfold next; omega⟩ e)
  unfold X0_6 Pipeline.Window.fill
  rw [dif_pos (moved0_6 t _)]
  blk_ext [iblk, (hi t).1, (hi t).2, before, next]

theorem block7 (c : Dev nD) (t : Fin cfg0.N) (r : Fin 256) (e : Fin 512) : X0_7 m c t (ix2 r e) = proj m c (r.val) (8672 + e.val / 128 * 128 + place (e.val % 128)) := by
  have ht : t.val < 65 := t.isLt
  have hi : ∀ t : Fin cfg0.N, (cfg0.win 7).index t 0 = 0 ∧ (cfg0.win 7).index t 1 = 10 := by decide +kernel
  refine Eq.trans ?_ (keyCol m c ⟨r.val, by omega⟩ e)
  unfold X0_7 Pipeline.Window.fill
  rw [dif_pos (moved0_7 t _)]
  blk_ext [iblk, (hi t).1, (hi t).2, before, next]

theorem block8 (c : Dev nD) (t : Fin cfg0.N) (r : Fin 128) (e : Fin 512) : X0_8 m c t (ix2 r e) = proj m c (128 * before t.val + r.val) (9184 + e.val) := by
  have ht : t.val < 65 := t.isLt
  have hi : ∀ t : Fin cfg0.N, (cfg0.win 8).index t 0 = min (max (2 * t.val - 1) 2) 129 ∧ (cfg0.win 8).index t 1 = 11 := by decide +kernel
  refine Eq.trans ?_ (valCol m c ⟨128 * before t.val + r.val, by unfold before; omega⟩ e)
  unfold X0_8 Pipeline.Window.fill
  rw [dif_pos (moved0_8 t _)]
  blk_ext [iblk, (hi t).1, (hi t).2, before, next]

theorem block9 (c : Dev nD) (t : Fin cfg0.N) (r : Fin 256) (e : Fin 512) : X0_9 m c t (ix2 r e) = proj m c (256 * t.val + r.val) (9184 + e.val) := by
  have ht : t.val < 65 := t.isLt
  have hi : ∀ t : Fin cfg0.N, (cfg0.win 9).index t 0 = t.val ∧ (cfg0.win 9).index t 1 = 11 := by decide +kernel
  refine Eq.trans ?_ (valCol m c ⟨256 * t.val + r.val, by omega⟩ e)
  unfold X0_9 Pipeline.Window.fill
  rw [dif_pos (moved0_9 t _)]
  blk_ext [iblk, (hi t).1, (hi t).2, before, next]

theorem block10 (c : Dev nD) (t : Fin cfg0.N) (r : Fin 128) (e : Fin 512) : X0_10 m c t (ix2 r e) = proj m c (128 * next t.val + r.val) (9184 + e.val) := by
  have ht : t.val < 65 := t.isLt
  have hi : ∀ t : Fin cfg0.N, (cfg0.win 10).index t 0 = min (max (2 * t.val + 2) 2) 129 ∧ (cfg0.win 10).index t 1 = 11 := by decide +kernel
  refine Eq.trans ?_ (valCol m c ⟨128 * next t.val + r.val, by unfold next; omega⟩ e)
  unfold X0_10 Pipeline.Window.fill
  rw [dif_pos (moved0_10 t _)]
  blk_ext [iblk, (hi t).1, (hi t).2, before, next]

theorem block11 (c : Dev nD) (t : Fin cfg0.N) (r : Fin 256) (e : Fin 512) : X0_11 m c t (ix2 r e) = proj m c (r.val) (9184 + e.val) := by
  have ht : t.val < 65 := t.isLt
  have hi : ∀ t : Fin cfg0.N, (cfg0.win 11).index t 0 = 0 ∧ (cfg0.win 11).index t 1 = 11 := by decide +kernel
  refine Eq.trans ?_ (valCol m c ⟨r.val, by omega⟩ e)
  unfold X0_11 Pipeline.Window.fill
  rw [dif_pos (moved0_11 t _)]
  blk_ext [iblk, (hi t).1, (hi t).2, before, next]

theorem block12 (c : Dev nD) (t : Fin cfg0.N) (r : Fin 128) (e : Fin 128) : iblk m c 12 t (ix2 r e) = cosT (128 * before t.val + r.val) e.val := by
  have ht : t.val < 65 := t.isLt
  have hi : ∀ t : Fin cfg0.N, (cfg0.win 12).index t 0 = min (max (2 * t.val - 1) 2) 129 ∧ (cfg0.win 12).index t 1 = 0 := by decide +kernel
  refine Eq.trans ?_ (cosTab m c ⟨128 * before t.val + r.val, by unfold before; omega⟩ e)
  blk_ext [iblk, (hi t).1, (hi t).2, before, next]

theorem block13 (c : Dev nD) (t : Fin cfg0.N) (r : Fin 128) (e : Fin 128) : iblk m c 13 t (ix2 r e) = sinT (128 * before t.val + r.val) e.val := by
  have ht : t.val < 65 := t.isLt
  have hi : ∀ t : Fin cfg0.N, (cfg0.win 13).index t 0 = min (max (2 * t.val - 1) 2) 129 ∧ (cfg0.win 13).index t 1 = 0 := by decide +kernel
  refine Eq.trans ?_ (sinTab m c ⟨128 * before t.val + r.val, by unfold before; omega⟩ e)
  blk_ext [iblk, (hi t).1, (hi t).2, before, next]

theorem block14 (c : Dev nD) (t : Fin cfg0.N) (r : Fin 256) (e : Fin 128) : iblk m c 14 t (ix2 r e) = cosT (256 * t.val + r.val) e.val := by
  have ht : t.val < 65 := t.isLt
  have hi : ∀ t : Fin cfg0.N, (cfg0.win 14).index t 0 = t.val ∧ (cfg0.win 14).index t 1 = 0 := by decide +kernel
  refine Eq.trans ?_ (cosTab m c ⟨256 * t.val + r.val, by omega⟩ e)
  blk_ext [iblk, (hi t).1, (hi t).2, before, next]

theorem block15 (c : Dev nD) (t : Fin cfg0.N) (r : Fin 256) (e : Fin 128) : iblk m c 15 t (ix2 r e) = sinT (256 * t.val + r.val) e.val := by
  have ht : t.val < 65 := t.isLt
  have hi : ∀ t : Fin cfg0.N, (cfg0.win 15).index t 0 = t.val ∧ (cfg0.win 15).index t 1 = 0 := by decide +kernel
  refine Eq.trans ?_ (sinTab m c ⟨256 * t.val + r.val, by omega⟩ e)
  blk_ext [iblk, (hi t).1, (hi t).2, before, next]

theorem block16 (c : Dev nD) (t : Fin cfg0.N) (r : Fin 128) (e : Fin 128) : iblk m c 16 t (ix2 r e) = cosT (128 * next t.val + r.val) e.val := by
  have ht : t.val < 65 := t.isLt
  have hi : ∀ t : Fin cfg0.N, (cfg0.win 16).index t 0 = min (max (2 * t.val + 2) 2) 129 ∧ (cfg0.win 16).index t 1 = 0 := by decide +kernel
  refine Eq.trans ?_ (cosTab m c ⟨128 * next t.val + r.val, by unfold next; omega⟩ e)
  blk_ext [iblk, (hi t).1, (hi t).2, before, next]

theorem block17 (c : Dev nD) (t : Fin cfg0.N) (r : Fin 128) (e : Fin 128) : iblk m c 17 t (ix2 r e) = sinT (128 * next t.val + r.val) e.val := by
  have ht : t.val < 65 := t.isLt
  have hi : ∀ t : Fin cfg0.N, (cfg0.win 17).index t 0 = min (max (2 * t.val + 2) 2) 129 ∧ (cfg0.win 17).index t 1 = 0 := by decide +kernel
  refine Eq.trans ?_ (sinTab m c ⟨128 * next t.val + r.val, by unfold next; omega⟩ e)
  blk_ext [iblk, (hi t).1, (hi t).2, before, next]

theorem block18 (c : Dev nD) (t : Fin cfg0.N) (r : Fin 16) (e : Fin 128) : iblk m c 18 t (ix2 r e) = m (c, Proc.tc.devRef main_arg1) (ix1 r) := by
  have ht : t.val < 65 := t.isLt
  have hi : ∀ t : Fin cfg0.N, (cfg0.win 18).index t 0 = 0 ∧ (cfg0.win 18).index t 1 = 0 := by decide +kernel
  refine Eq.trans ?_ (sinkCol m c r e)
  blk_ext [iblk, (hi t).1, (hi t).2, before, next]

end Cert.KernelIdeal.Launch

end
-- ==== Proof.AttnOut.lean ====
/- What a tile writes: every row and column of the block is the attention of the model's row and head. -/
module

public import proofs.«01_k».proof.Proof.AttnBlocks

@[expose] public section

set_option maxRecDepth 100000

noncomputable section

namespace Cert.KernelIdeal.Launch

open Cert.KernelIdeal Cert.KernelIdeal.Gen Cert.KernelIdeal.Head Idealize.ShloMosaic Idealize.ShloMosaic.TcCoe Idealize.ShloMosaic.Tactic Cert.Attn

variable (m : (ℓ : Loc nD τ sig) → Buf (Elt Ideal) ℓ)

theorem ld256 (x : Vec Ideal S256x512 .f32) (o : ℕ) (h) (r : Fin 256) (e : Fin 128) (ho : o ≤ 384) :
    View.ld x (Rect.unit (s := S256x512) ![0, o] ![256, 128] h) (ix2 r e) = x (ix2 r ⟨o + e.val, by omega⟩) := by
  pointwise

theorem ld128 (x : Vec Ideal S128x512 .f32) (o : ℕ) (h) (r : Fin 128) (e : Fin 128) (ho : o ≤ 384) :
    View.ld x (Rect.unit (s := S128x512) ![0, o] ![128, 128] h) (ix2 r e) = x (ix2 r ⟨o + e.val, by omega⟩) := by
  pointwise

theorem ld1 (x : Vec Ideal S16x128 .f32) (j : ℕ) (h) (hj : j < 16) :
    View.ld x (Rect.unit (s := S16x128) ![j, 0] ![1, 1] h) (ix2 0 0) = x (ix2 ⟨j, hj⟩ 0) := by
  pointwise

theorem piece (c : Dev nD) (t : Fin cfg0.N) (qx : Vec Ideal S256x512 .f32) (g o ok j : ℕ) (hj : j < 16) (ho : o ≤ 384) (hok : ok ≤ 384) (ho' : o % 128 = 0) (hok' : ok % 128 = 0)
    (hqx : ∀ (r : Fin 256) (e : Fin 512), qx (ix2 r e) = proj m c (256 * t.val + r.val) (6624 + g + e.val / 128 * 128 + place (e.val % 128)))
    (h1 h2 h3 h4 h5 h6 h7 h8 h9 h10) (r : Fin 256) (d : Fin 128) :
    head (F := Ideal) (grid0.coords t) (View.ld qx (Rect.unit (s := S256x512) ![0, o] ![256, 128] h1))
      (View.ld (X0_4 m c t) (Rect.unit (s := S128x512) ![0, ok] ![128, 128] h2)) (View.ld (X0_8 m c t) (Rect.unit (s := S128x512) ![0, ok] ![128, 128] h3))
      (View.ld (X0_5 m c t) (Rect.unit (s := S256x512) ![0, ok] ![256, 128] h4)) (View.ld (X0_9 m c t) (Rect.unit (s := S256x512) ![0, ok] ![256, 128] h5))
      (View.ld (X0_6 m c t) (Rect.unit (s := S128x512) ![0, ok] ![128, 128] h6)) (View.ld (X0_10 m c t) (Rect.unit (s := S128x512) ![0, ok] ![128, 128] h7))
      (View.ld (X0_7 m c t) (Rect.unit (s := S256x512) ![0, ok] ![256, 128] h8)) (View.ld (X0_11 m c t) (Rect.unit (s := S256x512) ![0, ok] ![256, 128] h9))
      (iblk m c 12 t) (iblk m c 13 t) (iblk m c 14 t) (iblk m c 15 t) (iblk m c 16 t) (iblk m c 17 t)
      (View.ld (iblk m c 18 t) (Rect.unit (s := S16x128) ![j, 0] ![1, 1] h10)) (ix2 r d)
      = rowAt (proj m c) (m (c, Proc.tc.devRef main_arg1) (ix1 ⟨j, hj⟩)) (6624 + g + o) (8672 + ok) (9184 + ok) (256 * t.val + r.val) d.val := by
  have hc : (grid0.coords t 0).val = t.val := (by decide +kernel : ∀ t : Fin grid0.N, (grid0.coords t 0).val = t.val) t
  have hcol : ∀ (a o : ℕ) (e : Fin 128), o % 128 = 0 → a + (o + e.val) / 128 * 128 + place ((o + e.val) % 128) = a + o + place e.val := by
    intro a o e h
    have := e.isLt
    have h1 : (o + e.val) / 128 * 128 = o := by omega
    have h2 : (o + e.val) % 128 = e.val := by omega
    rw [h1, h2]
  rw [← hc]
  apply head_row
  all_goals (try rw [hc])
  · intro r e; rw [ld256 _ _ _ _ _ ho, hqx, hcol _ _ _ ho']
  · intro r e; rw [ld128 _ _ _ _ _ hok, block4, hcol _ _ _ hok']
  · intro r e; rw [ld256 _ _ _ _ _ hok, block5, hcol _ _ _ hok']
  · intro r e; rw [ld128 _ _ _ _ _ hok, block6, hcol _ _ _ hok']
  · intro r e; rw [ld256 _ _ _ _ _ hok, block7, hcol _ _ _ hok']
  · intro r e; rw [ld128 _ _ _ _ _ hok, block8, Nat.add_assoc]
  · intro r e; rw [ld256 _ _ _ _ _ hok, block9, Nat.add_assoc]
  · intro r e; rw [ld128 _ _ _ _ _ hok, block10, Nat.add_assoc]
  · intro r e; rw [ld256 _ _ _ _ _ hok, block11, Nat.add_assoc]
  · exact block12 m c t
  · exact block13 m c t
  · exact block14 m c t
  · exact block15 m c t
  · exact block16 m c t
  · exact block17 m c t
  · rw [ld1 _ _ _ hj, block18]

theorem finish (c : Dev nD) (t : Fin cfg0.N) (r : Fin 256) (k : Fin 2048) (x : S256x128.Idx) (pay : S256x128.Idx → EReal) (g o ok j : ℕ) (hj : j < 16)
    (hp : ∀ (r : Fin 256) (d : Fin 128), pay (ix2 r d) = rowAt (proj m c) (m (c, Proc.tc.devRef main_arg1) (ix1 ⟨j, hj⟩)) (6624 + g + o) (8672 + ok) (9184 + ok) (256 * t.val + r.val) d.val)
    (h0 : r.val = (x 0).val) (h1 : k.val = 128 * j + (x 1).val) (hg : g + o = 128 * j) (hok : ok = j / 4 * 128) :
    pay x = rowAt (proj m c) (m (c, Proc.tc.devRef main_arg1) (ix1 ⟨k.val / 128, by omega⟩))
      (6624 + k.val / 128 * 128) (8672 + k.val / 512 * 128) (9184 + k.val / 512 * 128) (256 * t.val + r.val) (k.val % 128) := by
  have hx : (x 1).val < 128 := (x 1).isLt
  have hx' : x = ix2 (x 0) (x 1) := by funext a; match a with | 0 => rfl | 1 => rfl
  refine (congrArg pay hx').trans ((hp (x 0) (x 1)).trans ?_)
  have e1 : k.val / 128 = j := by omega
  have e2 : k.val / 512 = j / 4 := by omega
  have e3 : k.val % 128 = (x 1).val := by omega
  have e4 : 6624 + g + o = 6624 + j * 128 := by omega
  have e5 : r.val = (x 0).val := by omega
  simp only [e1, e2, e3, e4, e5, hok]

theorem tile (c : Dev nD) (t : Fin cfg0.N) (r : Fin 256) (k : Fin 2048) :
    outsAt0 m c t (ix2 r k) = rowAt (proj m c) (m (c, Proc.tc.devRef main_arg1) (ix1 ⟨k.val / 128, by omega⟩))
      (6624 + k.val / 128 * 128) (8672 + k.val / 512 * 128) (9184 + k.val / 512 * 128) (256 * t.val + r.val) (k.val % 128) := by
  unfold outsAt0
  frame_out
  canon_tiles x h
  · exact finish m c t r k x _ 1536 384 384 15 (by decide) (piece m c t (X0_3 m c t) 1536 384 384 15
      (by decide) (by decide) (by decide) (by decide) (by decide) (block3 m c t) _ _ _ _ _ _ _ _ _ _) h0 h1 (by decide) (by decide)
  · exact finish m c t r k x _ 1536 256 384 14 (by decide) (piece m c t (X0_3 m c t) 1536 256 384 14
      (by decide) (by decide) (by decide) (by decide) (by decide) (block3 m c t) _ _ _ _ _ _ _ _ _ _) h0 h1 (by decide) (by decide)
  · exact finish m c t r k x _ 1536 128 384 13 (by decide) (piece m c t (X0_3 m c t) 1536 128 384 13
      (by decide) (by decide) (by decide) (by decide) (by decide) (block3 m c t) _ _ _ _ _ _ _ _ _ _) h0 h1 (by decide) (by decide)
  · exact finish m c t r k x _ 1536 0 384 12 (by decide) (piece m c t (X0_3 m c t) 1536 0 384 12
      (by decide) (by decide) (by decide) (by decide) (by decide) (block3 m c t) _ _ _ _ _ _ _ _ _ _) h0 h1 (by decide) (by decide)
  · exact finish m c t r k x _ 1024 384 256 11 (by decide) (piece m c t (X0_2 m c t) 1024 384 256 11
      (by decide) (by decide) (by decide) (by decide) (by decide) (block2 m c t) _ _ _ _ _ _ _ _ _ _) h0 h1 (by decide) (by decide)
  · exact finish m c t r k x _ 1024 256 256 10 (by decide) (piece m c t (X0_2 m c t) 1024 256 256 10
      (by decide) (by decide) (by decide) (by decide) (by decide) (block2 m c t) _ _ _ _ _ _ _ _ _ _) h0 h1 (by decide) (by decide)
  · exact finish m c t r k x _ 1024 128 256 9 (by decide) (piece m c t (X0_2 m c t) 1024 128 256 9
      (by decide) (by decide) (by decide) (by decide) (by decide) (block2 m c t) _ _ _ _ _ _ _ _ _ _) h0 h1 (by decide) (by decide)
  · exact finish m c t r k x _ 1024 0 256 8 (by decide) (piece m c t (X0_2 m c t) 1024 0 256 8
      (by decide) (by decide) (by decide) (by decide) (by decide) (block2 m c t) _ _ _ _ _ _ _ _ _ _) h0 h1 (by decide) (by decide)
  · exact finish m c t r k x _ 512 384 128 7 (by decide) (piece m c t (X0_1 m c t) 512 384 128 7
      (by decide) (by decide) (by decide) (by decide) (by decide) (block1 m c t) _ _ _ _ _ _ _ _ _ _) h0 h1 (by decide) (by decide)
  · exact finish m c t r k x _ 512 256 128 6 (by decide) (piece m c t (X0_1 m c t) 512 256 128 6
      (by decide) (by decide) (by decide) (by decide) (by decide) (block1 m c t) _ _ _ _ _ _ _ _ _ _) h0 h1 (by decide) (by decide)
  · exact finish m c t r k x _ 512 128 128 5 (by decide) (piece m c t (X0_1 m c t) 512 128 128 5
      (by decide) (by decide) (by decide) (by decide) (by decide) (block1 m c t) _ _ _ _ _ _ _ _ _ _) h0 h1 (by decide) (by decide)
  · exact finish m c t r k x _ 512 0 128 4 (by decide) (piece m c t (X0_1 m c t) 512 0 128 4
      (by decide) (by decide) (by decide) (by decide) (by decide) (block1 m c t) _ _ _ _ _ _ _ _ _ _) h0 h1 (by decide) (by decide)
  · exact finish m c t r k x _ 0 384 0 3 (by decide) (piece m c t (X0_0 m c t) 0 384 0 3
      (by decide) (by decide) (by decide) (by decide) (by decide) (block0 m c t) _ _ _ _ _ _ _ _ _ _) h0 h1 (by decide) (by decide)
  · exact finish m c t r k x _ 0 256 0 2 (by decide) (piece m c t (X0_0 m c t) 0 256 0 2
      (by decide) (by decide) (by decide) (by decide) (by decide) (block0 m c t) _ _ _ _ _ _ _ _ _ _) h0 h1 (by decide) (by decide)
  · exact finish m c t r k x _ 0 128 0 1 (by decide) (piece m c t (X0_0 m c t) 0 128 0 1
      (by decide) (by decide) (by decide) (by decide) (by decide) (block0 m c t) _ _ _ _ _ _ _ _ _ _) h0 h1 (by decide) (by decide)
  · exact finish m c t r k x _ 0 0 0 0 (by decide) (piece m c t (X0_0 m c t) 0 0 0 0
      (by decide) (by decide) (by decide) (by decide) (by decide) (block0 m c t) _ _ _ _ _ _ _ _ _ _) h0 (h1.trans (Nat.zero_add _).symm) (by decide) (by decide)

end Cert.KernelIdeal.Launch

end
-- ==== Proof.KernelIdealValue.lean ====
/- The output array of the attention call, element by element. -/
module

public import proofs.«01_k».proof.Proof.KernelIdealBlocks
public import proofs.«01_k».proof.Proof.AttnOut

@[expose] public section

set_option maxRecDepth 100000

noncomputable section

namespace Cert.KernelIdeal.Launch

open Cert.KernelIdeal Cert.KernelIdeal.Gen Cert.KernelIdeal.Head Idealize.ShloMosaic Idealize.ShloMosaic.TcCoe Idealize.ShloMosaic.Tactic Cert.Attn

variable (m : (ℓ : Loc nD τ sig) → Buf (Elt Ideal) ℓ)

theorem value (c : Dev nD) (R : Fin 16640) (k : Fin 2048) :
    (dats m 0 c).arrAt 19 cfg0.N (ix2 R k) = rowAt (proj m c) (m (c, Proc.tc.devRef main_arg1) (ix1 ⟨k.val / 128, by omega⟩))
      (6624 + k.val / 128 * 128) (8672 + k.val / 512 * 128) (9184 + k.val / 512 * 128) R.val (k.val % 128) := by
  have hN : cfg0.N = 65 := rfl
  let t : Fin cfg0.N := ⟨R.val / 256, by omega⟩
  have hf : (cfg0.win 19).flush t = true := (by decide +kernel : ∀ t : Fin cfg0.N, (cfg0.win 19).flush t = true) t
  have hi : ∀ t : Fin cfg0.N, (cfg0.win 19).index t 0 = t.val ∧ (cfg0.win 19).index t 1 = 0 := by decide +kernel
  have h := congrFun (blocks19 m c t hf) (ix2 ⟨R.val % 256, by omega⟩ k)
  rw [flushed19] at h
  have e : 256 * t.val + R.val % 256 = R.val := by show 256 * (R.val / 256) + R.val % 256 = R.val; omega
  refine Eq.trans ?_ (h.trans ((tile m c t ⟨R.val % 256, by omega⟩ k).trans ?_))
  · blk_ext [(hi t).1, (hi t).2]
  · simp only [e]

end Cert.KernelIdeal.Launch

end
-- ==== Proof.RefOps.lean ====
/- The reference's host operations, cut into the stages that the value proof reads one by one, and its run: every
   weakly fair execution ends with each buffer at what the operations leave there, from the arguments' contents. -/
module

public import proofs.«01_k».proof.Defs
public import proofs.«01_k».proof.Proof.Gen.ReferenceIdeal
public import Idealize.ShloMosaic.Lib.StableHlo.Run
public import Idealize.ShloMosaic.Lib.Pipeline.Frame

@[expose] public section

set_option maxRecDepth 16384
set_option Elab.async false

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The two 32-wide parts of a 64-wide half of a query head, one after the other. -/
def catQ32 : (⟨S1x16384x16x32, .f32⟩ : BufTy).Contents (Elt F) → (⟨S1x16384x16x32, .f32⟩ : BufTy).Contents (Elt F) → (⟨S1x16384x16x64, .f32⟩ : BufTy).Contents (Elt F) :=
  (fun a b => concatenate S1x16384x16x64 3 [⟨S1x16384x16x32, a⟩, ⟨S1x16384x16x32, b⟩] concatenates_S1x16384x16x32_S1x16384x16x32_S1x16384x16x64_d3)

/-- The two halves of a query head. -/
def catQ64 : (⟨S1x16384x16x64, .f32⟩ : BufTy).Contents (Elt F) → (⟨S1x16384x16x64, .f32⟩ : BufTy).Contents (Elt F) → (⟨S1x16384x16x128, .f32⟩ : BufTy).Contents (Elt F) :=
  (fun a b => concatenate S1x16384x16x128 3 [⟨S1x16384x16x64, a⟩, ⟨S1x16384x16x64, b⟩] concatenates_S1x16384x16x64_S1x16384x16x64_S1x16384x16x128_d3)

/-- The two 32-wide parts of a half of a key head. -/
def catK32 : (⟨S1x16384x4x32, .f32⟩ : BufTy).Contents (Elt F) → (⟨S1x16384x4x32, .f32⟩ : BufTy).Contents (Elt F) → (⟨S1x16384x4x64, .f32⟩ : BufTy).Contents (Elt F) :=
  (fun a b => concatenate S1x16384x4x64 3 [⟨S1x16384x4x32, a⟩, ⟨S1x16384x4x32, b⟩] concatenates_S1x16384x4x32_S1x16384x4x32_S1x16384x4x64_d3)

/-- The two halves of a key head. -/
def catK64 : (⟨S1x16384x4x64, .f32⟩ : BufTy).Contents (Elt F) → (⟨S1x16384x4x64, .f32⟩ : BufTy).Contents (Elt F) → (⟨S1x16384x4x128, .f32⟩ : BufTy).Contents (Elt F) :=
  (fun a b => concatenate S1x16384x4x128 3 [⟨S1x16384x4x64, a⟩, ⟨S1x16384x4x64, b⟩] concatenates_S1x16384x4x64_S1x16384x4x64_S1x16384x4x128_d3)

/-- Three consecutive blocks of keys or values, the window of the middle one. -/
def catWin : (⟨S1x128x128x4x128, .f32⟩ : BufTy).Contents (Elt F) → (⟨S1x128x128x4x128, .f32⟩ : BufTy).Contents (Elt F) → (⟨S1x128x128x4x128, .f32⟩ : BufTy).Contents (Elt F) → (⟨S1x128x384x4x128, .f32⟩ : BufTy).Contents (Elt F) :=
  fun a b c => concatenate S1x128x384x4x128 2 [⟨S1x128x128x4x128, a⟩, ⟨S1x128x128x4x128, b⟩, ⟨S1x128x128x4x128, c⟩] concatenates_S1x128x128x4x128_S1x128x128x4x128_S1x128x128x4x128_S1x128x384x4x128_d2

/-- The local scores, the context scores and the sink of a row. -/
def catScores : (⟨S1x128x4x4x128x384, .f32⟩ : BufTy).Contents (Elt F) → (⟨S1x128x4x4x128x256, .f32⟩ : BufTy).Contents (Elt F) → (⟨S1x128x4x4x128x1, .f32⟩ : BufTy).Contents (Elt F) → (⟨S1x128x4x4x128x641, .f32⟩ : BufTy).Contents (Elt F) :=
  fun a b c => concatenate S1x128x4x4x128x641 5 [⟨S1x128x4x4x128x384, a⟩, ⟨S1x128x4x4x128x256, b⟩, ⟨S1x128x4x4x128x1, c⟩] concatenates_S1x128x4x4x128x384_S1x128x4x4x128x256_S1x128x4x4x128x1_S1x128x4x4x128x641_d5

/-- The scores and the sink of a context row. -/
def catCtx : (⟨S1x4x4x256x256, .f32⟩ : BufTy).Contents (Elt F) → (⟨S1x4x4x256x1, .f32⟩ : BufTy).Contents (Elt F) → (⟨S1x4x4x256x257, .f32⟩ : BufTy).Contents (Elt F) :=
  (fun a b => concatenate S1x4x4x256x257 4 [⟨S1x4x4x256x256, a⟩, ⟨S1x4x4x256x1, b⟩] concatenates_S1x4x4x256x256_S1x4x4x256x1_S1x4x4x256x257_d4)

/-- The context rows above the latent rows. -/
def catRows : (⟨S256x2048, .f32⟩ : BufTy).Contents (Elt F) → (⟨S16384x2048, .f32⟩ : BufTy).Contents (Elt F) → (⟨S16640x2048, .f32⟩ : BufTy).Contents (Elt F) :=
  (fun a b => concatenate S16640x2048 0 [⟨S256x2048, a⟩, ⟨S16384x2048, b⟩] concatenates_S256x2048_S16384x2048_S16640x2048_d0)

/-- The greatest score of a latent row. -/
def maxRow : (⟨S1x128x4x4x128x641, .f32⟩ : BufTy).Contents (Elt F) → (⟨S_, .f32⟩ : BufTy).Contents (Elt F) → (⟨S1x128x4x4x128, .f32⟩ : BufTy).Contents (Elt F) :=
  fun x v => Host.reduce FloatOps.maximumf x v reducesTo_S1x128x4x4x128x641_S1x128x4x4x128_d5 h_S_

/-- The sum over the scores of a latent row. -/
def sumRow : (⟨S1x128x4x4x128x641, .f32⟩ : BufTy).Contents (Elt F) → (⟨S_, .f32⟩ : BufTy).Contents (Elt F) → (⟨S1x128x4x4x128, .f32⟩ : BufTy).Contents (Elt F) :=
  fun x v => Host.reduceAdd x v reducesTo_S1x128x4x4x128x641_S1x128x4x4x128_d5 h_S_

/-- The greatest score of a context row. -/
def maxCtx : (⟨S1x4x4x256x257, .f32⟩ : BufTy).Contents (Elt F) → (⟨S_, .f32⟩ : BufTy).Contents (Elt F) → (⟨S1x4x4x256, .f32⟩ : BufTy).Contents (Elt F) :=
  fun x v => Host.reduce FloatOps.maximumf x v reducesTo_S1x4x4x256x257_S1x4x4x256_d4 h_S_

/-- The sum over the scores of a context row. -/
def sumCtx : (⟨S1x4x4x256x257, .f32⟩ : BufTy).Contents (Elt F) → (⟨S_, .f32⟩ : BufTy).Contents (Elt F) → (⟨S1x4x4x256, .f32⟩ : BufTy).Contents (Elt F) :=
  fun x v => Host.reduceAdd x v reducesTo_S1x4x4x256x257_S1x4x4x256_d4 h_S_

/-- The operations of the context and latent rows, the angles, and their cosines and sines. -/
abbrev opsAngle : List (HloOp τ sig (Elt F)) :=
  [ unary main_arg0 main_v0 ((extractStridedSlice S256x9952 ![0, 0] · slices_S16640x9952_S256x9952_0_0) : (⟨S16640x9952, .f32⟩ : BufTy).Contents (Elt F) → (⟨S256x9952, .f32⟩ : BufTy).Contents (Elt F)),
    unary main_v0 main_v1 (broadcastInDim S1x256x9952 ![1, 2] bcast_S256x9952_S1x256x9952_1_2 : (⟨S256x9952, .f32⟩ : BufTy).Contents (Elt F) → (⟨S1x256x9952, .f32⟩ : BufTy).Contents (Elt F)),
    unary main_arg0 main_v2 ((extractStridedSlice S16384x9952 ![256, 0] · slices_S16640x9952_S16384x9952_256_0) : (⟨S16640x9952, .f32⟩ : BufTy).Contents (Elt F) → (⟨S16384x9952, .f32⟩ : BufTy).Contents (Elt F)),
    unary main_v2 main_v3 (broadcastInDim S1x16384x9952 ![1, 2] bcast_S16384x9952_S1x16384x9952_1_2 : (⟨S16384x9952, .f32⟩ : BufTy).Contents (Elt F) → (⟨S1x16384x9952, .f32⟩ : BufTy).Contents (Elt F)),
    nullary main_v4 (iotaInDim S256 32 0),
    unary main_v4 main_v5 (broadcastInDim S256x64 ![0] bcast_S256_S256x64_0 : (⟨S256, .i32⟩ : BufTy).Contents (Elt F) → (⟨S256x64, .i32⟩ : BufTy).Contents (Elt F)),
    reshape main_v5 main_v6 (rfl : (.i32 : EltTy) = .i32) shapeCasts_S256x64_S16384,
    unary main_v6 main_v7 (sitofp .f32 : (⟨S16384, .i32⟩ : BufTy).Contents (Elt F) → (⟨S16384, .f32⟩ : BufTy).Contents (Elt F)),
    nullary main_v8 (iotaInDim S64 32 0),
    reshape main_v8 main_v9 (rfl : (.i32 : EltTy) = .i32) shapeCasts_S64_S1x64,
    unary main_v9 main_v10 (broadcastInDim S256x64 ![0, 1] bcast_S1x64_S256x64_0_1 : (⟨S1x64, .i32⟩ : BufTy).Contents (Elt F) → (⟨S256x64, .i32⟩ : BufTy).Contents (Elt F)),
    reshape main_v10 main_v11 (rfl : (.i32 : EltTy) = .i32) shapeCasts_S256x64_S16384,
    unary main_v11 main_v12 (sitofp .f32 : (⟨S16384, .i32⟩ : BufTy).Contents (Elt F) → (⟨S16384, .f32⟩ : BufTy).Contents (Elt F)),
    nullary main_v13 (sitofp .f32 (iotaInDim S32 32 0)),
    nullary main_cst (constant S_ .f32 0x40000000#32),
    unary main_cst main_v14 (broadcastInDim S32 ![] bcast_S_S32 : (⟨S_, .f32⟩ : BufTy).Contents (Elt F) → (⟨S32, .f32⟩ : BufTy).Contents (Elt F)),
    binary main_v14 main_v13 main_v15 (mulf : (⟨S32, .f32⟩ : BufTy).Contents (Elt F) → (⟨S32, .f32⟩ : BufTy).Contents (Elt F) → (⟨S32, .f32⟩ : BufTy).Contents (Elt F)),
    nullary main_cst_0 (constant S_ .f32 0x00000000#32),
    unary main_cst_0 main_v16 (broadcastInDim S32 ![] bcast_S_S32 : (⟨S_, .f32⟩ : BufTy).Contents (Elt F) → (⟨S32, .f32⟩ : BufTy).Contents (Elt F)),
    binary main_v16 main_v15 main_v17 (addf : (⟨S32, .f32⟩ : BufTy).Contents (Elt F) → (⟨S32, .f32⟩ : BufTy).Contents (Elt F) → (⟨S32, .f32⟩ : BufTy).Contents (Elt F)),
    unary main_v17 main_v18 (Host.negf : (⟨S32, .f32⟩ : BufTy).Contents (Elt F) → (⟨S32, .f32⟩ : BufTy).Contents (Elt F)),
    nullary main_cst_1 (constant S_ .f32 0x42800000#32),
    unary main_cst_1 main_v19 (broadcastInDim S32 ![] bcast_S_S32 : (⟨S_, .f32⟩ : BufTy).Contents (Elt F) → (⟨S32, .f32⟩ : BufTy).Contents (Elt F)),
    binary main_v18 main_v19 main_v20 (Host.divf : (⟨S32, .f32⟩ : BufTy).Contents (Elt F) → (⟨S32, .f32⟩ : BufTy).Contents (Elt F) → (⟨S32, .f32⟩ : BufTy).Contents (Elt F)),
    nullary main_cst_2 (constant S_ .f32 0x461C4000#32),
    unary main_cst_2 main_v21 (broadcastInDim S32 ![] bcast_S_S32 : (⟨S_, .f32⟩ : BufTy).Contents (Elt F) → (⟨S32, .f32⟩ : BufTy).Contents (Elt F)),
    binary main_v21 main_v20 main_v22 (Host.powf : (⟨S32, .f32⟩ : BufTy).Contents (Elt F) → (⟨S32, .f32⟩ : BufTy).Contents (Elt F) → (⟨S32, .f32⟩ : BufTy).Contents (Elt F)),
    unary main_v7 main_v23 (broadcastInDim S16384x1 ![0] bcast_S16384_S16384x1_0 : (⟨S16384, .f32⟩ : BufTy).Contents (Elt F) → (⟨S16384x1, .f32⟩ : BufTy).Contents (Elt F)),
    unary main_v22 main_v24 (broadcastInDim S1x32 ![1] bcast_S32_S1x32_1 : (⟨S32, .f32⟩ : BufTy).Contents (Elt F) → (⟨S1x32, .f32⟩ : BufTy).Contents (Elt F)),
    unary main_v23 main_v25 (broadcastInDim S16384x32 ![0, 1] bcast_S16384x1_S16384x32_0_1 : (⟨S16384x1, .f32⟩ : BufTy).Contents (Elt F) → (⟨S16384x32, .f32⟩ : BufTy).Contents (Elt F)),
    unary main_v24 main_v26 (broadcastInDim S16384x32 ![0, 1] bcast_S1x32_S16384x32_0_1 : (⟨S1x32, .f32⟩ : BufTy).Contents (Elt F) → (⟨S16384x32, .f32⟩ : BufTy).Contents (Elt F)),
    binary main_v25 main_v26 main_v27 (mulf : (⟨S16384x32, .f32⟩ : BufTy).Contents (Elt F) → (⟨S16384x32, .f32⟩ : BufTy).Contents (Elt F) → (⟨S16384x32, .f32⟩ : BufTy).Contents (Elt F)),
    unary main_v12 main_v28 (broadcastInDim S16384x1 ![0] bcast_S16384_S16384x1_0 : (⟨S16384, .f32⟩ : BufTy).Contents (Elt F) → (⟨S16384x1, .f32⟩ : BufTy).Contents (Elt F)),
    unary main_v22 main_v29 (broadcastInDim S1x32 ![1] bcast_S32_S1x32_1 : (⟨S32, .f32⟩ : BufTy).Contents (Elt F) → (⟨S1x32, .f32⟩ : BufTy).Contents (Elt F)),
    unary main_v28 main_v30 (broadcastInDim S16384x32 ![0, 1] bcast_S16384x1_S16384x32_0_1 : (⟨S16384x1, .f32⟩ : BufTy).Contents (Elt F) → (⟨S16384x32, .f32⟩ : BufTy).Contents (Elt F)),
    unary main_v29 main_v31 (broadcastInDim S16384x32 ![0, 1] bcast_S1x32_S16384x32_0_1 : (⟨S1x32, .f32⟩ : BufTy).Contents (Elt F) → (⟨S16384x32, .f32⟩ : BufTy).Contents (Elt F)),
    binary main_v30 main_v31 main_v32 (mulf : (⟨S16384x32, .f32⟩ : BufTy).Contents (Elt F) → (⟨S16384x32, .f32⟩ : BufTy).Contents (Elt F) → (⟨S16384x32, .f32⟩ : BufTy).Contents (Elt F)),
    unary main_v27 main_v33 (Host.cos : (⟨S16384x32, .f32⟩ : BufTy).Contents (Elt F) → (⟨S16384x32, .f32⟩ : BufTy).Contents (Elt F)),
    unary main_v27 main_v34 (Host.sin : (⟨S16384x32, .f32⟩ : BufTy).Contents (Elt F) → (⟨S16384x32, .f32⟩ : BufTy).Contents (Elt F)),
    unary main_v32 main_v35 (Host.cos : (⟨S16384x32, .f32⟩ : BufTy).Contents (Elt F) → (⟨S16384x32, .f32⟩ : BufTy).Contents (Elt F)),
    unary main_v32 main_v36 (Host.sin : (⟨S16384x32, .f32⟩ : BufTy).Contents (Elt F) → (⟨S16384x32, .f32⟩ : BufTy).Contents (Elt F)) ]

/-- The operations of the first half of the turned queries. -/
abbrev opsRopeQ0 : List (HloOp τ sig (Elt F)) :=
  [ unary main_v3 main_v37 ((extractStridedSlice S1x16384x2048 ![0, 0, 6624] · slices_S1x16384x9952_S1x16384x2048_0_0_6624) : (⟨S1x16384x9952, .f32⟩ : BufTy).Contents (Elt F) → (⟨S1x16384x2048, .f32⟩ : BufTy).Contents (Elt F)),
    reshape main_v37 main_v38 (rfl : (.f32 : EltTy) = .f32) shapeCasts_S1x16384x2048_S1x16384x16x128,
    unary main_v33 main_v39 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v34 main_v40 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v35 main_v41 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v36 main_v42 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v38 main_v43 ((extractStridedSlice S1x16384x16x64 ![0, 0, 0, 0] · slices_S1x16384x16x128_S1x16384x16x64_0_0_0_0) : (⟨S1x16384x16x128, .f32⟩ : BufTy).Contents (Elt F) → (⟨S1x16384x16x64, .f32⟩ : BufTy).Contents (Elt F)),
    unary main_v43 main_v44 ((extractStridedSlice S1x16384x16x32 ![0, 0, 0, 0] · slices_S1x16384x16x64_S1x16384x16x32_0_0_0_0) : (⟨S1x16384x16x64, .f32⟩ : BufTy).Contents (Elt F) → (⟨S1x16384x16x32, .f32⟩ : BufTy).Contents (Elt F)),
    unary main_v43 main_v45 ((extractStridedSlice S1x16384x16x32 ![0, 0, 0, 32] · slices_S1x16384x16x64_S1x16384x16x32_0_0_0_32) : (⟨S1x16384x16x64, .f32⟩ : BufTy).Contents (Elt F) → (⟨S1x16384x16x32, .f32⟩ : BufTy).Contents (Elt F)),
    unary main_v39 main_v46 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v44 main_v46 main_v47 (mulf : (⟨S1x16384x16x32, .f32⟩ : BufTy).Contents (Elt F) → (⟨S1x16384x16x32, .f32⟩ : BufTy).Contents (Elt F) → (⟨S1x16384x16x32, .f32⟩ : BufTy).Contents (Elt F)),
    unary main_v40 main_v48 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v45 main_v48 main_v49 (mulf : (⟨S1x16384x16x32, .f32⟩ : BufTy).Contents (Elt F) → (⟨S1x16384x16x32, .f32⟩ : BufTy).Contents (Elt F) → (⟨S1x16384x16x32, .f32⟩ : BufTy).Contents (Elt F)),
    binary main_v47 main_v49 main_v50 (subf : (⟨S1x16384x16x32, .f32⟩ : BufTy).Contents (Elt F) → (⟨S1x16384x16x32, .f32⟩ : BufTy).Contents (Elt F) → (⟨S1x16384x16x32, .f32⟩ : BufTy).Contents (Elt F)),
    unary main_v39 main_v51 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v45 main_v51 main_v52 (mulf : (⟨S1x16384x16x32, .f32⟩ : BufTy).Contents (Elt F) → (⟨S1x16384x16x32, .f32⟩ : BufTy).Contents (Elt F) → (⟨S1x16384x16x32, .f32⟩ : BufTy).Contents (Elt F)),
    unary main_v40 main_v53 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v44 main_v53 main_v54 (mulf : (⟨S1x16384x16x32, .f32⟩ : BufTy).Contents (Elt F) → (⟨S1x16384x16x32, .f32⟩ : BufTy).Contents (Elt F) → (⟨S1x16384x16x32, .f32⟩ : BufTy).Contents (Elt F)),
    binary main_v52 main_v54 main_v55 (addf : (⟨S1x16384x16x32, .f32⟩ : BufTy).Contents (Elt F) → (⟨S1x16384x16x32, .f32⟩ : BufTy).Contents (Elt F) → (⟨S1x16384x16x32, .f32⟩ : BufTy).Contents (Elt F)) ]

/-- The operations of the second half of the turned queries. -/
abbrev opsRopeQ1 : List (HloOp τ sig (Elt F)) :=
  [ binary main_v50 main_v55 main_v56 (catQ32 (F := F)),
    unary main_v38 main_v57 ((extractStridedSlice S1x16384x16x64 ![0, 0, 0, 64] · slices_S1x16384x16x128_S1x16384x16x64_0_0_0_64) : (⟨S1x16384x16x128, .f32⟩ : BufTy).Contents (Elt F) → (⟨S1x16384x16x64, .f32⟩ : BufTy).Contents (Elt F)),
    unary main_v57 main_v58 ((extractStridedSlice S1x16384x16x32 ![0, 0, 0, 0] · slices_S1x16384x16x64_S1x16384x16x32_0_0_0_0) : (⟨S1x16384x16x64, .f32⟩ : BufTy).Contents (Elt F) → (⟨S1x16384x16x32, .f32⟩ : BufTy).Contents (Elt F)),
    unary main_v57 main_v59 ((extractStridedSlice S1x16384x16x32 ![0, 0, 0, 32] · slices_S1x16384x16x64_S1x16384x16x32_0_0_0_32) : (⟨S1x16384x16x64, .f32⟩ : BufTy).Contents (Elt F) → (⟨S1x16384x16x32, .f32⟩ : BufTy).Contents (Elt F)),
    unary main_v41 main_v60 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v58 main_v60 main_v61 (mulf : (⟨S1x16384x16x32, .f32⟩ : BufTy).Contents (Elt F) → (⟨S1x16384x16x32, .f32⟩ : BufTy).Contents (Elt F) → (⟨S1x16384x16x32, .f32⟩ : BufTy).Contents (Elt F)),
    unary main_v42 main_v62 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v59 main_v62 main_v63 (mulf : (⟨S1x16384x16x32, .f32⟩ : BufTy).Contents (Elt F) → (⟨S1x16384x16x32, .f32⟩ : BufTy).Contents (Elt F) → (⟨S1x16384x16x32, .f32⟩ : BufTy).Contents (Elt F)),
    binary main_v61 main_v63 main_v64 (subf : (⟨S1x16384x16x32, .f32⟩ : BufTy).Contents (Elt F) → (⟨S1x16384x16x32, .f32⟩ : BufTy).Contents (Elt F) → (⟨S1x16384x16x32, .f32⟩ : BufTy).Contents (Elt F)),
    unary main_v41 main_v65 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v59 main_v65 main_v66 (mulf : (⟨S1x16384x16x32, .f32⟩ : BufTy).Contents (Elt F) → (⟨S1x16384x16x32, .f32⟩ : BufTy).Contents (Elt F) → (⟨S1x16384x16x32, .f32⟩ : BufTy).Contents (Elt F)),
    unary main_v42 main_v67 (broadcastInDim S1x16384x16x32 ![0, 1, 2, 3] bcast_S1x16384x1x32_S1x16384x16x32_0_1_2_3 : (⟨S1x16384x1x32, .f32⟩ : BufTy).Contents (Elt F) → (⟨S1x16384x16x32, .f32⟩ : BufTy).Contents (Elt F)),
    binary main_v58 main_v67 main_v68 (mulf : (⟨S1x16384x16x32, .f32⟩ : BufTy).Contents (Elt F) → (⟨S1x16384x16x32, .f32⟩ : BufTy).Contents (Elt F) → (⟨S1x16384x16x32, .f32⟩ : BufTy).Contents (Elt F)),
    binary main_v66 main_v68 main_v69 (addf : (⟨S1x16384x16x32, .f32⟩ : BufTy).Contents (Elt F) → (⟨S1x16384x16x32, .f32⟩ : BufTy).Contents (Elt F) → (⟨S1x16384x16x32, .f32⟩ : BufTy).Contents (Elt F)),
    binary main_v64 main_v69 main_v70 (catQ32 (F := F)),
    binary main_v56 main_v70 main_v71 (catQ64 (F := F)) ]

/-- The operations of the turned keys. -/
abbrev opsRopeK : List (HloOp τ sig (Elt F)) :=
  [ unary main_v3 main_v72 ((extractStridedSlice S1x16384x512 ![0, 0, 8672] · slices_S1x16384x9952_S1x16384x512_0_0_8672) : (⟨S1x16384x9952, .f32⟩ : BufTy).Contents (Elt F) → (⟨S1x16384x512, .f32⟩ : BufTy).Contents (Elt F)),
    reshape main_v72 main_v73 (rfl : (.f32 : EltTy) = .f32) shapeCasts_S1x16384x512_S1x16384x4x128,
    unary main_v33 main_v74 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v34 main_v75 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v35 main_v76 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v36 main_v77 (broadcastInDim S1x16384x1x32 ![1, 3] bcast_S16384x32_S1x16384x1x32_1_3 : (⟨S16384x32, .f32⟩ : BufTy).Contents (Elt F) → (⟨S1x16384x1x32, .f32⟩ : BufTy).Contents (Elt F)),
    unary main_v73 main_v78 ((extractStridedSlice S1x16384x4x64 ![0, 0, 0, 0] · slices_S1x16384x4x128_S1x16384x4x64_0_0_0_0) : (⟨S1x16384x4x128, .f32⟩ : BufTy).Contents (Elt F) → (⟨S1x16384x4x64, .f32⟩ : BufTy).Contents (Elt F)),
    unary main_v78 main_v79 ((extractStridedSlice S1x16384x4x32 ![0, 0, 0, 0] · slices_S1x16384x4x64_S1x16384x4x32_0_0_0_0) : (⟨S1x16384x4x64, .f32⟩ : BufTy).Contents (Elt F) → (⟨S1x16384x4x32, .f32⟩ : BufTy).Contents (Elt F)),
    unary main_v78 main_v80 ((extractStridedSlice S1x16384x4x32 ![0, 0, 0, 32] · slices_S1x16384x4x64_S1x16384x4x32_0_0_0_32) : (⟨S1x16384x4x64, .f32⟩ : BufTy).Contents (Elt F) → (⟨S1x16384x4x32, .f32⟩ : BufTy).Contents (Elt F)),
    unary main_v74 main_v81 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v79 main_v81 main_v82 (mulf : (⟨S1x16384x4x32, .f32⟩ : BufTy).Contents (Elt F) → (⟨S1x16384x4x32, .f32⟩ : BufTy).Contents (Elt F) → (⟨S1x16384x4x32, .f32⟩ : BufTy).Contents (Elt F)),
    unary main_v75 main_v83 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v80 main_v83 main_v84 (mulf : (⟨S1x16384x4x32, .f32⟩ : BufTy).Contents (Elt F) → (⟨S1x16384x4x32, .f32⟩ : BufTy).Contents (Elt F) → (⟨S1x16384x4x32, .f32⟩ : BufTy).Contents (Elt F)),
    binary main_v82 main_v84 main_v85 (subf : (⟨S1x16384x4x32, .f32⟩ : BufTy).Contents (Elt F) → (⟨S1x16384x4x32, .f32⟩ : BufTy).Contents (Elt F) → (⟨S1x16384x4x32, .f32⟩ : BufTy).Contents (Elt F)),
    unary main_v74 main_v86 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v80 main_v86 main_v87 (mulf : (⟨S1x16384x4x32, .f32⟩ : BufTy).Contents (Elt F) → (⟨S1x16384x4x32, .f32⟩ : BufTy).Contents (Elt F) → (⟨S1x16384x4x32, .f32⟩ : BufTy).Contents (Elt F)),
    unary main_v75 main_v88 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v79 main_v88 main_v89 (mulf : (⟨S1x16384x4x32, .f32⟩ : BufTy).Contents (Elt F) → (⟨S1x16384x4x32, .f32⟩ : BufTy).Contents (Elt F) → (⟨S1x16384x4x32, .f32⟩ : BufTy).Contents (Elt F)),
    binary main_v87 main_v89 main_v90 (addf : (⟨S1x16384x4x32, .f32⟩ : BufTy).Contents (Elt F) → (⟨S1x16384x4x32, .f32⟩ : BufTy).Contents (Elt F) → (⟨S1x16384x4x32, .f32⟩ : BufTy).Contents (Elt F)),
    binary main_v85 main_v90 main_v91 (catK32 (F := F)),
    unary main_v73 main_v92 ((extractStridedSlice S1x16384x4x64 ![0, 0, 0, 64] · slices_S1x16384x4x128_S1x16384x4x64_0_0_0_64) : (⟨S1x16384x4x128, .f32⟩ : BufTy).Contents (Elt F) → (⟨S1x16384x4x64, .f32⟩ : BufTy).Contents (Elt F)),
    unary main_v92 main_v93 ((extractStridedSlice S1x16384x4x32 ![0, 0, 0, 0] · slices_S1x16384x4x64_S1x16384x4x32_0_0_0_0) : (⟨S1x16384x4x64, .f32⟩ : BufTy).Contents (Elt F) → (⟨S1x16384x4x32, .f32⟩ : BufTy).Contents (Elt F)),
    unary main_v92 main_v94 ((extractStridedSlice S1x16384x4x32 ![0, 0, 0, 32] · slices_S1x16384x4x64_S1x16384x4x32_0_0_0_32) : (⟨S1x16384x4x64, .f32⟩ : BufTy).Contents (Elt F) → (⟨S1x16384x4x32, .f32⟩ : BufTy).Contents (Elt F)),
    unary main_v76 main_v95 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v93 main_v95 main_v96 (mulf : (⟨S1x16384x4x32, .f32⟩ : BufTy).Contents (Elt F) → (⟨S1x16384x4x32, .f32⟩ : BufTy).Contents (Elt F) → (⟨S1x16384x4x32, .f32⟩ : BufTy).Contents (Elt F)),
    unary main_v77 main_v97 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v94 main_v97 main_v98 (mulf : (⟨S1x16384x4x32, .f32⟩ : BufTy).Contents (Elt F) → (⟨S1x16384x4x32, .f32⟩ : BufTy).Contents (Elt F) → (⟨S1x16384x4x32, .f32⟩ : BufTy).Contents (Elt F)),
    binary main_v96 main_v98 main_v99 (subf : (⟨S1x16384x4x32, .f32⟩ : BufTy).Contents (Elt F) → (⟨S1x16384x4x32, .f32⟩ : BufTy).Contents (Elt F) → (⟨S1x16384x4x32, .f32⟩ : BufTy).Contents (Elt F)),
    unary main_v76 main_v100 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v94 main_v100 main_v101 (mulf : (⟨S1x16384x4x32, .f32⟩ : BufTy).Contents (Elt F) → (⟨S1x16384x4x32, .f32⟩ : BufTy).Contents (Elt F) → (⟨S1x16384x4x32, .f32⟩ : BufTy).Contents (Elt F)),
    unary main_v77 main_v102 (broadcastInDim S1x16384x4x32 ![0, 1, 2, 3] bcast_S1x16384x1x32_S1x16384x4x32_0_1_2_3 : (⟨S1x16384x1x32, .f32⟩ : BufTy).Contents (Elt F) → (⟨S1x16384x4x32, .f32⟩ : BufTy).Contents (Elt F)),
    binary main_v93 main_v102 main_v103 (mulf : (⟨S1x16384x4x32, .f32⟩ : BufTy).Contents (Elt F) → (⟨S1x16384x4x32, .f32⟩ : BufTy).Contents (Elt F) → (⟨S1x16384x4x32, .f32⟩ : BufTy).Contents (Elt F)),
    binary main_v101 main_v103 main_v104 (addf : (⟨S1x16384x4x32, .f32⟩ : BufTy).Contents (Elt F) → (⟨S1x16384x4x32, .f32⟩ : BufTy).Contents (Elt F) → (⟨S1x16384x4x32, .f32⟩ : BufTy).Contents (Elt F)),
    binary main_v99 main_v104 main_v105 (catK32 (F := F)),
    binary main_v91 main_v105 main_v106 (catK64 (F := F)) ]

/-- The operations of the values and the context heads. -/
abbrev opsHeads : List (HloOp τ sig (Elt F)) :=
  [ unary main_v3 main_v107 ((extractStridedSlice S1x16384x512 ![0, 0, 9184] · slices_S1x16384x9952_S1x16384x512_0_0_9184) : (⟨S1x16384x9952, .f32⟩ : BufTy).Contents (Elt F) → (⟨S1x16384x512, .f32⟩ : BufTy).Contents (Elt F)),
    reshape main_v107 main_v108 (rfl : (.f32 : EltTy) = .f32) shapeCasts_S1x16384x512_S1x16384x4x128,
    unary main_v1 main_v109 ((extractStridedSlice S1x256x2048 ![0, 0, 6624] · slices_S1x256x9952_S1x256x2048_0_0_6624) : (⟨S1x256x9952, .f32⟩ : BufTy).Contents (Elt F) → (⟨S1x256x2048, .f32⟩ : BufTy).Contents (Elt F)),
    reshape main_v109 main_v110 (rfl : (.f32 : EltTy) = .f32) shapeCasts_S1x256x2048_S1x256x16x128,
    unary main_v1 main_v111 ((extractStridedSlice S1x256x512 ![0, 0, 8672] · slices_S1x256x9952_S1x256x512_0_0_8672) : (⟨S1x256x9952, .f32⟩ : BufTy).Contents (Elt F) → (⟨S1x256x512, .f32⟩ : BufTy).Contents (Elt F)),
    reshape main_v111 main_v112 (rfl : (.f32 : EltTy) = .f32) shapeCasts_S1x256x512_S1x256x4x128,
    unary main_v1 main_v113 ((extractStridedSlice S1x256x512 ![0, 0, 9184] · slices_S1x256x9952_S1x256x512_0_0_9184) : (⟨S1x256x9952, .f32⟩ : BufTy).Contents (Elt F) → (⟨S1x256x512, .f32⟩ : BufTy).Contents (Elt F)),
    reshape main_v113 main_v114 (rfl : (.f32 : EltTy) = .f32) shapeCasts_S1x256x512_S1x256x4x128,
    reshape main_v71 main_v115 (rfl : (.f32 : EltTy) = .f32) shapeCasts_S1x16384x16x128_S1x128x128x4x4x128 ]

/-- The operations of the blocks of keys around each block. -/
abbrev opsPadK : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S1x16384x4x128, .f32⟩) main_v106) (TRef.of (T := ⟨S_, .f32⟩) main_call0_v0) (TRef.of (T := ⟨S1x16640x4x128, .f32⟩) main_v116) (fun x v => pad S1x16640x4x128 ![0, 128, 0, 0] ![0, 128, 0, 0] ![0, 0, 0, 0] x v pads_S1x16384x4x128_S1x16640x4x128_000_1281280_000_000 h_S_),
    reshape main_v116 main_v117 (rfl : (.f32 : EltTy) = .f32) shapeCasts_S1x16640x4x128_S1x130x128x4x128,
    unary main_v117 main_v118 ((extractStridedSlice S1x128x128x4x128 ![0, 0, 0, 0, 0] · slices_S1x130x128x4x128_S1x128x128x4x128_0_0_0_0_0) : (⟨S1x130x128x4x128, .f32⟩ : BufTy).Contents (Elt F) → (⟨S1x128x128x4x128, .f32⟩ : BufTy).Contents (Elt F)),
    unary main_v117 main_v119 ((extractStridedSlice S1x128x128x4x128 ![0, 1, 0, 0, 0] · slices_S1x130x128x4x128_S1x128x128x4x128_0_1_0_0_0) : (⟨S1x130x128x4x128, .f32⟩ : BufTy).Contents (Elt F) → (⟨S1x128x128x4x128, .f32⟩ : BufTy).Contents (Elt F)),
    unary main_v117 main_v120 ((extractStridedSlice S1x128x128x4x128 ![0, 2, 0, 0, 0] · slices_S1x130x128x4x128_S1x128x128x4x128_0_2_0_0_0) : (⟨S1x130x128x4x128, .f32⟩ : BufTy).Contents (Elt F) → (⟨S1x128x128x4x128, .f32⟩ : BufTy).Contents (Elt F)) ]

/-- The operations of the windows of keys. -/
abbrev opsWinK : List (HloOp τ sig (Elt F)) :=
  [ nary ![main_v118, main_v119, main_v120] main_v121 (fun u => catWin (F := F) (u 0) (u 1) (u 2)) ]

/-- The operations of the blocks of values around each block. -/
abbrev opsPadV : List (HloOp τ sig (Elt F)) :=
  [ nullary main_c_3 (constantI S_ 32 0#32),
    TRef.unary (TRef.of (T := ⟨S_, .i32⟩) main_c_3) (TRef.of (T := ⟨S_, .f32⟩) main_call1_v0) (sitofp .f32),
    TRef.binary (TRef.of (T := ⟨S1x16384x4x128, .f32⟩) main_v108) (TRef.of (T := ⟨S_, .f32⟩) main_call1_v0) (TRef.of (T := ⟨S1x16640x4x128, .f32⟩) main_v122) (fun x v => pad S1x16640x4x128 ![0, 128, 0, 0] ![0, 128, 0, 0] ![0, 0, 0, 0] x v pads_S1x16384x4x128_S1x16640x4x128_000_1281280_000_000 h_S_),
    reshape main_v122 main_v123 (rfl : (.f32 : EltTy) = .f32) shapeCasts_S1x16640x4x128_S1x130x128x4x128,
    unary main_v123 main_v124 ((extractStridedSlice S1x128x128x4x128 ![0, 0, 0, 0, 0] · slices_S1x130x128x4x128_S1x128x128x4x128_0_0_0_0_0) : (⟨S1x130x128x4x128, .f32⟩ : BufTy).Contents (Elt F) → (⟨S1x128x128x4x128, .f32⟩ : BufTy).Contents (Elt F)),
    unary main_v123 main_v125 ((extractStridedSlice S1x128x128x4x128 ![0, 1, 0, 0, 0] · slices_S1x130x128x4x128_S1x128x128x4x128_0_1_0_0_0) : (⟨S1x130x128x4x128, .f32⟩ : BufTy).Contents (Elt F) → (⟨S1x128x128x4x128, .f32⟩ : BufTy).Contents (Elt F)),
    unary main_v123 main_v126 ((extractStridedSlice S1x128x128x4x128 ![0, 2, 0, 0, 0] · slices_S1x130x128x4x128_S1x128x128x4x128_0_2_0_0_0) : (⟨S1x130x128x4x128, .f32⟩ : BufTy).Contents (Elt F) → (⟨S1x128x128x4x128, .f32⟩ : BufTy).Contents (Elt F)) ]

/-- The operations of the windows of values. -/
abbrev opsWinV : List (HloOp τ sig (Elt F)) :=
  [ nary ![main_v124, main_v125, main_v126] main_v127 (fun u => catWin (F := F) (u 0) (u 1) (u 2)) ]

/-- The operations of the local scores. -/
abbrev opsLoc : List (HloOp τ sig (Elt F)) :=
  [ binary main_v121 main_v115 main_v128 ((fun l r => Host.dotGeneral dot_S1x128x384x4x128_S1x128x128x4x4x128_S1x128x4x384x128x4_4_5_2_24_013_013 none l r) : (⟨S1x128x384x4x128, .f32⟩ : BufTy).Contents (Elt F) → (⟨S1x128x128x4x4x128, .f32⟩ : BufTy).Contents (Elt F) → (⟨S1x128x4x384x128x4, .f32⟩ : BufTy).Contents (Elt F)),
    unary main_v128 main_v129 ((transpose S1x128x4x4x128x384 [0, 1, 2, 5, 4, 3] · transposes_S1x128x4x384x128x4_S1x128x4x4x128x384_0_1_2_5_4_3) : (⟨S1x128x4x384x128x4, .f32⟩ : BufTy).Contents (Elt F) → (⟨S1x128x4x4x128x384, .f32⟩ : BufTy).Contents (Elt F)),
    nullary main_cst_4 (constant S_ .f32 0x3DB504F3#32),
    unary main_cst_4 main_v130 (broadcastInDim S1x128x4x4x128x384 ![] bcast_S_S1x128x4x4x128x384 : (⟨S_, .f32⟩ : BufTy).Contents (Elt F) → (⟨S1x128x4x4x128x384, .f32⟩ : BufTy).Contents (Elt F)),
    binary main_v129 main_v130 main_v131 (mulf : (⟨S1x128x4x4x128x384, .f32⟩ : BufTy).Contents (Elt F) → (⟨S1x128x4x4x128x384, .f32⟩ : BufTy).Contents (Elt F) → (⟨S1x128x4x4x128x384, .f32⟩ : BufTy).Contents (Elt F)) ]

/-- The operations of which keys a query sees. -/
abbrev opsMask : List (HloOp τ sig (Elt F)) :=
  [ nullary main_v132 (iotaInDim S128 32 0),
    unary main_v132 main_v133 (broadcastInDim S128x1 ![0] bcast_S128_S128x1_0 : (⟨S128, .i32⟩ : BufTy).Contents (Elt F) → (⟨S128x1, .i32⟩ : BufTy).Contents (Elt F)),
    nullary main_c_5 (constantI S_ 32 128#32),
    unary main_c_5 main_v134 (broadcastInDim S128x1 ![] bcast_S_S128x1 : (⟨S_, .i32⟩ : BufTy).Contents (Elt F) → (⟨S128x1, .i32⟩ : BufTy).Contents (Elt F)),
    binary main_v133 main_v134 main_v135 (muli : (⟨S128x1, .i32⟩ : BufTy).Contents (Elt F) → (⟨S128x1, .i32⟩ : BufTy).Contents (Elt F) → (⟨S128x1, .i32⟩ : BufTy).Contents (Elt F)),
    nullary main_v136 (iotaInDim S128 32 0),
    unary main_v136 main_v137 (broadcastInDim S1x128 ![1] bcast_S128_S1x128_1 : (⟨S128, .i32⟩ : BufTy).Contents (Elt F) → (⟨S1x128, .i32⟩ : BufTy).Contents (Elt F)),
    unary main_v135 main_v138 (broadcastInDim S128x128 ![0, 1] bcast_S128x1_S128x128_0_1 : (⟨S128x1, .i32⟩ : BufTy).Contents (Elt F) → (⟨S128x128, .i32⟩ : BufTy).Contents (Elt F)),
    unary main_v137 main_v139 (broadcastInDim S128x128 ![0, 1] bcast_S1x128_S128x128_0_1 : (⟨S1x128, .i32⟩ : BufTy).Contents (Elt F) → (⟨S128x128, .i32⟩ : BufTy).Contents (Elt F)),
    binary main_v138 main_v139 main_v140 (addi : (⟨S128x128, .i32⟩ : BufTy).Contents (Elt F) → (⟨S128x128, .i32⟩ : BufTy).Contents (Elt F) → (⟨S128x128, .i32⟩ : BufTy).Contents (Elt F)),
    nullary main_c_6 (constantI S_ 32 1#32),
    unary main_c_6 main_v141 (broadcastInDim S128x1 ![] bcast_S_S128x1 : (⟨S_, .i32⟩ : BufTy).Contents (Elt F) → (⟨S128x1, .i32⟩ : BufTy).Contents (Elt F)),
    binary main_v133 main_v141 main_v142 (subi : (⟨S128x1, .i32⟩ : BufTy).Contents (Elt F) → (⟨S128x1, .i32⟩ : BufTy).Contents (Elt F) → (⟨S128x1, .i32⟩ : BufTy).Contents (Elt F)),
    nullary main_c_7 (constantI S_ 32 128#32),
    unary main_c_7 main_v143 (broadcastInDim S128x1 ![] bcast_S_S128x1 : (⟨S_, .i32⟩ : BufTy).Contents (Elt F) → (⟨S128x1, .i32⟩ : BufTy).Contents (Elt F)),
    binary main_v142 main_v143 main_v144 (muli : (⟨S128x1, .i32⟩ : BufTy).Contents (Elt F) → (⟨S128x1, .i32⟩ : BufTy).Contents (Elt F) → (⟨S128x1, .i32⟩ : BufTy).Contents (Elt F)),
    nullary main_v145 (iotaInDim S384 32 0),
    unary main_v145 main_v146 (broadcastInDim S1x384 ![1] bcast_S384_S1x384_1 : (⟨S384, .i32⟩ : BufTy).Contents (Elt F) → (⟨S1x384, .i32⟩ : BufTy).Contents (Elt F)),
    unary main_v144 main_v147 (broadcastInDim S128x384 ![0, 1] bcast_S128x1_S128x384_0_1 : (⟨S128x1, .i32⟩ : BufTy).Contents (Elt F) → (⟨S128x384, .i32⟩ : BufTy).Contents (Elt F)),
    unary main_v146 main_v148 (broadcastInDim S128x384 ![0, 1] bcast_S1x384_S128x384_0_1 : (⟨S1x384, .i32⟩ : BufTy).Contents (Elt F) → (⟨S128x384, .i32⟩ : BufTy).Contents (Elt F)),
    binary main_v147 main_v148 main_v149 (addi : (⟨S128x384, .i32⟩ : BufTy).Contents (Elt F) → (⟨S128x384, .i32⟩ : BufTy).Contents (Elt F) → (⟨S128x384, .i32⟩ : BufTy).Contents (Elt F)),
    unary main_v140 main_v150 (broadcastInDim S128x128x1 ![0, 1] bcast_S128x128_S128x128x1_0_1 : (⟨S128x128, .i32⟩ : BufTy).Contents (Elt F) → (⟨S128x128x1, .i32⟩ : BufTy).Contents (Elt F)),
    unary main_v149 main_v151 (broadcastInDim S128x1x384 ![0, 2] bcast_S128x384_S128x1x384_0_2 : (⟨S128x384, .i32⟩ : BufTy).Contents (Elt F) → (⟨S128x1x384, .i32⟩ : BufTy).Contents (Elt F)),
    unary main_v150 main_v152 (broadcastInDim S128x128x384 ![0, 1, 2] bcast_S128x128x1_S128x128x384_0_1_2 : (⟨S128x128x1, .i32⟩ : BufTy).Contents (Elt F) → (⟨S128x128x384, .i32⟩ : BufTy).Contents (Elt F)),
    unary main_v151 main_v153 (broadcastInDim S128x128x384 ![0, 1, 2] bcast_S128x1x384_S128x128x384_0_1_2 : (⟨S128x1x384, .i32⟩ : BufTy).Contents (Elt F) → (⟨S128x128x384, .i32⟩ : BufTy).Contents (Elt F)),
    binary main_v152 main_v153 main_v154 (subi : (⟨S128x128x384, .i32⟩ : BufTy).Contents (Elt F) → (⟨S128x128x384, .i32⟩ : BufTy).Contents (Elt F) → (⟨S128x128x384, .i32⟩ : BufTy).Contents (Elt F)),
    unary main_v154 main_v155 (absi : (⟨S128x128x384, .i32⟩ : BufTy).Contents (Elt F) → (⟨S128x128x384, .i32⟩ : BufTy).Contents (Elt F)),
    nullary main_c_8 (constantI S_ 32 128#32),
    unary main_c_8 main_v156 (broadcastInDim S128x128x384 ![] bcast_S_S128x128x384 : (⟨S_, .i32⟩ : BufTy).Contents (Elt F) → (⟨S128x128x384, .i32⟩ : BufTy).Contents (Elt F)),
    binary main_v155 main_v156 main_v157 (cmpi .sle : (⟨S128x128x384, .i32⟩ : BufTy).Contents (Elt F) → (⟨S128x128x384, .i32⟩ : BufTy).Contents (Elt F) → (⟨S128x128x384, .i1⟩ : BufTy).Contents (Elt F)),
    unary main_v149 main_v158 (broadcastInDim S128x1x384 ![0, 2] bcast_S128x384_S128x1x384_0_2 : (⟨S128x384, .i32⟩ : BufTy).Contents (Elt F) → (⟨S128x1x384, .i32⟩ : BufTy).Contents (Elt F)),
    nullary main_c_9 (constantI S_ 32 0#32),
    unary main_c_9 main_v159 (broadcastInDim S128x1x384 ![] bcast_S_S128x1x384 : (⟨S_, .i32⟩ : BufTy).Contents (Elt F) → (⟨S128x1x384, .i32⟩ : BufTy).Contents (Elt F)),
    binary main_v158 main_v159 main_v160 (cmpi .sge : (⟨S128x1x384, .i32⟩ : BufTy).Contents (Elt F) → (⟨S128x1x384, .i32⟩ : BufTy).Contents (Elt F) → (⟨S128x1x384, .i1⟩ : BufTy).Contents (Elt F)),
    unary main_v160 main_v161 (broadcastInDim S128x128x384 ![0, 1, 2] bcast_S128x1x384_S128x128x384_0_1_2 : (⟨S128x1x384, .i1⟩ : BufTy).Contents (Elt F) → (⟨S128x128x384, .i1⟩ : BufTy).Contents (Elt F)),
    binary main_v157 main_v161 main_v162 (andi : (⟨S128x128x384, .i1⟩ : BufTy).Contents (Elt F) → (⟨S128x128x384, .i1⟩ : BufTy).Contents (Elt F) → (⟨S128x128x384, .i1⟩ : BufTy).Contents (Elt F)),
    unary main_v149 main_v163 (broadcastInDim S128x1x384 ![0, 2] bcast_S128x384_S128x1x384_0_2 : (⟨S128x384, .i32⟩ : BufTy).Contents (Elt F) → (⟨S128x1x384, .i32⟩ : BufTy).Contents (Elt F)),
    nullary main_c_10 (constantI S_ 32 16384#32),
    unary main_c_10 main_v164 (broadcastInDim S128x1x384 ![] bcast_S_S128x1x384 : (⟨S_, .i32⟩ : BufTy).Contents (Elt F) → (⟨S128x1x384, .i32⟩ : BufTy).Contents (Elt F)),
    binary main_v163 main_v164 main_v165 (cmpi .slt : (⟨S128x1x384, .i32⟩ : BufTy).Contents (Elt F) → (⟨S128x1x384, .i32⟩ : BufTy).Contents (Elt F) → (⟨S128x1x384, .i1⟩ : BufTy).Contents (Elt F)),
    unary main_v165 main_v166 (broadcastInDim S128x128x384 ![0, 1, 2] bcast_S128x1x384_S128x128x384_0_1_2 : (⟨S128x1x384, .i1⟩ : BufTy).Contents (Elt F) → (⟨S128x128x384, .i1⟩ : BufTy).Contents (Elt F)) ]

/-- The operations of the masked scores, the context scores and the sink. -/
abbrev opsScore : List (HloOp τ sig (Elt F)) :=
  [ binary main_v162 main_v166 main_v167 (andi : (⟨S128x128x384, .i1⟩ : BufTy).Contents (Elt F) → (⟨S128x128x384, .i1⟩ : BufTy).Contents (Elt F) → (⟨S128x128x384, .i1⟩ : BufTy).Contents (Elt F)),
    unary main_v167 main_v168 (broadcastInDim S1x128x1x1x128x384 ![1, 4, 5] bcast_S128x128x384_S1x128x1x1x128x384_1_4_5 : (⟨S128x128x384, .i1⟩ : BufTy).Contents (Elt F) → (⟨S1x128x1x1x128x384, .i1⟩ : BufTy).Contents (Elt F)),
    nullary main_cst_11 (constant S_ .f32 0xFF800000#32),
    TRef.unary (TRef.of (T := ⟨S_, .f32⟩) main_cst_11) (TRef.of (T := ⟨S_, .f32⟩) main_call2_v0) id,
    TRef.unary (TRef.of (T := ⟨S1x128x1x1x128x384, .i1⟩) main_v168) (TRef.of (T := ⟨S1x128x4x4x128x384, .i1⟩) main_call2_v1) (broadcastInDim S1x128x4x4x128x384 ![0, 1, 2, 3, 4, 5] bcast_S1x128x1x1x128x384_S1x128x4x4x128x384_0_1_2_3_4_5),
    TRef.unary (TRef.of (T := ⟨S_, .f32⟩) main_call2_v0) (TRef.of (T := ⟨S1x128x4x4x128x384, .f32⟩) main_call2_v2) (broadcastInDim S1x128x4x4x128x384 ![] bcast_S_S1x128x4x4x128x384),
    TRef.ternary (TRef.of (T := ⟨S1x128x4x4x128x384, .i1⟩) main_call2_v1) (TRef.of (T := ⟨S1x128x4x4x128x384, .f32⟩) main_v131) (TRef.of (T := ⟨S1x128x4x4x128x384, .f32⟩) main_call2_v2) (TRef.of (T := ⟨S1x128x4x4x128x384, .f32⟩) main_v169) select,
    binary main_v112 main_v115 main_v170 ((fun l r => Host.dotGeneral dot_S1x256x4x128_S1x128x128x4x4x128_S1x4x256x128x128x4_3_5_1_124_02_03 none l r) : (⟨S1x256x4x128, .f32⟩ : BufTy).Contents (Elt F) → (⟨S1x128x128x4x4x128, .f32⟩ : BufTy).Contents (Elt F) → (⟨S1x4x256x128x128x4, .f32⟩ : BufTy).Contents (Elt F)),
    unary main_v170 main_v171 ((transpose S1x128x4x4x128x256 [0, 3, 1, 5, 4, 2] · transposes_S1x4x256x128x128x4_S1x128x4x4x128x256_0_3_1_5_4_2) : (⟨S1x4x256x128x128x4, .f32⟩ : BufTy).Contents (Elt F) → (⟨S1x128x4x4x128x256, .f32⟩ : BufTy).Contents (Elt F)),
    nullary main_cst_12 (constant S_ .f32 0x3DB504F3#32),
    unary main_cst_12 main_v172 (broadcastInDim S1x128x4x4x128x256 ![] bcast_S_S1x128x4x4x128x256 : (⟨S_, .f32⟩ : BufTy).Contents (Elt F) → (⟨S1x128x4x4x128x256, .f32⟩ : BufTy).Contents (Elt F)),
    binary main_v171 main_v172 main_v173 (mulf : (⟨S1x128x4x4x128x256, .f32⟩ : BufTy).Contents (Elt F) → (⟨S1x128x4x4x128x256, .f32⟩ : BufTy).Contents (Elt F) → (⟨S1x128x4x4x128x256, .f32⟩ : BufTy).Contents (Elt F)),
    reshape main_arg1 main_v174 (rfl : (.f32 : EltTy) = .f32) shapeCasts_S16_S1x1x4x4x1x1,
    unary main_v174 main_v175 (broadcastInDim S1x128x4x4x128x1 ![0, 1, 2, 3, 4, 5] bcast_S1x1x4x4x1x1_S1x128x4x4x128x1_0_1_2_3_4_5 : (⟨S1x1x4x4x1x1, .f32⟩ : BufTy).Contents (Elt F) → (⟨S1x128x4x4x128x1, .f32⟩ : BufTy).Contents (Elt F)) ]

/-- The operations of the scores of a latent row, one after the other. -/
abbrev opsCat : List (HloOp τ sig (Elt F)) :=
  [ nary ![main_v169, main_v173, main_v175] main_v176 (fun u => catScores (F := F) (u 0) (u 1) (u 2)) ]

/-- The operations of the greatest score of a latent row. -/
abbrev opsTop : List (HloOp τ sig (Elt F)) :=
  [ nullary main_cst_13 (constant S_ .f32 0xFF800000#32),
    binary main_v176 main_cst_13 main_v177 (maxRow (F := F) : (⟨S1x128x4x4x128x641, .f32⟩ : BufTy).Contents (Elt F) → (⟨S_, .f32⟩ : BufTy).Contents (Elt F) → (⟨S1x128x4x4x128, .f32⟩ : BufTy).Contents (Elt F)) ]

/-- The operations of the shifted scores of a latent row, exponentiated. -/
abbrev opsMax : List (HloOp τ sig (Elt F)) :=
  [ nullary main_cst_14 (constant S_ .f32 0xFF800000#32),
    unary main_cst_14 main_v178 (broadcastInDim S1x128x4x4x128 ![] bcast_S_S1x128x4x4x128 : (⟨S_, .f32⟩ : BufTy).Contents (Elt F) → (⟨S1x128x4x4x128, .f32⟩ : BufTy).Contents (Elt F)),
    binary main_v178 main_v177 main_v179 (maximumf : (⟨S1x128x4x4x128, .f32⟩ : BufTy).Contents (Elt F) → (⟨S1x128x4x4x128, .f32⟩ : BufTy).Contents (Elt F) → (⟨S1x128x4x4x128, .f32⟩ : BufTy).Contents (Elt F)),
    unary main_v179 main_v180 (broadcastInDim S1x128x4x4x128x1 ![0, 1, 2, 3, 4] bcast_S1x128x4x4x128_S1x128x4x4x128x1_0_1_2_3_4 : (⟨S1x128x4x4x128, .f32⟩ : BufTy).Contents (Elt F) → (⟨S1x128x4x4x128x1, .f32⟩ : BufTy).Contents (Elt F)),
    unary main_v180 main_v181 (broadcastInDim S1x128x4x4x128x641 ![0, 1, 2, 3, 4, 5] bcast_S1x128x4x4x128x1_S1x128x4x4x128x641_0_1_2_3_4_5 : (⟨S1x128x4x4x128x1, .f32⟩ : BufTy).Contents (Elt F) → (⟨S1x128x4x4x128x641, .f32⟩ : BufTy).Contents (Elt F)),
    binary main_v176 main_v181 main_v182 (subf : (⟨S1x128x4x4x128x641, .f32⟩ : BufTy).Contents (Elt F) → (⟨S1x128x4x4x128x641, .f32⟩ : BufTy).Contents (Elt F) → (⟨S1x128x4x4x128x641, .f32⟩ : BufTy).Contents (Elt F)),
    unary main_v182 main_v183 (Host.exp : (⟨S1x128x4x4x128x641, .f32⟩ : BufTy).Contents (Elt F) → (⟨S1x128x4x4x128x641, .f32⟩ : BufTy).Contents (Elt F)) ]

/-- The operations of the softmax of a latent row. -/
abbrev opsSoft : List (HloOp τ sig (Elt F)) :=
  [ nullary main_cst_15 (constant S_ .f32 0x00000000#32),
    binary main_v183 main_cst_15 main_v184 (sumRow (F := F) : (⟨S1x128x4x4x128x641, .f32⟩ : BufTy).Contents (Elt F) → (⟨S_, .f32⟩ : BufTy).Contents (Elt F) → (⟨S1x128x4x4x128, .f32⟩ : BufTy).Contents (Elt F)),
    unary main_v184 main_v185 (broadcastInDim S1x128x4x4x128x1 ![0, 1, 2, 3, 4] bcast_S1x128x4x4x128_S1x128x4x4x128x1_0_1_2_3_4 : (⟨S1x128x4x4x128, .f32⟩ : BufTy).Contents (Elt F) → (⟨S1x128x4x4x128x1, .f32⟩ : BufTy).Contents (Elt F)),
    unary main_v185 main_v186 (broadcastInDim S1x128x4x4x128x641 ![0, 1, 2, 3, 4, 5] bcast_S1x128x4x4x128x1_S1x128x4x4x128x641_0_1_2_3_4_5 : (⟨S1x128x4x4x128x1, .f32⟩ : BufTy).Contents (Elt F) → (⟨S1x128x4x4x128x641, .f32⟩ : BufTy).Contents (Elt F)),
    binary main_v183 main_v186 main_v187 (Host.divf : (⟨S1x128x4x4x128x641, .f32⟩ : BufTy).Contents (Elt F) → (⟨S1x128x4x4x128x641, .f32⟩ : BufTy).Contents (Elt F) → (⟨S1x128x4x4x128x641, .f32⟩ : BufTy).Contents (Elt F)) ]

/-- The operations of the weighted values of a latent row. -/
abbrev opsOut : List (HloOp τ sig (Elt F)) :=
  [ unary main_v187 main_v188 ((extractStridedSlice S1x128x4x4x128x384 ![0, 0, 0, 0, 0, 0] · slices_S1x128x4x4x128x641_S1x128x4x4x128x384_0_0_0_0_0_0) : (⟨S1x128x4x4x128x641, .f32⟩ : BufTy).Contents (Elt F) → (⟨S1x128x4x4x128x384, .f32⟩ : BufTy).Contents (Elt F)),
    unary main_v187 main_v189 ((extractStridedSlice S1x128x4x4x128x256 ![0, 0, 0, 0, 0, 384] · slices_S1x128x4x4x128x641_S1x128x4x4x128x256_0_0_0_0_0_384) : (⟨S1x128x4x4x128x641, .f32⟩ : BufTy).Contents (Elt F) → (⟨S1x128x4x4x128x256, .f32⟩ : BufTy).Contents (Elt F)),
    binary main_v127 main_v188 main_v190 ((fun l r => Host.dotGeneral dot_S1x128x384x4x128_S1x128x4x4x128x384_S1x128x4x128x4x128_2_5_4_34_013_012 none l r) : (⟨S1x128x384x4x128, .f32⟩ : BufTy).Contents (Elt F) → (⟨S1x128x4x4x128x384, .f32⟩ : BufTy).Contents (Elt F) → (⟨S1x128x4x128x4x128, .f32⟩ : BufTy).Contents (Elt F)),
    unary main_v190 main_v191 ((transpose S1x128x128x4x4x128 [0, 1, 5, 2, 4, 3] · transposes_S1x128x4x128x4x128_S1x128x128x4x4x128_0_1_5_2_4_3) : (⟨S1x128x4x128x4x128, .f32⟩ : BufTy).Contents (Elt F) → (⟨S1x128x128x4x4x128, .f32⟩ : BufTy).Contents (Elt F)),
    binary main_v114 main_v189 main_v192 ((fun l r => Host.dotGeneral dot_S1x256x4x128_S1x128x4x4x128x256_S1x4x128x128x4x128_1_5_3_134_02_02 none l r) : (⟨S1x256x4x128, .f32⟩ : BufTy).Contents (Elt F) → (⟨S1x128x4x4x128x256, .f32⟩ : BufTy).Contents (Elt F) → (⟨S1x4x128x128x4x128, .f32⟩ : BufTy).Contents (Elt F)),
    unary main_v192 main_v193 ((transpose S1x128x128x4x4x128 [0, 3, 5, 1, 4, 2] · transposes_S1x4x128x128x4x128_S1x128x128x4x4x128_0_3_5_1_4_2) : (⟨S1x4x128x128x4x128, .f32⟩ : BufTy).Contents (Elt F) → (⟨S1x128x128x4x4x128, .f32⟩ : BufTy).Contents (Elt F)),
    binary main_v191 main_v193 main_v194 (addf : (⟨S1x128x128x4x4x128, .f32⟩ : BufTy).Contents (Elt F) → (⟨S1x128x128x4x4x128, .f32⟩ : BufTy).Contents (Elt F) → (⟨S1x128x128x4x4x128, .f32⟩ : BufTy).Contents (Elt F)),
    reshape main_v194 main_v195 (rfl : (.f32 : EltTy) = .f32) shapeCasts_S1x128x128x4x4x128_S1x16384x2048 ]

/-- The operations of the scores of a context row. -/
abbrev opsCtxScore : List (HloOp τ sig (Elt F)) :=
  [ reshape main_v110 main_v196 (rfl : (.f32 : EltTy) = .f32) shapeCasts_S1x256x16x128_S1x256x4x4x128,
    binary main_v112 main_v196 main_v197 ((fun l r => Host.dotGeneral dot_S1x256x4x128_S1x256x4x4x128_S1x4x256x256x4_3_4_1_13_02_02 none l r) : (⟨S1x256x4x128, .f32⟩ : BufTy).Contents (Elt F) → (⟨S1x256x4x4x128, .f32⟩ : BufTy).Contents (Elt F) → (⟨S1x4x256x256x4, .f32⟩ : BufTy).Contents (Elt F)),
    unary main_v197 main_v198 ((transpose S1x4x4x256x256 [0, 1, 4, 3, 2] · transposes_S1x4x256x256x4_S1x4x4x256x256_0_1_4_3_2) : (⟨S1x4x256x256x4, .f32⟩ : BufTy).Contents (Elt F) → (⟨S1x4x4x256x256, .f32⟩ : BufTy).Contents (Elt F)),
    nullary main_cst_16 (constant S_ .f32 0x3DB504F3#32),
    unary main_cst_16 main_v199 (broadcastInDim S1x4x4x256x256 ![] bcast_S_S1x4x4x256x256 : (⟨S_, .f32⟩ : BufTy).Contents (Elt F) → (⟨S1x4x4x256x256, .f32⟩ : BufTy).Contents (Elt F)),
    binary main_v198 main_v199 main_v200 (mulf : (⟨S1x4x4x256x256, .f32⟩ : BufTy).Contents (Elt F) → (⟨S1x4x4x256x256, .f32⟩ : BufTy).Contents (Elt F) → (⟨S1x4x4x256x256, .f32⟩ : BufTy).Contents (Elt F)),
    reshape main_arg1 main_v201 (rfl : (.f32 : EltTy) = .f32) shapeCasts_S16_S1x4x4x1x1,
    unary main_v201 main_v202 (broadcastInDim S1x4x4x256x1 ![0, 1, 2, 3, 4] bcast_S1x4x4x1x1_S1x4x4x256x1_0_1_2_3_4 : (⟨S1x4x4x1x1, .f32⟩ : BufTy).Contents (Elt F) → (⟨S1x4x4x256x1, .f32⟩ : BufTy).Contents (Elt F)),
    binary main_v200 main_v202 main_v203 (catCtx (F := F)) ]

/-- The operations of the shifted scores of a context row, exponentiated. -/
abbrev opsCtxMax : List (HloOp τ sig (Elt F)) :=
  [ nullary main_cst_17 (constant S_ .f32 0xFF800000#32),
    binary main_v203 main_cst_17 main_v204 (maxCtx (F := F) : (⟨S1x4x4x256x257, .f32⟩ : BufTy).Contents (Elt F) → (⟨S_, .f32⟩ : BufTy).Contents (Elt F) → (⟨S1x4x4x256, .f32⟩ : BufTy).Contents (Elt F)),
    nullary main_cst_18 (constant S_ .f32 0xFF800000#32),
    unary main_cst_18 main_v205 (broadcastInDim S1x4x4x256 ![] bcast_S_S1x4x4x256 : (⟨S_, .f32⟩ : BufTy).Contents (Elt F) → (⟨S1x4x4x256, .f32⟩ : BufTy).Contents (Elt F)),
    binary main_v205 main_v204 main_v206 (maximumf : (⟨S1x4x4x256, .f32⟩ : BufTy).Contents (Elt F) → (⟨S1x4x4x256, .f32⟩ : BufTy).Contents (Elt F) → (⟨S1x4x4x256, .f32⟩ : BufTy).Contents (Elt F)),
    unary main_v206 main_v207 (broadcastInDim S1x4x4x256x1 ![0, 1, 2, 3] bcast_S1x4x4x256_S1x4x4x256x1_0_1_2_3 : (⟨S1x4x4x256, .f32⟩ : BufTy).Contents (Elt F) → (⟨S1x4x4x256x1, .f32⟩ : BufTy).Contents (Elt F)),
    unary main_v207 main_v208 (broadcastInDim S1x4x4x256x257 ![0, 1, 2, 3, 4] bcast_S1x4x4x256x1_S1x4x4x256x257_0_1_2_3_4 : (⟨S1x4x4x256x1, .f32⟩ : BufTy).Contents (Elt F) → (⟨S1x4x4x256x257, .f32⟩ : BufTy).Contents (Elt F)),
    binary main_v203 main_v208 main_v209 (subf : (⟨S1x4x4x256x257, .f32⟩ : BufTy).Contents (Elt F) → (⟨S1x4x4x256x257, .f32⟩ : BufTy).Contents (Elt F) → (⟨S1x4x4x256x257, .f32⟩ : BufTy).Contents (Elt F)),
    unary main_v209 main_v210 (Host.exp : (⟨S1x4x4x256x257, .f32⟩ : BufTy).Contents (Elt F) → (⟨S1x4x4x256x257, .f32⟩ : BufTy).Contents (Elt F)) ]

/-- The operations of the softmax of a context row. -/
abbrev opsCtxSoft : List (HloOp τ sig (Elt F)) :=
  [ nullary main_cst_19 (constant S_ .f32 0x00000000#32),
    binary main_v210 main_cst_19 main_v211 (sumCtx (F := F) : (⟨S1x4x4x256x257, .f32⟩ : BufTy).Contents (Elt F) → (⟨S_, .f32⟩ : BufTy).Contents (Elt F) → (⟨S1x4x4x256, .f32⟩ : BufTy).Contents (Elt F)),
    unary main_v211 main_v212 (broadcastInDim S1x4x4x256x1 ![0, 1, 2, 3] bcast_S1x4x4x256_S1x4x4x256x1_0_1_2_3 : (⟨S1x4x4x256, .f32⟩ : BufTy).Contents (Elt F) → (⟨S1x4x4x256x1, .f32⟩ : BufTy).Contents (Elt F)),
    unary main_v212 main_v213 (broadcastInDim S1x4x4x256x257 ![0, 1, 2, 3, 4] bcast_S1x4x4x256x1_S1x4x4x256x257_0_1_2_3_4 : (⟨S1x4x4x256x1, .f32⟩ : BufTy).Contents (Elt F) → (⟨S1x4x4x256x257, .f32⟩ : BufTy).Contents (Elt F)),
    binary main_v210 main_v213 main_v214 (Host.divf : (⟨S1x4x4x256x257, .f32⟩ : BufTy).Contents (Elt F) → (⟨S1x4x4x256x257, .f32⟩ : BufTy).Contents (Elt F) → (⟨S1x4x4x256x257, .f32⟩ : BufTy).Contents (Elt F)) ]

/-- The operations of the attention of a context row. -/
abbrev opsCtx : List (HloOp τ sig (Elt F)) :=
  [ unary main_v214 main_v215 ((extractStridedSlice S1x4x4x256x256 ![0, 0, 0, 0, 0] · slices_S1x4x4x256x257_S1x4x4x256x256_0_0_0_0_0) : (⟨S1x4x4x256x257, .f32⟩ : BufTy).Contents (Elt F) → (⟨S1x4x4x256x256, .f32⟩ : BufTy).Contents (Elt F)),
    binary main_v114 main_v215 main_v216 ((fun l r => Host.dotGeneral dot_S1x256x4x128_S1x4x4x256x256_S1x4x128x4x256_1_4_3_23_02_01 none l r) : (⟨S1x256x4x128, .f32⟩ : BufTy).Contents (Elt F) → (⟨S1x4x4x256x256, .f32⟩ : BufTy).Contents (Elt F) → (⟨S1x4x128x4x256, .f32⟩ : BufTy).Contents (Elt F)),
    unary main_v216 main_v217 ((transpose S1x256x4x4x128 [0, 4, 1, 3, 2] · transposes_S1x4x128x4x256_S1x256x4x4x128_0_4_1_3_2) : (⟨S1x4x128x4x256, .f32⟩ : BufTy).Contents (Elt F) → (⟨S1x256x4x4x128, .f32⟩ : BufTy).Contents (Elt F)) ]

/-- The operations of the rows put together. -/
abbrev opsEnd : List (HloOp τ sig (Elt F)) :=
  [ reshape main_v217 main_v218 (rfl : (.f32 : EltTy) = .f32) shapeCasts_S1x256x4x4x128_S1x256x2048,
    reshape main_v218 main_v219 (rfl : (.f32 : EltTy) = .f32) shapeCasts_S1x256x2048_S256x2048,
    reshape main_v195 main_v220 (rfl : (.f32 : EltTy) = .f32) shapeCasts_S1x16384x2048_S16384x2048,
    binary main_v219 main_v220 main_v221 (catRows (F := F)),
    unary main_v221 main_v222 ((truncf .bf16 · bitsLt_bf16_f32) : (⟨S16640x2048, .f32⟩ : BufTy).Contents (Elt F) → (⟨S16640x2048, .bf16⟩ : BufTy).Contents (Elt F)) ]

/-- The operations of the printed part 0. -/
def part0 : List (HloOp τ sig (Elt F)) :=
  opsAngle ++ opsRopeQ0

/-- The operations of the printed part 1. -/
def part1 : List (HloOp τ sig (Elt F)) :=
  opsRopeQ1 ++ opsRopeK ++ opsHeads

/-- The operations of the printed part 2. -/
def part2 : List (HloOp τ sig (Elt F)) :=
  opsPadK ++ opsWinK ++ opsPadV ++ opsWinV ++ opsLoc ++ opsMask

/-- The operations of the printed part 3. -/
def part3 : List (HloOp τ sig (Elt F)) :=
  opsScore ++ opsCat ++ opsTop ++ opsMax ++ opsSoft ++ opsOut ++ opsCtxScore ++ opsCtxMax ++ opsCtxSoft ++ opsCtx

/-- The operations of the printed part 4. -/
def part4 : List (HloOp τ sig (Elt F)) :=
  opsEnd

/-- All the operations. -/
def ops : List (HloOp τ sig (Elt F)) :=
  part0 ++ part1 ++ part2 ++ part3 ++ part4

set_option maxHeartbeats 8000000 in
theorem part0_eq (c : Dev nD) : main_part0 (F := F) c = seq part0 := rfl

set_option maxHeartbeats 8000000 in
theorem part1_eq (c : Dev nD) : main_part1 (F := F) c = seq part1 := rfl

set_option maxHeartbeats 8000000 in
theorem part2_eq (c : Dev nD) : main_part2 (F := F) c = seq part2 := rfl

set_option maxHeartbeats 8000000 in
theorem part3_eq (c : Dev nD) : main_part3 (F := F) c = seq part3 := rfl

set_option maxHeartbeats 8000000 in
theorem part4_eq (c : Dev nD) : main_part4 (F := F) c = seq part4 := rfl

theorem main_eq (c : Dev nD) : main (F := F) c = seq ops := by
  simp only [ops, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation that touches plain buffers alone and needs no fresh one. -/
abbrev Plain (op : HloOp τ sig (Elt F)) : Prop := op.bufs ⊆ tcRefs τ sig ∧ op.fresh = ∅

theorem opsAngle_writes : (opsAngle (F := F)).Forall fun op => op.writes ⊆ (([main_v0, main_v1, main_v2, main_v3, main_v4, main_v5, main_v6, main_v7, main_v8, main_v9, main_v10, main_v11, main_v12, main_v13, main_cst, main_v14, main_v15, main_cst_0, main_v16, main_v17, main_v18, main_cst_1, main_v19, main_v20, main_cst_2, main_v21, main_v22, main_v23, main_v24, main_v25, main_v26, main_v27, main_v28, main_v29, main_v30, main_v31, main_v32, main_v33, main_v34, main_v35, main_v36] : List (Ref sig .tc)).map (Proc.devRef (τ := τ) .tc)).toFinset :=
  forall_writes_sub_of_map rfl

theorem opsRopeQ0_writes : (opsRopeQ0 (F := F)).Forall fun op => op.writes ⊆ (([main_v37, main_v38, main_v39, main_v40, main_v41, main_v42, main_v43, main_v44, main_v45, main_v46, main_v47, main_v48, main_v49, main_v50, main_v51, main_v52, main_v53, main_v54, main_v55] : List (Ref sig .tc)).map (Proc.devRef (τ := τ) .tc)).toFinset :=
  forall_writes_sub_of_map rfl

theorem opsRopeQ1_writes : (opsRopeQ1 (F := F)).Forall fun op => op.writes ⊆ (([main_v56, main_v57, main_v58, main_v59, main_v60, main_v61, main_v62, main_v63, main_v64, main_v65, main_v66, main_v67, main_v68, main_v69, main_v70, main_v71] : List (Ref sig .tc)).map (Proc.devRef (τ := τ) .tc)).toFinset :=
  forall_writes_sub_of_map rfl

theorem opsRopeK_writes : (opsRopeK (F := F)).Forall fun op => op.writes ⊆ (([main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106] : List (Ref sig .tc)).map (Proc.devRef (τ := τ) .tc)).toFinset :=
  forall_writes_sub_of_map rfl

theorem opsHeads_writes : (opsHeads (F := F)).Forall fun op => op.writes ⊆ (([main_v107, main_v108, main_v109, main_v110, main_v111, main_v112, main_v113, main_v114, main_v115] : List (Ref sig .tc)).map (Proc.devRef (τ := τ) .tc)).toFinset :=
  forall_writes_sub_of_map rfl

theorem opsPadK_writes : (opsPadK (F := F)).Forall fun op => op.writes ⊆ (([main_c, main_call0_v0, main_v116, main_v117, main_v118, main_v119, main_v120] : List (Ref sig .tc)).map (Proc.devRef (τ := τ) .tc)).toFinset :=
  forall_writes_sub_of_map rfl

theorem opsWinK_writes : (opsWinK (F := F)).Forall fun op => op.writes ⊆ (([main_v121] : List (Ref sig .tc)).map (Proc.devRef (τ := τ) .tc)).toFinset :=
  forall_writes_sub_of_map rfl

theorem opsPadV_writes : (opsPadV (F := F)).Forall fun op => op.writes ⊆ (([main_c_3, main_call1_v0, main_v122, main_v123, main_v124, main_v125, main_v126] : List (Ref sig .tc)).map (Proc.devRef (τ := τ) .tc)).toFinset :=
  forall_writes_sub_of_map rfl

theorem opsWinV_writes : (opsWinV (F := F)).Forall fun op => op.writes ⊆ (([main_v127] : List (Ref sig .tc)).map (Proc.devRef (τ := τ) .tc)).toFinset :=
  forall_writes_sub_of_map rfl

theorem opsLoc_writes : (opsLoc (F := F)).Forall fun op => op.writes ⊆ (([main_v128, main_v129, main_cst_4, main_v130, main_v131] : List (Ref sig .tc)).map (Proc.devRef (τ := τ) .tc)).toFinset :=
  forall_writes_sub_of_map rfl

theorem opsMask_writes : (opsMask (F := F)).Forall fun op => op.writes ⊆ (([main_v132, main_v133, main_c_5, main_v134, main_v135, main_v136, main_v137, main_v138, main_v139, main_v140, main_c_6, main_v141, main_v142, main_c_7, main_v143, main_v144, main_v145, main_v146, main_v147, main_v148, main_v149, main_v150, main_v151, main_v152, main_v153, main_v154, main_v155, main_c_8, main_v156, main_v157, main_v158, main_c_9, main_v159, main_v160, main_v161, main_v162, main_v163, main_c_10, main_v164, main_v165, main_v166] : List (Ref sig .tc)).map (Proc.devRef (τ := τ) .tc)).toFinset :=
  forall_writes_sub_of_map rfl

theorem opsScore_writes : (opsScore (F := F)).Forall fun op => op.writes ⊆ (([main_v167, main_v168, main_cst_11, main_call2_v0, main_call2_v1, main_call2_v2, main_v169, main_v170, main_v171, main_cst_12, main_v172, main_v173, main_v174, main_v175] : List (Ref sig .tc)).map (Proc.devRef (τ := τ) .tc)).toFinset :=
  forall_writes_sub_of_map rfl

theorem opsCat_writes : (opsCat (F := F)).Forall fun op => op.writes ⊆ (([main_v176] : List (Ref sig .tc)).map (Proc.devRef (τ := τ) .tc)).toFinset :=
  forall_writes_sub_of_map rfl

theorem opsTop_writes : (opsTop (F := F)).Forall fun op => op.writes ⊆ (([main_cst_13, main_v177] : List (Ref sig .tc)).map (Proc.devRef (τ := τ) .tc)).toFinset :=
  forall_writes_sub_of_map rfl

theorem opsMax_writes : (opsMax (F := F)).Forall fun op => op.writes ⊆ (([main_cst_14, main_v178, main_v179, main_v180, main_v181, main_v182, main_v183] : List (Ref sig .tc)).map (Proc.devRef (τ := τ) .tc)).toFinset :=
  forall_writes_sub_of_map rfl

theorem opsSoft_writes : (opsSoft (F := F)).Forall fun op => op.writes ⊆ (([main_cst_15, main_v184, main_v185, main_v186, main_v187] : List (Ref sig .tc)).map (Proc.devRef (τ := τ) .tc)).toFinset :=
  forall_writes_sub_of_map rfl

theorem opsOut_writes : (opsOut (F := F)).Forall fun op => op.writes ⊆ (([main_v188, main_v189, main_v190, main_v191, main_v192, main_v193, main_v194, main_v195] : List (Ref sig .tc)).map (Proc.devRef (τ := τ) .tc)).toFinset :=
  forall_writes_sub_of_map rfl

theorem opsCtxScore_writes : (opsCtxScore (F := F)).Forall fun op => op.writes ⊆ (([main_v196, main_v197, main_v198, main_cst_16, main_v199, main_v200, main_v201, main_v202, main_v203] : List (Ref sig .tc)).map (Proc.devRef (τ := τ) .tc)).toFinset :=
  forall_writes_sub_of_map rfl

theorem opsCtxMax_writes : (opsCtxMax (F := F)).Forall fun op => op.writes ⊆ (([main_cst_17, main_v204, main_cst_18, main_v205, main_v206, main_v207, main_v208, main_v209, main_v210] : List (Ref sig .tc)).map (Proc.devRef (τ := τ) .tc)).toFinset :=
  forall_writes_sub_of_map rfl

theorem opsCtxSoft_writes : (opsCtxSoft (F := F)).Forall fun op => op.writes ⊆ (([main_cst_19, main_v211, main_v212, main_v213, main_v214] : List (Ref sig .tc)).map (Proc.devRef (τ := τ) .tc)).toFinset :=
  forall_writes_sub_of_map rfl

theorem opsCtx_writes : (opsCtx (F := F)).Forall fun op => op.writes ⊆ (([main_v215, main_v216, main_v217] : List (Ref sig .tc)).map (Proc.devRef (τ := τ) .tc)).toFinset :=
  forall_writes_sub_of_map rfl

theorem opsEnd_writes : (opsEnd (F := F)).Forall fun op => op.writes ⊆ (([main_v218, main_v219, main_v220, main_v221, main_v222] : List (Ref sig .tc)).map (Proc.devRef (τ := τ) .tc)).toFinset :=
  forall_writes_sub_of_map rfl

theorem opsAngle_sub : (opsAngle (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsAngle_plain : ∀ op ∈ opsAngle (F := F), Plain op := fun op h =>
  ⟨List.forall_iff_forall_mem.mp opsAngle_sub op h, List.forall_iff_forall_mem.mp (forall_fresh_of_map (ops := opsAngle) rfl) op h⟩

theorem opsRopeQ0_sub : (opsRopeQ0 (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsRopeQ0_plain : ∀ op ∈ opsRopeQ0 (F := F), Plain op := fun op h =>
  ⟨List.forall_iff_forall_mem.mp opsRopeQ0_sub op h, List.forall_iff_forall_mem.mp (forall_fresh_of_map (ops := opsRopeQ0) rfl) op h⟩

theorem opsRopeQ1_sub : (opsRopeQ1 (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsRopeQ1_plain : ∀ op ∈ opsRopeQ1 (F := F), Plain op := fun op h =>
  ⟨List.forall_iff_forall_mem.mp opsRopeQ1_sub op h, List.forall_iff_forall_mem.mp (forall_fresh_of_map (ops := opsRopeQ1) rfl) op h⟩

theorem opsRopeK_sub : (opsRopeK (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsRopeK_plain : ∀ op ∈ opsRopeK (F := F), Plain op := fun op h =>
  ⟨List.forall_iff_forall_mem.mp opsRopeK_sub op h, List.forall_iff_forall_mem.mp (forall_fresh_of_map (ops := opsRopeK) rfl) op h⟩

theorem opsHeads_sub : (opsHeads (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsHeads_plain : ∀ op ∈ opsHeads (F := F), Plain op := fun op h =>
  ⟨List.forall_iff_forall_mem.mp opsHeads_sub op h, List.forall_iff_forall_mem.mp (forall_fresh_of_map (ops := opsHeads) rfl) op h⟩

theorem opsPadK_sub : (opsPadK (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsPadK_plain : ∀ op ∈ opsPadK (F := F), Plain op := fun op h =>
  ⟨List.forall_iff_forall_mem.mp opsPadK_sub op h, List.forall_iff_forall_mem.mp (forall_fresh_of_map (ops := opsPadK) rfl) op h⟩

theorem opsWinK_sub : (opsWinK (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsWinK_plain : ∀ op ∈ opsWinK (F := F), Plain op := fun op h =>
  ⟨List.forall_iff_forall_mem.mp opsWinK_sub op h, List.forall_iff_forall_mem.mp (forall_fresh_of_map (ops := opsWinK) rfl) op h⟩

theorem opsPadV_sub : (opsPadV (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsPadV_plain : ∀ op ∈ opsPadV (F := F), Plain op := fun op h =>
  ⟨List.forall_iff_forall_mem.mp opsPadV_sub op h, List.forall_iff_forall_mem.mp (forall_fresh_of_map (ops := opsPadV) rfl) op h⟩

theorem opsWinV_sub : (opsWinV (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsWinV_plain : ∀ op ∈ opsWinV (F := F), Plain op := fun op h =>
  ⟨List.forall_iff_forall_mem.mp opsWinV_sub op h, List.forall_iff_forall_mem.mp (forall_fresh_of_map (ops := opsWinV) rfl) op h⟩

theorem opsLoc_sub : (opsLoc (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsLoc_plain : ∀ op ∈ opsLoc (F := F), Plain op := fun op h =>
  ⟨List.forall_iff_forall_mem.mp opsLoc_sub op h, List.forall_iff_forall_mem.mp (forall_fresh_of_map (ops := opsLoc) rfl) op h⟩

theorem opsMask_sub : (opsMask (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsMask_plain : ∀ op ∈ opsMask (F := F), Plain op := fun op h =>
  ⟨List.forall_iff_forall_mem.mp opsMask_sub op h, List.forall_iff_forall_mem.mp (forall_fresh_of_map (ops := opsMask) rfl) op h⟩

theorem opsScore_sub : (opsScore (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsScore_plain : ∀ op ∈ opsScore (F := F), Plain op := fun op h =>
  ⟨List.forall_iff_forall_mem.mp opsScore_sub op h, List.forall_iff_forall_mem.mp (forall_fresh_of_map (ops := opsScore) rfl) op h⟩

theorem opsCat_sub : (opsCat (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsCat_plain : ∀ op ∈ opsCat (F := F), Plain op := fun op h =>
  ⟨List.forall_iff_forall_mem.mp opsCat_sub op h, List.forall_iff_forall_mem.mp (forall_fresh_of_map (ops := opsCat) rfl) op h⟩

theorem opsTop_sub : (opsTop (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsTop_plain : ∀ op ∈ opsTop (F := F), Plain op := fun op h =>
  ⟨List.forall_iff_forall_mem.mp opsTop_sub op h, List.forall_iff_forall_mem.mp (forall_fresh_of_map (ops := opsTop) rfl) op h⟩

theorem opsMax_sub : (opsMax (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsMax_plain : ∀ op ∈ opsMax (F := F), Plain op := fun op h =>
  ⟨List.forall_iff_forall_mem.mp opsMax_sub op h, List.forall_iff_forall_mem.mp (forall_fresh_of_map (ops := opsMax) rfl) op h⟩

theorem opsSoft_sub : (opsSoft (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsSoft_plain : ∀ op ∈ opsSoft (F := F), Plain op := fun op h =>
  ⟨List.forall_iff_forall_mem.mp opsSoft_sub op h, List.forall_iff_forall_mem.mp (forall_fresh_of_map (ops := opsSoft) rfl) op h⟩

theorem opsOut_sub : (opsOut (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsOut_plain : ∀ op ∈ opsOut (F := F), Plain op := fun op h =>
  ⟨List.forall_iff_forall_mem.mp opsOut_sub op h, List.forall_iff_forall_mem.mp (forall_fresh_of_map (ops := opsOut) rfl) op h⟩

theorem opsCtxScore_sub : (opsCtxScore (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsCtxScore_plain : ∀ op ∈ opsCtxScore (F := F), Plain op := fun op h =>
  ⟨List.forall_iff_forall_mem.mp opsCtxScore_sub op h, List.forall_iff_forall_mem.mp (forall_fresh_of_map (ops := opsCtxScore) rfl) op h⟩

theorem opsCtxMax_sub : (opsCtxMax (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsCtxMax_plain : ∀ op ∈ opsCtxMax (F := F), Plain op := fun op h =>
  ⟨List.forall_iff_forall_mem.mp opsCtxMax_sub op h, List.forall_iff_forall_mem.mp (forall_fresh_of_map (ops := opsCtxMax) rfl) op h⟩

theorem opsCtxSoft_sub : (opsCtxSoft (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsCtxSoft_plain : ∀ op ∈ opsCtxSoft (F := F), Plain op := fun op h =>
  ⟨List.forall_iff_forall_mem.mp opsCtxSoft_sub op h, List.forall_iff_forall_mem.mp (forall_fresh_of_map (ops := opsCtxSoft) rfl) op h⟩

theorem opsCtx_sub : (opsCtx (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsCtx_plain : ∀ op ∈ opsCtx (F := F), Plain op := fun op h =>
  ⟨List.forall_iff_forall_mem.mp opsCtx_sub op h, List.forall_iff_forall_mem.mp (forall_fresh_of_map (ops := opsCtx) rfl) op h⟩

theorem opsEnd_sub : (opsEnd (F := F)).Forall fun op => op.bufs ⊆ tcRefs τ sig := by
  simp only [List.forall_cons, List.Forall, TRef.unary, TRef.binary, TRef.ternary, unary_bufs_sub, binary_bufs_sub, nullary_bufs_sub,
    ternary_bufs_sub, nary_bufs_sub, reshape_bufs_sub, and_self]

theorem opsEnd_plain : ∀ op ∈ opsEnd (F := F), Plain op := fun op h =>
  ⟨List.forall_iff_forall_mem.mp opsEnd_sub op h, List.forall_iff_forall_mem.mp (forall_fresh_of_map (ops := opsEnd) rfl) op h⟩

theorem ops_plain : ∀ op ∈ (ops : List (HloOp τ sig (Elt F))), Plain op := by
  simp only [ops, part0, part1, part2, part3, part4, List.forall_mem_append]
  exact ⟨⟨⟨⟨⟨opsAngle_plain, opsRopeQ0_plain⟩, ⟨⟨opsRopeQ1_plain, opsRopeK_plain⟩, opsHeads_plain⟩⟩, ⟨⟨⟨⟨⟨opsPadK_plain, opsWinK_plain⟩, opsPadV_plain⟩, opsWinV_plain⟩, opsLoc_plain⟩, opsMask_plain⟩⟩, ⟨⟨⟨⟨⟨⟨⟨⟨⟨opsScore_plain, opsCat_plain⟩, opsTop_plain⟩, opsMax_plain⟩, opsSoft_plain⟩, opsOut_plain⟩, opsCtxScore_plain⟩, opsCtxMax_plain⟩, opsCtxSoft_plain⟩, opsCtx_plain⟩⟩, opsEnd_plain⟩

/-- The reference's run: each buffer ends at what the operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr fun op h => (ops_plain op h).1) m ρ fun _ op h => (ops_plain op h).2

theorem after_ops (V : Valuation τ sig (Elt F)) (b : DevRef τ sig) : after ops V b =
    after opsEnd (after opsCtx (after opsCtxSoft (after opsCtxMax (after opsCtxScore (after opsOut (after opsSoft (after opsMax (after opsTop (after opsCat (after opsScore (after opsMask (after opsLoc (after opsWinV (after opsPadV (after opsWinK (after opsPadK (after opsHeads (after opsRopeK (after opsRopeQ1 (after opsRopeQ0 (after opsAngle (V)))))))))))))))))))))) b := by
  simp only [ops, part0, part1, part2, part3, part4, after_append]

theorem kept {r : Ref sig .tc} (V : Valuation τ sig (Elt F)) (h : r = main_arg0 ∨ r = main_arg1) :
    after ops V (Proc.devRef .tc r) = V (Proc.devRef .tc r) := by
  rw [after_ops]
  rcases h with rfl | rfl
  all_goals rw [after_of_writes_sub _ _ opsEnd_writes, after_of_writes_sub _ _ opsCtx_writes, after_of_writes_sub _ _ opsCtxSoft_writes, after_of_writes_sub _ _ opsCtxMax_writes, after_of_writes_sub _ _ opsCtxScore_writes, after_of_writes_sub _ _ opsOut_writes, after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes, after_of_writes_sub _ _ opsHeads_writes, after_of_writes_sub _ _ opsRopeK_writes, after_of_writes_sub _ _ opsRopeQ1_writes, after_of_writes_sub _ _ opsRopeQ0_writes, after_of_writes_sub _ _ opsAngle_writes]
  all_goals decide

end Cert.ReferenceIdeal.Stage

end
-- ==== Proof.RefTurn.lean ====
/- The reference's first stages read element by element: the rows, the turned queries and keys, the values. -/
module

public import proofs.«01_k».proof.Proof.RefOps
public import proofs.«01_k».proof.Proof.AttnBlocks

@[expose] public section

set_option maxRecDepth 100000

noncomputable section

namespace Cert.ReferenceIdeal.Stage

open Cert.ReferenceIdeal Cert.ReferenceIdeal.Gen Idealize.ShloMosaic Idealize.ShloMosaic.TcCoe Idealize.SL.Sem Idealize.ShloMosaic.StableHlo Cert.Attn

variable (V : Valuation τ sig (Elt Ideal))

theorem latRow (t : Fin 16384) (j : Fin 9952) :
    after opsAngle V (Proc.devRef .tc main_v3) (ix3 0 t j) = mat (V (Proc.devRef .tc main_arg0)) (256 + t.val) j.val := by
  after_reads_at
  exact mat_eq _ _ _

theorem ctxRow (t : Fin 256) (j : Fin 9952) :
    after opsAngle V (Proc.devRef .tc main_v1) (ix3 0 t j) = mat (V (Proc.devRef .tc main_arg0)) t.val j.val := by
  after_reads_at
  exact mat_eq _ _ _

/-- The angle of latent token `t` in pair `j`: by its row. -/
def rowAng (t j : ℕ) : EReal := FloatOps.sitofp (F := Ideal) FTy.f32 (BitVec.ofNat 32 (t / 64)) * freq j

/-- The angle of latent token `t` in pair `j`: by its column. -/
def colAng (t j : ℕ) : EReal := FloatOps.sitofp (F := Ideal) FTy.f32 (BitVec.ofNat 32 (t % 64)) * freq j

theorem cosRow (t : Fin 16384) (j : Fin 32) :
    after opsAngle V (Proc.devRef .tc main_v33) (ix2 t j) = Ideal.cos (rowAng t.val j.val) := by
  unfold rowAng freq
  after_reads_at
  try pointwise

theorem sinRow (t : Fin 16384) (j : Fin 32) :
    after opsAngle V (Proc.devRef .tc main_v34) (ix2 t j) = Ideal.sin (rowAng t.val j.val) := by
  unfold rowAng freq
  after_reads_at
  try pointwise

theorem cosCol (t : Fin 16384) (j : Fin 32) :
    after opsAngle V (Proc.devRef .tc main_v35) (ix2 t j) = Ideal.cos (colAng t.val j.val) := by
  unfold colAng freq
  after_reads_at
  try pointwise

theorem sinCol (t : Fin 16384) (j : Fin 32) :
    after opsAngle V (Proc.devRef .tc main_v36) (ix2 t j) = Ideal.sin (colAng t.val j.val) := by
  unfold colAng freq
  after_reads_at
  try pointwise

theorem turned_cases (P : ℕ → ℕ → EReal) (c t d : ℕ) (hd : d < 128) : turned P (256 + t) c d =
    if d < 64 then
      if d < 32 then P (256 + t) (c + d) * Ideal.cos (rowAng t d) - P (256 + t) (c + (32 + d)) * Ideal.sin (rowAng t d)
      else P (256 + t) (c + (32 + (d - 32))) * Ideal.cos (rowAng t (d - 32)) + P (256 + t) (c + (d - 32)) * Ideal.sin (rowAng t (d - 32))
    else
      if d - 64 < 32 then P (256 + t) (c + (64 + (d - 64))) * Ideal.cos (colAng t (d - 64)) - P (256 + t) (c + (64 + (32 + (d - 64)))) * Ideal.sin (colAng t (d - 64))
      else P (256 + t) (c + (64 + (32 + (d - 64 - 32)))) * Ideal.cos (colAng t (d - 64 - 32)) + P (256 + t) (c + (64 + (d - 64 - 32))) * Ideal.sin (colAng t (d - 64 - 32)) := by
  have ht : 256 + t - 256 = t := by omega
  unfold turned ang rowAng colAng
  rw [if_neg (show ¬ 256 + t < 256 by omega), ht]
  split
  · rename_i h
    by_cases h1 : d < 64
    · rw [if_pos h1, if_pos h1, if_pos (show d < 32 by omega), show d % 32 = d by omega, show d + 32 = 32 + d by omega]
    · rw [if_neg h1, if_neg h1, if_pos (show d - 64 < 32 by omega), show d % 32 = d - 64 by omega, show 64 + (d - 64) = d by omega,
        show 64 + (32 + (d - 64)) = d + 32 by omega]
  · rename_i h
    by_cases h1 : d < 64
    · rw [if_pos h1, if_pos h1, if_neg (show ¬ d < 32 by omega), show d % 32 = d - 32 by omega, show 32 + (d - 32) = d by omega]
    · rw [if_neg h1, if_neg h1, if_neg (show ¬ d - 64 < 32 by omega), show d % 32 = d - 64 - 32 by omega,
        show 64 + (32 + (d - 64 - 32)) = d by omega, show 64 + (d - 64 - 32) = d - 32 by omega]

section
variable {V} {P : ℕ → ℕ → EReal} (hx : ∀ (t : Fin 16384) (j : Fin 9952), V (Proc.devRef .tc main_v3) (ix3 0 t j) = P (256 + t.val) j.val)
  (h33 : ∀ (t : Fin 16384) (j : Fin 32), V (Proc.devRef .tc main_v33) (ix2 t j) = Ideal.cos (rowAng t.val j.val))
  (h34 : ∀ (t : Fin 16384) (j : Fin 32), V (Proc.devRef .tc main_v34) (ix2 t j) = Ideal.sin (rowAng t.val j.val))
  (h35 : ∀ (t : Fin 16384) (j : Fin 32), V (Proc.devRef .tc main_v35) (ix2 t j) = Ideal.cos (colAng t.val j.val))
  (h36 : ∀ (t : Fin 16384) (j : Fin 32), V (Proc.devRef .tc main_v36) (ix2 t j) = Ideal.sin (colAng t.val j.val))
include hx h33 h34 h35 h36

theorem turnQ (t : Fin 16384) (h : Fin 16) (d : Fin 128) :
    after opsRopeQ1 (after opsRopeQ0 V) (Proc.devRef .tc main_v71) (ix4 0 t h d) = turned P (256 + t.val) (6624 + h.val * 128) d.val := by
  after_reads_at
  pointwise [catQ64, catQ32]
  simp only [hx, h33, h34, h35, h36, dite_eq_ite]
  rw [turned_cases _ _ _ _ d.isLt]
  simp only [Nat.add_assoc]

theorem turnK (t : Fin 16384) (h : Fin 4) (d : Fin 128) :
    after opsRopeK V (Proc.devRef .tc main_v106) (ix4 0 t h d) = turned P (256 + t.val) (8672 + h.val * 128) d.val := by
  after_reads_at
  pointwise [catK64, catK32]
  simp only [hx, h33, h34, h35, h36, dite_eq_ite]
  rw [turned_cases _ _ _ _ d.isLt]
  simp only [Nat.add_assoc]
end

theorem latVal (t : Fin 16384) (h : Fin 4) (d : Fin 128) :
    after opsHeads V (Proc.devRef .tc main_v108) (ix4 0 t h d) = V (Proc.devRef .tc main_v3) (ix3 0 t ⟨9184 + (h.val * 128 + d.val), by omega⟩) := by
  after_reads_at

theorem ctxQuery (t : Fin 256) (h : Fin 16) (d : Fin 128) :
    after opsHeads V (Proc.devRef .tc main_v110) (ix4 0 t h d) = V (Proc.devRef .tc main_v1) (ix3 0 t ⟨6624 + (h.val * 128 + d.val), by omega⟩) := by
  after_reads_at

theorem ctxKey (t : Fin 256) (h : Fin 4) (d : Fin 128) :
    after opsHeads V (Proc.devRef .tc main_v112) (ix4 0 t h d) = V (Proc.devRef .tc main_v1) (ix3 0 t ⟨8672 + (h.val * 128 + d.val), by omega⟩) := by
  after_reads_at

theorem ctxVal (t : Fin 256) (h : Fin 4) (d : Fin 128) :
    after opsHeads V (Proc.devRef .tc main_v114) (ix4 0 t h d) = V (Proc.devRef .tc main_v1) (ix3 0 t ⟨9184 + (h.val * 128 + d.val), by omega⟩) := by
  after_reads_at

theorem grouped (n q : Fin 128) (h g : Fin 4) (d : Fin 128) :
    after opsHeads V (Proc.devRef .tc main_v115) (ix6 0 n q h g d)
      = V (Proc.devRef .tc main_v71) (ix4 0 ⟨n.val * 128 + q.val, by omega⟩ ⟨h.val * 4 + g.val, by omega⟩ d) := by
  after_reads_at

/-- The windows of keys: key `k` of block `n` is latent token `128 n + k - 128`. -/
theorem winK {W : Fin 16384 → Fin 4 → Fin 128 → EReal} (hW : ∀ t h d, V (Proc.devRef .tc main_v106) (ix4 0 t h d) = W t h d)
    (n : Fin 128) (k : Fin 384) (h : Fin 4) (d : Fin 128) (hk : 128 ≤ n.val * 128 + k.val ∧ n.val * 128 + k.val - 128 < 16384) :
    after opsWinK (after opsPadK V) (Proc.devRef .tc main_v121) (ix5 0 n k h d) = W ⟨n.val * 128 + k.val - 128, hk.2⟩ h d := by
  have e : ∀ U, after opsWinK U (Proc.devRef .tc main_v121) = catWin (F := Ideal) (U (Proc.devRef .tc main_v118)) (U (Proc.devRef .tc main_v119)) (U (Proc.devRef .tc main_v120)) := fun U => by
    simp only [after_cons, after_nil, nary_result']
    rfl
  rw [e]
  pointwise [catWin]
  split
  · after_reads_at
    rw [dif_pos hk, hW]
  · split
    · after_reads_at
      rw [dif_pos (by omega), hW]
      congr 2; omega
    · after_reads_at
      rw [dif_pos (by omega), hW]
      congr 2; omega

/-- The windows of values: key `k` of block `n` is latent token `128 n + k - 128`. -/
theorem winV {W : Fin 16384 → Fin 4 → Fin 128 → EReal} (hW : ∀ t h d, V (Proc.devRef .tc main_v108) (ix4 0 t h d) = W t h d)
    (n : Fin 128) (k : Fin 384) (h : Fin 4) (d : Fin 128) (hk : 128 ≤ n.val * 128 + k.val ∧ n.val * 128 + k.val - 128 < 16384) :
    after opsWinV (after opsPadV V) (Proc.devRef .tc main_v127) (ix5 0 n k h d) = W ⟨n.val * 128 + k.val - 128, hk.2⟩ h d := by
  have e : ∀ U, after opsWinV U (Proc.devRef .tc main_v127) = catWin (F := Ideal) (U (Proc.devRef .tc main_v124)) (U (Proc.devRef .tc main_v125)) (U (Proc.devRef .tc main_v126)) := fun U => by
    simp only [after_cons, after_nil, nary_result']
    rfl
  rw [e]
  pointwise [catWin]
  split
  · after_reads_at
    rw [dif_pos hk, hW]
  · split
    · after_reads_at
      rw [dif_pos (by omega), hW]
      congr 2; omega
    · after_reads_at
      rw [dif_pos (by omega), hW]
      congr 2; omega

theorem loc (n q : Fin 128) (k : Fin 384) (h g : Fin 4) : after opsLoc V (Proc.devRef .tc main_v131) (ix6 0 n h g q k)
    = (∑ x : Fin 128, HMul.hMul (α := EReal) (β := EReal) (V (Proc.devRef .tc main_v121) (ix5 0 n k h x)) (V (Proc.devRef .tc main_v115) (ix6 0 n q h g x))) * Cert.KernelIdeal.Head.scale := by
  after_reads_at
  rfl

end Cert.ReferenceIdeal.Stage

end
-- ==== Proof.RefRead.lean ====
/- The reference's later stages read element by element: which keys a query sees, the scores, the softmax, the weighted values. -/
module

public import proofs.«01_k».proof.Proof.RefTurn

@[expose] public section

set_option maxRecDepth 100000

noncomputable section

namespace Cert.ReferenceIdeal.Stage

open Cert.ReferenceIdeal Cert.ReferenceIdeal.Gen Idealize.ShloMosaic Idealize.ShloMosaic.TcCoe Idealize.SL.Sem Idealize.ShloMosaic.StableHlo Cert.Attn

variable (V : Valuation τ sig (Elt Ideal))
/-- Whether query `q` of block `n` sees key `k` of the block's window. -/
def sees (n q k : ℕ) : Prop := (q ≤ k ∧ k ≤ q + 256) ∧ 128 ≤ n * 128 + k ∧ n * 128 + k < 16512

instance (n q k : ℕ) : Decidable (sees n q k) := by unfold sees; infer_instance

theorem near_word (n q k : ℕ) (hn : n < 128) (hq : q < 128) (hk : k < 384) :
    (IntOp.cmpi CmpIPredicate.sle
        (IntOp.absi
          (IntOp.subi (IntOp.addi (IntOp.muli (BitVec.ofNat 32 n) 128#32) (BitVec.ofNat 32 q))
            (IntOp.addi (IntOp.muli (IntOp.subi (BitVec.ofNat 32 n) 1#32) 128#32) (BitVec.ofNat 32 k))))
        128#32 = 1#1) ↔ (q ≤ k ∧ k ≤ q + 256) := by
  have hs : (IntOp.subi (IntOp.addi (IntOp.muli (BitVec.ofNat 32 n) 128#32) (BitVec.ofNat 32 q))
      (IntOp.addi (IntOp.muli (IntOp.subi (BitVec.ofNat 32 n) 1#32) 128#32) (BitVec.ofNat 32 k))).toNat = (q + 128 + 2 ^ 32 - k) % 2 ^ 32 := by
    simp only [IntOp.subi, IntOp.addi, IntOp.muli, BitVec.toNat_sub, BitVec.toNat_add, BitVec.toNat_mul, BitVec.toNat_ofNat]; omega
  generalize IntOp.subi (IntOp.addi (IntOp.muli (BitVec.ofNat 32 n) 128#32) (BitVec.ofNat 32 q))
      (IntOp.addi (IntOp.muli (IntOp.subi (BitVec.ofNat 32 n) 1#32) 128#32) (BitVec.ofNat 32 k)) = w at hs
  simp only [IntOp.absi, BitVec.msb_eq_decide]
  split <;> rename_i h <;> simp only [decide_eq_true_eq, not_le] at h <;> word_omega

theorem pos_word (n k : ℕ) (hn : n < 128) (hk : k < 384) :
    (IntOp.addi (IntOp.muli (IntOp.subi (BitVec.ofNat 32 n) 1#32) 128#32) (BitVec.ofNat 32 k)).toNat = (n * 128 + k + 2 ^ 32 - 128) % 2 ^ 32 := by
  simp only [IntOp.subi, IntOp.addi, IntOp.muli, BitVec.toNat_sub, BitVec.toNat_add, BitVec.toNat_mul, BitVec.toNat_ofNat]; omega

theorem lo_word (n k : ℕ) (hn : n < 128) (hk : k < 384) :
    (IntOp.cmpi CmpIPredicate.sge (IntOp.addi (IntOp.muli (IntOp.subi (BitVec.ofNat 32 n) 1#32) 128#32) (BitVec.ofNat 32 k)) 0#32 = 1#1) ↔ 128 ≤ n * 128 + k := by
  have hs := pos_word n k hn hk
  generalize IntOp.addi (IntOp.muli (IntOp.subi (BitVec.ofNat 32 n) 1#32) 128#32) (BitVec.ofNat 32 k) = w at hs
  word_omega

theorem hi_word (n k : ℕ) (hn : n < 128) (hk : k < 384) (hlo : 128 ≤ n * 128 + k) :
    (IntOp.cmpi CmpIPredicate.slt (IntOp.addi (IntOp.muli (IntOp.subi (BitVec.ofNat 32 n) 1#32) 128#32) (BitVec.ofNat 32 k)) 16384#32 = 1#1) ↔ n * 128 + k < 16512 := by
  have hs := pos_word n k hn hk
  generalize IntOp.addi (IntOp.muli (IntOp.subi (BitVec.ofNat 32 n) 1#32) 128#32) (BitVec.ofNat 32 k) = w at hs
  word_omega

theorem and_one (a b : BitVec 1) : IntOp.andi a b = 1#1 ↔ a = 1#1 ∧ b = 1#1 := by revert a b; decide

theorem seen (n q : Fin 128) (k : Fin 384) : IntOp.andi (after opsMask V (Proc.devRef .tc main_v162) (ix3 n q k)) (after opsMask V (Proc.devRef .tc main_v166) (ix3 n q k)) = 1#1
    ↔ sees n.val q.val k.val := by
  have e1 : after opsMask V (Proc.devRef .tc main_v162) (ix3 n q k) = IntOp.andi
      (IntOp.cmpi CmpIPredicate.sle
        (IntOp.absi
          (IntOp.subi (IntOp.addi (IntOp.muli (BitVec.ofNat 32 n) 128#32) (BitVec.ofNat 32 q))
            (IntOp.addi (IntOp.muli (IntOp.subi (BitVec.ofNat 32 n) 1#32) 128#32) (BitVec.ofNat 32 k))))
        128#32)
      (IntOp.cmpi CmpIPredicate.sge
        (IntOp.addi (IntOp.muli (IntOp.subi (BitVec.ofNat 32 n) 1#32) 128#32) (BitVec.ofNat 32 k)) 0#32) := by after_reads_at
  have e2 : after opsMask V (Proc.devRef .tc main_v166) (ix3 n q k) = IntOp.cmpi CmpIPredicate.slt
      (IntOp.addi (IntOp.muli (IntOp.subi (BitVec.ofNat 32 n) 1#32) 128#32) (BitVec.ofNat 32 k)) 16384#32 := by after_reads_at
  rw [e1, e2]
  refine (and_one _ _).trans ?_
  rw [and_one, near_word _ _ _ n.isLt q.isLt k.isLt, lo_word _ _ n.isLt k.isLt]
  unfold sees
  constructor
  · rintro ⟨⟨h1, h2⟩, h3⟩; exact ⟨h1, h2, (hi_word _ _ n.isLt k.isLt h2).1 h3⟩
  · rintro ⟨h1, h2, h3⟩; exact ⟨⟨h1, h2⟩, (hi_word _ _ n.isLt k.isLt h2).2 h3⟩

theorem score1 (n q : Fin 128) (k : Fin 384) (h g : Fin 4) {p : Prop} [Decidable p]
    (hp : IntOp.andi (V (Proc.devRef .tc main_v162) (ix3 n q k)) (V (Proc.devRef .tc main_v166) (ix3 n q k)) = 1#1 ↔ p) :
    after opsScore V (Proc.devRef .tc main_v169) (ix6 0 n h g q k) = if p then V (Proc.devRef .tc main_v131) (ix6 0 n h g q k) else (⊥ : EReal) := by
  have e : id (constant (F := Ideal) S_ FTy.f32 4286578688#32) ix0 = (⊥ : EReal) := negInf_bot
  after_reads_at
  rw [← e]
  exact Cert.KernelIdeal.Head.select_of hp _ _

theorem score2 (n q : Fin 128) (k : Fin 256) (h g : Fin 4) : after opsScore V (Proc.devRef .tc main_v173) (ix6 0 n h g q k)
    = (∑ x : Fin 128, HMul.hMul (α := EReal) (β := EReal) (V (Proc.devRef .tc main_v112) (ix4 0 k h x)) (V (Proc.devRef .tc main_v115) (ix6 0 n q h g x))) * Cert.KernelIdeal.Head.scale := by
  after_reads_at
  rfl

theorem score3 (n q : Fin 128) (h g : Fin 4) : after opsScore V (Proc.devRef .tc main_v175) (ix6 0 n h g q 0) = V (Proc.devRef .tc main_arg1) (ix1 ⟨h.val * 4 + g.val, by omega⟩) := by
  after_reads_at

/-- A row of scores: the window's, the context's, the sink. -/
def scoreRow (a : Fin 384 → EReal) (b : Fin 256 → EReal) (c : EReal) (k : Fin 641) : EReal :=
  if h : k.val < 384 then a ⟨k.val, h⟩ else if h' : k.val - 384 < 256 then b ⟨k.val - 384, h'⟩ else c

theorem cat (n q : Fin 128) (h g : Fin 4) (k : Fin 641) : after opsCat V (Proc.devRef .tc main_v176) (ix6 0 n h g q k)
    = scoreRow (fun k => V (Proc.devRef .tc main_v169) (ix6 0 n h g q k)) (fun k => V (Proc.devRef .tc main_v173) (ix6 0 n h g q k))
        (V (Proc.devRef .tc main_v175) (ix6 0 n h g q 0)) k := by
  have e : after opsCat V (Proc.devRef .tc main_v176) = catScores (F := Ideal) (V (Proc.devRef .tc main_v169)) (V (Proc.devRef .tc main_v173)) (V (Proc.devRef .tc main_v175)) := by
    simp only [after_cons, after_nil, nary_result']
    rfl
  rw [e]
  pointwise [catScores]
  unfold scoreRow
  split
  · rfl
  · split
    · rfl
    · exact congrArg _ (by congr 1; omega)

end Cert.ReferenceIdeal.Stage

end
-- ==== Proof.RefSoft.lean ====
/- The reference's softmaxes and weighted values read element by element, and its last stage. -/
module

public import proofs.«01_k».proof.Proof.RefRead

@[expose] public section

set_option maxRecDepth 100000

noncomputable section

namespace Cert.ReferenceIdeal.Stage

open Cert.ReferenceIdeal Cert.ReferenceIdeal.Gen Idealize.ShloMosaic Idealize.ShloMosaic.TcCoe Idealize.SL.Sem Idealize.ShloMosaic.StableHlo Cert.Attn

variable (V : Valuation τ sig (Elt Ideal))

theorem zero_word : Ideal.ofBits .f32 0x00000000#32 = 0 := Ideal.ofBits_zero_f32

theorem rowLift (hR : S1x128x4x4x128x641.Reduces [5] S1x128x4x4x128) (n q : Fin 128) (h g : Fin 4) (k : Fin 641) : hR.lift (ix5 0 n h g q) k = ix6 0 n h g q k :=
  funext fun c => Fin.ext (by fin_cases c <;> rfl)

theorem maxRow_apply (x : S1x128x4x4x128x641.Idx → EReal) (v : S_.Idx → EReal) (n q : Fin 128) (h g : Fin 4) (hv : v (Shape.Idx.first h_S_) = ⊥) :
    maxRow (F := Ideal) x v (ix5 0 n h g q) = Finset.univ.sup fun k : Fin 641 => x (ix6 0 n h g q k) := by
  refine (Host.reduce_eq_fold_single (max : EReal → EReal → EReal) x v reducesTo_S1x128x4x4x128x641_S1x128x4x4x128_d5
    (by decide) h_S_ (ix5 0 n h g q)).trans ?_
  rw [hv]
  exact congrArg (Finset.fold max ⊥ · Finset.univ) (funext fun k : Fin 641 => congrArg x (rowLift _ _ _ _ _ k))

theorem sumRow_apply (x : S1x128x4x4x128x641.Idx → EReal) (v : S_.Idx → EReal) (n q : Fin 128) (h g : Fin 4) (hv : v (Shape.Idx.first h_S_) = 0) :
    sumRow (F := Ideal) x v (ix5 0 n h g q) = ∑ k : Fin 641, x (ix6 0 n h g q k) := by
  refine (Ideal.hostReduceAdd_single reducesTo_S1x128x4x4x128x641_S1x128x4x4x128_d5 (by decide) x (v (Shape.Idx.first h_S_)) (ix5 0 n h g q)).trans ?_
  rw [hv, zero_add]
  exact Finset.sum_congr rfl fun k _ => congrArg x (rowLift _ _ _ _ _ k)

theorem ctxLift (hR : S1x4x4x256x257.Reduces [4] S1x4x4x256) (q : Fin 256) (h g : Fin 4) (k : Fin 257) : hR.lift (ix4 0 h g q) k = ix5 0 h g q k :=
  funext fun c => Fin.ext (by fin_cases c <;> rfl)

theorem maxCtx_apply (x : S1x4x4x256x257.Idx → EReal) (v : S_.Idx → EReal) (q : Fin 256) (h g : Fin 4) (hv : v (Shape.Idx.first h_S_) = ⊥) :
    maxCtx (F := Ideal) x v (ix4 0 h g q) = Finset.univ.sup fun k : Fin 257 => x (ix5 0 h g q k) := by
  refine (Host.reduce_eq_fold_single (max : EReal → EReal → EReal) x v reducesTo_S1x4x4x256x257_S1x4x4x256_d4
    (by decide) h_S_ (ix4 0 h g q)).trans ?_
  rw [hv]
  exact congrArg (Finset.fold max ⊥ · Finset.univ) (funext fun k : Fin 257 => congrArg x (ctxLift _ _ _ _ k))

theorem sumCtx_apply (x : S1x4x4x256x257.Idx → EReal) (v : S_.Idx → EReal) (q : Fin 256) (h g : Fin 4) (hv : v (Shape.Idx.first h_S_) = 0) :
    sumCtx (F := Ideal) x v (ix4 0 h g q) = ∑ k : Fin 257, x (ix5 0 h g q k) := by
  refine (Ideal.hostReduceAdd_single reducesTo_S1x4x4x256x257_S1x4x4x256_d4 (by decide) x (v (Shape.Idx.first h_S_)) (ix4 0 h g q)).trans ?_
  rw [hv, zero_add]
  exact Finset.sum_congr rfl fun k _ => congrArg x (ctxLift _ _ _ _ k)

/-- The greatest of a row of values. -/
def peak {N : ℕ} (X : Fin N → EReal) : EReal := Finset.univ.sup X

theorem topped (n q : Fin 128) (h g : Fin 4) {X : Fin 641 → EReal} (hX : ∀ k, V (Proc.devRef .tc main_v176) (ix6 0 n h g q k) = X k) :
    after opsTop V (Proc.devRef .tc main_v177) (ix5 0 n h g q) = peak X := by
  have e : after opsTop V (Proc.devRef .tc main_v177) = maxRow (F := Ideal) (V (Proc.devRef .tc main_v176)) (constant (F := Ideal) S_ .f32 0xFF800000#32) := by
    after_results_simp
  rw [e]
  exact (maxRow_apply _ _ n q h g negInf_bot).trans (congrArg peak (funext hX))

theorem raised (n q : Fin 128) (h g : Fin 4) (k : Fin 641) {x y : EReal} (hx : V (Proc.devRef .tc main_v176) (ix6 0 n h g q k) = x)
    (hy : V (Proc.devRef .tc main_v177) (ix5 0 n h g q) = y) : after opsMax V (Proc.devRef .tc main_v183) (ix6 0 n h g q k) = Ideal.exp (x - y) := by
  after_reads_at
  rw [negInf_bot, max_bot_left, hx, hy]

theorem soft (n q : Fin 128) (h g : Fin 4) (k : Fin 641) {X : Fin 641 → EReal} (hX : ∀ k, V (Proc.devRef .tc main_v183) (ix6 0 n h g q k) = X k) :
    after opsSoft V (Proc.devRef .tc main_v187) (ix6 0 n h g q k) = Ideal.div (X k) (∑ k, X k) := by
  after_reads_at
  rw [sumRow_apply _ _ n q h g zero_word, hX]
  exact congrArg (Ideal.div (X k)) (Finset.sum_congr rfl fun k _ => hX k)

theorem out (n q : Fin 128) (h g : Fin 4) (d : Fin 128) {W : Fin 384 → EReal} {C : Fin 256 → EReal} {X : Fin 641 → EReal}
    (hW : ∀ x, V (Proc.devRef .tc main_v127) (ix5 0 n x h d) = W x) (hC : ∀ x, V (Proc.devRef .tc main_v114) (ix4 0 x h d) = C x)
    (hX : ∀ k, V (Proc.devRef .tc main_v187) (ix6 0 n h g q k) = X k) :
    after opsOut V (Proc.devRef .tc main_v195) (ix3 0 ⟨n.val * 128 + q.val, by omega⟩ ⟨(h.val * 4 + g.val) * 128 + d.val, by omega⟩)
    = (∑ x : Fin 384, W x * X ⟨x.val, by omega⟩) + ∑ x : Fin 256, C x * X ⟨384 + x.val, by omega⟩ := by
  after_reads_at
  simp only [hW, hC, hX]

theorem ctxScore (q : Fin 256) (h g : Fin 4) (k : Fin 257) {K : Fin 256 → Fin 128 → EReal} {Q : Fin 128 → EReal} {s : EReal}
    (hK : ∀ k x, V (Proc.devRef .tc main_v112) (ix4 0 k h x) = K k x) (hQ : ∀ x, V (Proc.devRef .tc main_v110) (ix4 0 q ⟨h.val * 4 + g.val, by omega⟩ x) = Q x)
    (hs : V (Proc.devRef .tc main_arg1) (ix1 ⟨h.val * 4 + g.val, by omega⟩) = s) :
    after opsCtxScore V (Proc.devRef .tc main_v203) (ix5 0 h g q k)
    = if h' : k.val < 256 then (∑ x, K ⟨k.val, h'⟩ x * Q x) * Cert.KernelIdeal.Head.scale else s := by
  after_reads_at
  pointwise [catCtx]
  simp only [hK, hQ, hs]
  rfl

theorem ctxRaised (q : Fin 256) (h g : Fin 4) (k : Fin 257) {X : Fin 257 → EReal} (hX : ∀ k, V (Proc.devRef .tc main_v203) (ix5 0 h g q k) = X k) :
    after opsCtxMax V (Proc.devRef .tc main_v210) (ix5 0 h g q k) = Ideal.exp (X k - peak X) := by
  after_reads_at
  rw [maxCtx_apply _ _ q h g negInf_bot, negInf_bot, max_bot_left, hX]
  exact congrArg (fun m => Ideal.exp (X k - m)) (congrArg peak (funext hX))

theorem ctxSoft (q : Fin 256) (h g : Fin 4) (k : Fin 257) {X : Fin 257 → EReal} (hX : ∀ k, V (Proc.devRef .tc main_v210) (ix5 0 h g q k) = X k) :
    after opsCtxSoft V (Proc.devRef .tc main_v214) (ix5 0 h g q k) = Ideal.div (X k) (∑ k, X k) := by
  after_reads_at
  rw [sumCtx_apply _ _ q h g zero_word, hX]
  exact congrArg (Ideal.div (X k)) (Finset.sum_congr rfl fun k _ => hX k)

theorem ctx (q : Fin 256) (h g : Fin 4) (d : Fin 128) {C : Fin 256 → EReal} {X : Fin 257 → EReal}
    (hC : ∀ x, V (Proc.devRef .tc main_v114) (ix4 0 x h d) = C x) (hX : ∀ k, V (Proc.devRef .tc main_v214) (ix5 0 h g q k) = X k) :
    after opsCtx V (Proc.devRef .tc main_v217) (ix5 0 q h g d) = ∑ x : Fin 256, C x * X ⟨x.val, by omega⟩ := by
  after_reads_at
  simp only [hC, hX]

theorem fin (R : Fin 16640) (k : Fin 2048) : after opsEnd V (Proc.devRef .tc main_v222) (ix2 R k)
    = if h : R.val < 256 then V (Proc.devRef .tc main_v217) (ix5 0 ⟨R.val, h⟩ ⟨k.val / 512, by omega⟩ ⟨k.val / 128 % 4, by omega⟩ ⟨k.val % 128, by omega⟩)
      else V (Proc.devRef .tc main_v195) (ix3 0 ⟨R.val - 256, by omega⟩ k) := by
  after_reads_at
  pointwise [catRows]

end Cert.ReferenceIdeal.Stage

end
-- ==== Proof.AttnJoin.lean ====
/- A row of the reference's softmax, over the window's keys, the context's keys and the sink, is the attention's element; and the
   scores are real numbers where the queries and keys are. -/
module

public import proofs.«01_k».proof.Proof.AttnTile
public import proofs.«01_k».proof.Proof.RefSoft

@[expose] public section

set_option maxRecDepth 16384

noncomputable section

namespace Cert.Attn

open Idealize.ShloMosaic Cert.ReferenceIdeal.Stage

/-- A sum over a row of scores, part by part. -/
theorem sum_row (f : Fin 641 → EReal) : ∑ k, f k
    = ((∑ k : Fin 384, f ⟨k.val, by omega⟩) + ∑ k : Fin 256, f ⟨384 + k.val, by omega⟩) + f ⟨640, by omega⟩ :=
  (Fin.sum_univ_castSucc (n := 640) f).trans (congrArg (· + f ⟨640, by omega⟩)
    (Fin.sum_univ_add (a := 384) (b := 256) fun k : Fin (384 + 256) => f (Fin.castSucc k)))

theorem row_win (a : Fin 384 → EReal) (b : Fin 256 → EReal) (c : EReal) (k : Fin 384) : scoreRow a b c ⟨k.val, by omega⟩ = a k := by
  unfold scoreRow; rw [dif_pos k.isLt]

theorem row_ctx (a : Fin 384 → EReal) (b : Fin 256 → EReal) (c : EReal) (k : Fin 256) : scoreRow a b c ⟨384 + k.val, by omega⟩ = b k := by
  unfold scoreRow
  rw [dif_neg (by simp), dif_pos (by simp)]
  exact congrArg b (Fin.ext (by simp))

theorem row_sink (a : Fin 384 → EReal) (b : Fin 256 → EReal) (c : EReal) : scoreRow a b c ⟨640, by omega⟩ = c := by
  unfold scoreRow
  rw [dif_neg (by simp), dif_neg (by simp)]

/-- The greatest value of a row of scores, part by part. -/
theorem peak_row (a : Fin 384 → EReal) (b : Fin 256 → EReal) (c : EReal) :
    peak (scoreRow a b c) = max (max (Finset.univ.sup a) (Finset.univ.sup b)) c := by
  apply le_antisymm
  · refine Finset.sup_le fun k _ => ?_
    unfold scoreRow
    split
    · exact ((Finset.le_sup (f := a) (Finset.mem_univ _)).trans (le_max_left _ _)).trans (le_max_left _ _)
    · split
      · exact ((Finset.le_sup (f := b) (Finset.mem_univ _)).trans (le_max_right _ _)).trans (le_max_left _ _)
      · exact le_max_right _ _
  · refine max_le (max_le (Finset.sup_le fun k _ => ?_) (Finset.sup_le fun k _ => ?_)) ?_
    · exact (row_win a b c k).symm.le.trans (Finset.le_sup (f := scoreRow a b c) (Finset.mem_univ _))
    · exact (row_ctx a b c k).symm.le.trans (Finset.le_sup (f := scoreRow a b c) (Finset.mem_univ _))
    · exact (row_sink a b c).symm.le.trans (Finset.le_sup (f := scoreRow a b c) (Finset.mem_univ _))

theorem zero_div {D : EReal} (h : D ≠ 0) : Ideal.div 0 D = 0 := by
  rw [Ideal.div, if_neg h, zero_mul]

theorem join_row (sl : Fin 384 → EReal) (q : ℕ) (hq : q < 128) (sc : Fin 256 → EReal) (sk : EReal) (vw : Fin 384 → EReal) (vc : Fin 256 → EReal)
    (hz : ∀ k : Fin 384, ¬ (q ≤ k.val ∧ k.val ≤ q + 256) → sl k = ⊥) (hsk : sk ≠ ⊥)
    (hm : top (fun o => sl ⟨q + o.val, by omega⟩) sc sk ≠ ⊤) {E X : Fin 641 → EReal}
    (hE : ∀ k, E k = Ideal.exp (scoreRow sl sc sk k - peak (scoreRow sl sc sk))) (hX : ∀ k, X k = Ideal.div (E k) (∑ k, E k)) :
    (∑ x : Fin 384, vw x * X ⟨x.val, by omega⟩) + ∑ x : Fin 256, vc x * X ⟨384 + x.val, by omega⟩
      = attn (fun o => sl ⟨q + o.val, by omega⟩) sc sk (fun o => vw ⟨q + o.val, by omega⟩) vc := by
  have hT : peak (scoreRow sl sc sk) = top (fun o => sl ⟨q + o.val, by omega⟩) sc sk := by
    rw [peak_row, band_sup q (by omega) sl hz]; rfl
  have hD : ∑ k, E k = den (fun o => sl ⟨q + o.val, by omega⟩) sc sk := by
    rw [sum_row]
    simp only [hE, row_win, row_ctx, row_sink, hT]
    rw [band_sum q (by omega) (fun k => Ideal.exp (sl k - top (fun o => sl ⟨q + o.val, by omega⟩) sc sk))
      fun k hk => by rw [hz k hk, exp_bot_sub]]
    rfl
  have h0 := den_ne_zero (fun o => sl ⟨q + o.val, by omega⟩) sc sk hsk hm
  rw [← attn_eq _ _ _ _ _ hsk hm]
  simp only [hX, hD]
  simp only [hE, row_win, row_ctx, hT]
  rw [band_sum q (by omega) (fun k => vw k * Ideal.div (Ideal.exp (sl k - top (fun o => sl ⟨q + o.val, by omega⟩) sc sk)) (den (fun o => sl ⟨q + o.val, by omega⟩) sc sk))
    fun k hk => by rw [hz k hk, exp_bot_sub, zero_div h0, mul_zero]]
  exact congrArg₂ (· + ·) (Finset.sum_congr rfl fun _ _ => mul_comm _ _) (Finset.sum_congr rfl fun _ _ => mul_comm _ _)

theorem join_ctx (sl : Fin 257 → EReal) (hz : ∀ o, sl o = ⊥) (sc : Fin 256 → EReal) (sk : EReal) (vl : Fin 257 → EReal) (vc : Fin 256 → EReal)
    (hsk : sk ≠ ⊥) (hm : top sl sc sk ≠ ⊤) {S E X : Fin 257 → EReal} (hS : ∀ k : Fin 257, S k = if h : k.val < 256 then sc ⟨k.val, h⟩ else sk)
    (hE : ∀ k, E k = Ideal.exp (S k - peak S)) (hX : ∀ k, X k = Ideal.div (E k) (∑ k, E k)) :
    ∑ x : Fin 256, vc x * X ⟨x.val, by omega⟩ = attn sl sc sk vl vc := by
  have hl : ∀ x : Fin 256, S ⟨x.val, by omega⟩ = sc x := fun x => by rw [hS, dif_pos x.isLt]
  have hk : S (Fin.last 256) = sk := by rw [hS, dif_neg (by simp)]
  have hT : peak S = top sl sc sk := by
    have hb : Finset.univ.sup sl = ⊥ := le_bot_iff.1 (Finset.sup_le fun o _ => (hz o).le)
    unfold top
    rw [hb, bot_sup_eq]
    apply le_antisymm
    · refine Finset.sup_le fun k _ => ?_
      rw [hS]
      split
      · exact (Finset.le_sup (f := sc) (Finset.mem_univ _)).trans (le_max_left _ _)
      · exact le_max_right _ _
    · refine max_le (Finset.sup_le fun k _ => ?_) ?_
      · exact (hl k).symm.le.trans (Finset.le_sup (f := S) (Finset.mem_univ _))
      · exact hk.symm.le.trans (Finset.le_sup (f := S) (Finset.mem_univ _))
  have hD : ∑ k, E k = den sl sc sk := by
    unfold den
    rw [Finset.sum_eq_zero (f := fun o => Ideal.exp (sl o - top sl sc sk)) fun o _ => by rw [hz, exp_bot_sub], zero_add,
      Fin.sum_univ_castSucc (n := 256)]
    simp only [hE, hT, hk]
    exact congrArg (· + _) (Finset.sum_congr rfl fun x _ => by rw [← hl x]; rfl)
  have h0 := den_ne_zero sl sc sk hsk hm
  rw [← attn_eq _ _ _ _ _ hsk hm, Finset.sum_eq_zero (f := fun o => Ideal.div (Ideal.exp (sl o - top sl sc sk)) (den sl sc sk) * vl o)
    fun o _ => by rw [hz, exp_bot_sub, zero_div h0, zero_mul], zero_add]
  exact Finset.sum_congr rfl fun x _ => by rw [hX, hD, hE, hT, hl, mul_comm]

theorem Fin'.cos {x : EReal} (h : Fin' x) : Fin' (Ideal.cos x) := by
  obtain ⟨h1, h2⟩ := h; lift x to ℝ using ⟨h2, h1⟩; exact Fin'.coe _

theorem Fin'.sin {x : EReal} (h : Fin' x) : Fin' (Ideal.sin x) := by
  obtain ⟨h1, h2⟩ := h; lift x to ℝ using ⟨h2, h1⟩; exact Fin'.coe _

theorem Fin'.pow {x y : EReal} (h : Fin' x) (h' : Fin' y) : Fin' (Ideal.pow x y) := by
  obtain ⟨h1, h2⟩ := h; obtain ⟨h3, h4⟩ := h'
  lift x to ℝ using ⟨h2, h1⟩; lift y to ℝ using ⟨h4, h3⟩; exact Fin'.coe _

theorem Fin'.neg {x : EReal} (h : Fin' x) : Fin' (-x) := by
  obtain ⟨h1, h2⟩ := h; lift x to ℝ using ⟨h2, h1⟩; rw [← EReal.coe_neg]; exact Fin'.coe _

theorem Fin'.div {x y : EReal} (h : Fin' x) (h' : Fin' y) (h0 : y ≠ 0) : Fin' (Ideal.div x y) := by
  rw [Ideal.div, if_neg h0]
  refine h.mul ?_
  obtain ⟨h3, h4⟩ := h'
  lift y to ℝ using ⟨h4, h3⟩; rw [← EReal.coe_inv]; exact Fin'.coe _

theorem fin_sitofp (w : BitVec 32) : Fin' (FloatOps.sitofp (F := Ideal) FTy.f32 w) := Fin'.coe _

theorem fin_product {x : EReal} {a b : ℝ} (h : x = (a : EReal) * (b : EReal)) : Fin' x := h ▸ (Fin'.coe a).mul (Fin'.coe b)

theorem fin_scale : Fin' Cert.KernelIdeal.Head.scale := by
  exact fin_product (a := 11863283) (b := (2 ^ 27)⁻¹) (by simp [Cert.KernelIdeal.Head.scale, Ideal.ofBits, Ideal.ieee])

theorem fin_freq (j : ℕ) : Fin' (freq j) := by
  have h1 : Fin' (Ideal.ofBits FTy.f32 1176256512#32) :=
    fin_product (a := 10240000) (b := (2 ^ 10)⁻¹) (by simp [Ideal.ofBits, Ideal.ieee])
  have h2 : Fin' (Ideal.ofBits FTy.f32 1073741824#32) :=
    fin_product (a := 8388608) (b := (2 ^ 22)⁻¹) (by simp [Ideal.ofBits, Ideal.ieee])
  have h3 : Fin' (Ideal.ofBits FTy.f32 1115684864#32) :=
    fin_product (a := 8388608) (b := (2 ^ 17)⁻¹) (by simp [Ideal.ofBits, Ideal.ieee])
  have h4 : Ideal.ofBits FTy.f32 1115684864#32 ≠ 0 := by simp [Ideal.ofBits, Ideal.ieee]
  exact h1.pow ((h2.mul (fin_sitofp _)).neg.div h3 h4)

theorem fin_ang (t d : ℕ) : Fin' (ang t d) := (fin_sitofp _).mul (fin_freq _)

/-- The queries and keys are real numbers. -/
def Sound (P : ℕ → ℕ → EReal) : Prop := ∀ R c, 6624 ≤ c → c < 9184 → Fin' (P R c)

theorem Sound.turned {P : ℕ → ℕ → EReal} (hP : Sound P) (R c d : ℕ) (h0 : 6624 ≤ c) (h1 : c + 128 ≤ 9184) (hd : d < 128) : Fin' (turned P R c d) := by
  unfold Cert.Attn.turned
  split
  · exact hP _ _ (by omega) (by omega)
  · split
    · exact ((hP _ _ (by omega) (by omega)).mul (fin_ang _ _).cos).sub ((hP _ _ (by omega) (by omega)).mul (fin_ang _ _).sin)
    · exact ((hP _ _ (by omega) (by omega)).mul (fin_ang _ _).cos).add ((hP _ _ (by omega) (by omega)).mul (fin_ang _ _).sin)

/-- Where queries, keys and sink are real numbers, the greatest score of a row is not `⊤`. -/
theorem Sound.top {P : ℕ → ℕ → EReal} (hP : Sound P) {s : EReal} (hs : s ≠ ⊤) (p : Fin 257 → Prop) [DecidablePred p] (R : ℕ) (f : Fin 257 → ℕ) (qc kc : ℕ)
    (h0 : 6624 ≤ qc) (h1 : qc + 128 ≤ 9184) (h2 : 6624 ≤ kc) (h3 : kc + 128 ≤ 9184) :
    top (fun o => if p o then (∑ x : Fin 128, Cert.Attn.turned P R qc x.val * Cert.Attn.turned P (f o) kc x.val) * Cert.KernelIdeal.Head.scale else ⊥)
      (fun k => (∑ x : Fin 128, Cert.Attn.turned P R qc x.val * P k.val (kc + x.val)) * Cert.KernelIdeal.Head.scale) s ≠ ⊤ := by
  refine top_ne_top (fun o => ?_) (fun k => ?_) hs
  · split
    · exact ((Fin'.sum fun x => (hP.turned _ _ _ h0 h1 x.isLt).mul (hP.turned _ _ _ h2 h3 x.isLt)).mul fin_scale).2
    · exact bot_ne_top
  · exact ((Fin'.sum fun x => (hP.turned _ _ _ h0 h1 x.isLt).mul (hP _ _ (by omega) (by omega))).mul fin_scale).2

end Cert.Attn

end
-- ==== Proof.RefValue.lean ====
/- The reference's result: every element is the attention's element, where the queries, keys and sinks are real numbers. -/
module

public import proofs.«01_k».proof.Proof.AttnJoin

@[expose] public section

set_option maxRecDepth 100000

noncomputable section

namespace Cert.ReferenceIdeal.Stage

open Cert.ReferenceIdeal Cert.ReferenceIdeal.Gen Idealize.ShloMosaic Idealize.ShloMosaic.TcCoe Idealize.SL.Sem Idealize.ShloMosaic.StableHlo Cert.Attn

variable (V : Valuation τ sig (Elt Ideal))

/-- The buffers after the angles. -/
def sA : Valuation τ sig (Elt Ideal) := after opsAngle V

/-- The buffers after the turned queries. -/
def sQ : Valuation τ sig (Elt Ideal) := after opsRopeQ1 (after opsRopeQ0 (sA V))

/-- The buffers after the turned keys. -/
def sK : Valuation τ sig (Elt Ideal) := after opsRopeK (sQ V)

/-- The buffers after the heads. -/
def sH : Valuation τ sig (Elt Ideal) := after opsHeads (sK V)

/-- The buffers after the windows' keys. -/
def sWK : Valuation τ sig (Elt Ideal) := after opsWinK (after opsPadK (sH V))

/-- The buffers after the windows' values. -/
def sWV : Valuation τ sig (Elt Ideal) := after opsWinV (after opsPadV (sWK V))

/-- The buffers after the windows' scores. -/
def sL : Valuation τ sig (Elt Ideal) := after opsLoc (sWV V)

/-- The buffers after the mask. -/
def sM : Valuation τ sig (Elt Ideal) := after opsMask (sL V)

/-- The buffers after the scores. -/
def sS : Valuation τ sig (Elt Ideal) := after opsScore (sM V)

/-- The buffers after the rows of scores. -/
def sC : Valuation τ sig (Elt Ideal) := after opsCat (sS V)

/-- The buffers after the greatest scores. -/
def sT : Valuation τ sig (Elt Ideal) := after opsTop (sC V)

/-- The buffers after the exponentials. -/
def sX : Valuation τ sig (Elt Ideal) := after opsMax (sT V)

/-- The buffers after the softmax. -/
def sF : Valuation τ sig (Elt Ideal) := after opsSoft (sX V)

/-- The buffers after the latent rows. -/
def sO : Valuation τ sig (Elt Ideal) := after opsOut (sF V)

/-- The buffers after the context rows' scores. -/
def sCS : Valuation τ sig (Elt Ideal) := after opsCtxScore (sO V)

/-- The buffers after the context rows' exponentials. -/
def sCX : Valuation τ sig (Elt Ideal) := after opsCtxMax (sCS V)

/-- The buffers after the context rows' softmax. -/
def sCF : Valuation τ sig (Elt Ideal) := after opsCtxSoft (sCX V)

/-- The buffers after the context rows. -/
def sCO : Valuation τ sig (Elt Ideal) := after opsCtx (sCF V)

theorem after_stages (b : DevRef τ sig) : after ops V b = after opsEnd (sCO V) b := after_ops V b

theorem keepQ3 : sQ V (Proc.devRef .tc main_v3) = sA V (Proc.devRef .tc main_v3) := by
  unfold sQ
  rw [after_of_writes_sub _ _ opsRopeQ1_writes, after_of_writes_sub _ _ opsRopeQ0_writes]
  all_goals decide

theorem keepQ33 : sQ V (Proc.devRef .tc main_v33) = sA V (Proc.devRef .tc main_v33) := by
  unfold sQ
  rw [after_of_writes_sub _ _ opsRopeQ1_writes, after_of_writes_sub _ _ opsRopeQ0_writes]
  all_goals decide

theorem keepQ34 : sQ V (Proc.devRef .tc main_v34) = sA V (Proc.devRef .tc main_v34) := by
  unfold sQ
  rw [after_of_writes_sub _ _ opsRopeQ1_writes, after_of_writes_sub _ _ opsRopeQ0_writes]
  all_goals decide

theorem keepQ35 : sQ V (Proc.devRef .tc main_v35) = sA V (Proc.devRef .tc main_v35) := by
  unfold sQ
  rw [after_of_writes_sub _ _ opsRopeQ1_writes, after_of_writes_sub _ _ opsRopeQ0_writes]
  all_goals decide

theorem keepQ36 : sQ V (Proc.devRef .tc main_v36) = sA V (Proc.devRef .tc main_v36) := by
  unfold sQ
  rw [after_of_writes_sub _ _ opsRopeQ1_writes, after_of_writes_sub _ _ opsRopeQ0_writes]
  all_goals decide

theorem keep1 : sK V (Proc.devRef .tc main_v1) = sA V (Proc.devRef .tc main_v1) := by
  unfold sK sQ
  rw [after_of_writes_sub _ _ opsRopeK_writes, after_of_writes_sub _ _ opsRopeQ1_writes, after_of_writes_sub _ _ opsRopeQ0_writes]
  all_goals decide

theorem keep3 : sK V (Proc.devRef .tc main_v3) = sA V (Proc.devRef .tc main_v3) := by
  unfold sK sQ
  rw [after_of_writes_sub _ _ opsRopeK_writes, after_of_writes_sub _ _ opsRopeQ1_writes, after_of_writes_sub _ _ opsRopeQ0_writes]
  all_goals decide

theorem keep71 : sK V (Proc.devRef .tc main_v71) = sQ V (Proc.devRef .tc main_v71) := by
  unfold sK
  rw [after_of_writes_sub _ _ opsRopeK_writes]
  all_goals decide

theorem keep106 : sH V (Proc.devRef .tc main_v106) = sK V (Proc.devRef .tc main_v106) := by
  unfold sH
  rw [after_of_writes_sub _ _ opsHeads_writes]
  all_goals decide

theorem keep108 : sWK V (Proc.devRef .tc main_v108) = sH V (Proc.devRef .tc main_v108) := by
  unfold sWK
  rw [after_of_writes_sub _ _ opsWinK_writes, after_of_writes_sub _ _ opsPadK_writes]
  all_goals decide

theorem keep121 : sWV V (Proc.devRef .tc main_v121) = sWK V (Proc.devRef .tc main_v121) := by
  unfold sWV
  rw [after_of_writes_sub _ _ opsWinV_writes, after_of_writes_sub _ _ opsPadV_writes]
  all_goals decide

theorem keep115 : sWV V (Proc.devRef .tc main_v115) = sH V (Proc.devRef .tc main_v115) := by
  unfold sWV sWK
  rw [after_of_writes_sub _ _ opsWinV_writes, after_of_writes_sub _ _ opsPadV_writes, after_of_writes_sub _ _ opsWinK_writes, after_of_writes_sub _ _ opsPadK_writes]
  all_goals decide

theorem keep115M : sM V (Proc.devRef .tc main_v115) = sH V (Proc.devRef .tc main_v115) := by
  unfold sM sL sWV sWK
  rw [after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep131 : sM V (Proc.devRef .tc main_v131) = sL V (Proc.devRef .tc main_v131) := by
  unfold sM
  rw [after_of_writes_sub _ _ opsMask_writes]
  all_goals decide

theorem keep112 : sM V (Proc.devRef .tc main_v112) = sH V (Proc.devRef .tc main_v112) := by
  unfold sM sL sWV sWK
  rw [after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep112O : sO V (Proc.devRef .tc main_v112) = sH V (Proc.devRef .tc main_v112) := by
  unfold sO sF sX sT sC sS sM sL sWV sWK
  rw [after_of_writes_sub _ _ opsOut_writes, after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep110O : sO V (Proc.devRef .tc main_v110) = sH V (Proc.devRef .tc main_v110) := by
  unfold sO sF sX sT sC sS sM sL sWV sWK
  rw [after_of_writes_sub _ _ opsOut_writes, after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep114 : sF V (Proc.devRef .tc main_v114) = sH V (Proc.devRef .tc main_v114) := by
  unfold sF sX sT sC sS sM sL sWV sWK
  rw [after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep114C : sCF V (Proc.devRef .tc main_v114) = sH V (Proc.devRef .tc main_v114) := by
  unfold sCF sCX sCS sO sF sX sT sC sS sM sL sWV sWK
  rw [after_of_writes_sub _ _ opsCtxSoft_writes, after_of_writes_sub _ _ opsCtxMax_writes, after_of_writes_sub _ _ opsCtxScore_writes, after_of_writes_sub _ _ opsOut_writes, after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes]
  all_goals decide

theorem keep127 : sF V (Proc.devRef .tc main_v127) = sWV V (Proc.devRef .tc main_v127) := by
  unfold sF sX sT sC sS sM sL
  rw [after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes]
  all_goals decide

theorem keepSink : sM V (Proc.devRef .tc main_arg1) = V (Proc.devRef .tc main_arg1) := by
  unfold sM sL sWV sWK sH sK sQ sA
  rw [after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes, after_of_writes_sub _ _ opsHeads_writes, after_of_writes_sub _ _ opsRopeK_writes, after_of_writes_sub _ _ opsRopeQ1_writes, after_of_writes_sub _ _ opsRopeQ0_writes, after_of_writes_sub _ _ opsAngle_writes]
  all_goals decide

theorem keepSinkO : sO V (Proc.devRef .tc main_arg1) = V (Proc.devRef .tc main_arg1) := by
  unfold sO sF sX sT sC sS sM sL sWV sWK sH sK sQ sA
  rw [after_of_writes_sub _ _ opsOut_writes, after_of_writes_sub _ _ opsSoft_writes, after_of_writes_sub _ _ opsMax_writes, after_of_writes_sub _ _ opsTop_writes, after_of_writes_sub _ _ opsCat_writes, after_of_writes_sub _ _ opsScore_writes, after_of_writes_sub _ _ opsMask_writes, after_of_writes_sub _ _ opsLoc_writes, after_of_writes_sub _ _ opsWinV_writes, after_of_writes_sub _ _ opsPadV_writes, after_of_writes_sub _ _ opsWinK_writes, after_of_writes_sub _ _ opsPadK_writes, after_of_writes_sub _ _ opsHeads_writes, after_of_writes_sub _ _ opsRopeK_writes, after_of_writes_sub _ _ opsRopeQ1_writes, after_of_writes_sub _ _ opsRopeQ0_writes, after_of_writes_sub _ _ opsAngle_writes]
  all_goals decide

theorem keep195 : sCO V (Proc.devRef .tc main_v195) = sO V (Proc.devRef .tc main_v195) := by
  unfold sCO sCF sCX sCS
  rw [after_of_writes_sub _ _ opsCtx_writes, after_of_writes_sub _ _ opsCtxSoft_writes, after_of_writes_sub _ _ opsCtxMax_writes, after_of_writes_sub _ _ opsCtxScore_writes]
  all_goals decide

theorem keep176 : sT V (Proc.devRef .tc main_v176) = sC V (Proc.devRef .tc main_v176) := by
  unfold sT
  rw [after_of_writes_sub _ _ opsTop_writes]
  all_goals decide

/-- The projections, by row and column. -/
def proj0 : ℕ → ℕ → EReal := mat (V (Proc.devRef .tc main_arg0))

/-- The sink of a query head. -/
def sink0 (h g : Fin 4) : EReal := V (Proc.devRef .tc main_arg1) (ix1 ⟨h.val * 4 + g.val, by omega⟩)

theorem queries (t : Fin 16384) (h : Fin 16) (d : Fin 128) :
    sQ V (Proc.devRef .tc main_v71) (ix4 0 t h d) = turned (proj0 V) (256 + t.val) (6624 + h.val * 128) d.val :=
  turnQ (V := sA V) (latRow V) (cosRow V) (sinRow V) (cosCol V) (sinCol V) t h d

theorem keys (t : Fin 16384) (h : Fin 4) (d : Fin 128) :
    sK V (Proc.devRef .tc main_v106) (ix4 0 t h d) = turned (proj0 V) (256 + t.val) (8672 + h.val * 128) d.val :=
  turnK (V := sQ V) (fun t j => (congrFun (keepQ3 V) _).trans (latRow V t j)) (fun t j => (congrFun (keepQ33 V) _).trans (cosRow V t j))
    (fun t j => (congrFun (keepQ34 V) _).trans (sinRow V t j)) (fun t j => (congrFun (keepQ35 V) _).trans (cosCol V t j))
    (fun t j => (congrFun (keepQ36 V) _).trans (sinCol V t j)) t h d

theorem query (n q : Fin 128) (h g : Fin 4) (d : Fin 128) : sH V (Proc.devRef .tc main_v115) (ix6 0 n q h g d)
    = turned (proj0 V) (256 + (n.val * 128 + q.val)) (6624 + (h.val * 4 + g.val) * 128) d.val :=
  (grouped (sK V) n q h g d).trans ((congrFun (keep71 V) _).trans (queries V _ _ d))

theorem latValue (t : Fin 16384) (h : Fin 4) (d : Fin 128) : sH V (Proc.devRef .tc main_v108) (ix4 0 t h d)
    = proj0 V (256 + t.val) (9184 + (h.val * 128 + d.val)) :=
  (latVal (sK V) t h d).trans ((congrFun (keep3 V) _).trans (latRow V t _))

theorem ctxQ (t : Fin 256) (h : Fin 16) (d : Fin 128) : sH V (Proc.devRef .tc main_v110) (ix4 0 t h d)
    = proj0 V t.val (6624 + (h.val * 128 + d.val)) :=
  (ctxQuery (sK V) t h d).trans ((congrFun (keep1 V) _).trans (ctxRow V t _))

theorem ctxK (t : Fin 256) (h : Fin 4) (d : Fin 128) : sH V (Proc.devRef .tc main_v112) (ix4 0 t h d)
    = proj0 V t.val (8672 + (h.val * 128 + d.val)) :=
  (ctxKey (sK V) t h d).trans ((congrFun (keep1 V) _).trans (ctxRow V t _))

theorem ctxV (t : Fin 256) (h : Fin 4) (d : Fin 128) : sH V (Proc.devRef .tc main_v114) (ix4 0 t h d)
    = proj0 V t.val (9184 + (h.val * 128 + d.val)) :=
  (ctxVal (sK V) t h d).trans ((congrFun (keep1 V) _).trans (ctxRow V t _))

theorem winKey (n : Fin 128) (k : Fin 384) (h : Fin 4) (d : Fin 128) (hk : 128 ≤ n.val * 128 + k.val ∧ n.val * 128 + k.val - 128 < 16384) :
    sWK V (Proc.devRef .tc main_v121) (ix5 0 n k h d) = turned (proj0 V) (256 + (n.val * 128 + k.val - 128)) (8672 + h.val * 128) d.val :=
  winK (sH V) (W := fun t h d => turned (proj0 V) (256 + t.val) (8672 + h.val * 128) d.val)
    (fun t h d => (congrFun (keep106 V) _).trans (keys V t h d)) n k h d hk

theorem winVal (n : Fin 128) (k : Fin 384) (h : Fin 4) (d : Fin 128) (hk : 128 ≤ n.val * 128 + k.val ∧ n.val * 128 + k.val - 128 < 16384) :
    sWV V (Proc.devRef .tc main_v127) (ix5 0 n k h d) = proj0 V (256 + (n.val * 128 + k.val - 128)) (9184 + (h.val * 128 + d.val)) :=
  winV (sWK V) (W := fun t h d => proj0 V (256 + t.val) (9184 + (h.val * 128 + d.val)))
    (fun t h d => (congrFun (keep108 V) _).trans (latValue V t h d)) n k h d hk

/-- The window's scores of query `q` of block `n`. -/
def winScore (n q : Fin 128) (h g : Fin 4) (k : Fin 384) : EReal :=
  if sees n.val q.val k.val then
    (∑ x : Fin 128, turned (proj0 V) (256 + (n.val * 128 + q.val)) (6624 + (h.val * 4 + g.val) * 128) x.val
      * turned (proj0 V) (128 + n.val * 128 + k.val) (8672 + h.val * 128) x.val) * Cert.KernelIdeal.Head.scale
  else ⊥

/-- The context's scores of row `R`. -/
def ctxScores (R : ℕ) (h g : Fin 4) (k : Fin 256) : EReal :=
  (∑ x : Fin 128, turned (proj0 V) R (6624 + (h.val * 4 + g.val) * 128) x.val * proj0 V k.val (8672 + h.val * 128 + x.val)) * Cert.KernelIdeal.Head.scale

theorem score1' (n q : Fin 128) (h g : Fin 4) (k : Fin 384) : sS V (Proc.devRef .tc main_v169) (ix6 0 n h g q k) = winScore V n q h g k := by
  refine (score1 (sM V) n q k h g (seen (sL V) n q k)).trans ?_
  unfold winScore
  by_cases hs : sees n.val q.val k.val
  · rw [if_pos hs, if_pos hs]
    obtain ⟨_, hs1, hs2⟩ := hs
    refine ((congrFun (keep131 V) _).trans (loc (sWV V) n q k h g)).trans (congrArg (· * Cert.KernelIdeal.Head.scale) (Finset.sum_congr rfl fun x _ => ?_))
    rw [congrFun (keep121 V) _, winKey V n k h x ⟨hs1, by omega⟩, congrFun (keep115 V) _, query V n q h g x, mul_comm,
      show 256 + (n.val * 128 + k.val - 128) = 128 + n.val * 128 + k.val by omega]
  · rw [if_neg hs, if_neg hs]

theorem score2' (n q : Fin 128) (h g : Fin 4) (k : Fin 256) : sS V (Proc.devRef .tc main_v173) (ix6 0 n h g q k)
    = ctxScores V (256 + (n.val * 128 + q.val)) h g k := by
  refine (score2 (sM V) n q k h g).trans (congrArg (· * Cert.KernelIdeal.Head.scale) (Finset.sum_congr rfl fun x _ => ?_))
  rw [congrFun (keep112 V) _, ctxK V k h x, congrFun (keep115M V) _, query V n q h g x, mul_comm, Nat.add_assoc 8672]

theorem score3' (n q : Fin 128) (h g : Fin 4) : sS V (Proc.devRef .tc main_v175) (ix6 0 n h g q 0) = sink0 V h g :=
  (score3 (sM V) n q h g).trans (congrFun (keepSink V) _)

theorem scores (n q : Fin 128) (h g : Fin 4) (k : Fin 641) : sC V (Proc.devRef .tc main_v176) (ix6 0 n h g q k)
    = scoreRow (winScore V n q h g) (ctxScores V (256 + (n.val * 128 + q.val)) h g) (sink0 V h g) k := by
  refine (cat (sS V) n q h g k).trans ?_
  rw [score3', funext (score1' V n q h g), funext (score2' V n q h g)]

section
variable (hP : Sound (proj0 V)) (hs : ∀ h g, Fin' (sink0 V h g))
include hP hs

/-- A latent row's element. -/
theorem latent (n q : Fin 128) (h g : Fin 4) (d : Fin 128) :
    sO V (Proc.devRef .tc main_v195) (ix3 0 ⟨n.val * 128 + q.val, by omega⟩ ⟨(h.val * 4 + g.val) * 128 + d.val, by omega⟩)
      = rowAt (proj0 V) (sink0 V h g) (6624 + (h.val * 4 + g.val) * 128) (8672 + h.val * 128) (9184 + h.val * 128) (256 + (n.val * 128 + q.val)) d.val := by
  have hX := fun k => scores V n q h g k
  have hE := fun k => raised (sT V) n q h g k ((congrFun (keep176 V) _).trans (hX k)) (topped (sC V) n q h g hX)
  refine (out (sF V) n q h g d (fun x => congrFun (keep127 V) _) (fun x => (congrFun (keep114 V) _).trans (ctxV V x h d))
    (fun k => soft (sX V) n q h g k hE)).trans ?_
  refine (join_row (winScore V n q h g) q.val q.isLt (ctxScores V (256 + (n.val * 128 + q.val)) h g) (sink0 V h g) _ _ ?_ (hs h g).1 ?_
    (fun k => rfl) (fun k => rfl)).trans ?_
  · intro k hk
    unfold winScore
    rw [if_neg fun hs' => hk hs'.1]
  · exact hP.top (hs h g).2 (fun o => sees n.val q.val (q.val + o.val)) _ (fun o => 128 + n.val * 128 + (q.val + o.val)) _ _
      (by omega) (by omega) (by omega) (by omega)
  · refine attn_congr (fun o => ?_) (fun c => rfl) rfl (fun o ho => ?_) (fun c => by rw [Nat.add_assoc])
    · unfold winScore sees
      dsimp only
      have ho := o.isLt
      rw [show 256 + (n.val * 128 + q.val) + o.val - 128 = 128 + n.val * 128 + (q.val + o.val) by omega]
      refine if_congr ⟨fun hk => ⟨by omega, by omega, by omega⟩, fun hk => ⟨⟨by omega, by omega⟩, by omega, by omega⟩⟩ rfl rfl
    · have hk : sees n.val q.val (q.val + o.val) := by
        by_contra hk
        exact ho (if_neg hk)
      obtain ⟨_, hk1, hk2⟩ := hk
      refine (winVal V n ⟨q.val + o.val, by omega⟩ h d ⟨hk1, ?_⟩).trans ?_
      · dsimp only; omega
      · dsimp only
        exact congrArg₂ (proj0 V) (by omega) (by omega)

/-- A context row's element. -/
theorem context (q : Fin 256) (h g : Fin 4) (d : Fin 128) : sCO V (Proc.devRef .tc main_v217) (ix5 0 q h g d)
      = rowAt (proj0 V) (sink0 V h g) (6624 + (h.val * 4 + g.val) * 128) (8672 + h.val * 128) (9184 + h.val * 128) q.val d.val := by
  have hS := fun k => ctxScore (sO V) q h g k (fun k x => (congrFun (keep112O V) _).trans (ctxK V k h x))
    (fun x => (congrFun (keep110O V) _).trans (ctxQ V q _ x)) (congrFun (keepSinkO V) _)
  refine (ctx (sCF V) q h g d (fun x => (congrFun (keep114C V) _).trans (ctxV V x h d))
    (fun k => ctxSoft (sCX V) q h g k fun k => ctxRaised (sCS V) q h g k hS)).trans ?_
  have hq := q.isLt
  have hm := hP.top (s := sink0 V h g) (hs h g).2 (fun o => 256 ≤ q.val ∧ 384 ≤ q.val + o.val ∧ q.val + o.val < 16768) q.val
    (fun o => q.val + o.val - 128) (6624 + (h.val * 4 + g.val) * 128) (8672 + h.val * 128) (by omega) (by omega) (by omega) (by omega)
  refine (join_ctx _ (fun o => ?_) (fun k => (∑ x : Fin 128, turned (proj0 V) q.val (6624 + (h.val * 4 + g.val) * 128) x.val * proj0 V k.val (8672 + h.val * 128 + x.val)) * Cert.KernelIdeal.Head.scale)
    (sink0 V h g) (fun o => proj0 V (q.val + o.val - 128) (9184 + h.val * 128 + d.val)) _ (hs h g).1 hm (fun k => ?_) (fun k => rfl) (fun k => rfl)).trans ?_
  · exact if_neg fun hk => by omega
  · refine dite_congr rfl (fun hk => ?_) fun _ => rfl
    refine congrArg (· * Cert.KernelIdeal.Head.scale) (Finset.sum_congr rfl fun x _ => ?_)
    unfold turned
    rw [if_pos hq, mul_comm, Nat.add_assoc 6624, Nat.add_assoc 8672]
  · exact attn_congr (fun o => rfl) (fun c => rfl) rfl (fun o ho => rfl) (fun c => by rw [Nat.add_assoc])

/-- The reference's element. -/
theorem value (R : Fin 16640) (k : Fin 2048) : after ops V (Proc.devRef .tc main_v222) (ix2 R k)
      = rowAt (proj0 V) (V (Proc.devRef .tc main_arg1) (ix1 ⟨k.val / 128, by omega⟩)) (6624 + k.val / 128 * 128) (8672 + k.val / 512 * 128)
        (9184 + k.val / 512 * 128) R.val (k.val % 128) := by
  have e1 : k.val / 512 * 4 + k.val / 128 % 4 = k.val / 128 := by omega
  have es : sink0 V ⟨k.val / 512, by omega⟩ ⟨k.val / 128 % 4, by omega⟩ = V (Proc.devRef .tc main_arg1) (ix1 ⟨k.val / 128, by omega⟩) := by
    unfold sink0
    exact congrArg (fun i => V (Proc.devRef .tc main_arg1) (ix1 i)) (Fin.ext e1)
  rw [after_stages, fin]
  split
  · rename_i h
    rw [context V hP hs ⟨R.val, h⟩ ⟨k.val / 512, by omega⟩ ⟨k.val / 128 % 4, by omega⟩ ⟨k.val % 128, by omega⟩, es]
    dsimp only
    rw [e1]
  · rename_i h
    have hl := latent V hP hs ⟨(R.val - 256) / 128, by omega⟩ ⟨(R.val - 256) % 128, by omega⟩ ⟨k.val / 512, by omega⟩ ⟨k.val / 128 % 4, by omega⟩ ⟨k.val % 128, by omega⟩
    rw [es] at hl
    dsimp only at hl
    rw [congrFun (keep195 V) _]
    have e2 : (R.val - 256) / 128 * 128 + (R.val - 256) % 128 = R.val - 256 := by omega
    have e3 : k.val / 128 * 128 + k.val % 128 = k.val := by omega
    refine Eq.trans (congrArg (sO V (Proc.devRef .tc main_v195)) ?_) (hl.trans ?_)
    · exact congrArg₂ (ix3 0) (Fin.ext e2.symm) (Fin.ext (by dsimp only; omega))
    · rw [e1, e2, show 256 + (R.val - 256) = R.val by omega]
end

end Cert.ReferenceIdeal.Stage

end
-- ==== Proof.Pre.lean ====
/- What the precondition says of the arrays: queries, keys and sinks are real numbers. -/
module

public import proofs.«01_k».proof.Proof.AttnJoin
public import proofs.«01_k».proof.Pre_finite
public import Idealize.ShloMosaic.Lib.ReduceAll

@[expose] public section

set_option maxRecDepth 100000

noncomputable section

namespace Cert.Attn

open Idealize.ShloMosaic Cert.Pre_finite

theorem real_of_abs {x : EReal} (h : Ideal.cmp .olt (max x (-x)) (Ideal.ofBits .f32 0x7F800000#32) = 1#1) : Fin' x := by
  have hi : Ideal.ofBits .f32 0x7F800000#32 = ⊤ := by simp [Ideal.ofBits, Ideal.ieee]
  rw [hi] at h
  constructor
  · rintro rfl
    simp [Ideal.cmp] at h
  · rintro rfl
    simp [Ideal.cmp] at h

instance : Subsingleton S_.Idx := ⟨fun a b => funext fun i => i.elim0⟩

theorem finite_spec [Cert.Pre_finite.Facts] (x : S16640x9952.Idx → EReal) (s : S16.Idx → EReal)
    (h : Cert.Pre_finite.fn (F := Ideal) x s = fun _ => 1#1) : Sound (mat x) ∧ ∀ j, Fin' (s (ix1 j)) := by
  obtain ⟨h1, h2⟩ := IntOp.andi_eq_one.1 (congrFun h ix0)
  refine ⟨fun R c h0 h9 => ?_, fun j => real_of_abs (Host.reduce_andi_all _ _ _ _ ix0 h2 (ix1 j))⟩
  unfold mat
  split
  · rename_i hb
    have e : extractStridedSlice S16640x2560 ![0, 6624] x Facts.slices_S16640x9952_S16640x2560_0_6624 (ix2 ⟨R, hb.1⟩ ⟨c - 6624, by omega⟩)
        = x (ix2 ⟨R, hb.1⟩ ⟨c, hb.2⟩) := by
      pointwise
      exact congrArg (fun k => x (ix2 ⟨R, hb.1⟩ k)) (Fin.ext (by dsimp only; omega))
    exact e ▸ real_of_abs (Host.reduce_andi_all _ _ _ _ ix0 h1 (ix2 ⟨R, hb.1⟩ ⟨c - 6624, by omega⟩))
  · exact Fin'.coe 0

end Cert.Attn

end
-- ==== Proof.Tiles.lean ====
/- What the matrix calls share: a result cut into equal tiles in row-major order of the grid, a row times a column, and
   the logistic function as the calls write it. -/
module

public import Idealize.ShloMosaic.Lib.Pipeline.ValueKit
public import Idealize.ShloMosaic.Lib.StableHlo.ReadAt
public import Idealize.ShloMosaic.Lib.Pointwise

@[expose] public section

noncomputable section

namespace Cert.Tiles

open Idealize.ShloMosaic Idealize.ShloMosaic.Tactic

/-- A row times a column. -/
abbrev dot (n : ℕ) (f g : Fin n → EReal) : EReal := ∑ x : Fin n, f x * g x

theorem dot_congr {n : ℕ} {f f' g g' : Fin n → EReal} (hf : ∀ x, f x = f' x) (hg : ∀ x, g x = g' x) : dot n f g = dot n f' g' :=
  Finset.sum_congr rfl fun x _ => by rw [hf x, hg x]

/-- Grid points with the same row and column of tiles are the same point. -/
theorem same_point {N n : ℕ} {t t' : Fin N} (h0 : t.val / n = t'.val / n) (h1 : t.val % n = t'.val % n) : t = t' :=
  Fin.ext (by rw [← Nat.div_add_mod t.val n, ← Nat.div_add_mod t'.val n, h0, h1])

/-- Two matrices that agree on every tile are equal: `gm` rows of `gn` tiles, each `tm` by `tn`. -/
theorem same {α : Type} {M N tm tn gm gn : ℕ} (hM : M = tm * gm) (hN : N = tn * gn) {A B : (⟨2, ![M, N]⟩ : Shape).Idx → α}
    (h : ∀ (t : Fin (gm * gn)) (r : Fin tm) (k : Fin tn) (R : Fin M) (K : Fin N),
      R.val = tm * (t.val / gn) + r.val → K.val = tn * (t.val % gn) + k.val → A (ix2 R K) = B (ix2 R K)) : A = B := by
  subst hM hN
  funext i
  rw [eq_ix2 i]
  generalize i 0 = R
  generalize i 1 = K
  have hR : R.val < tm * gm := R.isLt
  have hK : K.val < tn * gn := K.isLt
  have pm : 0 < tm := Nat.pos_of_ne_zero (by rintro rfl; simp at hR)
  have pn : 0 < tn := Nat.pos_of_ne_zero (by rintro rfl; simp at hK)
  have bm : R.val / tm < gm := Nat.div_lt_of_lt_mul hR
  have bn : K.val / tn < gn := Nat.div_lt_of_lt_mul hK
  have pg : 0 < gn := Nat.lt_of_le_of_lt (Nat.zero_le _) bn
  have lt : R.val / tm * gn + K.val / tn < gm * gn :=
    calc R.val / tm * gn + K.val / tn < R.val / tm * gn + gn := Nat.add_lt_add_left bn _
      _ = (R.val / tm + 1) * gn := (Nat.succ_mul _ _).symm
      _ ≤ gm * gn := Nat.mul_le_mul_right _ bm
  refine h ⟨_, lt⟩ ⟨R.val % tm, Nat.mod_lt _ pm⟩ ⟨K.val % tn, Nat.mod_lt _ pn⟩ R K ?_ ?_
  · show R.val = tm * ((R.val / tm * gn + K.val / tn) / gn) + R.val % tm
    rw [Nat.add_comm (_ * gn), Nat.add_mul_div_right _ _ pg, Nat.div_eq_of_lt bn, Nat.zero_add, Nat.div_add_mod]
  · show K.val = tn * ((R.val / tm * gn + K.val / tn) % gn) + K.val % tn
    rw [Nat.add_comm (_ * gn), Nat.add_mul_mod_self_right, Nat.mod_eq_of_lt bn, Nat.div_add_mod]

/-- An index of a matrix with the given coordinates. -/
theorem at_coords {M N : ℕ} {x : (⟨2, ![M, N]⟩ : Shape).Idx} {r : Fin M} {k : Fin N} (h0 : r.val = (x 0).val) (h1 : k.val = (x 1).val) : x = ix2 r k := by
  rw [eq_ix2 x, show x 0 = r from Fin.ext h0.symm, show x 1 = k from Fin.ext h1.symm]

/-- One over one plus an exponential of zero minus `z`, as the calls write it, is the logistic function. -/
theorem logistic_of_sub (z : EReal) : Ideal.div 1 (1 + Ideal.exp (0 - z)) = Ideal.logistic z := by
  rw [zero_sub]; rfl

end Cert.Tiles

end
-- ==== Proof.Up.lean ====
/- The feed-forward part's gated product: what the call writes, and that it is the reference's. -/
module

public import proofs.«01_k».proof.Proof.Gen.KernelUpIdeal.Value
public import proofs.«01_k».proof.Proof.Gen.ReferenceUpIdeal.Run
public import proofs.«01_k».proof.Proof.Tiles
public import proofs.«01_k».proof.Defs
public import proofs.«01_k».proof.Proof.Gen.KernelUp.Frame
public import Idealize.ShloMosaic.Adequacy
public import Idealize.ShloMosaic.Init

@[expose] public section

set_option maxRecDepth 100000

noncomputable section

/-- The gated product of two numbers: the first, times its logistic value, times the second. -/
def Cert.Up.gated (a b : EReal) : EReal := a * Idealize.ShloMosaic.Ideal.logistic a * b

namespace Cert.KernelUpIdeal.Product

open Cert.KernelUpIdeal Cert.KernelUpIdeal.Gen Idealize.ShloMosaic Idealize.ShloMosaic.TcCoe Idealize.ShloMosaic.Tactic Cert.Tiles Cert.Up

variable (m : (ℓ : Loc nD τ sig) → Buf (Elt Ideal) ℓ)

theorem at0 : ∀ t : Fin cfg0.N, (cfg0.win 0).index t 0 = t.val / 43 ∧ (cfg0.win 0).index t 1 = 0 := by decide +kernel
theorem at1 : ∀ t : Fin cfg0.N, (cfg0.win 1).index t 0 = 0 ∧ (cfg0.win 1).index t 1 = 0 ∧ (cfg0.win 1).index t 2 = t.val % 43 := by decide +kernel
theorem at2 : ∀ t : Fin cfg0.N, (cfg0.win 2).index t 0 = 0 ∧ (cfg0.win 2).index t 1 = 0 ∧ (cfg0.win 2).index t 2 = t.val % 43 := by decide +kernel
theorem at3 : ∀ t : Fin cfg0.N, (cfg0.win 3).index t 0 = t.val / 43 ∧ (cfg0.win 3).index t 1 = t.val % 43 := by decide +kernel
theorem flushes : ∀ t : Fin cfg0.N, (cfg0.win 3).flush t = true := by decide +kernel

/-- A block of the array after the run is what its grid point wrote. -/
theorem blocks (c : Dev nD) (t : Fin cfg0.N) :
    ((cfg0.win 3).blk t).view.read (Elt Ideal) ((dats m 0 c).arrAt 3 cfg0.N) = (dats m 0 c).flushed 3 t :=
  (dats m 0 c).read_blk_arrAt_eq_flushed 3 (Pipeline.Window.hdisj_of_index_inj _ fun t t' _ _ h => same_point
    (by rw [← (at3 t).1, ← (at3 t').1, h]) (by rw [← (at3 t).2, ← (at3 t').2, h])) cfg0.N t t.isLt (flushes t)

theorem left (c : Dev nD) (R : Fin 16640) (x : Fin 4096) : V m c main_v0 (ix2 R x) = m (c, Proc.tc.devRef main_arg0) (ix2 R x) := by
  unfold V
  after_reads_at

theorem rows (c : Dev nD) (t : Fin cfg0.N) (r : Fin 1664) (x : Fin 4096) (R : Fin 16640) (hR : R.val = 1664 * (t.val / 43) + r.val) :
    iblk m c 0 t (ix2 r x) = m (c, Proc.tc.devRef main_arg0) (ix2 R x) := by
  refine Eq.trans ?_ (left m c R x)
  blk_ext [iblk, (at0 t).1, (at0 t).2, hR]

theorem weights1 (c : Dev nD) (t : Fin cfg0.N) (x : Fin 4096) (k : Fin 256) (K : Fin 11008) (hK : K.val = 256 * (t.val % 43) + k.val) :
    iblk m c 1 t (ix3 0 x k) = m (c, Proc.tc.devRef main_arg1) (ix3 0 x K) := by
  refine Eq.trans ?_ (congrFun (V_main_arg1 m c) (ix3 0 x K))
  blk_ext [iblk, (at1 t).1, (at1 t).2.1, (at1 t).2.2, hK]

theorem weights2 (c : Dev nD) (t : Fin cfg0.N) (x : Fin 4096) (k : Fin 256) (K : Fin 11008) (hK : K.val = 256 * (t.val % 43) + k.val) :
    iblk m c 2 t (ix3 0 x k) = m (c, Proc.tc.devRef main_arg2) (ix3 0 x K) := by
  refine Eq.trans ?_ (congrFun (V_main_arg2 m c) (ix3 0 x K))
  blk_ext [iblk, (at2 t).1, (at2 t).2.1, (at2 t).2.2, hK]

theorem pay (a : Vec Ideal S1664x4096 .bf16) (b d : Vec Ideal S1x4096x256 .f32) (r : Fin 1664) (k : Fin 256) :
    k0_pay1 (View.ld a r0_0) (View.ld b r0_1) (View.ld d r0_1) (ix2 r k)
      = gated (dot 4096 (fun x => a (ix2 r x)) (fun x => b (ix3 0 x k))) (dot 4096 (fun x => a (ix2 r x)) (fun x => d (ix3 0 x k))) := by
  unfold gated
  rw [← logistic_of_sub]
  pointwise [k0_pay1]

theorem tile (a : Vec Ideal S1664x4096 .bf16) (b d : Vec Ideal S1x4096x256 .f32) (r : Fin 1664) (k : Fin 256) :
    out0_3 a b d (ix2 r k)
      = gated (dot 4096 (fun x => a (ix2 r x)) (fun x => b (ix3 0 x k))) (dot 4096 (fun x => a (ix2 r x)) (fun x => d (ix3 0 x k))) := by
  unfold out0_3
  canon_tiles x h
  exact (congrArg _ (at_coords (by simpa using h0) (by simpa using h1))).trans (pay a b d r k)

/-- The array after the run, element by element of each tile. -/
theorem value (c : Dev nD) (t : Fin cfg0.N) (r : Fin 1664) (k : Fin 256) (R : Fin 16640) (K : Fin 11008)
    (hR : R.val = 1664 * (t.val / 43) + r.val) (hK : K.val = 256 * (t.val % 43) + k.val) : (dats m 0 c).arrAt 3 cfg0.N (ix2 R K)
    = gated (dot 4096 (fun x => m (c, Proc.tc.devRef main_arg0) (ix2 R x)) (fun x => m (c, Proc.tc.devRef main_arg1) (ix3 0 x K)))
        (dot 4096 (fun x => m (c, Proc.tc.devRef main_arg0) (ix2 R x)) (fun x => m (c, Proc.tc.devRef main_arg2) (ix3 0 x K))) := by
  have h := congrFun (blocks m c t) (ix2 r k)
  rw [Value.flushed3] at h
  refine Eq.trans ?_ (h.trans ((tile _ _ _ r k).trans (congrArg₂ gated
    (dot_congr (fun x => rows m c t r x R hR) fun x => weights1 m c t x k K hK)
    (dot_congr (fun x => rows m c t r x R hR) fun x => weights2 m c t x k K hK))))
  blk_ext [(at3 t).1, (at3 t).2, hR, hK]

end Cert.KernelUpIdeal.Product

namespace Cert.ReferenceUpIdeal.Product

open Cert.ReferenceUpIdeal Cert.ReferenceUpIdeal.Gen Idealize.ShloMosaic Idealize.ShloMosaic.TcCoe Idealize.ShloMosaic.Tactic Cert.Tiles Cert.Up

/-- One of the reference's two products. -/
def product (a : FVec Ideal S16640x4096 .f32) (b : FVec Ideal S4x4096x11008 .f32) : FVec Ideal S16640x11008 .f32 :=
  Host.dotGeneral dot_S16640x4096_S4096x11008_S16640x11008_1_0_0_1_n_n none a (shapeCast _ (extractStridedSlice S1x4096x11008 ![0, 0, 0] b slices_S4x4096x11008_S1x4096x11008_0_0_0) shapeCasts_S1x4096x11008_S4096x11008)

/-- The reference's result of the two products. -/
def result (y z : FVec Ideal S16640x11008 .f32) : FVec Ideal S16640x11008 .bf16 :=
  truncf .bf16 (mulf (mulf y (Host.divf (broadcastInDim S16640x11008 ![] bcast_S_S16640x11008 (constant S_ .f32 0x3F800000#32)) (addf (broadcastInDim S16640x11008 ![] bcast_S_S16640x11008 (constant S_ .f32 0x3F800000#32)) (Host.exp (Host.negf y))))) z) bitsLt_bf16_f32

theorem product_at (a : FVec Ideal S16640x4096 .f32) (b : FVec Ideal S4x4096x11008 .f32) (R : Fin 16640) (k : Fin 11008) :
    product a b (ix2 R k) = dot 4096 (fun x => a (ix2 R x)) (fun x => b (ix3 0 x k)) := by
  pointwise [product]

theorem result_at (y z : FVec Ideal S16640x11008 .f32) (R : Fin 16640) (k : Fin 11008) :
    result y z (ix2 R k) = gated (y (ix2 R k)) (z (ix2 R k)) := by
  unfold gated Ideal.logistic
  pointwise [result]

end Cert.ReferenceUpIdeal.Product

namespace Cert.Up

open Idealize.ShloMosaic Idealize.ShloMosaic.TcCoe Idealize.SL.Sem Cert.ReferenceUpIdeal.Product

/-- The call computes the reference's gated product. -/
theorem algebraic : Cert.algebraic_KernelUpIdeal_ReferenceUpIdeal (hKernelUpIdeal := Cert.KernelUpIdeal.Gen.facts)
    (hReferenceUpIdeal := Cert.ReferenceUpIdeal.Gen.facts) := by
  intro m g m' g' _ hag
  refine ⟨fun c => (Cert.KernelUpIdeal.Gen.dats m 0 c).arrAt 3 Cert.KernelUpIdeal.cfg0.N, Cert.KernelUpIdeal.Value.run_blocks m g,
    (θ_run Cert.ReferenceUpIdeal.defs _ _).mono (fun r h c => ⟨(h c).1.trans ?_, (h c).2⟩) (Cert.ReferenceUpIdeal.Value.run m' g')⟩
  have e0 := (hag c).1
  have e1 := (hag c).2.1
  have e2 := (hag c).2.2
  show result (product _ _) (product _ _) = _
  rw [e0, e1, e2]
  refine Tiles.same (gm := 10) (gn := 43) rfl rfl fun t r k R K hR hK =>
    (result_at _ _ R K).trans (Eq.trans ?_ (Cert.KernelUpIdeal.Product.value m c t r k R K hR hK).symm)
  exact congrArg₂ gated (product_at _ _ R K) (product_at _ _ R K)

theorem kernel_frame : Cert.quiescent_KernelUp (hKernelUp := Cert.KernelUp.Gen.facts) := fun m g _ => Cert.KernelUp.Gen.frame m g
theorem ideal_frame : Cert.quiescent_KernelUpIdeal (hKernelUpIdeal := Cert.KernelUpIdeal.Gen.facts) := fun m g _ => Cert.KernelUpIdeal.Gen.frame m g
theorem reference_frame : Cert.quiescent_ReferenceUpIdeal (hReferenceUpIdeal := Cert.ReferenceUpIdeal.Gen.facts) := fun m g _ =>
  (θ_run Cert.ReferenceUpIdeal.defs _ _).mono (fun r h => ⟨fun c => (h c).2, sem_eq_zero_of_no_sems (by decide) r.2⟩) (Cert.ReferenceUpIdeal.Value.run (F := Ideal) m g)

end Cert.Up

end
-- ==== Proof.Down.lean ====
/- The feed-forward part's second product: what the call writes, and that it is the reference's product. -/
module

public import proofs.«01_k».proof.Proof.Gen.KernelDownIdeal.Value
public import proofs.«01_k».proof.Proof.Gen.ReferenceDownIdeal.Run
public import proofs.«01_k».proof.Proof.Tiles
public import proofs.«01_k».proof.Defs
public import proofs.«01_k».proof.Proof.Gen.KernelDown.Frame
public import Idealize.ShloMosaic.Adequacy
public import Idealize.ShloMosaic.Init

@[expose] public section

set_option maxRecDepth 100000

noncomputable section

namespace Cert.KernelDownIdeal.Product

open Cert.KernelDownIdeal Cert.KernelDownIdeal.Gen Idealize.ShloMosaic Idealize.ShloMosaic.TcCoe Idealize.ShloMosaic.Tactic Cert.Tiles

variable (m : (ℓ : Loc nD τ sig) → Buf (Elt Ideal) ℓ)

theorem at0 : ∀ t : Fin cfg0.N, (cfg0.win 0).index t 0 = t.val / 8 ∧ (cfg0.win 0).index t 1 = 0 := by decide +kernel
theorem at1 : ∀ t : Fin cfg0.N, (cfg0.win 1).index t 0 = 0 ∧ (cfg0.win 1).index t 1 = 0 ∧ (cfg0.win 1).index t 2 = t.val % 8 := by decide +kernel
theorem at2 : ∀ t : Fin cfg0.N, (cfg0.win 2).index t 0 = t.val / 8 ∧ (cfg0.win 2).index t 1 = t.val % 8 := by decide +kernel
theorem flushes : ∀ t : Fin cfg0.N, (cfg0.win 2).flush t = true := by decide +kernel

/-- A block of the array after the run is what its grid point wrote. -/
theorem blocks (c : Dev nD) (t : Fin cfg0.N) :
    ((cfg0.win 2).blk t).view.read (Elt Ideal) ((dats m 0 c).arrAt 2 cfg0.N) = (dats m 0 c).flushed 2 t :=
  (dats m 0 c).read_blk_arrAt_eq_flushed 2 (Pipeline.Window.hdisj_of_index_inj _ fun t t' _ _ h => same_point
    (by rw [← (at2 t).1, ← (at2 t').1, h]) (by rw [← (at2 t).2, ← (at2 t').2, h])) cfg0.N t t.isLt (flushes t)

theorem left (c : Dev nD) (R : Fin 16640) (x : Fin 11008) : V m c main_v0 (ix2 R x) = m (c, Proc.tc.devRef main_arg0) (ix2 R x) := by
  unfold V
  after_reads_at

theorem right (c : Dev nD) (x : Fin 11008) (k : Fin 4096) : V m c main_v1 (ix3 0 x k) = m (c, Proc.tc.devRef main_arg1) (ix3 0 x k) := by
  unfold V
  after_reads_at

theorem block0 (c : Dev nD) (t : Fin cfg0.N) (r : Fin 640) (x : Fin 11008) (R : Fin 16640) (hR : R.val = 640 * (t.val / 8) + r.val) :
    iblk m c 0 t (ix2 r x) = m (c, Proc.tc.devRef main_arg0) (ix2 R x) := by
  refine Eq.trans ?_ (left m c R x)
  blk_ext [iblk, (at0 t).1, (at0 t).2, hR]

theorem block1 (c : Dev nD) (t : Fin cfg0.N) (x : Fin 11008) (k : Fin 512) (K : Fin 4096) (hK : K.val = 512 * (t.val % 8) + k.val) :
    iblk m c 1 t (ix3 0 x k) = m (c, Proc.tc.devRef main_arg1) (ix3 0 x K) := by
  refine Eq.trans ?_ (right m c x K)
  blk_ext [iblk, (at1 t).1, (at1 t).2.1, (at1 t).2.2, hK]

theorem tile (a : Vec Ideal S640x11008 .bf16) (b : Vec Ideal S1x11008x512 .bf16) (r : Fin 640) (k : Fin 512) :
    out0_2 a b (ix2 r k) = dot 11008 (fun x => a (ix2 r x)) (fun x => b (ix3 0 x k)) := by
  unfold out0_2
  canon_tiles x h
  exact (congrArg _ (at_coords (by simpa using h0) (by simpa using h1))).trans
    (show k0_pay1 (View.ld a r0_0) (View.ld b r0_1) (ix2 r k) = _ by pointwise [k0_pay1])

/-- The array after the run, element by element of each tile. -/
theorem value (c : Dev nD) (t : Fin cfg0.N) (r : Fin 640) (k : Fin 512) (R : Fin 16640) (K : Fin 4096)
    (hR : R.val = 640 * (t.val / 8) + r.val) (hK : K.val = 512 * (t.val % 8) + k.val) : (dats m 0 c).arrAt 2 cfg0.N (ix2 R K)
    = dot 11008 (fun x => m (c, Proc.tc.devRef main_arg0) (ix2 R x)) (fun x => m (c, Proc.tc.devRef main_arg1) (ix3 0 x K)) := by
  have h := congrFun (blocks m c t) (ix2 r k)
  rw [Value.flushed2] at h
  refine Eq.trans ?_ (h.trans ((tile _ _ r k).trans (dot_congr (fun x => block0 m c t r x R hR) fun x => block1 m c t x k K hK)))
  blk_ext [(at2 t).1, (at2 t).2, hR, hK]

end Cert.KernelDownIdeal.Product

namespace Cert.ReferenceDownIdeal.Product

open Cert.ReferenceDownIdeal Cert.ReferenceDownIdeal.Gen Idealize.ShloMosaic Idealize.ShloMosaic.TcCoe Idealize.ShloMosaic.Tactic Cert.Tiles

/-- The reference's product. -/
def product (a : FVec Ideal S16640x11008 .f32) (b : FVec Ideal S4x11008x4096 .f32) : FVec Ideal S16640x4096 .bf16 :=
  truncf .bf16 (Host.dotGeneral dot_S16640x11008_S11008x4096_S16640x4096_1_0_0_1_n_n none a (shapeCast _ (extractStridedSlice S1x11008x4096 ![0, 0, 0] b slices_S4x11008x4096_S1x11008x4096_0_0_0) shapeCasts_S1x11008x4096_S11008x4096)) bitsLt_bf16_f32

theorem value (a : FVec Ideal S16640x11008 .f32) (b : FVec Ideal S4x11008x4096 .f32) (R : Fin 16640) (k : Fin 4096) :
    product a b (ix2 R k) = dot 11008 (fun x => a (ix2 R x)) (fun x => b (ix3 0 x k)) := by
  pointwise [product]

end Cert.ReferenceDownIdeal.Product

namespace Cert.Down

open Idealize.ShloMosaic Idealize.ShloMosaic.TcCoe Idealize.SL.Sem

/-- The call computes the reference's product. -/
theorem algebraic : Cert.algebraic_KernelDownIdeal_ReferenceDownIdeal (hKernelDownIdeal := Cert.KernelDownIdeal.Gen.facts)
    (hReferenceDownIdeal := Cert.ReferenceDownIdeal.Gen.facts) := by
  intro m g m' g' _ hag
  refine ⟨fun c => (Cert.KernelDownIdeal.Gen.dats m 0 c).arrAt 2 Cert.KernelDownIdeal.cfg0.N, Cert.KernelDownIdeal.Value.run_blocks m g,
    (θ_run Cert.ReferenceDownIdeal.defs _ _).mono (fun r h c => ⟨(h c).1.trans ?_, (h c).2⟩) (Cert.ReferenceDownIdeal.Value.run m' g')⟩
  have e0 := (hag c).1
  have e1 := (hag c).2
  show Cert.ReferenceDownIdeal.Product.product _ _ = _
  rw [e0, e1]
  exact Tiles.same (gm := 26) (gn := 8) rfl rfl fun t r k R K hR hK =>
    (Cert.ReferenceDownIdeal.Product.value _ _ R K).trans (Cert.KernelDownIdeal.Product.value m c t r k R K hR hK).symm

theorem kernel_frame : Cert.quiescent_KernelDown (hKernelDown := Cert.KernelDown.Gen.facts) := fun m g _ => Cert.KernelDown.Gen.frame m g
theorem ideal_frame : Cert.quiescent_KernelDownIdeal (hKernelDownIdeal := Cert.KernelDownIdeal.Gen.facts) := fun m g _ => Cert.KernelDownIdeal.Gen.frame m g
theorem reference_frame : Cert.quiescent_ReferenceDownIdeal (hReferenceDownIdeal := Cert.ReferenceDownIdeal.Gen.facts) := fun m g _ =>
  (θ_run Cert.ReferenceDownIdeal.defs _ _).mono (fun r h => ⟨fun c => (h c).2, sem_eq_zero_of_no_sems (by decide) r.2⟩) (Cert.ReferenceDownIdeal.Value.run (F := Ideal) m g)

end Cert.Down

end
-- ==== Proof.Out.lean ====
/- The output projection: what the call writes, and that it is the reference's product. The call casts its weights in
   the kernel, so the window on them reads the argument itself. -/
module

public import proofs.«01_k».proof.Proof.Gen.KernelOutIdeal.Value
public import proofs.«01_k».proof.Proof.Gen.ReferenceOutIdeal.Run
public import proofs.«01_k».proof.Proof.Tiles
public import proofs.«01_k».proof.Defs
public import proofs.«01_k».proof.Proof.Gen.KernelOut.Frame
public import Idealize.ShloMosaic.Adequacy
public import Idealize.ShloMosaic.Init

@[expose] public section

set_option maxRecDepth 100000

noncomputable section

namespace Cert.KernelOutIdeal.Product

open Cert.KernelOutIdeal Cert.KernelOutIdeal.Gen Idealize.ShloMosaic Idealize.ShloMosaic.TcCoe Idealize.ShloMosaic.Tactic Cert.Tiles

variable (m : (ℓ : Loc nD τ sig) → Buf (Elt Ideal) ℓ)

theorem at0 : ∀ t : Fin cfg0.N, (cfg0.win 0).index t 0 = t.val / 8 ∧ (cfg0.win 0).index t 1 = 0 := by decide +kernel
theorem at1 : ∀ t : Fin cfg0.N, (cfg0.win 1).index t 0 = 0 ∧ (cfg0.win 1).index t 1 = 0 ∧ (cfg0.win 1).index t 2 = t.val % 8 := by decide +kernel
theorem at2 : ∀ t : Fin cfg0.N, (cfg0.win 2).index t 0 = t.val / 8 ∧ (cfg0.win 2).index t 1 = t.val % 8 := by decide +kernel
theorem flushes : ∀ t : Fin cfg0.N, (cfg0.win 2).flush t = true := by decide +kernel

theorem left (c : Dev nD) (R : Fin 16640) (x : Fin 4096) : V m c main_v0 (ix2 R x) = m (c, Proc.tc.devRef main_arg0) (ix2 R x) := by
  unfold V
  after_reads_at

theorem rows (c : Dev nD) (t : Fin cfg0.N) (r : Fin 1664) (x : Fin 4096) (R : Fin 16640) (hR : R.val = 1664 * (t.val / 8) + r.val) :
    iblk m c 0 t (ix2 r x) = m (c, Proc.tc.devRef main_arg0) (ix2 R x) := by
  refine Eq.trans ?_ (left m c R x)
  blk_ext [iblk, (at0 t).1, (at0 t).2, hR]

theorem weights (c : Dev nD) (t : Fin cfg0.N) (x : Fin 4096) (k : Fin 512) (K : Fin 4096) (hK : K.val = 512 * (t.val % 8) + k.val) :
    iblk m c 1 t (ix3 0 x k) = m (c, Proc.tc.devRef main_arg1) (ix3 0 x K) := by
  refine Eq.trans ?_ (congrFun (V_main_arg1 m c) (ix3 0 x K))
  blk_ext [iblk, (at1 t).1, (at1 t).2.1, (at1 t).2.2, hK]

theorem tile (a : Vec Ideal S1664x4096 .bf16) (b : Vec Ideal S1x4096x512 .f32) (r : Fin 1664) (k : Fin 512) :
    out0_2 a b (ix2 r k) = dot 4096 (fun x => a (ix2 r x)) (fun x => b (ix3 0 x k)) := by
  unfold out0_2
  canon_tiles x h
  exact (congrArg _ (at_coords (by simpa using h0) (by simpa using h1))).trans
    (show k0_pay1 (View.ld a r0_0) (View.ld b r0_1) (ix2 r k) = _ by pointwise [k0_pay1])

/-- The array after the run, element by element of each tile. -/
theorem value (c : Dev nD) (t : Fin cfg0.N) (r : Fin 1664) (k : Fin 512) (R : Fin 16640) (K : Fin 4096)
    (hR : R.val = 1664 * (t.val / 8) + r.val) (hK : K.val = 512 * (t.val % 8) + k.val) : (dats m 0 c).arrAt 2 cfg0.N (ix2 R K)
    = dot 4096 (fun x => m (c, Proc.tc.devRef main_arg0) (ix2 R x)) (fun x => m (c, Proc.tc.devRef main_arg1) (ix3 0 x K)) := by
  have h := congrFun (Value.blocks2 m c t (flushes t)) (ix2 r k)
  rw [Value.flushed2] at h
  refine Eq.trans ?_ (h.trans ((tile _ _ r k).trans (dot_congr (fun x => rows m c t r x R hR) fun x => weights m c t x k K hK)))
  blk_ext [(at2 t).1, (at2 t).2, hR, hK]

end Cert.KernelOutIdeal.Product

namespace Cert.ReferenceOutIdeal.Product

open Cert.ReferenceOutIdeal Cert.ReferenceOutIdeal.Gen Idealize.ShloMosaic Idealize.ShloMosaic.TcCoe Idealize.ShloMosaic.Tactic Cert.Tiles

/-- The reference's product. -/
def product (a : FVec Ideal S16640x4096 .f32) (b : FVec Ideal S4x4096x4096 .f32) : FVec Ideal S16640x4096 .bf16 :=
  truncf .bf16 (Host.dotGeneral dot_S16640x4096_S4096x4096_S16640x4096_1_0_0_1_n_n none a (shapeCast _ (extractStridedSlice S1x4096x4096 ![0, 0, 0] b slices_S4x4096x4096_S1x4096x4096_0_0_0) shapeCasts_S1x4096x4096_S4096x4096)) bitsLt_bf16_f32

theorem value (a : FVec Ideal S16640x4096 .f32) (b : FVec Ideal S4x4096x4096 .f32) (R : Fin 16640) (k : Fin 4096) :
    product a b (ix2 R k) = dot 4096 (fun x => a (ix2 R x)) (fun x => b (ix3 0 x k)) := by
  pointwise [product]

end Cert.ReferenceOutIdeal.Product

namespace Cert.Out

open Idealize.ShloMosaic Idealize.ShloMosaic.TcCoe Idealize.SL.Sem

/-- The call computes the reference's product. -/
theorem algebraic : Cert.algebraic_KernelOutIdeal_ReferenceOutIdeal (hKernelOutIdeal := Cert.KernelOutIdeal.Gen.facts)
    (hReferenceOutIdeal := Cert.ReferenceOutIdeal.Gen.facts) := by
  intro m g m' g' _ hag
  refine ⟨fun c => (Cert.KernelOutIdeal.Gen.dats m 0 c).arrAt 2 Cert.KernelOutIdeal.cfg0.N, Cert.KernelOutIdeal.Value.run_blocks m g,
    (θ_run Cert.ReferenceOutIdeal.defs _ _).mono (fun r h c => ⟨(h c).1.trans ?_, (h c).2⟩) (Cert.ReferenceOutIdeal.Value.run m' g')⟩
  have e0 := (hag c).1
  have e1 := (hag c).2
  show Cert.ReferenceOutIdeal.Product.product _ _ = _
  rw [e0, e1]
  exact Tiles.same (gm := 10) (gn := 8) rfl rfl fun t r k R K hR hK =>
    (Cert.ReferenceOutIdeal.Product.value _ _ R K).trans (Cert.KernelOutIdeal.Product.value m c t r k R K hR hK).symm

theorem kernel_frame : Cert.quiescent_KernelOut (hKernelOut := Cert.KernelOut.Gen.facts) := fun m g _ => Cert.KernelOut.Gen.frame m g
theorem ideal_frame : Cert.quiescent_KernelOutIdeal (hKernelOutIdeal := Cert.KernelOutIdeal.Gen.facts) := fun m g _ => Cert.KernelOutIdeal.Gen.frame m g
theorem reference_frame : Cert.quiescent_ReferenceOutIdeal (hReferenceOutIdeal := Cert.ReferenceOutIdeal.Gen.facts) := fun m g _ =>
  (θ_run Cert.ReferenceOutIdeal.defs _ _).mono (fun r h => ⟨fun c => (h c).2, sem_eq_zero_of_no_sems (by decide) r.2⟩) (Cert.ReferenceOutIdeal.Value.run (F := Ideal) m g)

end Cert.Out

end
-- ==== Proof.Merge.lean ====
/- The merge of the three mixers: what the call writes, and that it is the reference's sum of gated projections. -/
module

public import proofs.«01_k».proof.Proof.Gen.KernelMergeIdeal.Value
public import proofs.«01_k».proof.Proof.Gen.ReferenceMergeIdeal.Run
public import proofs.«01_k».proof.Proof.Tiles
public import proofs.«01_k».proof.Defs
public import proofs.«01_k».proof.Proof.Gen.KernelMerge.Frame
public import Idealize.ShloMosaic.Adequacy
public import Idealize.ShloMosaic.Init

@[expose] public section

set_option maxRecDepth 100000

noncomputable section

/-- One mixer's share of an element: the logistic value of the gate times the projection. -/
def Cert.Merge.gated (z y : EReal) : EReal := Idealize.ShloMosaic.Ideal.logistic z * y

namespace Cert.KernelMergeIdeal.Product

open Cert.KernelMergeIdeal Cert.KernelMergeIdeal.Gen Idealize.ShloMosaic Idealize.ShloMosaic.TcCoe Idealize.ShloMosaic.Tactic Cert.Tiles Cert.Merge

variable (m : (ℓ : Loc nD τ sig) → Buf (Elt Ideal) ℓ)

theorem at0 : ∀ t : Fin cfg0.N, (cfg0.win 0).index t 0 = t.val / 8 ∧ (cfg0.win 0).index t 1 = 38 := by decide +kernel
theorem at1 : ∀ t : Fin cfg0.N, (cfg0.win 1).index t 0 = t.val / 8 ∧ (cfg0.win 1).index t 1 = 0 := by decide +kernel
theorem at2 : ∀ t : Fin cfg0.N, (cfg0.win 2).index t 0 = t.val / 8 ∧ (cfg0.win 2).index t 1 = 0 := by decide +kernel
theorem at3 : ∀ t : Fin cfg0.N, (cfg0.win 3).index t 0 = t.val / 8 ∧ (cfg0.win 3).index t 1 = 0 := by decide +kernel
theorem at4 : ∀ t : Fin cfg0.N, (cfg0.win 4).index t 0 = 0 ∧ (cfg0.win 4).index t 1 = 0 ∧ (cfg0.win 4).index t 2 = t.val % 8 := by decide +kernel
theorem at5 : ∀ t : Fin cfg0.N, (cfg0.win 5).index t 0 = 0 ∧ (cfg0.win 5).index t 1 = 0 ∧ (cfg0.win 5).index t 2 = 8 + t.val % 8 := by decide +kernel
theorem at6 : ∀ t : Fin cfg0.N, (cfg0.win 6).index t 0 = 0 ∧ (cfg0.win 6).index t 1 = 0 ∧ (cfg0.win 6).index t 2 = 16 + t.val % 8 := by decide +kernel
theorem at7 : ∀ t : Fin cfg0.N, (cfg0.win 7).index t 0 = 0 ∧ (cfg0.win 7).index t 1 = 0 ∧ (cfg0.win 7).index t 2 = t.val % 8 := by decide +kernel
theorem at8 : ∀ t : Fin cfg0.N, (cfg0.win 8).index t 0 = 0 ∧ (cfg0.win 8).index t 1 = 0 ∧ (cfg0.win 8).index t 2 = t.val % 8 := by decide +kernel
theorem at9 : ∀ t : Fin cfg0.N, (cfg0.win 9).index t 0 = 0 ∧ (cfg0.win 9).index t 1 = 0 ∧ (cfg0.win 9).index t 2 = t.val % 8 := by decide +kernel
theorem at10 : ∀ t : Fin cfg0.N, (cfg0.win 10).index t 0 = t.val / 8 ∧ (cfg0.win 10).index t 1 = t.val % 8 := by decide +kernel
theorem flushes : ∀ t : Fin cfg0.N, (cfg0.win 10).flush t = true := by decide +kernel

/-! ## What the host code hands to the call -/

theorem host0 (c : Dev nD) (R : Fin 16640) (x : Fin 256) : V m c main_v1 (ix2 R ⟨9728 + x.val, by omega⟩) = m (c, Proc.tc.devRef main_arg0) (ix2 R x) := by
  unfold V
  after_reads_at
theorem host1 (c : Dev nD) (R : Fin 16640) (x : Fin 1536) : V m c main_v2 (ix2 R x) = m (c, Proc.tc.devRef main_arg1) (ix2 R x) := by
  unfold V
  after_reads_at
theorem host2 (c : Dev nD) (R : Fin 16640) (x : Fin 1536) : V m c main_v3 (ix2 R x) = m (c, Proc.tc.devRef main_arg2) (ix2 R x) := by
  unfold V
  after_reads_at
theorem host3 (c : Dev nD) (R : Fin 16640) (x : Fin 2048) : V m c main_v4 (ix2 R x) = m (c, Proc.tc.devRef main_arg3) (ix2 R x) := by
  unfold V
  after_reads_at
theorem host4 (c : Dev nD) (x : Fin 256) (k : Fin 12288) : V m c main_v5 (ix3 0 x k) = m (c, Proc.tc.devRef main_arg4) (ix3 0 x k) := by
  unfold V
  after_reads_at
theorem host5 (c : Dev nD) (x : Fin 1536) (k : Fin 4096) : V m c main_v6 (ix3 0 x k) = m (c, Proc.tc.devRef main_arg5) (ix3 0 x k) := by
  unfold V
  after_reads_at
theorem host6 (c : Dev nD) (x : Fin 1536) (k : Fin 4096) : V m c main_v7 (ix3 0 x k) = m (c, Proc.tc.devRef main_arg6) (ix3 0 x k) := by
  unfold V
  after_reads_at
theorem host7 (c : Dev nD) (x : Fin 2048) (k : Fin 4096) : V m c main_v8 (ix3 0 x k) = m (c, Proc.tc.devRef main_arg7) (ix3 0 x k) := by
  unfold V
  after_reads_at

/-! ## The windows' blocks -/

section
variable (c : Dev nD) (t : Fin cfg0.N) (r : Fin 1280) (k : Fin 512) (R : Fin 16640) (K : Fin 4096)

theorem block0 (hR : R.val = 1280 * (t.val / 8) + r.val) (x : Fin 256) : iblk m c 0 t (ix2 r x) = m (c, Proc.tc.devRef main_arg0) (ix2 R x) := by
  refine Eq.trans ?_ (host0 m c R x)
  blk_ext [iblk, (at0 t).1, (at0 t).2, hR]
theorem block1 (hR : R.val = 1280 * (t.val / 8) + r.val) (x : Fin 1536) : iblk m c 1 t (ix2 r x) = m (c, Proc.tc.devRef main_arg1) (ix2 R x) := by
  refine Eq.trans ?_ (host1 m c R x)
  blk_ext [iblk, (at1 t).1, (at1 t).2, hR]
theorem block2 (hR : R.val = 1280 * (t.val / 8) + r.val) (x : Fin 1536) : iblk m c 2 t (ix2 r x) = m (c, Proc.tc.devRef main_arg2) (ix2 R x) := by
  refine Eq.trans ?_ (host2 m c R x)
  blk_ext [iblk, (at2 t).1, (at2 t).2, hR]
theorem block3 (hR : R.val = 1280 * (t.val / 8) + r.val) (x : Fin 2048) : iblk m c 3 t (ix2 r x) = m (c, Proc.tc.devRef main_arg3) (ix2 R x) := by
  refine Eq.trans ?_ (host3 m c R x)
  blk_ext [iblk, (at3 t).1, (at3 t).2, hR]
theorem block4 (hK : K.val = 512 * (t.val % 8) + k.val) (x : Fin 256) : iblk m c 4 t (ix3 0 x k) = m (c, Proc.tc.devRef main_arg4) (ix3 0 x ⟨K.val, by omega⟩) := by
  refine Eq.trans ?_ (host4 m c x _)
  blk_ext [iblk, (at4 t).1, (at4 t).2.1, (at4 t).2.2, hK]
theorem block5 (hK : K.val = 512 * (t.val % 8) + k.val) (x : Fin 256) : iblk m c 5 t (ix3 0 x k) = m (c, Proc.tc.devRef main_arg4) (ix3 0 x ⟨4096 + K.val, by omega⟩) := by
  refine Eq.trans ?_ (host4 m c x _)
  blk_ext [iblk, (at5 t).1, (at5 t).2.1, (at5 t).2.2, hK]
theorem block6 (hK : K.val = 512 * (t.val % 8) + k.val) (x : Fin 256) : iblk m c 6 t (ix3 0 x k) = m (c, Proc.tc.devRef main_arg4) (ix3 0 x ⟨8192 + K.val, by omega⟩) := by
  refine Eq.trans ?_ (host4 m c x _)
  blk_ext [iblk, (at6 t).1, (at6 t).2.1, (at6 t).2.2, hK]
theorem block7 (hK : K.val = 512 * (t.val % 8) + k.val) (x : Fin 1536) : iblk m c 7 t (ix3 0 x k) = m (c, Proc.tc.devRef main_arg5) (ix3 0 x K) := by
  refine Eq.trans ?_ (host5 m c x K)
  blk_ext [iblk, (at7 t).1, (at7 t).2.1, (at7 t).2.2, hK]
theorem block8 (hK : K.val = 512 * (t.val % 8) + k.val) (x : Fin 1536) : iblk m c 8 t (ix3 0 x k) = m (c, Proc.tc.devRef main_arg6) (ix3 0 x K) := by
  refine Eq.trans ?_ (host6 m c x K)
  blk_ext [iblk, (at8 t).1, (at8 t).2.1, (at8 t).2.2, hK]
theorem block9 (hK : K.val = 512 * (t.val % 8) + k.val) (x : Fin 2048) : iblk m c 9 t (ix3 0 x k) = m (c, Proc.tc.devRef main_arg7) (ix3 0 x K) := by
  refine Eq.trans ?_ (host7 m c x K)
  blk_ext [iblk, (at9 t).1, (at9 t).2.1, (at9 t).2.2, hK]
end

/-! ## What a grid point writes -/

theorem first (p : Vec Ideal S1280x256 .f32) (g : Vec Ideal S1x256x512 .bf16) (y : Vec Ideal S1280x1536 .bf16) (w : Vec Ideal S1x1536x512 .bf16) (r : Fin 1280) (k : Fin 512) :
    k0_pay3 (View.ld p r0_0) (View.ld g r0_1) (View.ld y r0_2) (View.ld w r0_3) (ix2 r k)
      = gated (dot 256 (fun x => p (ix2 r x)) (fun x => g (ix3 0 x k))) (dot 1536 (fun x => y (ix2 r x)) (fun x => w (ix3 0 x k))) := by
  unfold gated
  rw [← logistic_of_sub]
  pointwise [k0_pay3, k0_pay2]

theorem second (p : Vec Ideal S1280x256 .f32) (g : Vec Ideal S1x256x512 .bf16) (r : Fin 1280) (k : Fin 512) :
    k0_pay4 (View.ld p r0_0) (View.ld g r0_1) (ix2 r k) = Ideal.logistic (dot 256 (fun x => p (ix2 r x)) (fun x => g (ix3 0 x k))) := by
  rw [← logistic_of_sub]
  pointwise [k0_pay4, k0_pay2]

theorem sum (p : Vec Ideal S1280x256 .f32) (a b : FVec Ideal S1280x512 .f32) (y2 : Vec Ideal S1280x1536 .bf16) (w2 : Vec Ideal S1x1536x512 .bf16)
    (g3 : Vec Ideal S1x256x512 .bf16) (y3 : Vec Ideal S1280x2048 .bf16) (w3 : Vec Ideal S1x2048x512 .bf16) (r : Fin 1280) (k : Fin 512) :
    k0_pay1 (k0_pay2 (View.ld p r0_0)) a b (k0_pay5 (View.ld y2 r0_2)) (View.ld w2 r0_3) (View.ld g3 r0_1) (View.ld y3 r0_4) (View.ld w3 r0_5) (ix2 r k)
      = a (ix2 r k) + b (ix2 r k) * dot 1536 (fun x => y2 (ix2 r x)) (fun x => w2 (ix3 0 x k))
        + gated (dot 256 (fun x => p (ix2 r x)) (fun x => g3 (ix3 0 x k))) (dot 2048 (fun x => y3 (ix2 r x)) (fun x => w3 (ix3 0 x k))) := by
  unfold gated
  rw [← logistic_of_sub]
  pointwise [k0_pay1, k0_pay2, k0_pay5]

theorem tile (p : Vec Ideal S1280x256 .f32) (y1 y2 : Vec Ideal S1280x1536 .bf16) (y3 : Vec Ideal S1280x2048 .bf16) (g1 g2 g3 : Vec Ideal S1x256x512 .bf16)
    (w1 w2 : Vec Ideal S1x1536x512 .bf16) (w3 : Vec Ideal S1x2048x512 .bf16) (r : Fin 1280) (k : Fin 512) :
    out0_10 p y1 y2 y3 g1 g2 g3 w1 w2 w3 (ix2 r k)
      = gated (dot 256 (fun x => p (ix2 r x)) (fun x => g1 (ix3 0 x k))) (dot 1536 (fun x => y1 (ix2 r x)) (fun x => w1 (ix3 0 x k)))
        + gated (dot 256 (fun x => p (ix2 r x)) (fun x => g2 (ix3 0 x k))) (dot 1536 (fun x => y2 (ix2 r x)) (fun x => w2 (ix3 0 x k)))
        + gated (dot 256 (fun x => p (ix2 r x)) (fun x => g3 (ix3 0 x k))) (dot 2048 (fun x => y3 (ix2 r x)) (fun x => w3 (ix3 0 x k))) := by
  unfold out0_10
  canon_tiles x h
  refine (congrArg _ (at_coords (by simpa using h0) (by simpa using h1))).trans ((sum p _ _ y2 w2 g3 y3 w3 r k).trans ?_)
  rw [first, second]
  rfl

/-- The array after the run, element by element of each tile. -/
theorem value (c : Dev nD) (t : Fin cfg0.N) (r : Fin 1280) (k : Fin 512) (R : Fin 16640) (K : Fin 4096)
    (hR : R.val = 1280 * (t.val / 8) + r.val) (hK : K.val = 512 * (t.val % 8) + k.val) : (dats m 0 c).arrAt 10 cfg0.N (ix2 R K)
    = gated (dot 256 (fun x => m (c, Proc.tc.devRef main_arg0) (ix2 R x)) (fun x => m (c, Proc.tc.devRef main_arg4) (ix3 0 x ⟨K.val, by omega⟩)))
        (dot 1536 (fun x => m (c, Proc.tc.devRef main_arg1) (ix2 R x)) (fun x => m (c, Proc.tc.devRef main_arg5) (ix3 0 x K)))
      + gated (dot 256 (fun x => m (c, Proc.tc.devRef main_arg0) (ix2 R x)) (fun x => m (c, Proc.tc.devRef main_arg4) (ix3 0 x ⟨4096 + K.val, by omega⟩)))
        (dot 1536 (fun x => m (c, Proc.tc.devRef main_arg2) (ix2 R x)) (fun x => m (c, Proc.tc.devRef main_arg6) (ix3 0 x K)))
      + gated (dot 256 (fun x => m (c, Proc.tc.devRef main_arg0) (ix2 R x)) (fun x => m (c, Proc.tc.devRef main_arg4) (ix3 0 x ⟨8192 + K.val, by omega⟩)))
        (dot 2048 (fun x => m (c, Proc.tc.devRef main_arg3) (ix2 R x)) (fun x => m (c, Proc.tc.devRef main_arg7) (ix3 0 x K))) := by
  have h := congrFun (Value.blocks10 m c t (flushes t)) (ix2 r k)
  rw [Value.flushed10] at h
  refine Eq.trans ?_ (h.trans ((tile _ _ _ _ _ _ _ _ _ _ r k).trans (congrArg₂ HAdd.hAdd (congrArg₂ HAdd.hAdd
    (congrArg₂ gated (dot_congr (block0 m c t r R hR) (block4 m c t k K hK)) (dot_congr (block1 m c t r R hR) (block7 m c t k K hK)))
    (congrArg₂ gated (dot_congr (block0 m c t r R hR) (block5 m c t k K hK)) (dot_congr (block2 m c t r R hR) (block8 m c t k K hK))))
    (congrArg₂ gated (dot_congr (block0 m c t r R hR) (block6 m c t k K hK)) (dot_congr (block3 m c t r R hR) (block9 m c t k K hK))))))
  blk_ext [(at10 t).1, (at10 t).2, hR, hK]

end Cert.KernelMergeIdeal.Product

namespace Cert.ReferenceMergeIdeal.Product

open Cert.ReferenceMergeIdeal Cert.ReferenceMergeIdeal.Gen Idealize.ShloMosaic Idealize.ShloMosaic.TcCoe Idealize.ShloMosaic.Tactic Cert.Tiles Cert.Merge

/-- The gates' weights of the mixer whose columns start at `o`. -/
def columns (g : FVec Ideal S4x256x12288 .f32) (o : ℕ) (h : S256x12288.Slices ![0, o] S256x4096) : FVec Ideal S256x4096 .f32 :=
  extractStridedSlice S256x4096 ![0, o] (shapeCast S256x12288 (extractStridedSlice S1x256x12288 ![0, 0, 0] g slices_S4x256x12288_S1x256x12288_0_0_0) shapeCasts_S1x256x12288_S256x12288) h

/-- One mixer's share: the logistic values of the gates times the projection. -/
def share (d : FVec Ideal S16640x256 .f32) (g : FVec Ideal S256x4096 .f32) (y : FVec Ideal S16640x4096 .f32) : FVec Ideal S16640x4096 .f32 :=
  mulf (Host.divf (broadcastInDim S16640x4096 ![] bcast_S_S16640x4096 (constant S_ .f32 0x3F800000#32)) (addf (broadcastInDim S16640x4096 ![] bcast_S_S16640x4096 (constant S_ .f32 0x3F800000#32)) (Host.exp (Host.negf (Host.dotGeneral dot_S16640x256_S256x4096_S16640x4096_1_0_0_1_n_n none d g))))) y

/-- The projection of the first and of the second mixer. -/
def narrow (y : FVec Ideal S16640x1536 .f32) (w : FVec Ideal S4x1536x4096 .f32) : FVec Ideal S16640x4096 .f32 :=
  Host.dotGeneral dot_S16640x1536_S1536x4096_S16640x4096_1_0_0_1_n_n none y (shapeCast _ (extractStridedSlice S1x1536x4096 ![0, 0, 0] w slices_S4x1536x4096_S1x1536x4096_0_0_0) shapeCasts_S1x1536x4096_S1536x4096)

/-- The projection of the third mixer. -/
def wide (y : FVec Ideal S16640x2048 .f32) (w : FVec Ideal S4x2048x4096 .f32) : FVec Ideal S16640x4096 .f32 :=
  Host.dotGeneral dot_S16640x2048_S2048x4096_S16640x4096_1_0_0_1_n_n none y (shapeCast _ (extractStridedSlice S1x2048x4096 ![0, 0, 0] w slices_S4x2048x4096_S1x2048x4096_0_0_0) shapeCasts_S1x2048x4096_S2048x4096)

/-- The sum of the three shares. -/
def total (a b d : FVec Ideal S16640x4096 .f32) : FVec Ideal S16640x4096 .bf16 := truncf .bf16 (addf (addf a b) d) bitsLt_bf16_f32

/-- The reference's result. -/
def result (d : FVec Ideal S16640x256 .f32) (y1 y2 : FVec Ideal S16640x1536 .f32) (y3 : FVec Ideal S16640x2048 .f32) (g : FVec Ideal S4x256x12288 .f32)
    (w1 w2 : FVec Ideal S4x1536x4096 .f32) (w3 : FVec Ideal S4x2048x4096 .f32) : FVec Ideal S16640x4096 .bf16 :=
  total (share d (columns g 0 slices_S256x12288_S256x4096_0_0) (narrow y1 w1)) (share d (columns g 4096 slices_S256x12288_S256x4096_0_4096) (narrow y2 w2))
    (share d (columns g 8192 slices_S256x12288_S256x4096_0_8192) (wide y3 w3))

theorem columns_at (g : FVec Ideal S4x256x12288 .f32) (o : ℕ) (h : S256x12288.Slices ![0, o] S256x4096) (x : Fin 256) (k : Fin 4096) (K : Fin 12288) (hK : K.val = o + k.val) :
    columns g o h (ix2 x k) = g (ix3 0 x K) := by
  have e : K = ⟨o + k.val, lt_of_eq_of_lt hK.symm K.isLt⟩ := Fin.ext hK
  rw [e]
  pointwise [columns]

theorem share_at (d : FVec Ideal S16640x256 .f32) (g : FVec Ideal S256x4096 .f32) (y : FVec Ideal S16640x4096 .f32) (R : Fin 16640) (k : Fin 4096) :
    share d g y (ix2 R k) = gated (dot 256 (fun x => d (ix2 R x)) (fun x => g (ix2 x k))) (y (ix2 R k)) := by
  unfold gated Ideal.logistic
  pointwise [share]

theorem narrow_at (y : FVec Ideal S16640x1536 .f32) (w : FVec Ideal S4x1536x4096 .f32) (R : Fin 16640) (k : Fin 4096) :
    narrow y w (ix2 R k) = dot 1536 (fun x => y (ix2 R x)) (fun x => w (ix3 0 x k)) := by
  pointwise [narrow]

theorem wide_at (y : FVec Ideal S16640x2048 .f32) (w : FVec Ideal S4x2048x4096 .f32) (R : Fin 16640) (k : Fin 4096) :
    wide y w (ix2 R k) = dot 2048 (fun x => y (ix2 R x)) (fun x => w (ix3 0 x k)) := by
  pointwise [wide]

theorem total_at (a b d : FVec Ideal S16640x4096 .f32) (R : Fin 16640) (k : Fin 4096) :
    total a b d (ix2 R k) = HAdd.hAdd (α := EReal) (β := EReal) (HAdd.hAdd (α := EReal) (β := EReal) (a (ix2 R k)) (b (ix2 R k))) (d (ix2 R k)) := by
  pointwise [total]

end Cert.ReferenceMergeIdeal.Product

namespace Cert.Merge

open Idealize.ShloMosaic Idealize.ShloMosaic.TcCoe Idealize.SL.Sem Cert.ReferenceMergeIdeal.Product Cert.Tiles

/-- The call computes the reference's sum. -/
theorem algebraic : Cert.algebraic_KernelMergeIdeal_ReferenceMergeIdeal (hKernelMergeIdeal := Cert.KernelMergeIdeal.Gen.facts)
    (hReferenceMergeIdeal := Cert.ReferenceMergeIdeal.Gen.facts) := by
  intro m g m' g' _ hag
  refine ⟨fun c => (Cert.KernelMergeIdeal.Gen.dats m 0 c).arrAt 10 Cert.KernelMergeIdeal.cfg0.N, Cert.KernelMergeIdeal.Value.run_blocks m g,
    (θ_run Cert.ReferenceMergeIdeal.defs _ _).mono (fun r h c => ⟨(h c).1.trans ?_, (h c).2⟩) (Cert.ReferenceMergeIdeal.Value.run m' g')⟩
  obtain ⟨e0, e1, e2, e3, e4, e5, e6, e7⟩ := hag c
  show result _ _ _ _ _ _ _ _ = _
  rw [e0, e1, e2, e3, e4, e5, e6, e7]
  unfold result
  refine Tiles.same (gm := 13) (gn := 8) rfl rfl fun t r k R K hR hK =>
    (total_at _ _ _ R K).trans (Eq.trans ?_ (Cert.KernelMergeIdeal.Product.value m c t r k R K hR hK).symm)
  rw [share_at, share_at, share_at, narrow_at, narrow_at, wide_at]
  exact congrArg₂ HAdd.hAdd (congrArg₂ HAdd.hAdd
    (congrArg₂ gated (dot_congr (fun _ => rfl) fun x => columns_at _ _ _ x K _ (Nat.zero_add _).symm) rfl)
    (congrArg₂ gated (dot_congr (fun _ => rfl) fun x => columns_at _ _ _ x K _ rfl) rfl))
    (congrArg₂ gated (dot_congr (fun _ => rfl) fun x => columns_at _ _ _ x K _ rfl) rfl)

theorem kernel_frame : Cert.quiescent_KernelMerge (hKernelMerge := Cert.KernelMerge.Gen.facts) := fun m g _ => Cert.KernelMerge.Gen.frame m g
theorem ideal_frame : Cert.quiescent_KernelMergeIdeal (hKernelMergeIdeal := Cert.KernelMergeIdeal.Gen.facts) := fun m g _ => Cert.KernelMergeIdeal.Gen.frame m g
theorem reference_frame : Cert.quiescent_ReferenceMergeIdeal (hReferenceMergeIdeal := Cert.ReferenceMergeIdeal.Gen.facts) := fun m g _ =>
  (θ_run Cert.ReferenceMergeIdeal.defs _ _).mono (fun r h => ⟨fun c => (h c).2, sem_eq_zero_of_no_sems (by decide) r.2⟩) (Cert.ReferenceMergeIdeal.Value.run (F := Ideal) m g)

end Cert.Merge

end
-- ==== Proof.In.lean ====
/- The input projection: what the call writes, and that it is the reference's product with the transposed weights. -/
module

public import proofs.«01_k».proof.Proof.Gen.KernelInIdeal.Value
public import proofs.«01_k».proof.Proof.Gen.ReferenceInIdeal.Run
public import proofs.«01_k».proof.Proof.Tiles
public import proofs.«01_k».proof.Defs
public import proofs.«01_k».proof.Proof.Gen.KernelIn.Frame
public import Idealize.ShloMosaic.Adequacy
public import Idealize.ShloMosaic.Init

@[expose] public section

set_option maxRecDepth 100000

noncomputable section

namespace Cert.KernelInIdeal.Product

open Cert.KernelInIdeal Cert.KernelInIdeal.Gen Idealize.ShloMosaic Idealize.ShloMosaic.TcCoe Idealize.ShloMosaic.Tactic Cert.Tiles

variable (m : (ℓ : Loc nD τ sig) → Buf (Elt Ideal) ℓ)

theorem at0 : ∀ t : Fin cfg0.N, (cfg0.win 0).index t 0 = t.val / 13 ∧ (cfg0.win 0).index t 1 = 0 := by decide +kernel
theorem at1 : ∀ t : Fin cfg0.N, (cfg0.win 1).index t 0 = 0 ∧ (cfg0.win 1).index t 1 = t.val % 13 ∧ (cfg0.win 1).index t 2 = 0 := by decide +kernel
theorem at2 : ∀ t : Fin cfg0.N, (cfg0.win 2).index t 0 = t.val / 13 ∧ (cfg0.win 2).index t 1 = t.val % 13 := by decide +kernel
theorem flushes : ∀ t : Fin cfg0.N, (cfg0.win 2).flush t = true := by decide +kernel

theorem left (c : Dev nD) (R : Fin 16640) (x : Fin 4096) : V m c main_v0 (ix2 R x) = m (c, Proc.tc.devRef main_arg0) (ix2 R x) := by
  unfold V
  after_reads_at

theorem right (c : Dev nD) (k : Fin 9984) (x : Fin 4096) : V m c main_v1 (ix3 0 k x) = m (c, Proc.tc.devRef main_arg1) (ix3 0 k x) := by
  unfold V
  after_reads_at

theorem rows (c : Dev nD) (t : Fin cfg0.N) (r : Fin 1280) (x : Fin 4096) (R : Fin 16640) (hR : R.val = 1280 * (t.val / 13) + r.val) :
    iblk m c 0 t (ix2 r x) = m (c, Proc.tc.devRef main_arg0) (ix2 R x) := by
  refine Eq.trans ?_ (left m c R x)
  blk_ext [iblk, (at0 t).1, (at0 t).2, hR]

theorem weights (c : Dev nD) (t : Fin cfg0.N) (k : Fin 768) (x : Fin 4096) (K : Fin 9984) (hK : K.val = 768 * (t.val % 13) + k.val) :
    iblk m c 1 t (ix3 0 k x) = m (c, Proc.tc.devRef main_arg1) (ix3 0 K x) := by
  refine Eq.trans ?_ (right m c K x)
  blk_ext [iblk, (at1 t).1, (at1 t).2.1, (at1 t).2.2, hK]

theorem tile (a : Vec Ideal S1280x4096 .bf16) (b : Vec Ideal S1x768x4096 .bf16) (r : Fin 1280) (k : Fin 768) :
    out0_2 a b (ix2 r k) = dot 4096 (fun x => a (ix2 r x)) (fun x => b (ix3 0 k x)) := by
  unfold out0_2
  canon_tiles x h
  exact (congrArg _ (at_coords (by simpa using h0) (by simpa using h1))).trans
    (show k0_pay1 (View.ld a r0_0) (View.ld b r0_1) (ix2 r k) = _ by pointwise [k0_pay1])

/-- The array after the run, element by element of each tile. -/
theorem value (c : Dev nD) (t : Fin cfg0.N) (r : Fin 1280) (k : Fin 768) (R : Fin 16640) (K : Fin 9984)
    (hR : R.val = 1280 * (t.val / 13) + r.val) (hK : K.val = 768 * (t.val % 13) + k.val) : (dats m 0 c).arrAt 2 cfg0.N (ix2 R K)
    = dot 4096 (fun x => m (c, Proc.tc.devRef main_arg0) (ix2 R x)) (fun x => m (c, Proc.tc.devRef main_arg1) (ix3 0 K x)) := by
  have h := congrFun (Value.blocks2 m c t (flushes t)) (ix2 r k)
  rw [Value.flushed2] at h
  refine Eq.trans ?_ (h.trans ((tile _ _ r k).trans (dot_congr (fun x => rows m c t r x R hR) fun x => weights m c t k x K hK)))
  blk_ext [(at2 t).1, (at2 t).2, hR, hK]

end Cert.KernelInIdeal.Product

namespace Cert.ReferenceInIdeal.Product

open Cert.ReferenceInIdeal Cert.ReferenceInIdeal.Gen Idealize.ShloMosaic Idealize.ShloMosaic.TcCoe Idealize.ShloMosaic.Tactic Cert.Tiles

/-- The reference's product. -/
def product (a : FVec Ideal S16640x4096 .f32) (b : FVec Ideal S4x9984x4096 .f32) : FVec Ideal S16640x9984 .f32 :=
  Host.dotGeneral dot_S16640x4096_S4096x9984_S16640x9984_1_0_0_1_n_n none a (transpose S4096x9984 [1, 0] (shapeCast _ (extractStridedSlice S1x9984x4096 ![0, 0, 0] b slices_S4x9984x4096_S1x9984x4096_0_0_0) shapeCasts_S1x9984x4096_S9984x4096) transposes_S9984x4096_S4096x9984_1_0)

theorem value (a : FVec Ideal S16640x4096 .f32) (b : FVec Ideal S4x9984x4096 .f32) (R : Fin 16640) (k : Fin 9984) :
    product a b (ix2 R k) = dot 4096 (fun x => a (ix2 R x)) (fun x => b (ix3 0 k x)) := by
  pointwise [product]

end Cert.ReferenceInIdeal.Product

namespace Cert.In

open Idealize.ShloMosaic Idealize.ShloMosaic.TcCoe Idealize.SL.Sem

/-- The call computes the reference's product. -/
theorem algebraic : Cert.algebraic_KernelInIdeal_ReferenceInIdeal (hKernelInIdeal := Cert.KernelInIdeal.Gen.facts)
    (hReferenceInIdeal := Cert.ReferenceInIdeal.Gen.facts) := by
  intro m g m' g' _ hag
  refine ⟨fun c => (Cert.KernelInIdeal.Gen.dats m 0 c).arrAt 2 Cert.KernelInIdeal.cfg0.N, Cert.KernelInIdeal.Value.run_blocks m g,
    (θ_run Cert.ReferenceInIdeal.defs _ _).mono (fun r h c => ⟨(h c).1.trans ?_, (h c).2⟩) (Cert.ReferenceInIdeal.Value.run m' g')⟩
  have e0 := (hag c).1
  have e1 := (hag c).2
  show Cert.ReferenceInIdeal.Product.product _ _ = _
  rw [e0, e1]
  exact Tiles.same (gm := 13) (gn := 13) rfl rfl fun t r k R K hR hK =>
    (Cert.ReferenceInIdeal.Product.value _ _ R K).trans (Cert.KernelInIdeal.Product.value m c t r k R K hR hK).symm

theorem kernel_frame : Cert.quiescent_KernelIn (hKernelIn := Cert.KernelIn.Gen.facts) := fun m g _ => Cert.KernelIn.Gen.frame m g
theorem ideal_frame : Cert.quiescent_KernelInIdeal (hKernelInIdeal := Cert.KernelInIdeal.Gen.facts) := fun m g _ => Cert.KernelInIdeal.Gen.frame m g
theorem reference_frame : Cert.quiescent_ReferenceInIdeal (hReferenceInIdeal := Cert.ReferenceInIdeal.Gen.facts) := fun m g _ =>
  (θ_run Cert.ReferenceInIdeal.defs _ _).mono (fun r h => ⟨fun c => (h c).2, sem_eq_zero_of_no_sems (by decide) r.2⟩) (Cert.ReferenceInIdeal.Value.run (F := Ideal) m g)

end Cert.In

end
-- ==== Proof.Norm.lean ====
/- The root-mean-square norm of a row, and what the calls make of it. -/
module

public import Idealize.ShloMosaic.Lib.Pipeline.ValueKit
public import Idealize.ShloMosaic.Lib.StableHlo.ReadAt
public import Idealize.ShloMosaic.Lib.Pointwise

@[expose] public section

noncomputable section

namespace Cert.Norm

open Idealize.ShloMosaic Idealize.ShloMosaic.Tactic

/-- The norm of the row `f` with the gains `g`: the row over the root of its mean square and a small number, times the gains. -/
def rms (f g : Fin 4096 → EReal) (x : Fin 4096) : EReal :=
  f x * Ideal.rsqrt (Ideal.div (∑ y : Fin 4096, f y * f y) (Ideal.ofBits .f32 0x45800000#32) + Ideal.ofBits .f32 0x358637BD#32) * g x

/-- A residual step: `a` and the norm of `f` at a gate `s`. -/
def step (a s : EReal) (f g : Fin 4096 → EReal) (x : Fin 4096) : EReal := a + s * rms f g x

theorem step_congr {a a' s s' : EReal} {f f' g g' : Fin 4096 → EReal} (ha : a = a') (hs : s = s') (hf : ∀ x, f x = f' x) (hg : ∀ x, g x = g' x)
    (x : Fin 4096) : step a s f g x = step a' s' f' g' x := by
  rw [ha, hs, funext hf, funext hg]

/-- A modulated norm: the norm of `f` times one and `s`, and `b`. -/
def modulated (f g : Fin 4096 → EReal) (s b : EReal) (x : Fin 4096) : EReal := rms f g x * (1 + s) + b

theorem modulated_congr {f f' g g' : Fin 4096 → EReal} {s s' b b' : EReal} (hf : ∀ x, f x = f' x) (hg : ∀ x, g x = g' x) (hs : s = s') (hb : b = b')
    (x : Fin 4096) : modulated f g s b x = modulated f' g' s' b' x := by
  rw [hs, hb, funext hf, funext hg]

/-- Column `k` of the modulation's chunk `j`. -/
def col (j : Fin 6) (k : Fin 4096) : Fin 24576 := ⟨4096 * j.val + k.val, by omega⟩

theorem select_one {α : Type} (a b : α) : Scalar.select 1#1 a b = a := rfl
theorem select_zero {α : Type} (a b : α) : Scalar.select 0#1 a b = b := rfl

end Cert.Norm

end
-- ==== Proof.Last.lean ====
/- The last call: what it writes, and that it is the reference's last layer's second residual step, the reference's result. -/
module

public import proofs.«01_k».proof.Proof.Gen.KernelLastIdeal.Value
public import proofs.«01_k».proof.Proof.Gen.ReferenceLastIdeal.Run
public import proofs.«01_k».proof.Proof.Tiles
public import proofs.«01_k».proof.Proof.Norm
public import proofs.«01_k».proof.Defs
public import proofs.«01_k».proof.Proof.Gen.KernelLast.Frame
public import Idealize.ShloMosaic.Adequacy
public import Idealize.ShloMosaic.Init

@[expose] public section

set_option maxRecDepth 100000

noncomputable section

namespace Cert.KernelLastIdeal.Step

open Cert.KernelLastIdeal Cert.KernelLastIdeal.Gen Idealize.ShloMosaic Idealize.ShloMosaic.TcCoe Idealize.ShloMosaic.Tactic Cert.Tiles Cert.Norm

variable (m : (ℓ : Loc nD τ sig) → Buf (Elt Ideal) ℓ)

theorem at0 : ∀ t : Fin cfg0.N, (cfg0.win 0).index t 0 = t.val + 1 ∧ (cfg0.win 0).index t 1 = 0 := by decide +kernel
theorem at1 : ∀ t : Fin cfg0.N, (cfg0.win 1).index t 0 = t.val + 1 ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = t.val ∧ (cfg0.win 4).index t 1 = 0 := by decide +kernel
theorem flushes : ∀ t : Fin cfg0.N, (cfg0.win 4).flush t = true := by decide +kernel

/-- Every tile is of the latent rows. -/
theorem latent : ∀ t : Fin cfg0.N, Scalar.cmpi .slt (BitVec.ofNat 32 (grid0.coords t 0).val) 0#32 = 0#1 := by decide +kernel

theorem streamed (c : Dev nD) (R : Fin 16640) (x : Fin 4096) : V m c main_v0 (ix2 R x) = m (c, Proc.tc.devRef main_arg1) (ix2 R x) := by
  unfold V
  after_reads_at

theorem gains (c : Dev nD) (x : Fin 4096) : V m c main_v7 (ix2 0 x) = m (c, Proc.tc.devRef main_arg2) (ix3 3 3 x) := by
  unfold V
  after_reads_at

theorem gates (c : Dev nD) (x : Fin 4096) (X : Fin 24576) (hX : X.val = 20480 + x.val) :
    V m c main_v32 (ix2 1 x) = m (c, Proc.tc.devRef main_arg3) (ix2 0 X) := by
  unfold V
  after_reads_at
  rw [StableHlo.unary_result, show X = ⟨20480 + x.val, lt_of_eq_of_lt hX.symm X.isLt⟩ from Fin.ext hX]
  after_reads_at
  after_reads_at

theorem rows (c : Dev nD) (t : Fin cfg0.N) (r : Fin 256) (x : Fin 4096) (R : Fin 16640) (hR : R.val = 256 * (t.val + 1) + r.val) :
    iblk m c 0 t (ix2 r x) = m (c, Proc.tc.devRef main_arg0) (ix2 R x) := by
  blk_ext [iblk, (at0 t).1, (at0 t).2, hR]

theorem fed (c : Dev nD) (t : Fin cfg0.N) (r : Fin 256) (x : Fin 4096) (R : Fin 16640) (hR : R.val = 256 * (t.val + 1) + r.val) :
    iblk m c 1 t (ix2 r x) = m (c, Proc.tc.devRef main_arg1) (ix2 R x) := by
  refine Eq.trans ?_ (streamed m c R x)
  blk_ext [iblk, (at1 t).1, (at1 t).2, hR]

theorem gain (c : Dev nD) (t : Fin cfg0.N) (x : Fin 4096) : iblk m c 2 t (ix2 0 x) = m (c, Proc.tc.devRef main_arg2) (ix3 3 3 x) := by
  refine Eq.trans ?_ (gains m c x)
  blk_ext [iblk, (at2 t).1, (at2 t).2]

theorem gate (c : Dev nD) (t : Fin cfg0.N) (x : Fin 4096) (X : Fin 24576) (hX : X.val = 20480 + x.val) :
    iblk m c 3 t (ix2 1 x) = m (c, Proc.tc.devRef main_arg3) (ix2 0 X) := by
  refine Eq.trans ?_ (gates m c x X hX)
  blk_ext [iblk, (at3 t).1, (at3 t).2]

theorem tile (t : Fin cfg0.N) (a : Vec Ideal S256x4096 .f32) (b : Vec Ideal S256x4096 .bf16) (g : Vec Ideal S2x4096 .f32) (s : Vec Ideal S6x4096 .f32)
    (r : Fin 256) (k : Fin 4096) : out0_4 (grid0.coords t) a b g s (ix2 r k)
    = step (a (ix2 r k)) (s (ix2 1 k)) (fun x => b (ix2 r x)) (fun x => g (ix2 0 x)) k := by
  unfold out0_4
  canon_tiles x h
  refine (congrArg _ (at_coords (by simpa using h0) (by simpa using h1))).trans
    (show k0_pay1 (grid0.coords t) (View.ld a r0_0) (View.ld s r0_1) (View.ld s r0_2) (View.ld b r0_0) (View.ld g r0_3) (ix2 r k) = _ from ?_)
  unfold k0_pay1
  rw [latent t, Scalar.select, if_neg (by decide)]
  pointwise [step, rms]

/-- The array after the run, element by element. -/
theorem value (c : Dev nD) (t : Fin cfg0.N) (r : Fin 256) (k : Fin 4096) (R : Fin 16384) (hR : R.val = 256 * t.val + r.val) (Q : Fin 16640)
    (hQ : Q.val = 256 + R.val) (X : Fin 24576) (hX : X.val = 20480 + k.val) : (dats m 0 c).arrAt 4 cfg0.N (ix2 R k)
    = step (m (c, Proc.tc.devRef main_arg0) (ix2 Q k)) (m (c, Proc.tc.devRef main_arg3) (ix2 0 X))
      (fun x => m (c, Proc.tc.devRef main_arg1) (ix2 Q x)) (fun x => m (c, Proc.tc.devRef main_arg2) (ix3 3 3 x)) k := by
  have h := congrFun (Value.blocks4 m c t (flushes t)) (ix2 r k)
  rw [Value.flushed4] at h
  have e : Q.val = 256 * (t.val + 1) + r.val := by omega
  refine Eq.trans ?_ (h.trans ((tile t _ _ _ _ r k).trans ?_))
  · blk_ext [(at4 t).1, (at4 t).2, hR]
  · exact step_congr (rows m c t r k Q e) (gate m c t k X hX) (fun x => fed m c t r x Q e) (fun x => gain m c t x) k

end Cert.KernelLastIdeal.Step

namespace Cert.ReferenceLastIdeal.Step

open Cert.ReferenceLastIdeal Cert.ReferenceLastIdeal.Gen Idealize.ShloMosaic Idealize.ShloMosaic.TcCoe Idealize.ShloMosaic.Tactic Cert.Tiles Cert.Norm

/-- The reference's result. -/
def result (a f : FVec Ideal S16640x4096 .f32) (g : FVec Ideal S4x4x4096 .f32) (s : FVec Ideal S1x24576 .f32) : FVec Ideal S16384x4096 .f32 :=
  shapeCast _ (addf (broadcastInDim S1x16384x4096 ![1, 2] bcast_S16384x4096_S1x16384x4096_1_2 (extractStridedSlice S16384x4096 ![256, 0] a slices_S16640x4096_S16384x4096_256_0)) (mulf (broadcastInDim S1x16384x4096 ![0, 1, 2] bcast_S1x1x4096_S1x16384x4096_0_1_2 (extractStridedSlice S1x1x4096 ![0, 0, 20480] (broadcastInDim S1x1x24576 ![0, 2] bcast_S1x24576_S1x1x24576_0_2 s) slices_S1x1x24576_S1x1x4096_0_0_20480)) (mulf (mulf (broadcastInDim S1x16384x4096 ![1, 2] bcast_S16384x4096_S1x16384x4096_1_2 (extractStridedSlice S16384x4096 ![256, 0] f slices_S16640x4096_S16384x4096_256_0)) (broadcastInDim S1x16384x4096 ![0, 1, 2] bcast_S1x16384x1_S1x16384x4096_0_1_2 (Host.rsqrt (addf (Host.divf (broadcastInDim S1x16384x1 ![0, 1] bcast_S1x16384_S1x16384x1_0_1 (Host.reduceAdd (mulf (broadcastInDim S1x16384x4096 ![1, 2] bcast_S16384x4096_S1x16384x4096_1_2 (extractStridedSlice S16384x4096 ![256, 0] f slices_S16640x4096_S16384x4096_256_0)) (broadcastInDim S1x16384x4096 ![1, 2] bcast_S16384x4096_S1x16384x4096_1_2 (extractStridedSlice S16384x4096 ![256, 0] f slices_S16640x4096_S16384x4096_256_0))) (constant S_ .f32 0x00000000#32) reducesTo_S1x16384x4096_S1x16384_d2 h_S_)) (broadcastInDim S1x16384x1 ![] bcast_S_S1x16384x1 (constant S_ .f32 0x45800000#32))) (broadcastInDim S1x16384x1 ![] bcast_S_S1x16384x1 (constant S_ .f32 0x358637BD#32)))))) (broadcastInDim S1x16384x4096 ![0, 1, 2] bcast_S1x1x4096_S1x16384x4096_0_1_2 (broadcastInDim S1x1x4096 ![2] bcast_S4096_S1x1x4096_2 (shapeCast _ (extractStridedSlice S1x4096 ![3, 0] (shapeCast _ (extractStridedSlice S1x4x4096 ![3, 0, 0] g slices_S4x4x4096_S1x4x4096_3_0_0) shapeCasts_S1x4x4096_S4x4096) slices_S4x4096_S1x4096_3_0) shapeCasts_S1x4096_S4096)))))) shapeCasts_S1x16384x4096_S16384x4096

theorem value (a f : FVec Ideal S16640x4096 .f32) (g : FVec Ideal S4x4x4096 .f32) (s : FVec Ideal S1x24576 .f32) (R : Fin 16384) (Q : Fin 16640)
    (hQ : Q.val = 256 + R.val) (k : Fin 4096) (X : Fin 24576) (hX : X.val = 20480 + k.val) :
    result a f g s (ix2 R k) = step (a (ix2 Q k)) (s (ix2 0 X)) (fun x => f (ix2 Q x)) (fun x => g (ix3 3 3 x)) k := by
  have eQ : Q = ⟨256 + R.val, lt_of_eq_of_lt hQ.symm Q.isLt⟩ := Fin.ext hQ
  have eX : X = ⟨20480 + k.val, lt_of_eq_of_lt hX.symm X.isLt⟩ := Fin.ext hX
  rw [eQ, eX]
  pointwise [result, step, rms]

end Cert.ReferenceLastIdeal.Step

namespace Cert.Last

open Idealize.ShloMosaic Idealize.ShloMosaic.TcCoe Idealize.SL.Sem

/-- The call computes the reference's result. -/
theorem algebraic : Cert.algebraic_KernelLastIdeal_ReferenceLastIdeal (hKernelLastIdeal := Cert.KernelLastIdeal.Gen.facts)
    (hReferenceLastIdeal := Cert.ReferenceLastIdeal.Gen.facts) := by
  intro m g m' g' _ hag
  refine ⟨fun c => (Cert.KernelLastIdeal.Gen.dats m 0 c).arrAt 4 Cert.KernelLastIdeal.cfg0.N, Cert.KernelLastIdeal.Value.run_blocks m g,
    (θ_run Cert.ReferenceLastIdeal.defs _ _).mono (fun r h c => ⟨(h c).1.trans ?_, (h c).2⟩) (Cert.ReferenceLastIdeal.Value.run m' g')⟩
  obtain ⟨e0, e1, e2, e3, -⟩ := hag c
  show Cert.ReferenceLastIdeal.Step.result _ _ _ _ = _
  rw [e0, e1, e2, e3]
  exact Tiles.same (tm := 256) (tn := 4096) (gm := 64) (gn := 1) rfl rfl fun t r k R K hR hK => by
    obtain rfl : K = k := Fin.ext (by omega)
    exact (Cert.ReferenceLastIdeal.Step.value _ _ _ _ R ⟨256 + R.val, by omega⟩ rfl K ⟨20480 + K.val, by omega⟩ rfl).trans
      (Cert.KernelLastIdeal.Step.value m c t r K R (by omega) ⟨256 + R.val, by omega⟩ rfl ⟨20480 + K.val, by omega⟩ rfl).symm

theorem kernel_frame : Cert.quiescent_KernelLast (hKernelLast := Cert.KernelLast.Gen.facts) := fun m g _ => Cert.KernelLast.Gen.frame m g
theorem ideal_frame : Cert.quiescent_KernelLastIdeal (hKernelLastIdeal := Cert.KernelLastIdeal.Gen.facts) := fun m g _ => Cert.KernelLastIdeal.Gen.frame m g
theorem reference_frame : Cert.quiescent_ReferenceLastIdeal (hReferenceLastIdeal := Cert.ReferenceLastIdeal.Gen.facts) := fun m g _ =>
  (θ_run Cert.ReferenceLastIdeal.defs _ _).mono (fun r h => ⟨fun c => (h c).2, sem_eq_zero_of_no_sems (by decide) r.2⟩) (Cert.ReferenceLastIdeal.Value.run (F := Ideal) m g)

end Cert.Last

end
-- ==== Proof.Resid.lean ====
/- The residual step between a layer's two halves: the two results that the call writes, and that they are the reference's. -/
module

public import proofs.«01_k».proof.Proof.Gen.KernelResidIdeal.Value
public import proofs.«01_k».proof.Proof.Gen.ReferenceResidIdeal.Run
public import proofs.«01_k».proof.Proof.Tiles
public import proofs.«01_k».proof.Proof.Norm
public import proofs.«01_k».proof.Defs
public import proofs.«01_k».proof.Proof.Gen.KernelResid.Frame
public import Idealize.ShloMosaic.Adequacy
public import Idealize.ShloMosaic.Init

@[expose] public section

set_option maxRecDepth 100000

noncomputable section

namespace Cert.Resid

open Idealize.ShloMosaic Idealize.ShloMosaic.Tactic Cert.Norm

/-- An element of the first result: the stream and the normed mixture at the gate of its row's part. -/
def first (a f : FVec Ideal ⟨2, ![16640, 4096]⟩ .f32) (g : FVec Ideal ⟨3, ![4, 4, 4096]⟩ .f32) (s sc : FVec Ideal ⟨2, ![1, 24576]⟩ .f32)
    (R : Fin 16640) (k : Fin 4096) : EReal :=
  step (a (ix2 R k)) (if R.val < 256 then sc (ix2 0 (col 2 k)) else s (ix2 0 (col 2 k))) (fun x => f (ix2 R x)) (fun x => g (ix3 0 1 x)) k

/-- An element of the second result: the first result's row, normed and modulated. -/
def second (a f : FVec Ideal ⟨2, ![16640, 4096]⟩ .f32) (g : FVec Ideal ⟨3, ![4, 4, 4096]⟩ .f32) (s sc : FVec Ideal ⟨2, ![1, 24576]⟩ .f32)
    (R : Fin 16640) (k : Fin 4096) : EReal :=
  modulated (first a f g s sc R) (fun x => g (ix3 0 2 x)) (if R.val < 256 then sc (ix2 0 (col 4 k)) else s (ix2 0 (col 4 k)))
    (if R.val < 256 then sc (ix2 0 (col 3 k)) else s (ix2 0 (col 3 k))) k

end Cert.Resid

namespace Cert.KernelResidIdeal.Step

open Cert.KernelResidIdeal Cert.KernelResidIdeal.Gen Idealize.ShloMosaic Idealize.ShloMosaic.TcCoe Idealize.ShloMosaic.Tactic Cert.Tiles Cert.Norm

variable (m : (ℓ : Loc nD τ sig) → Buf (Elt Ideal) ℓ)

theorem at0 : ∀ t : Fin cfg0.N, (cfg0.win 0).index t 0 = t.val ∧ (cfg0.win 0).index t 1 = 0 := by decide +kernel
theorem at1 : ∀ t : Fin cfg0.N, (cfg0.win 1).index t 0 = t.val ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = t.val ∧ (cfg0.win 4).index t 1 = 0 := by decide +kernel
theorem at5 : ∀ t : Fin cfg0.N, (cfg0.win 5).index t 0 = t.val ∧ (cfg0.win 5).index t 1 = 0 := by decide +kernel
theorem flushes4 : ∀ t : Fin cfg0.N, (cfg0.win 4).flush t = true := by decide +kernel
theorem flushes5 : ∀ t : Fin cfg0.N, (cfg0.win 5).flush t = true := by decide +kernel

/-- The first tile is of the context's rows. -/
theorem context : ∀ t : Fin cfg0.N, Scalar.cmpi .slt (BitVec.ofNat 32 (grid0.coords t 0).val) 1#32 = if t.val < 1 then 1#1 else 0#1 := by decide +kernel

theorem streamed (c : Dev nD) (R : Fin 16640) (x : Fin 4096) : V m c main_v0 (ix2 R x) = m (c, Proc.tc.devRef main_arg1) (ix2 R x) := by
  unfold V
  after_reads_at

theorem gains0 (c : Dev nD) (x : Fin 4096) : V m c main_v2 (ix2 0 x) = m (c, Proc.tc.devRef main_arg2) (ix3 0 1 x) := by
  unfold V
  after_reads_at

theorem gains1 (c : Dev nD) (x : Fin 4096) : V m c main_v2 (ix2 1 x) = m (c, Proc.tc.devRef main_arg2) (ix3 0 2 x) := by
  unfold V
  after_reads_at

/-- The six rows of the modulation: the gate, the scale and the shift, of the context and of the latents. -/
theorem mods (c : Dev nD) (j : Fin 6) (x : Fin 4096) (X : Fin 24576) (hX : X.val = 4096 * (![2, 2, 4, 4, 3, 3] : Fin 6 → ℕ) j + x.val) :
    V m c main_v27 (ix2 j x) = if j.val % 2 = 0 then m (c, Proc.tc.devRef main_arg4) (ix2 0 X) else m (c, Proc.tc.devRef main_arg3) (ix2 0 X) := by
  unfold V
  fin_cases j
  all_goals
    rw [show X = ⟨_, lt_of_eq_of_lt hX.symm X.isLt⟩ from Fin.ext hX]
    after_reads_at
    rw [StableHlo.unary_result]
    after_reads_at
    after_reads_at

theorem pay2_at (t : Fin cfg0.N) (a : Vec Ideal S256x4096 .f32) (b : Vec Ideal S256x4096 .bf16) (g : Vec Ideal S2x4096 .f32) (s : Vec Ideal S6x4096 .f32)
    (r : Fin 256) (k : Fin 4096) : k0_pay2 (grid0.coords t) (View.ld a r0_0) (View.ld s r0_1) (View.ld s r0_2) (View.ld b r0_0) (View.ld g r0_3) (ix2 r k)
    = step (a (ix2 r k)) (if t.val < 1 then s (ix2 0 k) else s (ix2 1 k)) (fun x => b (ix2 r x)) (fun x => g (ix2 0 x)) k := by
  unfold k0_pay2
  by_cases ht : t.val < 1 <;> simp only [context t, ht, if_true, if_false, select_one, select_zero] <;> pointwise [step, rms]

theorem tile4 (t : Fin cfg0.N) (a : Vec Ideal S256x4096 .f32) (b : Vec Ideal S256x4096 .bf16) (g : Vec Ideal S2x4096 .f32) (s : Vec Ideal S6x4096 .f32)
    (r : Fin 256) (k : Fin 4096) : out0_4 (grid0.coords t) a b g s (ix2 r k)
    = step (a (ix2 r k)) (if t.val < 1 then s (ix2 0 k) else s (ix2 1 k)) (fun x => b (ix2 r x)) (fun x => g (ix2 0 x)) k := by
  unfold out0_4
  canon_tiles x h
  exact (congrArg _ (at_coords (by simpa using h0) (by simpa using h1))).trans (pay2_at t a b g s r k)

theorem tile5 (t : Fin cfg0.N) (a : Vec Ideal S256x4096 .f32) (b : Vec Ideal S256x4096 .bf16) (g : Vec Ideal S2x4096 .f32) (s : Vec Ideal S6x4096 .f32)
    (r : Fin 256) (k : Fin 4096) : out0_5 (grid0.coords t) a b g s (ix2 r k)
    = modulated (fun y => step (a (ix2 r y)) (if t.val < 1 then s (ix2 0 y) else s (ix2 1 y)) (fun x => b (ix2 r x)) (fun x => g (ix2 0 x)) y)
      (fun x => g (ix2 1 x)) (if t.val < 1 then s (ix2 2 k) else s (ix2 3 k)) (if t.val < 1 then s (ix2 4 k) else s (ix2 5 k)) k := by
  unfold out0_5
  canon_tiles x h
  refine (congrArg _ (at_coords (by simpa using h0) (by simpa using h1))).trans ?_
  unfold k0_pay4
  simp only [← pay2_at t a b g s]
  generalize k0_pay2 (grid0.coords t) (View.ld a r0_0) (View.ld s r0_1) (View.ld s r0_2) (View.ld b r0_0) (View.ld g r0_3) = z
  unfold k0_pay1
  by_cases ht : t.val < 1 <;> simp only [context t, ht, if_true, if_false, select_one, select_zero] <;> pointwise [modulated, rms, k0_pay3]

theorem rows (c : Dev nD) (t : Fin cfg0.N) (r : Fin 256) (x : Fin 4096) (R : Fin 16640) (hR : R.val = 256 * t.val + r.val) :
    iblk m c 0 t (ix2 r x) = m (c, Proc.tc.devRef main_arg0) (ix2 R x) := by
  blk_ext [iblk, (at0 t).1, (at0 t).2, hR]

theorem mixed (c : Dev nD) (t : Fin cfg0.N) (r : Fin 256) (x : Fin 4096) (R : Fin 16640) (hR : R.val = 256 * t.val + r.val) :
    iblk m c 1 t (ix2 r x) = m (c, Proc.tc.devRef main_arg1) (ix2 R x) := by
  refine Eq.trans ?_ (streamed m c R x)
  blk_ext [iblk, (at1 t).1, (at1 t).2, hR]

theorem gain0 (c : Dev nD) (t : Fin cfg0.N) (x : Fin 4096) : iblk m c 2 t (ix2 0 x) = m (c, Proc.tc.devRef main_arg2) (ix3 0 1 x) := by
  refine Eq.trans ?_ (gains0 m c x)
  blk_ext [iblk, (at2 t).1, (at2 t).2]

theorem gain1 (c : Dev nD) (t : Fin cfg0.N) (x : Fin 4096) : iblk m c 2 t (ix2 1 x) = m (c, Proc.tc.devRef main_arg2) (ix3 0 2 x) := by
  refine Eq.trans ?_ (gains1 m c x)
  blk_ext [iblk, (at2 t).1, (at2 t).2]

theorem mod (c : Dev nD) (t : Fin cfg0.N) (j : Fin 6) (x : Fin 4096) (X : Fin 24576) (hX : X.val = 4096 * (![2, 2, 4, 4, 3, 3] : Fin 6 → ℕ) j + x.val) :
    iblk m c 3 t (ix2 j x) = if j.val % 2 = 0 then m (c, Proc.tc.devRef main_arg4) (ix2 0 X) else m (c, Proc.tc.devRef main_arg3) (ix2 0 X) := by
  refine Eq.trans ?_ (mods m c j x X hX)
  blk_ext [iblk, (at3 t).1, (at3 t).2]

/-- The rows `j` and `j'` of the modulation, chosen by the tile, are its part's chunk. -/
theorem chosen (c : Dev nD) (t : Fin cfg0.N) (r : Fin 256) (R : Fin 16640) (hR : R.val = 256 * t.val + r.val) (j j' : Fin 6)
    (hj : j.val % 2 = 0) (hj' : ¬ j'.val % 2 = 0) (x : Fin 4096) (X : Fin 24576)
    (hX : X.val = 4096 * (![2, 2, 4, 4, 3, 3] : Fin 6 → ℕ) j + x.val) (hX' : X.val = 4096 * (![2, 2, 4, 4, 3, 3] : Fin 6 → ℕ) j' + x.val) :
    (if t.val < 1 then iblk m c 3 t (ix2 j x) else iblk m c 3 t (ix2 j' x))
    = if R.val < 256 then m (c, Proc.tc.devRef main_arg4) (ix2 0 X) else m (c, Proc.tc.devRef main_arg3) (ix2 0 X) := by
  rw [mod m c t j x X hX, mod m c t j' x X hX', if_pos hj, if_neg hj']
  exact if_congr (by omega) rfl rfl

/-- The first array after the run, element by element. -/
theorem value4 (c : Dev nD) (t : Fin cfg0.N) (r : Fin 256) (k : Fin 4096) (R : Fin 16640) (hR : R.val = 256 * t.val + r.val) :
    (dats m 0 c).arrAt 4 cfg0.N (ix2 R k) = Cert.Resid.first (m (c, Proc.tc.devRef main_arg0)) (m (c, Proc.tc.devRef main_arg1))
      (m (c, Proc.tc.devRef main_arg2)) (m (c, Proc.tc.devRef main_arg3)) (m (c, Proc.tc.devRef main_arg4)) R k := by
  have h := congrFun (Value.blocks4 m c t (flushes4 t)) (ix2 r k)
  rw [Value.flushed4] at h
  refine Eq.trans ?_ (h.trans ((tile4 t _ _ _ _ r k).trans ?_))
  · blk_ext [(at4 t).1, (at4 t).2, hR]
  · exact step_congr (rows m c t r k R hR) (chosen m c t r R hR 0 1 rfl (by decide) k (col 2 k) rfl rfl) (fun x => mixed m c t r x R hR) (fun x => gain0 m c t x) k

/-- The second array after the run, element by element. -/
theorem value5 (c : Dev nD) (t : Fin cfg0.N) (r : Fin 256) (k : Fin 4096) (R : Fin 16640) (hR : R.val = 256 * t.val + r.val) :
    (dats m 0 c).arrAt 5 cfg0.N (ix2 R k) = Cert.Resid.second (m (c, Proc.tc.devRef main_arg0)) (m (c, Proc.tc.devRef main_arg1))
      (m (c, Proc.tc.devRef main_arg2)) (m (c, Proc.tc.devRef main_arg3)) (m (c, Proc.tc.devRef main_arg4)) R k := by
  have h := congrFun (Value.blocks5 m c t (flushes5 t)) (ix2 r k)
  rw [Value.flushed5] at h
  refine Eq.trans ?_ (h.trans ((tile5 t _ _ _ _ r k).trans ?_))
  · blk_ext [(at5 t).1, (at5 t).2, hR]
  · exact modulated_congr (fun y => step_congr (rows m c t r y R hR) (chosen m c t r R hR 0 1 rfl (by decide) y (col 2 y) rfl rfl) (fun x => mixed m c t r x R hR)
      (fun x => gain0 m c t x) y) (fun x => gain1 m c t x) (chosen m c t r R hR 2 3 rfl (by decide) k (col 4 k) rfl rfl)
      (chosen m c t r R hR 4 5 rfl (by decide) k (col 3 k) rfl rfl) k

end Cert.KernelResidIdeal.Step

namespace Cert.ReferenceResidIdeal.Step

open Cert.ReferenceResidIdeal Cert.ReferenceResidIdeal.Gen Idealize.ShloMosaic Idealize.ShloMosaic.TcCoe Idealize.ShloMosaic.Tactic Cert.Tiles Cert.Norm

/-- The reference's first step on the context's rows. -/
def context (a f : FVec Ideal S16640x4096 .f32) (g : FVec Ideal S4x4x4096 .f32) (s : FVec Ideal S1x24576 .f32) : FVec Ideal S256x4096 .f32 :=
  addf (extractStridedSlice S256x4096 ![0, 0] a slices_S16640x4096_S256x4096_0_0) (mulf (broadcastInDim S256x4096 ![0, 1] bcast_S1x4096_S256x4096_0_1 (extractStridedSlice S1x4096 ![0, 8192] s slices_S1x24576_S1x4096_0_8192)) (mulf (mulf (extractStridedSlice S256x4096 ![0, 0] f slices_S16640x4096_S256x4096_0_0) (broadcastInDim S256x4096 ![0, 1] bcast_S256x1_S256x4096_0_1 (Host.rsqrt (addf (Host.divf (broadcastInDim S256x1 ![0] bcast_S256_S256x1_0 (Host.reduceAdd (mulf (extractStridedSlice S256x4096 ![0, 0] f slices_S16640x4096_S256x4096_0_0) (extractStridedSlice S256x4096 ![0, 0] f slices_S16640x4096_S256x4096_0_0)) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 (shapeCast _ (extractStridedSlice S1x4096 ![1, 0] (shapeCast _ (extractStridedSlice S1x4x4096 ![0, 0, 0] g slices_S4x4x4096_S1x4x4096_0_0_0) shapeCasts_S1x4x4096_S4x4096) slices_S4x4096_S1x4096_1_0) shapeCasts_S1x4096_S4096)))))

/-- The reference's first step on the latents' rows. -/
def latent (a f : FVec Ideal S16640x4096 .f32) (g : FVec Ideal S4x4x4096 .f32) (s : FVec Ideal S1x24576 .f32) : FVec Ideal S16384x4096 .f32 :=
  addf (extractStridedSlice S16384x4096 ![256, 0] a slices_S16640x4096_S16384x4096_256_0) (mulf (broadcastInDim S16384x4096 ![0, 1] bcast_S1x4096_S16384x4096_0_1 (extractStridedSlice S1x4096 ![0, 8192] s slices_S1x24576_S1x4096_0_8192)) (mulf (mulf (extractStridedSlice S16384x4096 ![256, 0] f slices_S16640x4096_S16384x4096_256_0) (broadcastInDim S16384x4096 ![0, 1] bcast_S16384x1_S16384x4096_0_1 (Host.rsqrt (addf (Host.divf (broadcastInDim S16384x1 ![0] bcast_S16384_S16384x1_0 (Host.reduceAdd (mulf (extractStridedSlice S16384x4096 ![256, 0] f slices_S16640x4096_S16384x4096_256_0) (extractStridedSlice S16384x4096 ![256, 0] f slices_S16640x4096_S16384x4096_256_0)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![1, 0] (shapeCast _ (extractStridedSlice S1x4x4096 ![0, 0, 0] g slices_S4x4x4096_S1x4x4096_0_0_0) shapeCasts_S1x4x4096_S4x4096) slices_S4x4096_S1x4096_1_0) shapeCasts_S1x4096_S4096)))))

theorem context_at (a f : FVec Ideal S16640x4096 .f32) (g : FVec Ideal S4x4x4096 .f32) (s : FVec Ideal S1x24576 .f32) (r : Fin 256) (R : Fin 16640)
    (hR : R.val = r.val) (k : Fin 4096) : context a f g s (ix2 r k)
    = step (a (ix2 R k)) (s (ix2 0 (col 2 k))) (fun x => f (ix2 R x)) (fun x => g (ix3 0 1 x)) k := by
  rw [show R = ⟨r.val, lt_of_eq_of_lt hR.symm R.isLt⟩ from Fin.ext hR]
  pointwise [context, step, rms, col]

theorem latent_at (a f : FVec Ideal S16640x4096 .f32) (g : FVec Ideal S4x4x4096 .f32) (s : FVec Ideal S1x24576 .f32) (r : Fin 16384) (R : Fin 16640)
    (hR : R.val = 256 + r.val) (k : Fin 4096) : latent a f g s (ix2 r k)
    = step (a (ix2 R k)) (s (ix2 0 (col 2 k))) (fun x => f (ix2 R x)) (fun x => g (ix3 0 1 x)) k := by
  rw [show R = ⟨256 + r.val, lt_of_eq_of_lt hR.symm R.isLt⟩ from Fin.ext hR]
  pointwise [latent, step, rms, col]

/-- The reference's second step on the context's rows. -/
def contextNorm (a : FVec Ideal S256x4096 .f32) (g : FVec Ideal S4x4x4096 .f32) (s : FVec Ideal S1x24576 .f32) : FVec Ideal S256x4096 .f32 :=
  addf (mulf (mulf (mulf a (broadcastInDim S256x4096 ![0, 1] bcast_S256x1_S256x4096_0_1 (Host.rsqrt (addf (Host.divf (broadcastInDim S256x1 ![0] bcast_S256_S256x1_0 (Host.reduceAdd (mulf a a) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 (shapeCast _ (extractStridedSlice S1x4096 ![2, 0] (shapeCast _ (extractStridedSlice S1x4x4096 ![0, 0, 0] g slices_S4x4x4096_S1x4x4096_0_0_0) shapeCasts_S1x4x4096_S4x4096) slices_S4x4096_S1x4096_2_0) shapeCasts_S1x4096_S4096)))) (broadcastInDim S256x4096 ![0, 1] bcast_S1x4096_S256x4096_0_1 (addf (broadcastInDim S1x4096 ![] bcast_S_S1x4096 (constant S_ .f32 0x3F800000#32)) (extractStridedSlice S1x4096 ![0, 16384] s slices_S1x24576_S1x4096_0_16384)))) (broadcastInDim S256x4096 ![0, 1] bcast_S1x4096_S256x4096_0_1 (extractStridedSlice S1x4096 ![0, 12288] s slices_S1x24576_S1x4096_0_12288))

/-- The reference's second step on the latents' rows. -/
def latentNorm (a : FVec Ideal S16384x4096 .f32) (g : FVec Ideal S4x4x4096 .f32) (s : FVec Ideal S1x24576 .f32) : FVec Ideal S16384x4096 .f32 :=
  addf (mulf (mulf (mulf a (broadcastInDim S16384x4096 ![0, 1] bcast_S16384x1_S16384x4096_0_1 (Host.rsqrt (addf (Host.divf (broadcastInDim S16384x1 ![0] bcast_S16384_S16384x1_0 (Host.reduceAdd (mulf a a) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![2, 0] (shapeCast _ (extractStridedSlice S1x4x4096 ![0, 0, 0] g slices_S4x4x4096_S1x4x4096_0_0_0) shapeCasts_S1x4x4096_S4x4096) slices_S4x4096_S1x4096_2_0) shapeCasts_S1x4096_S4096)))) (broadcastInDim S16384x4096 ![0, 1] bcast_S1x4096_S16384x4096_0_1 (addf (broadcastInDim S1x4096 ![] bcast_S_S1x4096 (constant S_ .f32 0x3F800000#32)) (extractStridedSlice S1x4096 ![0, 16384] s slices_S1x24576_S1x4096_0_16384)))) (broadcastInDim S16384x4096 ![0, 1] bcast_S1x4096_S16384x4096_0_1 (extractStridedSlice S1x4096 ![0, 12288] s slices_S1x24576_S1x4096_0_12288))

theorem contextNorm_at (a : FVec Ideal S256x4096 .f32) (g : FVec Ideal S4x4x4096 .f32) (s : FVec Ideal S1x24576 .f32) (r : Fin 256) (k : Fin 4096) :
    contextNorm a g s (ix2 r k) = modulated (fun x => a (ix2 r x)) (fun x => g (ix3 0 2 x)) (s (ix2 0 (col 4 k))) (s (ix2 0 (col 3 k))) k := by
  pointwise [contextNorm, modulated, rms, col]

theorem latentNorm_at (a : FVec Ideal S16384x4096 .f32) (g : FVec Ideal S4x4x4096 .f32) (s : FVec Ideal S1x24576 .f32) (r : Fin 16384) (k : Fin 4096) :
    latentNorm a g s (ix2 r k) = modulated (fun x => a (ix2 r x)) (fun x => g (ix3 0 2 x)) (s (ix2 0 (col 4 k))) (s (ix2 0 (col 3 k))) k := by
  pointwise [latentNorm, modulated, rms, col]

/-- The reference's first result. -/
def first (a f : FVec Ideal S16640x4096 .f32) (g : FVec Ideal S4x4x4096 .f32) (s sc : FVec Ideal S1x24576 .f32) : FVec Ideal S16640x4096 .f32 :=
  concatenate S16640x4096 0 [⟨S256x4096, context a f g sc⟩, ⟨S16384x4096, latent a f g s⟩] concatenates_S256x4096_S16384x4096_S16640x4096_d0

/-- The reference's second result. -/
def second (a f : FVec Ideal S16640x4096 .f32) (g : FVec Ideal S4x4x4096 .f32) (s sc : FVec Ideal S1x24576 .f32) : FVec Ideal S16640x4096 .bf16 :=
  truncf .bf16 (concatenate S16640x4096 0 [⟨S256x4096, contextNorm (context a f g sc) g sc⟩, ⟨S16384x4096, latentNorm (latent a f g s) g s⟩] concatenates_S256x4096_S16384x4096_S16640x4096_d0) bitsLt_bf16_f32

theorem first_at (a f : FVec Ideal S16640x4096 .f32) (g : FVec Ideal S4x4x4096 .f32) (s sc : FVec Ideal S1x24576 .f32) (R : Fin 16640) (k : Fin 4096) :
    first a f g s sc (ix2 R k) = Cert.Resid.first a f g s sc R k := by
  pointwise [first]
  unfold Cert.Resid.first
  by_cases h : R.val < 256
  · rw [dif_pos h, if_pos h]
    exact context_at a f g sc ⟨R.val, h⟩ R rfl k
  · rw [dif_neg h, if_neg h]
    exact latent_at a f g s ⟨R.val - 256, by omega⟩ R (by show R.val = 256 + (R.val - 256); omega) k

theorem second_at (a f : FVec Ideal S16640x4096 .f32) (g : FVec Ideal S4x4x4096 .f32) (s sc : FVec Ideal S1x24576 .f32) (R : Fin 16640) (k : Fin 4096) :
    second a f g s sc (ix2 R k) = Cert.Resid.second a f g s sc R k := by
  pointwise [second]
  unfold Cert.Resid.second Cert.Resid.first
  by_cases h : R.val < 256
  · simp only [dif_pos h, if_pos h]
    exact (contextNorm_at _ g sc ⟨R.val, h⟩ k).trans
      (modulated_congr (fun y => context_at a f g sc ⟨R.val, h⟩ R rfl y) (fun _ => rfl) rfl rfl k)
  · simp only [dif_neg h, if_neg h]
    exact (latentNorm_at _ g s ⟨R.val - 256, by omega⟩ k).trans
      (modulated_congr (fun y => latent_at a f g s ⟨R.val - 256, by omega⟩ R (by show R.val = 256 + (R.val - 256); omega) y) (fun _ => rfl) rfl rfl k)

end Cert.ReferenceResidIdeal.Step

namespace Cert.Resid

open Idealize.ShloMosaic Idealize.ShloMosaic.TcCoe Idealize.SL.Sem

/-- The call computes the reference's two results. -/
theorem algebraic : Cert.algebraic_KernelResidIdeal_ReferenceResidIdeal (hKernelResidIdeal := Cert.KernelResidIdeal.Gen.facts)
    (hReferenceResidIdeal := Cert.ReferenceResidIdeal.Gen.facts) := by
  intro m g m' g' _ hag
  refine ⟨fun c => (Cert.KernelResidIdeal.Gen.dats m 0 c).arrAt 4 Cert.KernelResidIdeal.cfg0.N,
    fun c => (Cert.KernelResidIdeal.Gen.dats m 0 c).arrAt 5 Cert.KernelResidIdeal.cfg0.N, Cert.KernelResidIdeal.Value.run_blocks m g,
    (θ_run Cert.ReferenceResidIdeal.defs _ _).mono (fun r h c => ⟨(h c).1.trans ?_, (h c).2.1.trans ?_, (h c).2.2⟩) (Cert.ReferenceResidIdeal.Value.run m' g')⟩
  all_goals obtain ⟨e0, e1, e2, e3, e4⟩ := hag c
  · show Cert.ReferenceResidIdeal.Step.first _ _ _ _ _ = _
    rw [e0, e1, e2, e3, e4]
    exact Tiles.same (tm := 256) (tn := 4096) (gm := 65) (gn := 1) rfl rfl fun t r k R K hR hK => by
      obtain rfl : K = k := Fin.ext (by omega)
      exact (Cert.ReferenceResidIdeal.Step.first_at _ _ _ _ _ R K).trans (Cert.KernelResidIdeal.Step.value4 m c t r K R (by omega)).symm
  · show Cert.ReferenceResidIdeal.Step.second _ _ _ _ _ = _
    rw [e0, e1, e2, e3, e4]
    exact Tiles.same (tm := 256) (tn := 4096) (gm := 65) (gn := 1) rfl rfl fun t r k R K hR hK => by
      obtain rfl : K = k := Fin.ext (by omega)
      exact (Cert.ReferenceResidIdeal.Step.second_at _ _ _ _ _ R K).trans (Cert.KernelResidIdeal.Step.value5 m c t r K R (by omega)).symm

theorem kernel_frame : Cert.quiescent_KernelResid (hKernelResid := Cert.KernelResid.Gen.facts) := fun m g _ => Cert.KernelResid.Gen.frame m g
theorem ideal_frame : Cert.quiescent_KernelResidIdeal (hKernelResidIdeal := Cert.KernelResidIdeal.Gen.facts) := fun m g _ => Cert.KernelResidIdeal.Gen.frame m g
theorem reference_frame : Cert.quiescent_ReferenceResidIdeal (hReferenceResidIdeal := Cert.ReferenceResidIdeal.Gen.facts) := fun m g _ =>
  (θ_run Cert.ReferenceResidIdeal.defs _ _).mono (fun r h => ⟨fun c => (h c).2.2, sem_eq_zero_of_no_sems (by decide) r.2⟩) (Cert.ReferenceResidIdeal.Value.run (F := Ideal) m g)

end Cert.Resid

end
-- ==== Proof.Join.lean ====
/- The first call of the first layer: the context and the latents in one stream, and the first norm of it, as the reference has them. -/
module

public import proofs.«01_k».proof.Proof.Gen.KernelJoinIdeal.Value
public import proofs.«01_k».proof.Proof.Gen.ReferenceJoinIdeal.Run
public import proofs.«01_k».proof.Proof.Tiles
public import proofs.«01_k».proof.Proof.Norm
public import proofs.«01_k».proof.Defs
public import proofs.«01_k».proof.Proof.Gen.KernelJoin.Frame
public import Idealize.ShloMosaic.Adequacy
public import Idealize.ShloMosaic.Init

@[expose] public section

set_option maxRecDepth 100000

noncomputable section

namespace Cert.Join

open Idealize.ShloMosaic Idealize.ShloMosaic.Tactic Cert.Norm

/-- An element of the stream: the context's rows, then the latents'. -/
def stream (x : FVec Ideal ⟨3, ![1, 256, 4096]⟩ .f32) (y : FVec Ideal ⟨3, ![1, 16384, 4096]⟩ .f32) (R : Fin 16640) (k : Fin 4096) : EReal :=
  if h : R.val < 256 then x (ix3 0 ⟨R.val, h⟩ k) else y (ix3 0 ⟨R.val - 256, by omega⟩ k)

/-- An element of the second result: the stream's row, normed and modulated by its part's chunks. -/
def normed (x : FVec Ideal ⟨3, ![1, 256, 4096]⟩ .f32) (y : FVec Ideal ⟨3, ![1, 16384, 4096]⟩ .f32) (g : FVec Ideal ⟨3, ![4, 4, 4096]⟩ .f32)
    (s sc : FVec Ideal ⟨2, ![1, 24576]⟩ .f32) (R : Fin 16640) (k : Fin 4096) : EReal :=
  modulated (stream x y R) (fun z => g (ix3 0 0 z)) (if R.val < 256 then sc (ix2 0 (col 1 k)) else s (ix2 0 (col 1 k)))
    (if R.val < 256 then sc (ix2 0 (col 0 k)) else s (ix2 0 (col 0 k))) k

end Cert.Join

namespace Cert.KernelJoinIdeal.Step

open Cert.KernelJoinIdeal Cert.KernelJoinIdeal.Gen Idealize.ShloMosaic Idealize.ShloMosaic.TcCoe Idealize.ShloMosaic.Tactic Cert.Tiles Cert.Norm

variable (m : (ℓ : Loc nD τ sig) → Buf (Elt Ideal) ℓ)

theorem at0 : ∀ t : Fin cfg0.N, (cfg0.win 0).index t 0 = 0 ∧ (cfg0.win 0).index t 1 = 0 := by decide +kernel
theorem at1 : ∀ t : Fin cfg0.N, (cfg0.win 1).index t 0 = t.val - 1 ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = t.val ∧ (cfg0.win 4).index t 1 = 0 := by decide +kernel
theorem at5 : ∀ t : Fin cfg0.N, (cfg0.win 5).index t 0 = t.val ∧ (cfg0.win 5).index t 1 = 0 := by decide +kernel
theorem flushes4 : ∀ t : Fin cfg0.N, (cfg0.win 4).flush t = true := by decide +kernel
theorem flushes5 : ∀ t : Fin cfg0.N, (cfg0.win 5).flush t = true := by decide +kernel

/-- The first tile is of the context's rows. -/
theorem context : ∀ t : Fin cfg0.N, Scalar.cmpi .slt (BitVec.ofNat 32 (grid0.coords t 0).val) 1#32 = if t.val < 1 then 1#1 else 0#1 := by decide +kernel

theorem contexts (c : Dev nD) (R : Fin 256) (x : Fin 4096) : V m c main_v0 (ix2 R x) = m (c, Proc.tc.devRef main_arg0) (ix3 0 R x) := by
  unfold V
  after_reads_at

theorem latents (c : Dev nD) (R : Fin 16384) (x : Fin 4096) : V m c main_v1 (ix2 R x) = m (c, Proc.tc.devRef main_arg1) (ix3 0 R x) := by
  unfold V
  after_reads_at

theorem gains (c : Dev nD) (x : Fin 4096) : V m c main_v4 (ix2 0 x) = m (c, Proc.tc.devRef main_arg2) (ix3 0 0 x) := by
  unfold V
  after_reads_at

/-- The four rows of the modulation: the scale and the shift, of the context and of the latents. -/
theorem mods (c : Dev nD) (j : Fin 4) (x : Fin 4096) (X : Fin 24576) (hX : X.val = 4096 * (![1, 1, 0, 0] : Fin 4 → ℕ) j + x.val) :
    V m c main_v30 (ix2 j x) = if j.val % 2 = 0 then m (c, Proc.tc.devRef main_arg4) (ix2 0 X) else m (c, Proc.tc.devRef main_arg3) (ix2 0 X) := by
  unfold V
  fin_cases j
  all_goals
    rw [show X = ⟨_, lt_of_eq_of_lt hX.symm X.isLt⟩ from Fin.ext hX]
    after_reads_at
    after_reads_at
    after_reads_at

theorem pay2_at (t : Fin cfg0.N) (a b : Vec Ideal S256x4096 .f32) (r : Fin 256) (k : Fin 4096) :
    k0_pay2 (grid0.coords t) (View.ld a r0_0) (View.ld b r0_0) (ix2 r k) = if t.val < 1 then a (ix2 r k) else b (ix2 r k) := by
  unfold k0_pay2
  by_cases ht : t.val < 1 <;> simp only [context t, ht, if_true, if_false, select_one, select_zero] <;> pointwise

theorem tile4 (t : Fin cfg0.N) (a b : Vec Ideal S256x4096 .f32) (g : Vec Ideal S1x4096 .f32) (s : Vec Ideal S4x4096 .f32) (r : Fin 256) (k : Fin 4096) :
    out0_4 (grid0.coords t) a b g s (ix2 r k) = if t.val < 1 then a (ix2 r k) else b (ix2 r k) := by
  unfold out0_4
  canon_tiles x h
  exact (congrArg _ (at_coords (by simpa using h0) (by simpa using h1))).trans (pay2_at t a b r k)

theorem tile5 (t : Fin cfg0.N) (a b : Vec Ideal S256x4096 .f32) (g : Vec Ideal S1x4096 .f32) (s : Vec Ideal S4x4096 .f32) (r : Fin 256) (k : Fin 4096) :
    out0_5 (grid0.coords t) a b g s (ix2 r k)
    = modulated (fun y => if t.val < 1 then a (ix2 r y) else b (ix2 r y)) (fun x => g (ix2 0 x))
      (if t.val < 1 then s (ix2 0 k) else s (ix2 1 k)) (if t.val < 1 then s (ix2 2 k) else s (ix2 3 k)) k := by
  unfold out0_5
  canon_tiles x h
  refine (congrArg _ (at_coords (by simpa using h0) (by simpa using h1))).trans ?_
  unfold k0_pay1 k0_pay3
  simp only [← pay2_at t a b]
  generalize k0_pay2 (grid0.coords t) (View.ld a r0_0) (View.ld b r0_0) = z
  by_cases ht : t.val < 1 <;> simp only [context t, ht, if_true, if_false, select_one, select_zero] <;> pointwise [modulated, rms]

/-- A row of the tile of the stream. -/
theorem rows (c : Dev nD) (t : Fin cfg0.N) (r : Fin 256) (x : Fin 4096) (R : Fin 16640) (hR : R.val = 256 * t.val + r.val) :
    (if t.val < 1 then iblk m c 0 t (ix2 r x) else iblk m c 1 t (ix2 r x))
    = Cert.Join.stream (m (c, Proc.tc.devRef main_arg0)) (m (c, Proc.tc.devRef main_arg1)) R x := by
  unfold Cert.Join.stream
  by_cases ht : t.val < 1
  · rw [if_pos ht, dif_pos (by omega)]
    refine Eq.trans ?_ (contexts m c ⟨R.val, by omega⟩ x)
    blk_ext [iblk, (at0 t).1, (at0 t).2, hR]
  · rw [if_neg ht, dif_neg (by omega)]
    refine Eq.trans ?_ (latents m c ⟨R.val - 256, by omega⟩ x)
    blk_ext [iblk, (at1 t).1, (at1 t).2, hR]

theorem gain (c : Dev nD) (t : Fin cfg0.N) (x : Fin 4096) : iblk m c 2 t (ix2 0 x) = m (c, Proc.tc.devRef main_arg2) (ix3 0 0 x) := by
  refine Eq.trans ?_ (gains m c x)
  blk_ext [iblk, (at2 t).1, (at2 t).2]

theorem mod (c : Dev nD) (t : Fin cfg0.N) (j : Fin 4) (x : Fin 4096) (X : Fin 24576) (hX : X.val = 4096 * (![1, 1, 0, 0] : Fin 4 → ℕ) j + x.val) :
    iblk m c 3 t (ix2 j x) = if j.val % 2 = 0 then m (c, Proc.tc.devRef main_arg4) (ix2 0 X) else m (c, Proc.tc.devRef main_arg3) (ix2 0 X) := by
  refine Eq.trans ?_ (mods m c j x X hX)
  blk_ext [iblk, (at3 t).1, (at3 t).2]

/-- The rows `j` and `j'` of the modulation, chosen by the tile, are its part's chunk. -/
theorem chosen (c : Dev nD) (t : Fin cfg0.N) (r : Fin 256) (R : Fin 16640) (hR : R.val = 256 * t.val + r.val) (j j' : Fin 4)
    (hj : j.val % 2 = 0) (hj' : ¬ j'.val % 2 = 0) (x : Fin 4096) (X : Fin 24576)
    (hX : X.val = 4096 * (![1, 1, 0, 0] : Fin 4 → ℕ) j + x.val) (hX' : X.val = 4096 * (![1, 1, 0, 0] : Fin 4 → ℕ) j' + x.val) :
    (if t.val < 1 then iblk m c 3 t (ix2 j x) else iblk m c 3 t (ix2 j' x))
    = if R.val < 256 then m (c, Proc.tc.devRef main_arg4) (ix2 0 X) else m (c, Proc.tc.devRef main_arg3) (ix2 0 X) := by
  rw [mod m c t j x X hX, mod m c t j' x X hX', if_pos hj, if_neg hj']
  exact if_congr (by omega) rfl rfl

/-- The first array after the run, element by element. -/
theorem value4 (c : Dev nD) (t : Fin cfg0.N) (r : Fin 256) (k : Fin 4096) (R : Fin 16640) (hR : R.val = 256 * t.val + r.val) :
    (dats m 0 c).arrAt 4 cfg0.N (ix2 R k) = Cert.Join.stream (m (c, Proc.tc.devRef main_arg0)) (m (c, Proc.tc.devRef main_arg1)) R k := by
  have h := congrFun (Value.blocks4 m c t (flushes4 t)) (ix2 r k)
  rw [Value.flushed4] at h
  refine Eq.trans ?_ (h.trans ((tile4 t _ _ _ _ r k).trans (rows m c t r k R hR)))
  blk_ext [(at4 t).1, (at4 t).2, hR]

/-- The second array after the run, element by element. -/
theorem value5 (c : Dev nD) (t : Fin cfg0.N) (r : Fin 256) (k : Fin 4096) (R : Fin 16640) (hR : R.val = 256 * t.val + r.val) :
    (dats m 0 c).arrAt 5 cfg0.N (ix2 R k) = Cert.Join.normed (m (c, Proc.tc.devRef main_arg0)) (m (c, Proc.tc.devRef main_arg1))
      (m (c, Proc.tc.devRef main_arg2)) (m (c, Proc.tc.devRef main_arg3)) (m (c, Proc.tc.devRef main_arg4)) R k := by
  have h := congrFun (Value.blocks5 m c t (flushes5 t)) (ix2 r k)
  rw [Value.flushed5] at h
  refine Eq.trans ?_ (h.trans ((tile5 t _ _ _ _ r k).trans ?_))
  · blk_ext [(at5 t).1, (at5 t).2, hR]
  · exact modulated_congr (fun y => rows m c t r y R hR) (fun x => gain m c t x) (chosen m c t r R hR 0 1 rfl (by decide) k (col 1 k) rfl rfl)
      (chosen m c t r R hR 2 3 rfl (by decide) k (col 0 k) rfl rfl) k

end Cert.KernelJoinIdeal.Step

namespace Cert.ReferenceJoinIdeal.Step

open Cert.ReferenceJoinIdeal Cert.ReferenceJoinIdeal.Gen Idealize.ShloMosaic Idealize.ShloMosaic.TcCoe Idealize.ShloMosaic.Tactic Cert.Tiles Cert.Norm

/-- The reference's norm of the context's rows. -/
def contextNorm (a : FVec Ideal S256x4096 .f32) (g : FVec Ideal S4x4x4096 .f32) (s : FVec Ideal S1x24576 .f32) : FVec Ideal S256x4096 .f32 :=
  addf (mulf (mulf (mulf a (broadcastInDim S256x4096 ![0, 1] bcast_S256x1_S256x4096_0_1 (Host.rsqrt (addf (Host.divf (broadcastInDim S256x1 ![0] bcast_S256_S256x1_0 (Host.reduceAdd (mulf a a) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 (shapeCast _ (extractStridedSlice S1x4096 ![0, 0] (shapeCast _ (extractStridedSlice S1x4x4096 ![0, 0, 0] g slices_S4x4x4096_S1x4x4096_0_0_0) shapeCasts_S1x4x4096_S4x4096) slices_S4x4096_S1x4096_0_0) shapeCasts_S1x4096_S4096)))) (broadcastInDim S256x4096 ![0, 1] bcast_S1x4096_S256x4096_0_1 (addf (broadcastInDim S1x4096 ![] bcast_S_S1x4096 (constant S_ .f32 0x3F800000#32)) (extractStridedSlice S1x4096 ![0, 4096] s slices_S1x24576_S1x4096_0_4096)))) (broadcastInDim S256x4096 ![0, 1] bcast_S1x4096_S256x4096_0_1 (extractStridedSlice S1x4096 ![0, 0] s slices_S1x24576_S1x4096_0_0))

/-- The reference's norm of the latents' rows. -/
def latentNorm (a : FVec Ideal S16384x4096 .f32) (g : FVec Ideal S4x4x4096 .f32) (s : FVec Ideal S1x24576 .f32) : FVec Ideal S16384x4096 .f32 :=
  addf (mulf (mulf (mulf a (broadcastInDim S16384x4096 ![0, 1] bcast_S16384x1_S16384x4096_0_1 (Host.rsqrt (addf (Host.divf (broadcastInDim S16384x1 ![0] bcast_S16384_S16384x1_0 (Host.reduceAdd (mulf a a) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] (shapeCast _ (extractStridedSlice S1x4x4096 ![0, 0, 0] g slices_S4x4x4096_S1x4x4096_0_0_0) shapeCasts_S1x4x4096_S4x4096) slices_S4x4096_S1x4096_0_0) shapeCasts_S1x4096_S4096)))) (broadcastInDim S16384x4096 ![0, 1] bcast_S1x4096_S16384x4096_0_1 (addf (broadcastInDim S1x4096 ![] bcast_S_S1x4096 (constant S_ .f32 0x3F800000#32)) (extractStridedSlice S1x4096 ![0, 4096] s slices_S1x24576_S1x4096_0_4096)))) (broadcastInDim S16384x4096 ![0, 1] bcast_S1x4096_S16384x4096_0_1 (extractStridedSlice S1x4096 ![0, 0] s slices_S1x24576_S1x4096_0_0))

theorem contextNorm_at (a : FVec Ideal S256x4096 .f32) (g : FVec Ideal S4x4x4096 .f32) (s : FVec Ideal S1x24576 .f32) (r : Fin 256) (k : Fin 4096) :
    contextNorm a g s (ix2 r k) = modulated (fun x => a (ix2 r x)) (fun x => g (ix3 0 0 x)) (s (ix2 0 (col 1 k))) (s (ix2 0 (col 0 k))) k := by
  pointwise [contextNorm, modulated, rms, col]

theorem latentNorm_at (a : FVec Ideal S16384x4096 .f32) (g : FVec Ideal S4x4x4096 .f32) (s : FVec Ideal S1x24576 .f32) (r : Fin 16384) (k : Fin 4096) :
    latentNorm a g s (ix2 r k) = modulated (fun x => a (ix2 r x)) (fun x => g (ix3 0 0 x)) (s (ix2 0 (col 1 k))) (s (ix2 0 (col 0 k))) k := by
  pointwise [latentNorm, modulated, rms, col]

/-- The reference's first result. -/
def first (x : FVec Ideal S1x256x4096 .f32) (y : FVec Ideal S1x16384x4096 .f32) : FVec Ideal S16640x4096 .f32 :=
  concatenate S16640x4096 0 [⟨S256x4096, shapeCast _ x shapeCasts_S1x256x4096_S256x4096⟩, ⟨S16384x4096, shapeCast _ y shapeCasts_S1x16384x4096_S16384x4096⟩] concatenates_S256x4096_S16384x4096_S16640x4096_d0

/-- The reference's second result. -/
def second (x : FVec Ideal S1x256x4096 .f32) (y : FVec Ideal S1x16384x4096 .f32) (g : FVec Ideal S4x4x4096 .f32) (s sc : FVec Ideal S1x24576 .f32) : FVec Ideal S16640x4096 .bf16 :=
  truncf .bf16 (concatenate S16640x4096 0 [⟨S256x4096, contextNorm (shapeCast _ x shapeCasts_S1x256x4096_S256x4096) g sc⟩, ⟨S16384x4096, latentNorm (shapeCast _ y shapeCasts_S1x16384x4096_S16384x4096) g s⟩] concatenates_S256x4096_S16384x4096_S16640x4096_d0) bitsLt_bf16_f32

theorem first_at (x : FVec Ideal S1x256x4096 .f32) (y : FVec Ideal S1x16384x4096 .f32) (R : Fin 16640) (k : Fin 4096) :
    first x y (ix2 R k) = Cert.Join.stream x y R k := by
  pointwise [first, Cert.Join.stream]

theorem second_at (x : FVec Ideal S1x256x4096 .f32) (y : FVec Ideal S1x16384x4096 .f32) (g : FVec Ideal S4x4x4096 .f32) (s sc : FVec Ideal S1x24576 .f32)
    (R : Fin 16640) (k : Fin 4096) : second x y g s sc (ix2 R k) = Cert.Join.normed x y g s sc R k := by
  pointwise [second]
  unfold Cert.Join.normed Cert.Join.stream
  by_cases h : R.val < 256
  · simp only [dif_pos h, if_pos h]
    exact (contextNorm_at _ g sc ⟨R.val, h⟩ k).trans (modulated_congr (fun z => by pointwise) (fun _ => rfl) rfl rfl k)
  · simp only [dif_neg h, if_neg h]
    exact (latentNorm_at _ g s ⟨R.val - 256, by omega⟩ k).trans (modulated_congr (fun z => by pointwise) (fun _ => rfl) rfl rfl k)

end Cert.ReferenceJoinIdeal.Step

namespace Cert.Join

open Idealize.ShloMosaic Idealize.ShloMosaic.TcCoe Idealize.SL.Sem

/-- The call computes the reference's stream and its first norm. -/
theorem algebraic : Cert.algebraic_KernelJoinIdeal_ReferenceJoinIdeal (hKernelJoinIdeal := Cert.KernelJoinIdeal.Gen.facts)
    (hReferenceJoinIdeal := Cert.ReferenceJoinIdeal.Gen.facts) := by
  intro m g m' g' _ hag
  refine ⟨fun c => (Cert.KernelJoinIdeal.Gen.dats m 0 c).arrAt 4 Cert.KernelJoinIdeal.cfg0.N,
    fun c => (Cert.KernelJoinIdeal.Gen.dats m 0 c).arrAt 5 Cert.KernelJoinIdeal.cfg0.N, Cert.KernelJoinIdeal.Value.run_blocks m g,
    (θ_run Cert.ReferenceJoinIdeal.defs _ _).mono (fun r h c => ⟨(h c).1.trans ?_, (h c).2.1.trans ?_, (h c).2.2⟩) (Cert.ReferenceJoinIdeal.Value.run m' g')⟩
  all_goals obtain ⟨e0, e1, e2, e3, e4⟩ := hag c
  · show Cert.ReferenceJoinIdeal.Step.first _ _ = _
    rw [e0, e1]
    exact Tiles.same (tm := 256) (tn := 4096) (gm := 65) (gn := 1) rfl rfl fun t r k R K hR hK => by
      obtain rfl : K = k := Fin.ext (by omega)
      exact (Cert.ReferenceJoinIdeal.Step.first_at _ _ R K).trans (Cert.KernelJoinIdeal.Step.value4 m c t r K R (by omega)).symm
  · show Cert.ReferenceJoinIdeal.Step.second _ _ _ _ _ = _
    rw [e0, e1, e2, e3, e4]
    exact Tiles.same (tm := 256) (tn := 4096) (gm := 65) (gn := 1) rfl rfl fun t r k R K hR hK => by
      obtain rfl : K = k := Fin.ext (by omega)
      exact (Cert.ReferenceJoinIdeal.Step.second_at _ _ _ _ _ R K).trans (Cert.KernelJoinIdeal.Step.value5 m c t r K R (by omega)).symm

theorem kernel_frame : Cert.quiescent_KernelJoin (hKernelJoin := Cert.KernelJoin.Gen.facts) := fun m g _ => Cert.KernelJoin.Gen.frame m g
theorem ideal_frame : Cert.quiescent_KernelJoinIdeal (hKernelJoinIdeal := Cert.KernelJoinIdeal.Gen.facts) := fun m g _ => Cert.KernelJoinIdeal.Gen.frame m g
theorem reference_frame : Cert.quiescent_ReferenceJoinIdeal (hReferenceJoinIdeal := Cert.ReferenceJoinIdeal.Gen.facts) := fun m g _ =>
  (θ_run Cert.ReferenceJoinIdeal.defs _ _).mono (fun r h => ⟨fun c => (h c).2.2, sem_eq_zero_of_no_sems (by decide) r.2⟩) (Cert.ReferenceJoinIdeal.Value.run (F := Ideal) m g)

end Cert.Join

end
-- ==== Proof.Mod.lean ====
/- The modulation: what the call writes, and that it is the reference's, layer by layer. -/
module

public import proofs.«01_k».proof.Proof.Gen.KernelModIdeal.Value
public import proofs.«01_k».proof.Proof.Gen.ReferenceModIdeal.Run
public import proofs.«01_k».proof.Proof.Tiles
public import proofs.«01_k».proof.Defs
public import proofs.«01_k».proof.Proof.Gen.KernelMod.Frame
public import Idealize.ShloMosaic.Adequacy
public import Idealize.ShloMosaic.Init

@[expose] public section

set_option maxRecDepth 100000

noncomputable section

namespace Cert.Mod

open Idealize.ShloMosaic Idealize.ShloMosaic.Tactic Cert.Tiles

/-- An element of layer `l`'s modulation: the condition's row through its own logistic, the two matrices and the bias. -/
def element (c : FVec Ideal ⟨2, ![8, 4096]⟩ .f32) (down : FVec Ideal ⟨3, ![4, 4096, 256]⟩ .f32) (up : FVec Ideal ⟨3, ![4, 256, 24576]⟩ .f32)
    (bias : FVec Ideal ⟨2, ![4, 24576]⟩ .f32) (l : Fin 4) (r : Fin 8) (K : Fin 24576) : EReal :=
  dot 256 (fun x => dot 4096 (fun y => c (ix2 r y) * Ideal.logistic (c (ix2 r y))) (fun y => down (ix3 l y x))) (fun x => up (ix3 l x K)) + bias (ix2 l K)

end Cert.Mod

namespace Cert.KernelModIdeal.Product

open Cert.KernelModIdeal Cert.KernelModIdeal.Gen Idealize.ShloMosaic Idealize.ShloMosaic.TcCoe Idealize.ShloMosaic.Tactic Cert.Tiles

variable (m : (ℓ : Loc nD τ sig) → Buf (Elt Ideal) ℓ)

theorem at0 : ∀ t : Fin cfg0.N, (cfg0.win 0).index t 0 = 0 ∧ (cfg0.win 0).index t 1 = 0 := by decide +kernel
theorem at1 : ∀ t : Fin cfg0.N, (cfg0.win 1).index t 0 = t.val / 6 ∧ (cfg0.win 1).index t 1 = 0 ∧ (cfg0.win 1).index t 2 = 0 := by decide +kernel
theorem at2 : ∀ t : Fin cfg0.N, (cfg0.win 2).index t 0 = t.val / 6 ∧ (cfg0.win 2).index t 1 = 0 ∧ (cfg0.win 2).index t 2 = t.val % 6 := by decide +kernel
theorem at3 : ∀ t : Fin cfg0.N, (cfg0.win 3).index t 0 = t.val / 6 ∧ (cfg0.win 3).index t 1 = 0 ∧ (cfg0.win 3).index t 2 = t.val % 6 := by decide +kernel
theorem at4 : ∀ t : Fin cfg0.N, (cfg0.win 4).index t 0 = t.val / 6 ∧ (cfg0.win 4).index t 1 = 0 ∧ (cfg0.win 4).index t 2 = t.val % 6 := by decide +kernel
theorem flushes : ∀ t : Fin cfg0.N, (cfg0.win 4).flush t = true := by decide +kernel

theorem biases (c : Dev nD) (l : Fin 4) (K : Fin 24576) : V m c main_v0 (ix3 l 0 K) = m (c, Proc.tc.devRef main_arg3) (ix2 l K) := by
  unfold V
  after_reads_at

theorem rows (c : Dev nD) (t : Fin cfg0.N) (r : Fin 8) (x : Fin 4096) : iblk m c 0 t (ix2 r x) = m (c, Proc.tc.devRef main_arg0) (ix2 r x) := by
  blk_ext [iblk, (at0 t).1, (at0 t).2]

theorem downs (c : Dev nD) (t : Fin cfg0.N) (y : Fin 4096) (x : Fin 256) (l : Fin 4) (hl : l.val = t.val / 6) :
    iblk m c 1 t (ix3 0 y x) = m (c, Proc.tc.devRef main_arg1) (ix3 l y x) := by
  blk_ext [iblk, (at1 t).1, (at1 t).2.1, (at1 t).2.2, hl]

theorem ups (c : Dev nD) (t : Fin cfg0.N) (x : Fin 256) (k : Fin 4096) (l : Fin 4) (hl : l.val = t.val / 6) (K : Fin 24576)
    (hK : K.val = 4096 * (t.val % 6) + k.val) : iblk m c 2 t (ix3 0 x k) = m (c, Proc.tc.devRef main_arg2) (ix3 l x K) := by
  blk_ext [iblk, (at2 t).1, (at2 t).2.1, (at2 t).2.2, hl, hK]

theorem bias (c : Dev nD) (t : Fin cfg0.N) (k : Fin 4096) (l : Fin 4) (hl : l.val = t.val / 6) (K : Fin 24576)
    (hK : K.val = 4096 * (t.val % 6) + k.val) : iblk m c 3 t (ix3 0 0 k) = m (c, Proc.tc.devRef main_arg3) (ix2 l K) := by
  refine Eq.trans ?_ (biases m c l K)
  blk_ext [iblk, (at3 t).1, (at3 t).2.1, (at3 t).2.2, hl, hK]

theorem tile (a : Vec Ideal S8x4096 .f32) (d : Vec Ideal S1x4096x256 .f32) (u : Vec Ideal S1x256x4096 .f32) (b : Vec Ideal S1x1x4096 .f32)
    (r : Fin 8) (k : Fin 4096) : out0_4 a d u b (ix3 0 r k)
    = dot 256 (fun x => dot 4096 (fun y => a (ix2 r y) * Ideal.logistic (a (ix2 r y))) (fun y => d (ix3 0 y x))) (fun x => u (ix3 0 x k)) + b (ix3 0 0 k) := by
  unfold out0_4
  canon_tiles x h
  have e : x = ix3 0 r k := by
    rw [eq_ix3 x, show x 0 = (0 : Fin 1) from Subsingleton.elim (α := Fin 1) _ _, show x 1 = r from Fin.ext (by simpa using h1.symm), show x 2 = k from Fin.ext (by simpa using h2.symm)]
  refine (congrArg _ e).trans ?_
  simp only [← logistic_of_sub]
  pointwise [k0_pay1]

/-- The array after the run, element by element of each tile. -/
theorem value (c : Dev nD) (t : Fin cfg0.N) (r : Fin 8) (k : Fin 4096) (l : Fin 4) (hl : l.val = t.val / 6) (K : Fin 24576)
    (hK : K.val = 4096 * (t.val % 6) + k.val) : (dats m 0 c).arrAt 4 cfg0.N (ix3 l r K)
    = Cert.Mod.element (m (c, Proc.tc.devRef main_arg0)) (m (c, Proc.tc.devRef main_arg1)) (m (c, Proc.tc.devRef main_arg2)) (m (c, Proc.tc.devRef main_arg3)) l r K := by
  have h := congrFun (Value.blocks4 m c t (flushes t)) (ix3 0 r k)
  rw [Value.flushed4] at h
  refine Eq.trans ?_ (h.trans ((tile _ _ _ _ r k).trans ?_))
  · blk_ext [(at4 t).1, (at4 t).2.1, (at4 t).2.2, hl, hK]
  · simp only [rows m c t r, downs m c t _ _ l hl, ups m c t _ k l hl K hK, bias m c t k l hl K hK]
    rfl

end Cert.KernelModIdeal.Product

namespace Cert.ReferenceModIdeal.Product

open Cert.ReferenceModIdeal Cert.ReferenceModIdeal.Gen Idealize.ShloMosaic Idealize.ShloMosaic.TcCoe Idealize.ShloMosaic.Tactic Cert.Tiles

theorem value (m : (ℓ : Loc nD τ sig) → Buf (Elt Ideal) ℓ) (c : Dev nD) (l : Fin 4) (r : Fin 8) (K : Fin 24576) :
    Value.res_main_v49 m c (ix3 l r K) = Cert.Mod.element (m ((c.tc : Thread nD τ).loc main_arg0)) (m ((c.tc : Thread nD τ).loc main_arg1))
      (m ((c.tc : Thread nD τ).loc main_arg2)) (m ((c.tc : Thread nD τ).loc main_arg3)) l r K := by
  unfold Cert.Mod.element
  fin_cases l
  all_goals
    pointwise [Value.res_main_v49]
    rfl

end Cert.ReferenceModIdeal.Product

namespace Cert.Mod

open Idealize.ShloMosaic Idealize.ShloMosaic.TcCoe Idealize.ShloMosaic.Tactic Idealize.SL.Sem

/-- The call computes the reference's modulations. -/
theorem algebraic : Cert.algebraic_KernelModIdeal_ReferenceModIdeal (hKernelModIdeal := Cert.KernelModIdeal.Gen.facts)
    (hReferenceModIdeal := Cert.ReferenceModIdeal.Gen.facts) := by
  intro m g m' g' _ hag
  refine ⟨fun c => (Cert.KernelModIdeal.Gen.dats m 0 c).arrAt 4 Cert.KernelModIdeal.cfg0.N, Cert.KernelModIdeal.Value.run_blocks m g,
    (θ_run Cert.ReferenceModIdeal.defs _ _).mono (fun r h c => ⟨(h c).1.trans ?_, (h c).2⟩) (Cert.ReferenceModIdeal.Value.run m' g')⟩
  obtain ⟨e0, e1, e2, e3⟩ := hag c
  refine funext fun (i : (⟨3, ![4, 8, 24576]⟩ : Shape).Idx) => ?_
  rw [eq_ix3 i]
  generalize i 0 = l
  generalize i 1 = r
  generalize i 2 = K
  have hl : l.val < 4 := l.isLt
  have hK : K.val < 24576 := K.isLt
  refine (Cert.ReferenceModIdeal.Product.value m' c l r K).trans ?_
  rw [e0, e1, e2, e3]
  exact (Cert.KernelModIdeal.Product.value m c ⟨6 * l.val + K.val / 4096, by show _ < 24; omega⟩ r ⟨K.val % 4096, by omega⟩ l (by show _ = (6 * l.val + K.val / 4096) / 6; omega) K
    (by show K.val = 4096 * ((6 * l.val + K.val / 4096) % 6) + K.val % 4096; omega)).symm

theorem kernel_frame : Cert.quiescent_KernelMod (hKernelMod := Cert.KernelMod.Gen.facts) := fun m g _ => Cert.KernelMod.Gen.frame m g
theorem ideal_frame : Cert.quiescent_KernelModIdeal (hKernelModIdeal := Cert.KernelModIdeal.Gen.facts) := fun m g _ => Cert.KernelModIdeal.Gen.frame m g
theorem reference_frame : Cert.quiescent_ReferenceModIdeal (hReferenceModIdeal := Cert.ReferenceModIdeal.Gen.facts) := fun m g _ =>
  (θ_run Cert.ReferenceModIdeal.defs _ _).mono (fun r h => ⟨fun c => (h c).2, sem_eq_zero_of_no_sems (by decide) r.2⟩) (Cert.ReferenceModIdeal.Value.run (F := Ideal) m g)

end Cert.Mod

end
-- ==== Proof.PrepRun.lean ====
/- The run of KernelPrepIdeal's body on one grid point, by symbolic execution over the printed functions' skeletons,
   with the heartbeat limit that a body with fifteen inputs and eleven outputs needs. -/
module

public import proofs.«01_k».proof.Proof.Gen.KernelPrepIdeal.Frame.Runs

@[expose] public section

-- membership in a rectangle of production extents (`View.cover_of_tiled`): the elaborator's structural look
-- recurses once per coordinate of the long axes
set_option maxRecDepth 16384

noncomputable section

namespace Cert.KernelPrepIdeal.Launch

open Cert.KernelPrepIdeal Cert.KernelPrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x5120 .f32) (harg1 : arg1.IsWhole) (arg2 : Memref sig .tc .vmem S8x5120 .f32) (harg2 : arg2.IsWhole) (arg3 : Memref sig .tc .vmem S8x5120 .f32) (harg3 : arg3.IsWhole) (arg4 : Memref sig .tc .vmem S1x5120 .f32) (harg4 : arg4.IsWhole) (arg5 : Memref sig .tc .vmem S2x1536 .f32) (harg5 : arg5.IsWhole) (arg6 : Memref sig .tc .vmem S2x128x1536 .bf16) (harg6 : arg6.IsWhole) (arg7 : Memref sig .tc .vmem S2x1536 .f32) (harg7 : arg7.IsWhole) (arg8 : Memref sig .tc .vmem S2x128x1536 .bf16) (harg8 : arg8.IsWhole) (arg9 : Memref sig .tc .vmem S1x1536 .f32) (harg9 : arg9.IsWhole) (arg10 : Memref sig .tc .vmem S1x1536 .f32) (harg10 : arg10.IsWhole) (arg11 : Memref sig .tc .vmem S256x1536 .f32) (harg11 : arg11.IsWhole) (arg12 : Memref sig .tc .vmem S8x1536 .f32) (harg12 : arg12.IsWhole) (arg13 : Memref sig .tc .vmem S8x1536 .f32) (harg13 : arg13.IsWhole) (arg14 : Memref sig .tc .vmem S4x384x384 .bf16) (harg14 : arg14.IsWhole) (arg15 : Memref sig .tc .vmem S1x1536 .f32) (harg15 : arg15.IsWhole) (arg16 : Memref sig .tc .vmem S256x1536 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S256x1536 .f32) (harg19 : arg19.IsWhole) (arg20 : Memref sig .tc .vmem S256x1536 .f32) (harg20 : arg20.IsWhole) (arg21 : Memref sig .tc .vmem S256x1536 .bf16) (harg21 : arg21.IsWhole) (arg22 : Memref sig .tc .vmem S256x1536 .bf16) (harg22 : arg22.IsWhole) (arg23 : Memref sig .tc .vmem S256x1536 .bf16) (harg23 : arg23.IsWhole) (arg24 : Memref sig .tc .vmem S256x1536 .bf16) (harg24 : arg24.IsWhole) (arg25 : Memref sig .tc .vmem S256x256 .bf16) (harg25 : arg25.IsWhole) (arg26 : Memref sig .tc .vmem S256x1536 .bf16) (harg26 : arg26.IsWhole) (arg27 : Memref sig .tc .vmem S272x1536 .f32) (harg27 : arg27.IsWhole)
    (x0 : Vec F S256x5120 .f32) (x1 : Vec F S8x5120 .f32) (x2 : Vec F S8x5120 .f32) (x3 : Vec F S1x5120 .f32) (x4 : Vec F S2x1536 .f32) (x5 : Vec F S2x128x1536 .bf16) (x6 : Vec F S2x1536 .f32) (x7 : Vec F S2x128x1536 .bf16) (x8 : Vec F S1x1536 .f32) (x9 : Vec F S1x1536 .f32) (x10 : Vec F S256x1536 .f32) (x11 : Vec F S8x1536 .f32) (x12 : Vec F S8x1536 .f32) (x13 : Vec F S4x384x384 .bf16) (x14 : Vec F S1x1536 .f32) :
    Σ' (L15 : List (View.Piece (Elt F) S256x1536 .bf16)), Σ' (L16 : List (View.Piece (Elt F) S256x1536 .bf16)), Σ' (L17 : List (View.Piece (Elt F) S256x1536 .bf16)), Σ' (L18 : List (View.Piece (Elt F) S256x1536 .f32)), Σ' (L19 : List (View.Piece (Elt F) S256x1536 .f32)), Σ' (L20 : List (View.Piece (Elt F) S256x1536 .bf16)), Σ' (L21 : List (View.Piece (Elt F) S256x1536 .bf16)), Σ' (L22 : List (View.Piece (Elt F) S256x1536 .bf16)), Σ' (L23 : List (View.Piece (Elt F) S256x1536 .bf16)), Σ' (L24 : List (View.Piece (Elt F) S256x256 .bf16)), Σ' (L25 : List (View.Piece (Elt F) S256x1536 .bf16)), { LT0 : List (View.Piece (Elt F) S272x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_rwkv_prep_pool i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_rwkv_prep_pool_eq_skeleton]; unfold cc0_rwkv_prep_pool_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.KernelPrepIdeal.Launch

end
-- ==== Proof.PrepFrame.lean ====
/- The launch of KernelPrepIdeal: what the body leaves in each output's staging buffer at a grid point, the pipeline's
   proof data, the body's obligation, the run of @main, and that the arguments are left unchanged. -/
module

public import proofs.«01_k».proof.Proof.PrepRun
public import Idealize.ShloMosaic.Lib.Claim
public import Idealize.ShloMosaic.Lib.Pipeline.Value

@[expose] public section

set_option maxRecDepth 16384

noncomputable section

namespace Cert.KernelPrepIdeal.Launch

open Cert.KernelPrepIdeal Cert.KernelPrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The body's run at point `t`: at the point's staging memrefs and the inputs' blocks there. -/
def ran (c : Dev nD) (t : Fin cfg0.N) :=
  kernelRun0_A
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) scM0_0 (Memref.isWhole_whole _) (X0_0 m c t) (X0_1 m c t) (X0_2 m c t) (iblk m c 3 t) (iblk
    m c 4 t) (iblk m c 5 t) (iblk m c 6 t) (iblk m c 7 t) (iblk m c 8 t) (iblk m c 9 t) (X0_10 m c t) (X0_11 m c t)
    (X0_12 m c t) (iblk m c 13 t) (iblk m c 14 t)

/-- The stores to output 15 cover its block, -/
theorem cover15 (c : Dev nD) (t : Fin cfg0.N) (y : S256x1536.Idx) : ∃ pc ∈ (ran m c t).1, y ∈ pc.1.set :=
  View.cover_of_tiledL (ran m c t).1 S256x1536.size (by sl_kernel_rfl) y

/-- and what they leave there. -/
def left15 (c : Dev nD) (t : Fin cfg0.N) : Vec F S256x1536 .bf16 :=
  VO0_15.read (Elt F) (VO0_15.writes (Elt F) VO0_15.junk (ran m c t).1)

/-- The stores to output 16 cover its block, -/
theorem cover16 (c : Dev nD) (t : Fin cfg0.N) (y : S256x1536.Idx) : ∃ pc ∈ (ran m c t).2.1, y ∈ pc.1.set :=
  View.cover_of_tiledL (ran m c t).2.1 S256x1536.size (by sl_kernel_rfl) y

/-- and what they leave there. -/
def left16 (c : Dev nD) (t : Fin cfg0.N) : Vec F S256x1536 .bf16 :=
  VO0_16.read (Elt F) (VO0_16.writes (Elt F) VO0_16.junk (ran m c t).2.1)

/-- The stores to output 17 cover its block, -/
theorem cover17 (c : Dev nD) (t : Fin cfg0.N) (y : S256x1536.Idx) : ∃ pc ∈ (ran m c t).2.2.1, y ∈ pc.1.set :=
  View.cover_of_tiledL (ran m c t).2.2.1 S256x1536.size (by sl_kernel_rfl) y

/-- and what they leave there. -/
def left17 (c : Dev nD) (t : Fin cfg0.N) : Vec F S256x1536 .bf16 :=
  VO0_17.read (Elt F) (VO0_17.writes (Elt F) VO0_17.junk (ran m c t).2.2.1)

/-- The stores to output 18 cover its block, -/
theorem cover18 (c : Dev nD) (t : Fin cfg0.N) (y : S256x1536.Idx) : ∃ pc ∈ (ran m c t).2.2.2.1, y ∈ pc.1.set :=
  View.cover_of_tiledL (ran m c t).2.2.2.1 S256x1536.size (by sl_kernel_rfl) y

/-- and what they leave there. -/
def left18 (c : Dev nD) (t : Fin cfg0.N) : Vec F S256x1536 .f32 :=
  VO0_18.read (Elt F) (VO0_18.writes (Elt F) VO0_18.junk (ran m c t).2.2.2.1)

/-- The stores to output 19 cover its block, -/
theorem cover19 (c : Dev nD) (t : Fin cfg0.N) (y : S256x1536.Idx) : ∃ pc ∈ (ran m c t).2.2.2.2.1, y ∈ pc.1.set :=
  View.cover_of_tiledL (ran m c t).2.2.2.2.1 S256x1536.size (by sl_kernel_rfl) y

/-- and what they leave there. -/
def left19 (c : Dev nD) (t : Fin cfg0.N) : Vec F S256x1536 .f32 :=
  VO0_19.read (Elt F) (VO0_19.writes (Elt F) VO0_19.junk (ran m c t).2.2.2.2.1)

/-- The stores to output 20 cover its block, -/
theorem cover20 (c : Dev nD) (t : Fin cfg0.N) (y : S256x1536.Idx) : ∃ pc ∈ (ran m c t).2.2.2.2.2.1, y ∈ pc.1.set :=
  View.cover_of_tiledL (ran m c t).2.2.2.2.2.1 S256x1536.size (by sl_kernel_rfl) y

/-- and what they leave there. -/
def left20 (c : Dev nD) (t : Fin cfg0.N) : Vec F S256x1536 .bf16 :=
  VO0_20.read (Elt F) (VO0_20.writes (Elt F) VO0_20.junk (ran m c t).2.2.2.2.2.1)

/-- The stores to output 21 cover its block, -/
theorem cover21 (c : Dev nD) (t : Fin cfg0.N) (y : S256x1536.Idx) : ∃ pc ∈ (ran m c t).2.2.2.2.2.2.1, y ∈ pc.1.set :=
  View.cover_of_tiledL (ran m c t).2.2.2.2.2.2.1 S256x1536.size (by sl_kernel_rfl) y

/-- and what they leave there. -/
def left21 (c : Dev nD) (t : Fin cfg0.N) : Vec F S256x1536 .bf16 :=
  VO0_21.read (Elt F) (VO0_21.writes (Elt F) VO0_21.junk (ran m c t).2.2.2.2.2.2.1)

/-- The stores to output 22 cover its block, -/
theorem cover22 (c : Dev nD) (t : Fin cfg0.N) (y : S256x1536.Idx) : ∃ pc ∈ (ran m c t).2.2.2.2.2.2.2.1, y ∈ pc.1.set :=
  View.cover_of_tiledL (ran m c t).2.2.2.2.2.2.2.1 S256x1536.size (by sl_kernel_rfl) y

/-- and what they leave there. -/
def left22 (c : Dev nD) (t : Fin cfg0.N) : Vec F S256x1536 .bf16 :=
  VO0_22.read (Elt F) (VO0_22.writes (Elt F) VO0_22.junk (ran m c t).2.2.2.2.2.2.2.1)

/-- The stores to output 23 cover its block, -/
theorem cover23 (c : Dev nD) (t : Fin cfg0.N) (y : S256x1536.Idx) : ∃ pc ∈ (ran m c t).2.2.2.2.2.2.2.2.1, y ∈ pc.1.set :=
  View.cover_of_tiledL (ran m c t).2.2.2.2.2.2.2.2.1 S256x1536.size (by sl_kernel_rfl) y

/-- and what they leave there. -/
def left23 (c : Dev nD) (t : Fin cfg0.N) : Vec F S256x1536 .bf16 :=
  VO0_23.read (Elt F) (VO0_23.writes (Elt F) VO0_23.junk (ran m c t).2.2.2.2.2.2.2.2.1)

/-- The stores to output 24 cover its block, -/
theorem cover24 (c : Dev nD) (t : Fin cfg0.N) (y : S256x256.Idx) : ∃ pc ∈ (ran m c t).2.2.2.2.2.2.2.2.2.1, y ∈ pc.1.set :=
  View.cover_of_tiledL (ran m c t).2.2.2.2.2.2.2.2.2.1 S256x256.size (by sl_kernel_rfl) y

/-- and what they leave there. -/
def left24 (c : Dev nD) (t : Fin cfg0.N) : Vec F S256x256 .bf16 :=
  VO0_24.read (Elt F) (VO0_24.writes (Elt F) VO0_24.junk (ran m c t).2.2.2.2.2.2.2.2.2.1)

/-- The stores to output 25 cover its block, -/
theorem cover25 (c : Dev nD) (t : Fin cfg0.N) (y : S256x1536.Idx) : ∃ pc ∈ (ran m c t).2.2.2.2.2.2.2.2.2.2.1, y ∈ pc.1.set :=
  View.cover_of_tiledL (ran m c t).2.2.2.2.2.2.2.2.2.2.1 S256x384.size (by sl_kernel_rfl) y

/-- and what they leave there. -/
def left25 (c : Dev nD) (t : Fin cfg0.N) : Vec F S256x1536 .bf16 :=
  VO0_25.read (Elt F) (VO0_25.writes (Elt F) VO0_25.junk (ran m c t).2.2.2.2.2.2.2.2.2.2.1)

/-! ## The pipeline's proof data -/

/-- The proof data of the one pipeline on core `c`: the arrays as the region finds them (`V`); after the body at
    point `t` each input's buffer at its block and the outputs' at `leftN`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => X0_11 m c t
    | ⟨12, _⟩ => X0_12 m c t
    | ⟨13, _⟩ => iblk m c 13 t
    | ⟨14, _⟩ => iblk m c 14 t
    | ⟨15, _⟩ => left15 m c t
    | ⟨16, _⟩ => left16 m c t
    | ⟨17, _⟩ => left17 m c t
    | ⟨18, _⟩ => left18 m c t
    | ⟨19, _⟩ => left19 m c t
    | ⟨20, _⟩ => left20 m c t
    | ⟨21, _⟩ => left21 m c t
    | ⟨22, _⟩ => left22 m c t
    | ⟨23, _⟩ => left23 m c t
    | ⟨24, _⟩ => left24 m c t
    | ⟨25, _⟩ => left25 m c t
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = left15 m c t := by dsimp only [dats]
theorem after0_16 (c : Dev nD) (t : Fin cfg0.N) : (dats m 0 c).after 16 t = left16 m c t := by dsimp only [dats]
theorem after0_17 (c : Dev nD) (t : Fin cfg0.N) : (dats m 0 c).after 17 t = left17 m c t := by dsimp only [dats]
theorem after0_18 (c : Dev nD) (t : Fin cfg0.N) : (dats m 0 c).after 18 t = left18 m c t := by dsimp only [dats]
theorem after0_19 (c : Dev nD) (t : Fin cfg0.N) : (dats m 0 c).after 19 t = left19 m c t := by dsimp only [dats]
theorem after0_20 (c : Dev nD) (t : Fin cfg0.N) : (dats m 0 c).after 20 t = left20 m c t := by dsimp only [dats]
theorem after0_21 (c : Dev nD) (t : Fin cfg0.N) : (dats m 0 c).after 21 t = left21 m c t := by dsimp only [dats]
theorem after0_22 (c : Dev nD) (t : Fin cfg0.N) : (dats m 0 c).after 22 t = left22 m c t := by dsimp only [dats]
theorem after0_23 (c : Dev nD) (t : Fin cfg0.N) : (dats m 0 c).after 23 t = left23 m c t := by dsimp only [dats]
theorem after0_24 (c : Dev nD) (t : Fin cfg0.N) : (dats m 0 c).after 24 t = left24 m c t := by dsimp only [dats]
theorem after0_25 (c : Dev nD) (t : Fin cfg0.N) : (dats m 0 c).after 25 t = left25 m c t := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = X0_12 m c t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold left15 left16 left17 left18 left19 left20 left21 left22 left23 left24 left25
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((ran m c t).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover15 m c t)
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  isplitl [H21]
  · unfold owns; iexists _; isplitr
    swap; · iexact H21
    ipureintro; exact View.read_writes_of_cover _ _ _ _ _ (cover21 m c t)
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  unfold owns; iexists _; isplitr
  swap; · iexact H25
  ipureintro; exact View.read_writes_of_cover _ _ _ _ _ (cover25 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every counter at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelPrepIdeal.Launch

end
-- ==== Proof.PrepTile.lean ====
/- One tile of the call that prepares mixer A's inputs: a row against the rows before and after it, and the keys of a direction. -/
module

public import proofs.«01_k».proof.Proof.Gen.KernelPrepIdeal.Skeleton
public import proofs.«01_k».proof.Proof.Tiles
public import proofs.«01_k».proof.Proof.Norm
public import Idealize.ShloMosaic.Lib.Tactic.WordOmega

@[expose] public section

set_option maxRecDepth 100000

noncomputable section

namespace Cert.Prep

open Idealize.ShloMosaic Idealize.ShloMosaic.Tactic Cert.Tiles

/-- A value moved towards the mean of the one before and the one after it, by `w`. -/
def lerp (u p n w : EReal) : EReal := u + w * (Ideal.ofBits .f32 0x3F000000#32 * (p + n) - u)

/-- An array by row and column, zero outside it. -/
def entry {M N : ℕ} (x : (⟨2, ![M, N]⟩ : Shape).Idx → EReal) (r k : ℕ) : EReal := if h : r < M ∧ k < N then x (ix2 ⟨r, h.1⟩ ⟨k, h.2⟩) else 0

theorem entry_eq {M N : ℕ} (x : (⟨2, ![M, N]⟩ : Shape).Idx → EReal) {r k : ℕ} (hr : r < M) (hk : k < N) :
    x (ix2 ⟨r, hr⟩ ⟨k, hk⟩) = entry x r k := by unfold entry; rw [dif_pos ⟨hr, hk⟩]

/-- An element of the projections moved towards the rows beside it in its part: the context is rows 0 to 255, the latents the others. -/
def near (x : (⟨2, ![16640, 9952]⟩ : Shape).Idx → EReal) (w : (⟨2, ![4, 5088]⟩ : Shape).Idx → EReal) (R k : ℕ) : EReal :=
  lerp (entry x R k) (if R = 0 ∨ R = 256 then 0 else entry x (R - 1) k) (if R = 255 ∨ R = 16639 then 0 else entry x (R + 1) k) (entry w 0 k)

theorem entry_at {M N : ℕ} (x : (⟨2, ![M, N]⟩ : Shape).Idx → EReal) {r r' k : ℕ} (hr : r < M) (hk : k < N) (h : r = r') :
    x (ix2 ⟨r, hr⟩ ⟨k, hk⟩) = entry x r' k := h ▸ entry_eq x hr hk

theorem zero_if {a b : Prop} [Decidable a] [Decidable b] {f : ¬a → EReal} {y : EReal} (h : a ↔ b) (hf : ∀ e, f e = y) :
    (if e : a then 0 else f e) = if b then 0 else y := by
  by_cases e : a
  · rw [dif_pos e, if_pos (h.1 e)]
  · rw [dif_neg e, if_neg (mt h.2 e), hf]

theorem zero_else {a b : Prop} [Decidable a] [Decidable b] {f : a → EReal} {y : EReal} (h : ¬a ↔ b) (hf : ∀ e, f e = y) :
    (if e : a then f e else 0) = if b then 0 else y := by
  by_cases e : a
  · rw [dif_pos e, if_neg fun q => h.2 q e, hf]
  · rw [dif_neg e, if_pos (h.1 e)]

theorem near_of {x : (⟨2, ![16640, 9952]⟩ : Shape).Idx → EReal} {w : (⟨2, ![4, 5088]⟩ : Shape).Idx → EReal} {R k : ℕ} {u p n v : EReal} (hu : u = entry x R k)
    (hp : p = if R = 0 ∨ R = 256 then 0 else entry x (R - 1) k) (hn : n = if R = 255 ∨ R = 16639 then 0 else entry x (R + 1) k) (hv : v = entry w 0 k) :
    lerp u p n v = near x w R k := by rw [hu, hp, hn, hv]; rfl

/-- A key of one direction: `k` scaled by how far the direction's rate is from one. -/
def key (k a : EReal) (f g : Fin 64 → EReal) (c : EReal) : EReal := k * (1 + (Ideal.logistic (a + dot 64 f g) - 1) * c)

theorem key_congr {k k' a a' c c' : EReal} {f f' g g' : Fin 64 → EReal} (hk : k = k') (ha : a = a') (hf : ∀ x, f x = f' x) (hg : ∀ x, g x = g' x)
    (hc : c = c') : key k a f g c = key k' a' f' g' c' := by rw [hk, ha, hc, funext hf, funext hg]

theorem key_of (k a : EReal) (f g : Fin 64 → EReal) (c : EReal) : k * (1 + (Ideal.div 1 (1 + Ideal.exp (-(a + ∑ x, g x * f x))) - 1) * c) = key k a f g c := by
  unfold key dot
  simp only [mul_comm (g _)]
  rfl

end Cert.Prep

namespace Cert.KernelPrepIdeal.Tile

open Cert.KernelPrepIdeal Cert.KernelPrepIdeal.Gen Idealize.ShloMosaic Idealize.ShloMosaic.TcCoe Idealize.ShloMosaic.Tactic Cert.Tiles Cert.Norm

theorem top (r : Fin 256) : IntOp.cmpi .eq (BitVec.ofNat 32 r.val) 0#32 = if r.val = 0 then 1#1 else 0#1 := by revert r; decide +kernel
theorem bottom (r : Fin 256) : IntOp.cmpi .eq (BitVec.ofNat 32 r.val) 255#32 = if r.val = 255 then 1#1 else 0#1 := by revert r; decide +kernel

theorem above (r : Fin 256) (a : EReal) (f : Fin 256 → EReal) (h : (r.val + 256 - 1) % 256 < 256) :
    Scalar.select (IntOp.cmpi .eq (BitVec.ofNat 32 r.val) 0#32) a (f ⟨(r.val + 256 - 1) % 256, h⟩)
    = if _ : r.val = 0 then a else f ⟨r.val - 1, by omega⟩ := by
  rw [top]
  by_cases e : r.val = 0
  · rw [if_pos e, dif_pos e, select_one]
  · rw [if_neg e, dif_neg e, select_zero]; congr 2; omega

theorem below (r : Fin 256) (a : EReal) (f : Fin 256 → EReal) (h : (r.val + 256 - 255) % 256 < 256) :
    Scalar.select (IntOp.cmpi .eq (BitVec.ofNat 32 r.val) 255#32) a (f ⟨(r.val + 256 - 255) % 256, h⟩)
    = if _ : r.val = 255 then a else f ⟨r.val + 1, by omega⟩ := by
  rw [bottom]
  by_cases e : r.val = 255
  · rw [if_pos e, dif_pos e, select_one]
  · rw [if_neg e, dif_neg e, select_zero]; congr 2; omega

/-- A tile's row against the row before and the row after, those of the neighbouring tiles `p` and `n` unless the tile is the first or the last of its part. -/
theorem shifted (first last : Prop) [Decidable first] [Decidable last] (u : Vec Ideal S256x5120 .f32) (p n w : Vec Ideal S1x5120 .f32) (r : Fin 256) (k : Fin 5120) :
    k0_pay15 (if first then 1#1 else 0#1) (if last then 1#1 else 0#1) u p n w (ix2 r k)
    = Cert.Prep.lerp (u (ix2 r k)) (if _ : r.val = 0 then (if first then 0 else p (ix2 0 k)) else u (ix2 ⟨r.val - 1, by omega⟩ k))
      (if _ : r.val = 255 then (if last then 0 else n (ix2 0 k)) else u (ix2 ⟨r.val + 1, by omega⟩ k)) (w (ix2 0 k)) := by
  unfold Cert.Prep.lerp
  rw [← above r _ (fun q => u (ix2 q k)) (Nat.mod_lt _ (by decide)), ← below r _ (fun q => u (ix2 q k)) (Nat.mod_lt _ (by decide))]
  by_cases hf : first <;> by_cases hl : last <;> simp only [hf, hl, if_true, if_false, k0_pay15, select_one, select_zero] <;> pointwise

/-- The lanes of one direction among the two. -/
theorem lanes (d : Fin 2) (f g : Fin 128 → EReal) (h : Fin 64 → EReal)
    (hg : ∀ x : Fin 128, g x = if e : x.val / 64 = d.val then h ⟨x.val % 64, Nat.mod_lt _ (by decide)⟩ else 0) :
    dot 128 f g = dot 64 (fun x => f ⟨64 * d.val + x.val, by omega⟩) h := by
  refine (Fin.sum_univ_add (a := 64) (b := 64) (fun x : Fin (64 + 64) => f x * g x)).trans ?_
  have lo : ∀ x : Fin 64, f (Fin.castAdd 64 x) * g (Fin.castAdd 64 x) = if d.val = 0 then f ⟨64 * d.val + x.val, by omega⟩ * h x else 0 := fun x => by
    rw [hg]
    by_cases e : d.val = 0
    · rw [if_pos e, dif_pos (by simp only [Fin.val_castAdd]; omega)]
      congr 2 <;> (apply Fin.ext; simp only [Fin.val_castAdd]; omega)
    · rw [if_neg e, dif_neg (by simp only [Fin.val_castAdd]; omega), mul_zero]
  have hi : ∀ x : Fin 64, f (Fin.natAdd 64 x) * g (Fin.natAdd 64 x) = if d.val = 0 then 0 else f ⟨64 * d.val + x.val, by omega⟩ * h x := fun x => by
    rw [hg]
    by_cases e : d.val = 0
    · rw [if_pos e, dif_neg (by simp only [Fin.val_natAdd]; omega), mul_zero]
    · rw [if_neg e, dif_pos (by simp only [Fin.val_natAdd]; omega)]
      congr 2 <;> (apply Fin.ext; simp only [Fin.val_natAdd]; omega)
  rw [Finset.sum_congr rfl fun x _ => lo x, Finset.sum_congr rfl fun x _ => hi x]
  by_cases e : d.val = 0 <;> simp [e]

theorem keyed (d : Fin 2) (s : FVec Ideal S256x5120 .f32) (v : FVec Ideal S256x1536 .f32) (a : Vec Ideal S1x1536 .f32) (b : Vec Ideal S1x128x1536 .bf16) (c : Vec Ideal S1x1536 .f32)
    (r : Fin 256) (k : Fin 1536) (h : Fin 64 → EReal) (hb : ∀ x : Fin 128, b (ix3 0 x k) = if e : x.val / 64 = d.val then h ⟨x.val % 64, Nat.mod_lt _ (by decide)⟩ else 0) :
    k0_pay51 v (k0_pay20 s) a b c (ix2 r k)
    = Cert.Prep.key (v (ix2 r k)) (a (ix2 0 k)) (fun x => s (ix2 r ⟨4736 + 64 * d.val + x.val, by omega⟩)) h (c (ix2 0 k)) := by
  have e := lanes d (fun x => s (ix2 r ⟨4736 + x.val, by omega⟩)) (fun x => b (ix3 0 x k)) h hb
  unfold Cert.Prep.key
  rw [show dot 64 (fun x => s (ix2 r ⟨4736 + 64 * d.val + x.val, by omega⟩)) h = dot 128 _ _ from Eq.trans (by simp only [Nat.add_assoc]) e.symm, ← logistic_of_sub]
  pointwise [k0_pay51, k0_pay50, k0_pay20]

end Cert.KernelPrepIdeal.Tile

end
-- ==== Proof.PrepHost.lean ====
/- What the blocks of the call that prepares mixer A's inputs hold: its arguments' elements at their places. -/
module

public import proofs.«01_k».proof.Proof.Gen.KernelPrepIdeal.Frame.Runs
public import proofs.«01_k».proof.Proof.PrepTile
public import Idealize.ShloMosaic.Lib.Pipeline.ValueKit
public import Idealize.ShloMosaic.Lib.StableHlo.ReadAt
public import Idealize.ShloMosaic.Lib.Tactic.WordOmega

@[expose] public section

set_option maxRecDepth 100000

noncomputable section

namespace Cert.KernelPrepIdeal.Tile

open Cert.KernelPrepIdeal Cert.KernelPrepIdeal.Gen Idealize.ShloMosaic Idealize.ShloMosaic.TcCoe Idealize.ShloMosaic.Tactic Cert.Tiles Cert.Norm Cert.Prep

variable (m : (ℓ : Loc nD τ sig) → Buf (Elt Ideal) ℓ)

theorem rows (c : Dev nD) (R : Fin 16640) (k : Fin 9984) (hk : k.val < 5088) :
    V m c main_v4 (ix2 R k) = entry (m (c, Proc.tc.devRef main_arg0)) R.val k.val := by
  unfold V
  after_reads_at
  rw [dif_pos hk]
  simp only [StableHlo.unary_result']
  after_reads_at
  exact entry_eq (M := 16640) (N := 9952) (m (c, Proc.tc.devRef main_arg0)) R.isLt (by omega)

theorem weights (c : Dev nD) (k : Fin 5120) (hk : k.val < 5088) :
    V m c main_v8 (ix2 0 k) = entry (m (c, Proc.tc.devRef main_arg1)) 0 k.val := by
  unfold V
  after_reads_at
  rw [dif_pos hk]
  exact entry_eq _ _ hk

theorem offsets (c : Dev nD) (d : Fin 2) (k : Fin 1536) : V m c main_v27 (ix2 d k) = m (c, Proc.tc.devRef main_arg4) (ix3 0 d k) := by
  unfold V
  after_reads_at

theorem scales (c : Dev nD) (k : Fin 1536) : V m c main_v48 (ix2 0 k) = m (c, Proc.tc.devRef main_arg7) (ix2 0 k) := by
  unfold V
  after_reads_at

/-- The second factors of the rates, by direction. -/
def up (c : Dev nD) (d : Fin 2) (x : Fin 64) (k : Fin 1536) : EReal := m (c, Proc.tc.devRef main_arg5) (ix4 0 d x k)

theorem pairs (c : Dev nD) (d : Fin 2) (x : Fin 128) (k : Fin 1536) : V m c main_v42 (ix3 d x k)
    = if _ : x.val / 64 = d.val then up m c d ⟨x.val % 64, Nat.mod_lt _ (by decide)⟩ k else 0 := by
  unfold V
  after_reads_at
  by_cases hd : d.val < 1
  · obtain rfl : d = 0 := Fin.ext (by simp only [Fin.val_zero]; omega)
    rw [dif_pos hd]
    after_reads_at
    by_cases hx : x.val < 64
    · rw [dif_pos hx, dif_pos (show x.val / 64 = 0 by omega)]
      after_reads_at
      exact congrArg (fun y => up m c 0 y k) (Fin.ext (show x.val = x.val % 64 by omega))
    · rw [dif_neg hx, dif_neg (show ¬x.val / 64 = 0 by omega)]
      after_reads_at
  · obtain rfl : d = 1 := Fin.ext (by simp only [Fin.val_one]; omega)
    rw [dif_neg hd]
    after_reads_at
    by_cases hx : x.val < 64
    · rw [dif_pos hx, dif_neg (show ¬x.val / 64 = 1 by omega)]
      after_reads_at
    · rw [dif_neg hx, dif_pos (show x.val / 64 = 1 by omega)]
      after_reads_at
      exact congrArg (fun y => up m c 1 y k) (Fin.ext (show x.val - 64 = x.val % 64 by omega))

theorem block0 (c : Dev nD) (t : Fin cfg0.N) (r : Fin 256) (k : Fin 5120) (hk : k.val < 5088) :
    X0_0 m c t (ix2 r k) = entry (m (c, Proc.tc.devRef main_arg0)) (256 * t.val + r.val) k.val := by
  have ht : t.val < 65 := t.isLt
  have hi : ∀ t : Fin cfg0.N, (cfg0.win 0).index t 0 = t.val ∧ (cfg0.win 0).index t 1 = 0 := by decide +kernel
  refine Eq.trans ?_ (rows m c ⟨256 * t.val + r.val, by omega⟩ ⟨k.val, by omega⟩ hk)
  unfold X0_0 Pipeline.Window.fill
  rw [dif_pos (moved0_0 t _)]
  blk_ext [iblk, (hi t).1, (hi t).2]

theorem block1 (c : Dev nD) (t : Fin cfg0.N) (r : Fin 8) (k : Fin 5120) (hk : k.val < 5088) :
    X0_1 m c t (ix2 r k) = entry (m (c, Proc.tc.devRef main_arg0)) (8 * (32 * t.val - 1) + r.val) k.val := by
  have ht : t.val < 65 := t.isLt
  have hi : ∀ t : Fin cfg0.N, (cfg0.win 1).index t 0 = 32 * t.val - 1 ∧ (cfg0.win 1).index t 1 = 0 := by decide +kernel
  refine Eq.trans ?_ (rows m c ⟨8 * (32 * t.val - 1) + r.val, by omega⟩ ⟨k.val, by omega⟩ hk)
  unfold X0_1 Pipeline.Window.fill
  rw [dif_pos (moved0_1 t _)]
  blk_ext [iblk, (hi t).1, (hi t).2]

theorem block2 (c : Dev nD) (t : Fin cfg0.N) (r : Fin 8) (k : Fin 5120) (hk : k.val < 5088) :
    X0_2 m c t (ix2 r k) = entry (m (c, Proc.tc.devRef main_arg0)) (8 * min (32 * t.val + 32) 2079 + r.val) k.val := by
  have ht : t.val < 65 := t.isLt
  have hi : ∀ t : Fin cfg0.N, (cfg0.win 2).index t 0 = min (32 * t.val + 32) 2079 ∧ (cfg0.win 2).index t 1 = 0 := by decide +kernel
  refine Eq.trans ?_ (rows m c ⟨8 * min (32 * t.val + 32) 2079 + r.val, by omega⟩ ⟨k.val, by omega⟩ hk)
  unfold X0_2 Pipeline.Window.fill
  rw [dif_pos (moved0_2 t _)]
  blk_ext [iblk, (hi t).1, (hi t).2]

theorem block3 (c : Dev nD) (t : Fin cfg0.N) (k : Fin 5120) (hk : k.val < 5088) :
    iblk m c 3 t (ix2 0 k) = entry (m (c, Proc.tc.devRef main_arg1)) 0 k.val := by
  have hi : ∀ t : Fin cfg0.N, (cfg0.win 3).index t 0 = 0 ∧ (cfg0.win 3).index t 1 = 0 := by decide +kernel
  refine Eq.trans ?_ (weights m c k hk)
  blk_ext [iblk, (hi t).1, (hi t).2]

theorem block6 (c : Dev nD) (t : Fin cfg0.N) (d : Fin 2) (k : Fin 1536) : iblk m c 6 t (ix2 d k) = m (c, Proc.tc.devRef main_arg4) (ix3 0 d k) := by
  have hi : ∀ t : Fin cfg0.N, (cfg0.win 6).index t 0 = 0 ∧ (cfg0.win 6).index t 1 = 0 := by decide +kernel
  refine Eq.trans ?_ (offsets m c d k)
  blk_ext [iblk, (hi t).1, (hi t).2]

theorem block7 (c : Dev nD) (t : Fin cfg0.N) (d : Fin 2) (x : Fin 128) (k : Fin 1536) : iblk m c 7 t (ix3 d x k)
    = if _ : x.val / 64 = d.val then up m c d ⟨x.val % 64, Nat.mod_lt _ (by decide)⟩ k else 0 := by
  have hi : ∀ t : Fin cfg0.N, (cfg0.win 7).index t 0 = 0 ∧ (cfg0.win 7).index t 1 = 0 ∧ (cfg0.win 7).index t 2 = 0 := by decide +kernel
  refine Eq.trans ?_ (pairs m c d x k)
  blk_ext [iblk, (hi t).1, (hi t).2.1, (hi t).2.2]

theorem block9 (c : Dev nD) (t : Fin cfg0.N) (k : Fin 1536) : iblk m c 9 t (ix2 0 k) = m (c, Proc.tc.devRef main_arg7) (ix2 0 k) := by
  have hi : ∀ t : Fin cfg0.N, (cfg0.win 9).index t 0 = 0 ∧ (cfg0.win 9).index t 1 = 0 := by decide +kernel
  refine Eq.trans ?_ (scales m c k)
  blk_ext [iblk, (hi t).1, (hi t).2]

end Cert.KernelPrepIdeal.Tile

end
-- ==== Proof.PrepKernel.lean ====
/- What the call that prepares mixer A's inputs writes, element by element: the receptances, the values, and the keys of both directions. -/
module

public import proofs.«01_k».proof.Proof.PrepFrame
public import proofs.«01_k».proof.Proof.PrepHost

@[expose] public section

set_option maxRecDepth 100000

noncomputable section

namespace Cert.KernelPrepIdeal.Tile

open Cert.KernelPrepIdeal Cert.KernelPrepIdeal.Gen Cert.KernelPrepIdeal.Launch Idealize.ShloMosaic Idealize.ShloMosaic.TcCoe Idealize.ShloMosaic.Tactic Cert.Tiles Cert.Norm Cert.Prep

variable (m : (ℓ : Loc nD τ sig) → Buf (Elt Ideal) ℓ)

/-- The first tiles of the two parts, -/
theorem first : ∀ t : Fin cfg0.N, Scalar.ori (Scalar.cmpi .eq (BitVec.ofNat 32 (grid0.coords t 0).val) 0#32) (Scalar.cmpi .eq (BitVec.ofNat 32 (grid0.coords t 0).val) 1#32)
    = if t.val = 0 ∨ t.val = 1 then 1#1 else 0#1 := by decide +kernel

/-- and their last. -/
theorem last : ∀ t : Fin cfg0.N, Scalar.ori (Scalar.cmpi .eq (BitVec.ofNat 32 (grid0.coords t 0).val) 0#32) (Scalar.cmpi .eq (BitVec.ofNat 32 (grid0.coords t 0).val) 64#32)
    = if t.val = 0 ∨ t.val = 64 then 1#1 else 0#1 := by decide +kernel

/-- The tile's rows, moved towards their neighbours. -/
abbrev tile (c : Dev nD) (t : Fin cfg0.N) : FVec Ideal S256x5120 .f32 :=
  k0_pay15 (Scalar.ori (Scalar.cmpi .eq (BitVec.ofNat 32 (grid0.coords t 0).val) 0#32) (Scalar.cmpi .eq (BitVec.ofNat 32 (grid0.coords t 0).val) 1#32))
    (Scalar.ori (Scalar.cmpi .eq (BitVec.ofNat 32 (grid0.coords t 0).val) 0#32) (Scalar.cmpi .eq (BitVec.ofNat 32 (grid0.coords t 0).val) 64#32))
    (X0_0 m c t) (View.ld (X0_1 m c t) (Rect.unit ![7, 0] ![1, 5120] inb_S8x5120_S1x5120_7_0))
    (View.ld (X0_2 m c t) (Rect.unit ![0, 0] ![1, 5120] inb_S8x5120_S1x5120_0_0)) (iblk m c 3 t)

/-- The rows of a tile are the reference's, column by column. -/
theorem tile_at (c : Dev nD) (t : Fin cfg0.N) (r : Fin 256) (k : Fin 5120) (hk : k.val < 5088) :
    tile m c t (ix2 r k) = near (m (c, Proc.tc.devRef main_arg0)) (m (c, Proc.tc.devRef main_arg1)) (256 * t.val + r.val) k.val := by
  have ht : t.val < 65 := t.isLt
  unfold tile
  rw [first t, last t, shifted]
  refine near_of (block0 m c t r k hk) ?_ ?_ (block3 m c t k hk)
  · by_cases hr : r.val = 0
    · rw [dif_pos hr]
      by_cases hf : t.val = 0 ∨ t.val = 1
      · rw [if_pos hf, if_pos (by omega)]
      · rw [if_neg hf, if_neg (by omega)]
        refine Eq.trans (by pointwise) ((block1 m c t 7 k hk).trans ?_)
        exact congrArg (fun R => entry _ R k.val) (show 8 * (32 * t.val - 1) + 7 = 256 * t.val + r.val - 1 by omega)
    · rw [dif_neg hr, if_neg (by omega), block0 m c t _ k hk]
      exact congrArg (fun R => entry _ R k.val) (show 256 * t.val + (r.val - 1) = 256 * t.val + r.val - 1 by omega)
  · by_cases hr : r.val = 255
    · rw [dif_pos hr]
      by_cases hl : t.val = 0 ∨ t.val = 64
      · rw [if_pos hl, if_pos (by omega)]
      · rw [if_neg hl, if_neg (by omega)]
        refine Eq.trans (by pointwise) ((block2 m c t 0 k hk).trans ?_)
        exact congrArg (fun R => entry _ R k.val) (show 8 * min (32 * t.val + 32) 2079 + 0 = 256 * t.val + r.val + 1 by omega)
    · rw [dif_neg hr, if_neg (by omega), block0 m c t _ k hk]
      rfl

theorem left15_at (c : Dev nD) (t : Fin cfg0.N) (r : Fin 256) (k : Fin 1536) : left15 m c t (ix2 r k) = near (m (c, Proc.tc.devRef main_arg0)) (m (c, Proc.tc.devRef main_arg1)) (256 * t.val + r.val) k.val := by
  unfold left15 ran
  frame_out
  refine Eq.trans ?_ (tile_at m c t r ⟨k.val, by omega⟩ (show k.val < 5088 by omega))
  pointwise [k0_pay45, k0_pay16]
  rfl

theorem left16_at (c : Dev nD) (t : Fin cfg0.N) (r : Fin 256) (k : Fin 1536) : left16 m c t (ix2 r k) = near (m (c, Proc.tc.devRef main_arg0)) (m (c, Proc.tc.devRef main_arg1)) (256 * t.val + r.val) (3072 + k.val) := by
  unfold left16 ran
  frame_out
  refine Eq.trans ?_ (tile_at m c t r ⟨3072 + k.val, by omega⟩ (show 3072 + k.val < 5088 by omega))
  pointwise [k0_pay46, k0_pay18]
  rfl

/-- A key of direction `d`, from the arguments. -/
def keyAt (c : Dev nD) (d : Fin 2) (R : ℕ) (k : Fin 1536) : EReal :=
  key (near (m (c, Proc.tc.devRef main_arg0)) (m (c, Proc.tc.devRef main_arg1)) R (1536 + k.val)) (m (c, Proc.tc.devRef main_arg4) (ix3 0 d k))
    (fun x => near (m (c, Proc.tc.devRef main_arg0)) (m (c, Proc.tc.devRef main_arg1)) R (4736 + 64 * d.val + x.val)) (fun x => up m c d x k) (m (c, Proc.tc.devRef main_arg7) (ix2 0 k))

/-- A direction's keys of a tile, from its rows of the two tables `a` and `b`. -/
theorem keys_at (c : Dev nD) (t : Fin cfg0.N) (r : Fin 256) (k : Fin 1536) (d : Fin 2) (v : FVec Ideal S256x1536 .f32) (a : Vec Ideal S1x1536 .f32) (b : Vec Ideal S1x128x1536 .bf16)
    (hv : v (ix2 r k) = tile m c t (ix2 r ⟨1536 + k.val, by omega⟩)) (ha : a (ix2 0 k) = iblk m c 6 t (ix2 d k)) (hb : ∀ x, b (ix3 0 x k) = iblk m c 7 t (ix3 d x k)) :
    k0_pay51 v (k0_pay20 (tile m c t)) a b (iblk m c 9 t) (ix2 r k) = keyAt m c d (256 * t.val + r.val) k := by
  refine (keyed d _ _ _ _ _ r k (fun x => up m c d x k) (fun x => (hb x).trans (block7 m c t d x k))).trans ?_
  exact key_congr (hv.trans (tile_at m c t r _ (show 1536 + k.val < 5088 by omega))) (ha.trans (block6 m c t d k))
    (fun x => tile_at m c t r _ (show 4736 + 64 * d.val + x.val < 5088 by omega)) (fun _ => rfl) (block9 m c t k)

theorem left20_at (c : Dev nD) (t : Fin cfg0.N) (r : Fin 256) (k : Fin 1536) : left20 m c t (ix2 r k) = keyAt m c 0 (256 * t.val + r.val) k := by
  unfold left20 ran
  frame_out
  exact keys_at m c t r k 0 _ _ _ (by pointwise [k0_pay17]; rfl) (by pointwise) (fun x => by pointwise)

theorem left21_at (c : Dev nD) (t : Fin cfg0.N) (r : Fin 256) (k : Fin 1536) : left21 m c t (ix2 r k) = keyAt m c 1 (256 * t.val + r.val) k := by
  unfold left21 ran
  frame_out
  exact keys_at m c t r k 1 _ _ _ (by pointwise [k0_pay17]; rfl) (by pointwise) (fun x => by pointwise)

/-- What an output's array holds at the end, read through the block of a point that writes back, where the points' blocks are apart. -/
theorem landed (c : Dev nD) (w : Fin cfg0.W) (hk : (cfg0.win w).kind = .blocked) (hf : ∀ t : Fin cfg0.N, (cfg0.win w).flush t = true)
    (hi : ∀ t t' : Fin cfg0.N, (cfg0.win w).index t = (cfg0.win w).index t' → t = t') (t : Fin cfg0.N) :
    ((cfg0.win w).blk t).view.read (Elt Ideal) ((dats m 0 c).arrAt w cfg0.N) = (cfg0.win w).cut (grid0.coords t) ((dats m 0 c).after w t) :=
  (dats m 0 c).read_blk_arrAt_eq_flushed w (fun t t' _ _ ne => (cfg0.win w).disjoint_blk (hk := hk) fun e => ne (hi t t' e)) cfg0.N t t.isLt (hf t)

theorem at15 : ∀ t : Fin cfg0.N, (cfg0.win 15).index t 0 = t.val ∧ (cfg0.win 15).index t 1 = 0 := by decide +kernel
theorem at16 : ∀ t : Fin cfg0.N, (cfg0.win 16).index t 0 = t.val ∧ (cfg0.win 16).index t 1 = 0 := by decide +kernel
theorem at20 : ∀ t : Fin cfg0.N, (cfg0.win 20).index t 0 = t.val ∧ (cfg0.win 20).index t 1 = 0 := by decide +kernel
theorem at21 : ∀ t : Fin cfg0.N, (cfg0.win 21).index t 0 = t.val ∧ (cfg0.win 21).index t 1 = 0 := by decide +kernel

/-- The receptances after the run, element by element. -/
theorem value15 (c : Dev nD) (t : Fin cfg0.N) (r : Fin 256) (k : Fin 1536) (R : Fin 16640) (hR : R.val = 256 * t.val + r.val) :
    (dats m 0 c).arrAt 15 cfg0.N (ix2 R k) = near (m (c, Proc.tc.devRef main_arg0)) (m (c, Proc.tc.devRef main_arg1)) R.val k.val := by
  have h := congrFun (landed m c 15 rfl (by decide +kernel) (fun t t' e => Fin.ext (by rw [← (at15 t).1, ← (at15 t').1, e])) t) (ix2 r k)
  rw [after0_15] at h
  rw [hR]
  refine Eq.trans ?_ (h.trans (left15_at m c t r k))
  blk_ext [(at15 t).1, (at15 t).2, hR]

/-- The values after the run, element by element. -/
theorem value16 (c : Dev nD) (t : Fin cfg0.N) (r : Fin 256) (k : Fin 1536) (R : Fin 16640) (hR : R.val = 256 * t.val + r.val) :
    (dats m 0 c).arrAt 16 cfg0.N (ix2 R k) = near (m (c, Proc.tc.devRef main_arg0)) (m (c, Proc.tc.devRef main_arg1)) R.val (3072 + k.val) := by
  have h := congrFun (landed m c 16 rfl (by decide +kernel) (fun t t' e => Fin.ext (by rw [← (at16 t).1, ← (at16 t').1, e])) t) (ix2 r k)
  rw [after0_16] at h
  rw [hR]
  refine Eq.trans ?_ (h.trans (left16_at m c t r k))
  blk_ext [(at16 t).1, (at16 t).2, hR]

/-- The first direction's keys after the run, element by element. -/
theorem value20 (c : Dev nD) (t : Fin cfg0.N) (r : Fin 256) (k : Fin 1536) (R : Fin 16640) (hR : R.val = 256 * t.val + r.val) :
    (dats m 0 c).arrAt 20 cfg0.N (ix2 R k) = keyAt m c 0 R.val k := by
  have h := congrFun (landed m c 20 rfl (by decide +kernel) (fun t t' e => Fin.ext (by rw [← (at20 t).1, ← (at20 t').1, e])) t) (ix2 r k)
  rw [after0_20] at h
  rw [hR]
  refine Eq.trans ?_ (h.trans (left20_at m c t r k))
  blk_ext [(at20 t).1, (at20 t).2, hR]

/-- The second direction's keys after the run, element by element. -/
theorem value21 (c : Dev nD) (t : Fin cfg0.N) (r : Fin 256) (k : Fin 1536) (R : Fin 16640) (hR : R.val = 256 * t.val + r.val) :
    (dats m 0 c).arrAt 21 cfg0.N (ix2 R k) = keyAt m c 1 R.val k := by
  have h := congrFun (landed m c 21 rfl (by decide +kernel) (fun t t' e => Fin.ext (by rw [← (at21 t).1, ← (at21 t').1, e])) t) (ix2 r k)
  rw [after0_21] at h
  rw [hR]
  refine Eq.trans ?_ (h.trans (left21_at m c t r k))
  blk_ext [(at21 t).1, (at21 t).2, hR]

end Cert.KernelPrepIdeal.Tile

end
-- ==== Proof.PrepRef.lean ====
/- The reference's inputs of mixer A, element by element: the part's rows moved towards their neighbours, and the keys. -/
module

public import proofs.«01_k».proof.Proof.Gen.ReferencePrepIdeal
public import proofs.«01_k».proof.Proof.PrepTile
public import Idealize.ShloMosaic.Lib.Tactic.WordOmega

@[expose] public section

set_option maxRecDepth 100000

noncomputable section

namespace Cert.ReferencePrepIdeal.Step

open Cert.ReferencePrepIdeal Cert.ReferencePrepIdeal.Gen Idealize.ShloMosaic Idealize.ShloMosaic.TcCoe Idealize.ShloMosaic.Tactic Cert.Tiles Cert.Prep

/-- The context's rows, moved. -/
def contextShift (p : FVec Ideal S16640x9952 .f32) (mu : FVec Ideal S4x5088 .f32) : FVec Ideal S1x256x5088 .f32 :=
  let u := broadcastInDim S1x256x5088 ![1, 2] bcast_S256x5088_S1x256x5088_1_2 (extractStridedSlice S256x5088 ![0, 0] p slices_S16640x9952_S256x5088_0_0)
  addf u (mulf (broadcastInDim S1x256x5088 ![0, 1, 2] bcast_S1x1x5088_S1x256x5088_0_1_2 (broadcastInDim S1x1x5088 ![2] bcast_S5088_S1x1x5088_2 (shapeCast _ (extractStridedSlice S1x5088 ![0, 0] mu slices_S4x5088_S1x5088_0_0) shapeCasts_S1x5088_S5088))) (subf (mulf (broadcastInDim S1x256x5088 ![] bcast_S_S1x256x5088 (constant S_ .f32 0x3F000000#32)) (addf (concatenate S1x256x5088 1 [⟨S1x1x5088, (broadcastInDim S1x1x5088 ![] bcast_S_S1x1x5088 (constant S_ .f32 0x00000000#32))⟩, ⟨S1x255x5088, (extractStridedSlice S1x255x5088 ![0, 0, 0] u slices_S1x256x5088_S1x255x5088_0_0_0)⟩] concatenates_S1x1x5088_S1x255x5088_S1x256x5088_d1) (concatenate S1x256x5088 1 [⟨S1x255x5088, (extractStridedSlice S1x255x5088 ![0, 1, 0] u slices_S1x256x5088_S1x255x5088_0_1_0)⟩, ⟨S1x1x5088, (broadcastInDim S1x1x5088 ![] bcast_S_S1x1x5088 (constant S_ .f32 0x00000000#32))⟩] concatenates_S1x255x5088_S1x1x5088_S1x256x5088_d1))) u))

/-- The latents' rows, moved. -/
def latentShift (p : FVec Ideal S16640x9952 .f32) (mu : FVec Ideal S4x5088 .f32) : FVec Ideal S1x16384x5088 .f32 :=
  let u := broadcastInDim S1x16384x5088 ![1, 2] bcast_S16384x5088_S1x16384x5088_1_2 (extractStridedSlice S16384x5088 ![256, 0] p slices_S16640x9952_S16384x5088_256_0)
  addf u (mulf (broadcastInDim S1x16384x5088 ![0, 1, 2] bcast_S1x1x5088_S1x16384x5088_0_1_2 (broadcastInDim S1x1x5088 ![2] bcast_S5088_S1x1x5088_2 (shapeCast _ (extractStridedSlice S1x5088 ![0, 0] mu slices_S4x5088_S1x5088_0_0) shapeCasts_S1x5088_S5088))) (subf (mulf (broadcastInDim S1x16384x5088 ![] bcast_S_S1x16384x5088 (constant S_ .f32 0x3F000000#32)) (addf (concatenate S1x16384x5088 1 [⟨S1x1x5088, (broadcastInDim S1x1x5088 ![] bcast_S_S1x1x5088 (constant S_ .f32 0x00000000#32))⟩, ⟨S1x16383x5088, (extractStridedSlice S1x16383x5088 ![0, 0, 0] u slices_S1x16384x5088_S1x16383x5088_0_0_0)⟩] concatenates_S1x1x5088_S1x16383x5088_S1x16384x5088_d1) (concatenate S1x16384x5088 1 [⟨S1x16383x5088, (extractStridedSlice S1x16383x5088 ![0, 1, 0] u slices_S1x16384x5088_S1x16383x5088_0_1_0)⟩, ⟨S1x1x5088, (broadcastInDim S1x1x5088 ![] bcast_S_S1x1x5088 (constant S_ .f32 0x00000000#32))⟩] concatenates_S1x16383x5088_S1x1x5088_S1x16384x5088_d1))) u))

/-- The context's keys. -/
def contextKeys (s : FVec Ideal S1x256x5088 .f32) (a0 : FVec Ideal S4x2x1536 .f32) (up : FVec Ideal S4x2x64x1536 .f32) (ka : FVec Ideal S4x1536 .f32) : FVec Ideal S1x256x2x1536 .f32 :=
  mulf (broadcastInDim S1x256x2x1536 ![0, 1, 2, 3] bcast_S1x256x1x1536_S1x256x2x1536_0_1_2_3 (broadcastInDim S1x256x1x1536 ![0, 1, 3] bcast_S1x256x1536_S1x256x1x1536_0_1_3 (extractStridedSlice S1x256x1536 ![0, 0, 1536] s slices_S1x256x5088_S1x256x1536_0_0_1536))) (addf (broadcastInDim S1x256x2x1536 ![] bcast_S_S1x256x2x1536 (constant S_ .f32 0x3F800000#32)) (mulf (subf (Host.divf (broadcastInDim S1x256x2x1536 ![] bcast_S_S1x256x2x1536 (constant S_ .f32 0x3F800000#32)) (addf (broadcastInDim S1x256x2x1536 ![] bcast_S_S1x256x2x1536 (constant S_ .f32 0x3F800000#32)) (Host.exp (Host.negf (addf (broadcastInDim S1x256x2x1536 ![0, 1, 2, 3] bcast_S1x1x2x1536_S1x256x2x1536_0_1_2_3 (broadcastInDim S1x1x2x1536 ![2, 3] bcast_S2x1536_S1x1x2x1536_2_3 (shapeCast _ (extractStridedSlice S1x2x1536 ![0, 0, 0] a0 slices_S4x2x1536_S1x2x1536_0_0_0) shapeCasts_S1x2x1536_S2x1536))) (transpose S1x256x2x1536 [2, 3, 0, 1] (Host.dotGeneral dot_S2x64x1536_S1x256x2x64_S2x1536x1x256_1_3_2_01_0_2 none (shapeCast _ (extractStridedSlice S1x2x64x1536 ![0, 0, 0, 0] up slices_S4x2x64x1536_S1x2x64x1536_0_0_0_0) shapeCasts_S1x2x64x1536_S2x64x1536) (shapeCast _ (extractStridedSlice S1x256x128 ![0, 0, 4736] s slices_S1x256x5088_S1x256x128_0_0_4736) shapeCasts_S1x256x128_S1x256x2x64)) transposes_S2x1536x1x256_S1x256x2x1536_2_3_0_1)))))) (broadcastInDim S1x256x2x1536 ![] bcast_S_S1x256x2x1536 (constant S_ .f32 0x3F800000#32))) (broadcastInDim S1x256x2x1536 ![0, 1, 2, 3] bcast_S1x1x1x1536_S1x256x2x1536_0_1_2_3 (broadcastInDim S1x1x1x1536 ![3] bcast_S1536_S1x1x1x1536_3 (shapeCast _ (extractStridedSlice S1x1536 ![0, 0] ka slices_S4x1536_S1x1536_0_0) shapeCasts_S1x1536_S1536)))))

/-- The latents' keys. -/
def latentKeys (s : FVec Ideal S1x16384x5088 .f32) (a0 : FVec Ideal S4x2x1536 .f32) (up : FVec Ideal S4x2x64x1536 .f32) (ka : FVec Ideal S4x1536 .f32) : FVec Ideal S1x16384x2x1536 .f32 :=
  mulf (broadcastInDim S1x16384x2x1536 ![0, 1, 2, 3] bcast_S1x16384x1x1536_S1x16384x2x1536_0_1_2_3 (broadcastInDim S1x16384x1x1536 ![0, 1, 3] bcast_S1x16384x1536_S1x16384x1x1536_0_1_3 (extractStridedSlice S1x16384x1536 ![0, 0, 1536] s slices_S1x16384x5088_S1x16384x1536_0_0_1536))) (addf (broadcastInDim S1x16384x2x1536 ![] bcast_S_S1x16384x2x1536 (constant S_ .f32 0x3F800000#32)) (mulf (subf (Host.divf (broadcastInDim S1x16384x2x1536 ![] bcast_S_S1x16384x2x1536 (constant S_ .f32 0x3F800000#32)) (addf (broadcastInDim S1x16384x2x1536 ![] bcast_S_S1x16384x2x1536 (constant S_ .f32 0x3F800000#32)) (Host.exp (Host.negf (addf (broadcastInDim S1x16384x2x1536 ![0, 1, 2, 3] bcast_S1x1x2x1536_S1x16384x2x1536_0_1_2_3 (broadcastInDim S1x1x2x1536 ![2, 3] bcast_S2x1536_S1x1x2x1536_2_3 (shapeCast _ (extractStridedSlice S1x2x1536 ![0, 0, 0] a0 slices_S4x2x1536_S1x2x1536_0_0_0) shapeCasts_S1x2x1536_S2x1536))) (transpose S1x16384x2x1536 [2, 3, 0, 1] (Host.dotGeneral dot_S2x64x1536_S1x16384x2x64_S2x1536x1x16384_1_3_2_01_0_2 none (shapeCast _ (extractStridedSlice S1x2x64x1536 ![0, 0, 0, 0] up slices_S4x2x64x1536_S1x2x64x1536_0_0_0_0) shapeCasts_S1x2x64x1536_S2x64x1536) (shapeCast _ (extractStridedSlice S1x16384x128 ![0, 0, 4736] s slices_S1x16384x5088_S1x16384x128_0_0_4736) shapeCasts_S1x16384x128_S1x16384x2x64)) transposes_S2x1536x1x16384_S1x16384x2x1536_2_3_0_1)))))) (broadcastInDim S1x16384x2x1536 ![] bcast_S_S1x16384x2x1536 (constant S_ .f32 0x3F800000#32))) (broadcastInDim S1x16384x2x1536 ![0, 1, 2, 3] bcast_S1x1x1x1536_S1x16384x2x1536_0_1_2_3 (broadcastInDim S1x1x1x1536 ![3] bcast_S1536_S1x1x1x1536_3 (shapeCast _ (extractStridedSlice S1x1536 ![0, 0] ka slices_S4x1536_S1x1536_0_0) shapeCasts_S1x1536_S1536)))))

theorem contextShift_at (p : FVec Ideal S16640x9952 .f32) (mu : FVec Ideal S4x5088 .f32) (r : Fin 256) (k : Fin 5088) :
    contextShift p mu (ix3 0 r k) = near p mu r.val k.val := by
  pointwise [contextShift]
  exact near_of (entry_at p _ _ rfl) (zero_if (by omega) fun _ => entry_at p _ _ (by omega)) (zero_else (by omega) fun _ => entry_at p _ _ (by omega)) (entry_at mu _ _ rfl)

theorem latentShift_at (p : FVec Ideal S16640x9952 .f32) (mu : FVec Ideal S4x5088 .f32) (r : Fin 16384) (k : Fin 5088) :
    latentShift p mu (ix3 0 r k) = near p mu (256 + r.val) k.val := by
  pointwise [latentShift]
  exact near_of (entry_at p _ _ rfl) (zero_if (by omega) fun _ => entry_at p _ _ (by omega)) (zero_else (by omega) fun _ => entry_at p _ _ (by omega)) (entry_at mu _ _ rfl)

theorem contextKeys_at (s : FVec Ideal S1x256x5088 .f32) (a0 : FVec Ideal S4x2x1536 .f32) (up : FVec Ideal S4x2x64x1536 .f32) (ka : FVec Ideal S4x1536 .f32)
    (r : Fin 256) (d : Fin 2) (k : Fin 1536) : contextKeys s a0 up ka (ix4 0 r d k)
    = key (s (ix3 0 r ⟨1536 + k.val, by omega⟩)) (a0 (ix3 0 d k)) (fun y => s (ix3 0 r ⟨4736 + 64 * d.val + y.val, by omega⟩)) (fun y => up (ix4 0 d y k)) (ka (ix2 0 k)) := by
  rw [← key_of]
  pointwise [contextKeys]
  simp only [Nat.mul_comm d.val 64, Nat.add_assoc]

theorem latentKeys_at (s : FVec Ideal S1x16384x5088 .f32) (a0 : FVec Ideal S4x2x1536 .f32) (up : FVec Ideal S4x2x64x1536 .f32) (ka : FVec Ideal S4x1536 .f32)
    (r : Fin 16384) (d : Fin 2) (k : Fin 1536) : latentKeys s a0 up ka (ix4 0 r d k)
    = key (s (ix3 0 r ⟨1536 + k.val, by omega⟩)) (a0 (ix3 0 d k)) (fun y => s (ix3 0 r ⟨4736 + 64 * d.val + y.val, by omega⟩)) (fun y => up (ix4 0 d y k)) (ka (ix2 0 k)) := by
  rw [← key_of]
  pointwise [latentKeys]
  simp only [Nat.mul_comm d.val 64, Nat.add_assoc]

/-- The two parts' rows, one after the other. -/
def joined (x : FVec Ideal S256x1536 .f32) (y : FVec Ideal S16384x1536 .f32) : FVec Ideal S16640x1536 .bf16 :=
  truncf .bf16 (concatenate S16640x1536 0 [⟨S256x1536, x⟩, ⟨S16384x1536, y⟩] concatenates_S256x1536_S16384x1536_S16640x1536_d0) bitsLt_bf16_f32

theorem joined_at {x : FVec Ideal S256x1536 .f32} {y : FVec Ideal S16384x1536 .f32} {f : ℕ → EReal} {k : Fin 1536} (hx : ∀ r : Fin 256, x (ix2 r k) = f r.val)
    (hy : ∀ r : Fin 16384, y (ix2 r k) = f (256 + r.val)) (R : Fin 16640) : joined x y (ix2 R k) = f R.val := by
  pointwise [joined]
  by_cases h : R.val < 256
  · rw [dif_pos h, hx]
  · rw [dif_neg h, hy]
    exact congrArg f (show 256 + (R.val - 256) = R.val by omega)

/-- The first result: the receptances. -/
def receptances (p : FVec Ideal S16640x9952 .f32) (mu : FVec Ideal S4x5088 .f32) : FVec Ideal S16640x1536 .bf16 :=
  joined (shapeCast _ (extractStridedSlice S1x256x1536 ![0, 0, 0] (contextShift p mu) slices_S1x256x5088_S1x256x1536_0_0_0) shapeCasts_S1x256x1536_S256x1536)
    (shapeCast _ (extractStridedSlice S1x16384x1536 ![0, 0, 0] (latentShift p mu) slices_S1x16384x5088_S1x16384x1536_0_0_0) shapeCasts_S1x16384x1536_S16384x1536)

/-- The second result: the values. -/
def vals (p : FVec Ideal S16640x9952 .f32) (mu : FVec Ideal S4x5088 .f32) : FVec Ideal S16640x1536 .bf16 :=
  joined (shapeCast _ (extractStridedSlice S1x256x1536 ![0, 0, 3072] (contextShift p mu) slices_S1x256x5088_S1x256x1536_0_0_3072) shapeCasts_S1x256x1536_S256x1536)
    (shapeCast _ (extractStridedSlice S1x16384x1536 ![0, 0, 3072] (latentShift p mu) slices_S1x16384x5088_S1x16384x1536_0_0_3072) shapeCasts_S1x16384x1536_S16384x1536)

/-- The third result: the first direction's keys. -/
def firstKeys (p : FVec Ideal S16640x9952 .f32) (mu : FVec Ideal S4x5088 .f32) (a0 : FVec Ideal S4x2x1536 .f32) (up : FVec Ideal S4x2x64x1536 .f32) (ka : FVec Ideal S4x1536 .f32) : FVec Ideal S16640x1536 .bf16 :=
  joined (shapeCast _ (extractStridedSlice S1x256x1x1536 ![0, 0, 0, 0] (contextKeys (contextShift p mu) a0 up ka) slices_S1x256x2x1536_S1x256x1x1536_0_0_0_0) shapeCasts_S1x256x1x1536_S256x1536)
    (shapeCast _ (extractStridedSlice S1x16384x1x1536 ![0, 0, 0, 0] (latentKeys (latentShift p mu) a0 up ka) slices_S1x16384x2x1536_S1x16384x1x1536_0_0_0_0) shapeCasts_S1x16384x1x1536_S16384x1536)

/-- The fourth result: the second direction's keys. -/
def secondKeys (p : FVec Ideal S16640x9952 .f32) (mu : FVec Ideal S4x5088 .f32) (a0 : FVec Ideal S4x2x1536 .f32) (up : FVec Ideal S4x2x64x1536 .f32) (ka : FVec Ideal S4x1536 .f32) : FVec Ideal S16640x1536 .bf16 :=
  joined (shapeCast _ (extractStridedSlice S1x256x1x1536 ![0, 0, 1, 0] (contextKeys (contextShift p mu) a0 up ka) slices_S1x256x2x1536_S1x256x1x1536_0_0_1_0) shapeCasts_S1x256x1x1536_S256x1536)
    (shapeCast _ (extractStridedSlice S1x16384x1x1536 ![0, 0, 1, 0] (latentKeys (latentShift p mu) a0 up ka) slices_S1x16384x2x1536_S1x16384x1x1536_0_0_1_0) shapeCasts_S1x16384x1x1536_S16384x1536)

/-- A key of direction `d` in row `R`. -/
def rowKey (p : FVec Ideal S16640x9952 .f32) (mu : FVec Ideal S4x5088 .f32) (a0 : FVec Ideal S4x2x1536 .f32) (up : FVec Ideal S4x2x64x1536 .f32) (ka : FVec Ideal S4x1536 .f32) (d : Fin 2) (R : ℕ) (k : Fin 1536) : EReal :=
  key (near p mu R (1536 + k.val)) (a0 (ix3 0 d k)) (fun y => near p mu R (4736 + 64 * d.val + y.val)) (fun y => up (ix4 0 d y k)) (ka (ix2 0 k))

theorem contextKey (p : FVec Ideal S16640x9952 .f32) (mu : FVec Ideal S4x5088 .f32) (a0 : FVec Ideal S4x2x1536 .f32) (up : FVec Ideal S4x2x64x1536 .f32) (ka : FVec Ideal S4x1536 .f32) (r : Fin 256) (d : Fin 2) (k : Fin 1536) : contextKeys (contextShift p mu) a0 up ka (ix4 0 r d k) = rowKey p mu a0 up ka d (r.val) k :=
  (contextKeys_at _ a0 up ka r d k).trans (key_congr (contextShift_at p mu r _) rfl (fun _ => contextShift_at p mu r _) (fun _ => rfl) rfl)

theorem latentKey (p : FVec Ideal S16640x9952 .f32) (mu : FVec Ideal S4x5088 .f32) (a0 : FVec Ideal S4x2x1536 .f32) (up : FVec Ideal S4x2x64x1536 .f32) (ka : FVec Ideal S4x1536 .f32) (r : Fin 16384) (d : Fin 2) (k : Fin 1536) : latentKeys (latentShift p mu) a0 up ka (ix4 0 r d k) = rowKey p mu a0 up ka d (256 + r.val) k :=
  (latentKeys_at _ a0 up ka r d k).trans (key_congr (latentShift_at p mu r _) rfl (fun _ => latentShift_at p mu r _) (fun _ => rfl) rfl)

theorem receptances_at (p : FVec Ideal S16640x9952 .f32) (mu : FVec Ideal S4x5088 .f32) (R : Fin 16640) (k : Fin 1536) : receptances p mu (ix2 R k) = near p mu R.val (k.val) :=
  joined_at (f := fun R => near p mu R (k.val)) (fun r => Eq.trans (by pointwise) (contextShift_at p mu r ⟨k.val, by omega⟩)) (fun r => Eq.trans (by pointwise) (latentShift_at p mu r ⟨k.val, by omega⟩)) R

theorem vals_at (p : FVec Ideal S16640x9952 .f32) (mu : FVec Ideal S4x5088 .f32) (R : Fin 16640) (k : Fin 1536) : vals p mu (ix2 R k) = near p mu R.val (3072 + k.val) :=
  joined_at (f := fun R => near p mu R (3072 + k.val)) (fun r => Eq.trans (by pointwise) (contextShift_at p mu r ⟨3072 + k.val, by omega⟩)) (fun r => Eq.trans (by pointwise) (latentShift_at p mu r ⟨3072 + k.val, by omega⟩)) R

theorem firstKeys_at (p : FVec Ideal S16640x9952 .f32) (mu : FVec Ideal S4x5088 .f32) (a0 : FVec Ideal S4x2x1536 .f32) (up : FVec Ideal S4x2x64x1536 .f32) (ka : FVec Ideal S4x1536 .f32) (R : Fin 16640) (k : Fin 1536) : firstKeys p mu a0 up ka (ix2 R k) = rowKey p mu a0 up ka 0 R.val k :=
  joined_at (f := fun R => rowKey p mu a0 up ka 0 R k) (fun r => Eq.trans (by pointwise) (contextKey p mu a0 up ka r 0 k)) (fun r => Eq.trans (by pointwise) (latentKey p mu a0 up ka r 0 k)) R

theorem secondKeys_at (p : FVec Ideal S16640x9952 .f32) (mu : FVec Ideal S4x5088 .f32) (a0 : FVec Ideal S4x2x1536 .f32) (up : FVec Ideal S4x2x64x1536 .f32) (ka : FVec Ideal S4x1536 .f32) (R : Fin 16640) (k : Fin 1536) : secondKeys p mu a0 up ka (ix2 R k) = rowKey p mu a0 up ka 1 R.val k :=
  joined_at (f := fun R => rowKey p mu a0 up ka 1 R k) (fun r => Eq.trans (by pointwise) (contextKey p mu a0 up ka r 1 k)) (fun r => Eq.trans (by pointwise) (latentKey p mu a0 up ka r 1 k)) R

end Cert.ReferencePrepIdeal.Step

end
-- ==== Proof.Prep.lean ====
/- The call that prepares mixer A's inputs: the receptances, the values and the keys of both directions, as the reference has them. -/
module

public import proofs.«01_k».proof.Proof.PrepKernel
public import proofs.«01_k».proof.Proof.PrepRef
public import proofs.«01_k».proof.Proof.Gen.ReferencePrepIdeal.Run
public import proofs.«01_k».proof.Proof.Gen.KernelPrep
public import proofs.«01_k».proof.Proof.Gen.KernelPrepIdeal
public import proofs.«01_k».proof.Defs
public import Idealize.ShloMosaic.Adequacy
public import Idealize.ShloMosaic.Init

@[expose] public section

set_option maxRecDepth 100000

noncomputable section

namespace Cert.KernelPrepIdeal.Launch

open Cert.KernelPrepIdeal Cert.KernelPrepIdeal.Gen Idealize.ShloMosaic Idealize.ShloMosaic.TcCoe Idealize.SL.Sem

variable (m : (ℓ : Loc nD τ sig) → Buf (Elt Ideal) ℓ) (ρ : Dev nD → PrngReg)

/-- The run, with the four results named and the arguments unchanged. -/
theorem run_results : θ_run defs (onTc (τ := τ) (main (F := Ideal))) ⟨m, fun _ => 0, ρ⟩ fun r => ∀ c : Dev nD,
      r.2.mem ((c : Thread nD τ).loc main_v55_0) = (dats m 0 c).arrAt 15 cfg0.N
      ∧ r.2.mem ((c : Thread nD τ).loc main_v55_1) = (dats m 0 c).arrAt 16 cfg0.N
      ∧ r.2.mem ((c : Thread nD τ).loc main_v55_5) = (dats m 0 c).arrAt 20 cfg0.N
      ∧ r.2.mem ((c : Thread nD τ).loc main_v55_6) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  θ_run_and (run_main m ρ) (unchanged m ρ) |> (θ_run defs _ _).mono fun r h c => ⟨(h.1 c).1 15, (h.1 c).1 16, (h.1 c).1 20, (h.1 c).1 21, h.2 c⟩

end Cert.KernelPrepIdeal.Launch

namespace Cert.Prep

open Idealize.ShloMosaic Idealize.ShloMosaic.TcCoe Idealize.SL.Sem

set_option maxHeartbeats 2000000 in
/-- The call computes the reference's receptances, values and keys. -/
theorem algebraic : Cert.algebraic_KernelPrepIdeal_ReferencePrepIdeal (hKernelPrepIdeal := Cert.KernelPrepIdeal.Gen.facts)
    (hReferencePrepIdeal := Cert.ReferencePrepIdeal.Gen.facts) := by
  intro m g m' g' _ hag
  refine ⟨fun c => (Cert.KernelPrepIdeal.Launch.dats m 0 c).arrAt 15 Cert.KernelPrepIdeal.cfg0.N,
    fun c => (Cert.KernelPrepIdeal.Launch.dats m 0 c).arrAt 16 Cert.KernelPrepIdeal.cfg0.N,
    fun c => (Cert.KernelPrepIdeal.Launch.dats m 0 c).arrAt 20 Cert.KernelPrepIdeal.cfg0.N,
    fun c => (Cert.KernelPrepIdeal.Launch.dats m 0 c).arrAt 21 Cert.KernelPrepIdeal.cfg0.N,
    Cert.KernelPrepIdeal.Launch.run_results m g,
    (θ_run Cert.ReferencePrepIdeal.defs _ _).mono (fun r h c => ⟨(h c).1.trans ?_, (h c).2.1.trans ?_, (h c).2.2.1.trans ?_, (h c).2.2.2.1.trans ?_, (h c).2.2.2.2⟩)
      (Cert.ReferencePrepIdeal.Value.run m' g')⟩
  all_goals obtain ⟨e0, e1, -, -, e4, e5, -, e7, -, -⟩ := hag c
  · show Cert.ReferencePrepIdeal.Step.receptances _ _ = _
    rw [e0, e1]
    exact Tiles.same (tm := 256) (tn := 1536) (gm := 65) (gn := 1) rfl rfl fun t r k R K hR hK => by
      obtain rfl : K = k := Fin.ext (by omega)
      exact (Cert.ReferencePrepIdeal.Step.receptances_at _ _ R K).trans (Cert.KernelPrepIdeal.Tile.value15 m c t r K R (by omega)).symm
  · show Cert.ReferencePrepIdeal.Step.vals _ _ = _
    rw [e0, e1]
    exact Tiles.same (tm := 256) (tn := 1536) (gm := 65) (gn := 1) rfl rfl fun t r k R K hR hK => by
      obtain rfl : K = k := Fin.ext (by omega)
      exact (Cert.ReferencePrepIdeal.Step.vals_at _ _ R K).trans (Cert.KernelPrepIdeal.Tile.value16 m c t r K R (by omega)).symm
  · show Cert.ReferencePrepIdeal.Step.firstKeys _ _ _ _ _ = _
    rw [e0, e1, e4, e5, e7]
    exact Tiles.same (tm := 256) (tn := 1536) (gm := 65) (gn := 1) rfl rfl fun t r k R K hR hK => by
      obtain rfl : K = k := Fin.ext (by omega)
      exact (Cert.ReferencePrepIdeal.Step.firstKeys_at _ _ _ _ _ R K).trans (Cert.KernelPrepIdeal.Tile.value20 m c t r K R (by omega)).symm
  · show Cert.ReferencePrepIdeal.Step.secondKeys _ _ _ _ _ = _
    rw [e0, e1, e4, e5, e7]
    exact Tiles.same (tm := 256) (tn := 1536) (gm := 65) (gn := 1) rfl rfl fun t r k R K hR hK => by
      obtain rfl : K = k := Fin.ext (by omega)
      exact (Cert.ReferencePrepIdeal.Step.secondKeys_at _ _ _ _ _ R K).trans (Cert.KernelPrepIdeal.Tile.value21 m c t r K R (by omega)).symm

theorem ideal_frame : Cert.quiescent_KernelPrepIdeal (hKernelPrepIdeal := Cert.KernelPrepIdeal.Gen.facts) := fun m g _ => Cert.KernelPrepIdeal.Launch.frame m g

set_option maxHeartbeats 16000000 in
/-- The two programs have the same text: the same bodies, called from the same launch … -/
theorem defs_same : Cert.KernelPrep.defs (F := Bits) = Cert.KernelPrepIdeal.defs (F := Bits) := by sl_kernel_rfl

set_option maxHeartbeats 4000000 in
/-- … and the same host code. -/
theorem main_same : Cert.KernelPrep.main (F := Bits) = Cert.KernelPrepIdeal.main (F := Bits) := by with_unfolding_all rfl

set_option maxHeartbeats 4000000 in
/-- So the kernel's run is the ideal program's, over the words. -/
theorem kernel_frame : Cert.quiescent_KernelPrep (hKernelPrep := Cert.KernelPrep.Gen.facts) := by
  intro m g _
  rw [defs_same, main_same]
  exact (θ_run Cert.KernelPrepIdeal.defs _ _).mono (fun _ h => h) (Cert.KernelPrepIdeal.Launch.frame (F := Bits) m g)

theorem reference_frame : Cert.quiescent_ReferencePrepIdeal (hReferencePrepIdeal := Cert.ReferencePrepIdeal.Gen.facts) := fun m g _ =>
  (θ_run Cert.ReferencePrepIdeal.defs _ _).mono (fun r h => ⟨fun c => (h c).2.2.2.2, sem_eq_zero_of_no_sems (by decide) r.2⟩) (Cert.ReferencePrepIdeal.Value.run (F := Ideal) m g)

end Cert.Prep

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KernelFrame
public import proofs.«01_k».proof.Proof.KernelIdealFrame
public import proofs.«01_k».proof.Proof.KernelIdealValue
public import proofs.«01_k».proof.Proof.RefValue
public import proofs.«01_k».proof.Proof.Pre
public import Idealize.ShloMosaic.Adequacy
public import Idealize.ShloMosaic.Init
public import proofs.«01_k».proof.Proof.Up
public import proofs.«01_k».proof.Proof.Down
public import proofs.«01_k».proof.Proof.Out
public import proofs.«01_k».proof.Proof.Merge
public import proofs.«01_k».proof.Proof.In
public import proofs.«01_k».proof.Proof.Last
public import proofs.«01_k».proof.Proof.Resid
public import proofs.«01_k».proof.Proof.Join
public import proofs.«01_k».proof.Proof.Mod
public import proofs.«01_k».proof.Proof.Prep

@[expose] public section

noncomputable section

namespace Cert.Proof

open Idealize.ShloMosaic Idealize.ShloMosaic.StableHlo Idealize.SL.Sem Cert.Kernel

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h =>
    ⟨fun c => ⟨(h c Cert.ReferenceIdeal.main_arg0).trans (Cert.ReferenceIdeal.Stage.kept _ (.inl rfl)),
      (h c Cert.ReferenceIdeal.main_arg1).trans (Cert.ReferenceIdeal.Stage.kept _ (.inr rfl))⟩, sem_eq_zero_of_no_sems (by decide) r.2⟩)
    (Cert.ReferenceIdeal.Stage.run (F := Ideal) m g)

theorem same_of_elements {A B : Cert.KernelIdeal.S16640x2048.Idx → EReal} (h : ∀ (R : Fin 16640) (k : Fin 2048), A (ix2 R k) = B (ix2 R k)) : A = B :=
  funext fun i => by rw [eq_ix2 i]; exact h _ _

/-- The two programs' elements are equal. -/
theorem element (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) (x : Cert.KernelIdeal.S16640x9952.Idx → EReal) (s : Cert.KernelIdeal.S16.Idx → EReal)
    (h0 : V (Proc.devRef .tc Cert.ReferenceIdeal.main_arg0) = x) (h1 : V (Proc.devRef .tc Cert.ReferenceIdeal.main_arg1) = s)
    (g0 : m (c, Proc.devRef .tc Cert.KernelIdeal.main_arg0) = x) (g1 : m (c, Proc.devRef .tc Cert.KernelIdeal.main_arg1) = s)
    (hP : Cert.Attn.Sound (Cert.Attn.mat x)) (hs : ∀ j, Cert.Attn.Fin' (s (ix1 j))) (R : Fin 16640) (k : Fin 2048) :
    after Cert.ReferenceIdeal.Stage.ops V (Proc.devRef .tc Cert.ReferenceIdeal.main_v222) (ix2 R k)
      = (Cert.KernelIdeal.Launch.dats m 0 c).arrAt 19 Cert.KernelIdeal.cfg0.N (ix2 R k) := by
  subst h0 h1
  refine (Cert.ReferenceIdeal.Stage.value V hP (fun h g => hs _) R k).trans (Eq.trans ?_ (Cert.KernelIdeal.Launch.value m c R k).symm)
  unfold Cert.ReferenceIdeal.Stage.proj0 Cert.KernelIdeal.Launch.proj
  rw [g0, g1]

theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => (Cert.KernelIdeal.Launch.dats m 0 c).arrAt 19 Cert.KernelIdeal.cfg0.N, Cert.KernelIdeal.Launch.run_blocks m g,
    (θ_run Cert.ReferenceIdeal.defs _ _).mono (fun r h c => ⟨(h c Cert.ReferenceIdeal.main_v222).trans ?_,
      (h c Cert.ReferenceIdeal.main_arg0).trans (Cert.ReferenceIdeal.Stage.kept _ (.inl rfl)),
      (h c Cert.ReferenceIdeal.main_arg1).trans (Cert.ReferenceIdeal.Stage.kept _ (.inr rfl))⟩)
      (Cert.ReferenceIdeal.Stage.run (F := Ideal) m' g')⟩
  have hf := @Cert.Attn.finite_spec Cert.Pre_finite.Gen.facts _ _ (hpre c)
  have hv := element m c (launchContents m' c) _ _ (hag c).1 (hag c).2 rfl rfl hf.1 hf.2
  generalize after Cert.ReferenceIdeal.Stage.ops (launchContents m' c) (Proc.devRef .tc Cert.ReferenceIdeal.main_v222) = A at hv ⊢
  dsimp only
  generalize (Cert.KernelIdeal.Launch.dats m 0 c).arrAt 19 Cert.KernelIdeal.cfg0.N = B at hv ⊢
  exact same_of_elements hv

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelMerge.Gen.facts, Cert.KernelMergeIdeal.Gen.facts, Cert.ReferenceMergeIdeal.Gen.facts,
  Cert.KernelIn.Gen.facts, Cert.KernelInIdeal.Gen.facts, Cert.ReferenceInIdeal.Gen.facts,
  Cert.KernelLast.Gen.facts, Cert.KernelLastIdeal.Gen.facts, Cert.ReferenceLastIdeal.Gen.facts,
  Cert.KernelResid.Gen.facts, Cert.KernelResidIdeal.Gen.facts, Cert.ReferenceResidIdeal.Gen.facts,
  Cert.KernelJoin.Gen.facts, Cert.KernelJoinIdeal.Gen.facts, Cert.ReferenceJoinIdeal.Gen.facts,
  Cert.KernelMod.Gen.facts, Cert.KernelModIdeal.Gen.facts, Cert.ReferenceModIdeal.Gen.facts,
  Cert.KernelPrep.Gen.facts, Cert.KernelPrepIdeal.Gen.facts, Cert.ReferencePrepIdeal.Gen.facts, Cert.Pre_finite.Gen.facts,
  fun m g _ => Cert.Kernel.Launch.frame m g, fun m g _ => Cert.KernelIdeal.Launch.frame m g, fun m g _ => Cert.KernelIdeal.Launch.frame m g,
  fun m g _ => reference_frame m g, fun m g _ => reference_frame m g,
  Cert.Up.kernel_frame, Cert.Up.ideal_frame, Cert.Up.reference_frame,
  Cert.Down.kernel_frame, Cert.Down.ideal_frame, Cert.Down.reference_frame,
  Cert.Out.kernel_frame, Cert.Out.ideal_frame, Cert.Out.reference_frame,
  Cert.Merge.kernel_frame, Cert.Merge.ideal_frame, Cert.Merge.reference_frame,
  Cert.In.kernel_frame, Cert.In.ideal_frame, Cert.In.reference_frame,
  Cert.Last.kernel_frame, Cert.Last.ideal_frame, Cert.Last.reference_frame,
  Cert.Resid.kernel_frame, Cert.Resid.ideal_frame, Cert.Resid.reference_frame,
  Cert.Join.kernel_frame, Cert.Join.ideal_frame, Cert.Join.reference_frame,
  Cert.Mod.kernel_frame, Cert.Mod.ideal_frame, Cert.Mod.reference_frame,
  Cert.Prep.kernel_frame, Cert.Prep.ideal_frame, Cert.Prep.reference_frame,
  IdealRules.named_const.statement Cert.KernelIdeal.κ "mask" .f32 0xF149F2CA#32 ⊥ rfl, attention,
  trivial, Cert.Up.algebraic, trivial, Cert.Down.algebraic, trivial, Cert.Out.algebraic, trivial, Cert.Merge.algebraic, trivial, Cert.In.algebraic,
  trivial, Cert.Last.algebraic, trivial, Cert.Resid.algebraic, trivial, Cert.Join.algebraic, trivial, Cert.Mod.algebraic,
  trivial, Cert.Prep.algebraic⟩

end Cert.Proof

end
